-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gated_operands_finite [hPre_gated_operands_finite : Cert.Pre_gated_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gated_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gated_operands_finite [hPre_gated_operands_finite : Cert.Pre_gated_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gated_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_chip9 : Cert.Pre_chip9.Facts] (m : (ℓ : Loc Cert.Kernel9.nD Cert.Kernel9.τ Cert.Kernel9.sig) → Buf (Elt Bits) ℓ) : Prop :=
  ∀ c : Dev Cert.Kernel9.nD,
    (Cert.Pre_chip9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2))) = (fun _ => 1#1)

def Pre_Kernel9Ideal [hPre_chip9 : Cert.Pre_chip9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_chip9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal [hPre_chip9 : Cert.Pre_chip9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_chip9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 [hPre_chip10 : Cert.Pre_chip10.Facts] (m : (ℓ : Loc Cert.Kernel10.nD Cert.Kernel10.τ Cert.Kernel10.sig) → Buf (Elt Bits) ℓ) : Prop :=
  ∀ c : Dev Cert.Kernel10.nD,
    (Cert.Pre_chip10.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2))) = (fun _ => 1#1)

def Pre_Kernel10Ideal [hPre_chip10 : Cert.Pre_chip10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_chip10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal [hPre_chip10 : Cert.Pre_chip10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_chip10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 [hPre_chip11 : Cert.Pre_chip11.Facts] (m : (ℓ : Loc Cert.Kernel11.nD Cert.Kernel11.τ Cert.Kernel11.sig) → Buf (Elt Bits) ℓ) : Prop :=
  ∀ c : Dev Cert.Kernel11.nD,
    (Cert.Pre_chip11.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2))) = (fun _ => 1#1)

def Pre_Kernel11Ideal [hPre_chip11 : Cert.Pre_chip11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_chip11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal [hPre_chip11 : Cert.Pre_chip11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_chip11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 [hPre_chip12 : Cert.Pre_chip12.Facts] (m : (ℓ : Loc Cert.Kernel12.nD Cert.Kernel12.τ Cert.Kernel12.sig) → Buf (Elt Bits) ℓ) : Prop :=
  ∀ c : Dev Cert.Kernel12.nD,
    (Cert.Pre_chip12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2))) = (fun _ => 1#1)

def Pre_Kernel12Ideal [hPre_chip12 : Cert.Pre_chip12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_chip12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal [hPre_chip12 : Cert.Pre_chip12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_chip12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 [hPre_chip13 : Cert.Pre_chip13.Facts] (m : (ℓ : Loc Cert.Kernel13.nD Cert.Kernel13.τ Cert.Kernel13.sig) → Buf (Elt Bits) ℓ) : Prop :=
  ∀ c : Dev Cert.Kernel13.nD,
    (Cert.Pre_chip13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3))) = (fun _ => 1#1)

def Pre_Kernel13Ideal [hPre_chip13 : Cert.Pre_chip13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_chip13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal [hPre_chip13 : Cert.Pre_chip13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_chip13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 [hPre_chip14 : Cert.Pre_chip14.Facts] (m : (ℓ : Loc Cert.Kernel14.nD Cert.Kernel14.τ Cert.Kernel14.sig) → Buf (Elt Bits) ℓ) : Prop :=
  ∀ c : Dev Cert.Kernel14.nD,
    (Cert.Pre_chip14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3))) = (fun _ => 1#1)

def Pre_Kernel14Ideal [hPre_chip14 : Cert.Pre_chip14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_chip14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal [hPre_chip14 : Cert.Pre_chip14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_chip14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 [hPre_chip15 : Cert.Pre_chip15.Facts] (m : (ℓ : Loc Cert.Kernel15.nD Cert.Kernel15.τ Cert.Kernel15.sig) → Buf (Elt Bits) ℓ) : Prop :=
  ∀ c : Dev Cert.Kernel15.nD,
    (Cert.Pre_chip15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3))) = (fun _ => 1#1)

def Pre_Kernel15Ideal [hPre_chip15 : Cert.Pre_chip15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_chip15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal [hPre_chip15 : Cert.Pre_chip15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_chip15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 [hPre_chip16 : Cert.Pre_chip16.Facts] (m : (ℓ : Loc Cert.Kernel16.nD Cert.Kernel16.τ Cert.Kernel16.sig) → Buf (Elt Bits) ℓ) : Prop :=
  ∀ c : Dev Cert.Kernel16.nD,
    (Cert.Pre_chip16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3))) = (fun _ => 1#1)

def Pre_Kernel16Ideal [hPre_chip16 : Cert.Pre_chip16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_chip16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal [hPre_chip16 : Cert.Pre_chip16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_chip16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 [hPre_piece21 : Cert.Pre_piece21.Facts] (m : (ℓ : Loc Cert.Kernel21.nD Cert.Kernel21.τ Cert.Kernel21.sig) → Buf (Elt Bits) ℓ) : Prop :=
  ∀ c : Dev Cert.Kernel21.nD,
    (Cert.Pre_piece21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2)) (m ((c.tc : Thread Cert.Kernel21.nD Cert.Kernel21.τ).loc Cert.Kernel21.main_arg3)) (m ((c.tc : Thread Cert.Kernel21.nD Cert.Kernel21.τ).loc Cert.Kernel21.main_arg4)) (m ((c.tc : Thread Cert.Kernel21.nD Cert.Kernel21.τ).loc Cert.Kernel21.main_arg5)) (m ((c.tc : Thread Cert.Kernel21.nD Cert.Kernel21.τ).loc Cert.Kernel21.main_arg6))) = (fun _ => 1#1)

def Pre_Kernel21Ideal [hPre_piece21 : Cert.Pre_piece21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_piece21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6))) = (fun _ => 1#1)

def Pre_Reference21Ideal [hPre_piece21 : Cert.Pre_piece21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_piece21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6))) = (fun _ => 1#1)

def Pre_Kernel22 [hPre_piece22 : Cert.Pre_piece22.Facts] (m : (ℓ : Loc Cert.Kernel22.nD Cert.Kernel22.τ Cert.Kernel22.sig) → Buf (Elt Bits) ℓ) : Prop :=
  ∀ c : Dev Cert.Kernel22.nD,
    (Cert.Pre_piece22.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6))) = (fun _ => 1#1)

def Pre_Kernel22Ideal [hPre_piece22 : Cert.Pre_piece22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_piece22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6))) = (fun _ => 1#1)

def Pre_Reference22Ideal [hPre_piece22 : Cert.Pre_piece22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_piece22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6))) = (fun _ => 1#1)

def Pre_Kernel23 [hPre_piece23 : Cert.Pre_piece23.Facts] (m : (ℓ : Loc Cert.Kernel23.nD Cert.Kernel23.τ Cert.Kernel23.sig) → Buf (Elt Bits) ℓ) : Prop :=
  ∀ c : Dev Cert.Kernel23.nD,
    (Cert.Pre_piece23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4)) (m ((c.tc : Thread Cert.Kernel23.nD Cert.Kernel23.τ).loc Cert.Kernel23.main_arg5)) (m ((c.tc : Thread Cert.Kernel23.nD Cert.Kernel23.τ).loc Cert.Kernel23.main_arg6))) = (fun _ => 1#1)

def Pre_Kernel23Ideal [hPre_piece23 : Cert.Pre_piece23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_piece23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6))) = (fun _ => 1#1)

def Pre_Reference23Ideal [hPre_piece23 : Cert.Pre_piece23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_piece23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6))) = (fun _ => 1#1)

def Pre_Kernel24 [hPre_piece24 : Cert.Pre_piece24.Facts] (m : (ℓ : Loc Cert.Kernel24.nD Cert.Kernel24.τ Cert.Kernel24.sig) → Buf (Elt Bits) ℓ) : Prop :=
  ∀ c : Dev Cert.Kernel24.nD,
    (Cert.Pre_piece24.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6)) (m ((c.tc : Thread Cert.Kernel24.nD Cert.Kernel24.τ).loc Cert.Kernel24.main_arg7)) (m ((c.tc : Thread Cert.Kernel24.nD Cert.Kernel24.τ).loc Cert.Kernel24.main_arg8))) = (fun _ => 1#1)

def Pre_Kernel24Ideal [hPre_piece24 : Cert.Pre_piece24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_piece24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8))) = (fun _ => 1#1)

def Pre_Reference24Ideal [hPre_piece24 : Cert.Pre_piece24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_piece24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gated_operands_finite [hKernelIdeal : Cert.KernelIdeal.Facts] [hPre_gated_operands_finite : Cert.Pre_gated_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gated_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gated_operands_finite [hReferenceIdeal : Cert.ReferenceIdeal.Facts] [hPre_gated_operands_finite : Cert.Pre_gated_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gated_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] [hPre_chip9 : Cert.Pre_chip9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] [hPre_chip9 : Cert.Pre_chip9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] [hPre_chip9 : Cert.Pre_chip9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] [hPre_chip10 : Cert.Pre_chip10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] [hPre_chip10 : Cert.Pre_chip10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] [hPre_chip10 : Cert.Pre_chip10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] [hPre_chip11 : Cert.Pre_chip11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] [hPre_chip11 : Cert.Pre_chip11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] [hPre_chip11 : Cert.Pre_chip11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] [hPre_chip12 : Cert.Pre_chip12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] [hPre_chip12 : Cert.Pre_chip12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] [hPre_chip12 : Cert.Pre_chip12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] [hPre_chip13 : Cert.Pre_chip13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] [hPre_chip13 : Cert.Pre_chip13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] [hPre_chip13 : Cert.Pre_chip13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] [hPre_chip14 : Cert.Pre_chip14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] [hPre_chip14 : Cert.Pre_chip14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] [hPre_chip14 : Cert.Pre_chip14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] [hPre_chip15 : Cert.Pre_chip15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] [hPre_chip15 : Cert.Pre_chip15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] [hPre_chip15 : Cert.Pre_chip15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] [hPre_chip16 : Cert.Pre_chip16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] [hPre_chip16 : Cert.Pre_chip16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] [hPre_chip16 : Cert.Pre_chip16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] [hPre_piece21 : Cert.Pre_piece21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] [hPre_piece21 : Cert.Pre_piece21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] [hPre_piece21 : Cert.Pre_piece21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] [hPre_piece22 : Cert.Pre_piece22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] [hPre_piece22 : Cert.Pre_piece22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] [hPre_piece22 : Cert.Pre_piece22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] [hPre_piece23 : Cert.Pre_piece23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] [hPre_piece23 : Cert.Pre_piece23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] [hPre_piece23 : Cert.Pre_piece23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] [hPre_piece24 : Cert.Pre_piece24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8))
      ∧ r.2.sem = fun _ => 0)

def quiescent_Kernel24Ideal [hKernel24Ideal : Cert.Kernel24Ideal.Facts] [hPre_piece24 : Cert.Pre_piece24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ r.2.sem = fun _ => 0)

def quiescent_Reference24Ideal [hReference24Ideal : Cert.Reference24Ideal.Facts] [hPre_piece24 : Cert.Pre_piece24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def preserves_Kernel_KernelIdeal : Prop :=
  True

def algebraic_KernelIdeal_ReferenceIdeal_pre_gated_operands_finite [hKernelIdeal : Cert.KernelIdeal.Facts] [hReferenceIdeal : Cert.ReferenceIdeal.Facts] [hPre_gated_operands_finite : Cert.Pre_gated_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gated_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] [hPre_chip9 : Cert.Pre_chip9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] [hPre_chip10 : Cert.Pre_chip10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] [hPre_chip11 : Cert.Pre_chip11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] [hPre_chip12 : Cert.Pre_chip12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] [hPre_chip13 : Cert.Pre_chip13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] [hPre_chip14 : Cert.Pre_chip14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] [hPre_chip15 : Cert.Pre_chip15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] [hPre_chip16 : Cert.Pre_chip16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_v14) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v18) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v37) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] [hPre_piece21 : Cert.Pre_piece21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v30) = v0 c
          ∧ r.2.mem ((c.tc : Thread Cert.Reference21Ideal.nD Cert.Reference21Ideal.τ).loc Cert.Reference21Ideal.main_v54) = v1 c
          ∧ r.2.mem ((c.tc : Thread Cert.Reference21Ideal.nD Cert.Reference21Ideal.τ).loc Cert.Reference21Ideal.main_v35) = v2 c
          ∧ r.2.mem ((c.tc : Thread Cert.Reference21Ideal.nD Cert.Reference21Ideal.τ).loc Cert.Reference21Ideal.main_v41) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] [hPre_piece22 : Cert.Pre_piece22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v30) = v0 c
          ∧ r.2.mem ((c.tc : Thread Cert.Reference22Ideal.nD Cert.Reference22Ideal.τ).loc Cert.Reference22Ideal.main_v54) = v1 c
          ∧ r.2.mem ((c.tc : Thread Cert.Reference22Ideal.nD Cert.Reference22Ideal.τ).loc Cert.Reference22Ideal.main_v35) = v2 c
          ∧ r.2.mem ((c.tc : Thread Cert.Reference22Ideal.nD Cert.Reference22Ideal.τ).loc Cert.Reference22Ideal.main_v41) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] [hPre_piece23 : Cert.Pre_piece23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v30) = v0 c
          ∧ r.2.mem ((c.tc : Thread Cert.Reference23Ideal.nD Cert.Reference23Ideal.τ).loc Cert.Reference23Ideal.main_v54) = v1 c
          ∧ r.2.mem ((c.tc : Thread Cert.Reference23Ideal.nD Cert.Reference23Ideal.τ).loc Cert.Reference23Ideal.main_v35) = v2 c
          ∧ r.2.mem ((c.tc : Thread Cert.Reference23Ideal.nD Cert.Reference23Ideal.τ).loc Cert.Reference23Ideal.main_v41) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] [hPre_piece24 : Cert.Pre_piece24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v26) = v0 c
          ∧ r.2.mem ((c.tc : Thread Cert.Reference24Ideal.nD Cert.Reference24Ideal.τ).loc Cert.Reference24Ideal.main_v50) = v1 c
          ∧ r.2.mem ((c.tc : Thread Cert.Reference24Ideal.nD Cert.Reference24Ideal.τ).loc Cert.Reference24Ideal.main_v31) = v2 c
          ∧ r.2.mem ((c.tc : Thread Cert.Reference24Ideal.nD Cert.Reference24Ideal.τ).loc Cert.Reference24Ideal.main_v37) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v49) = v0 c
          ∧ r.2.mem ((c.tc : Thread Cert.Reference25Ideal.nD Cert.Reference25Ideal.τ).loc Cert.Reference25Ideal.main_v27) = v1 c
          ∧ r.2.mem ((c.tc : Thread Cert.Reference25Ideal.nD Cert.Reference25Ideal.τ).loc Cert.Reference25Ideal.main_v24) = v2 c
          ∧ r.2.mem ((c.tc : Thread Cert.Reference25Ideal.nD Cert.Reference25Ideal.τ).loc Cert.Reference25Ideal.main_v32) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)) (v4 : (c : Dev Cert.Kernel26Ideal.nD) → Buf (Elt Ideal) ((c.tc : Thread Cert.Kernel26Ideal.nD Cert.Kernel26Ideal.τ).loc Cert.Kernel26Ideal.main_v0_4)) (v5 : (c : Dev Cert.Kernel26Ideal.nD) → Buf (Elt Ideal) ((c.tc : Thread Cert.Kernel26Ideal.nD Cert.Kernel26Ideal.τ).loc Cert.Kernel26Ideal.main_v0_5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_v0_4) = v4 c
          ∧ r.2.mem ((c.tc : Thread Cert.Kernel26Ideal.nD Cert.Kernel26Ideal.τ).loc Cert.Kernel26Ideal.main_v0_5) = v5 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v49) = v0 c
          ∧ r.2.mem ((c.tc : Thread Cert.Reference26Ideal.nD Cert.Reference26Ideal.τ).loc Cert.Reference26Ideal.main_v27) = v1 c
          ∧ r.2.mem ((c.tc : Thread Cert.Reference26Ideal.nD Cert.Reference26Ideal.τ).loc Cert.Reference26Ideal.main_v24) = v2 c
          ∧ r.2.mem ((c.tc : Thread Cert.Reference26Ideal.nD Cert.Reference26Ideal.τ).loc Cert.Reference26Ideal.main_v32) = v3 c
          ∧ r.2.mem ((c.tc : Thread Cert.Reference26Ideal.nD Cert.Reference26Ideal.τ).loc Cert.Reference26Ideal.main_v58) = v4 c
          ∧ r.2.mem ((c.tc : Thread Cert.Reference26Ideal.nD Cert.Reference26Ideal.τ).loc Cert.Reference26Ideal.main_v57) = v5 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)) (v4 : (c : Dev Cert.Kernel27Ideal.nD) → Buf (Elt Ideal) ((c.tc : Thread Cert.Kernel27Ideal.nD Cert.Kernel27Ideal.τ).loc Cert.Kernel27Ideal.main_v0_4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_v0_4) = v4 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v48) = v0 c
          ∧ r.2.mem ((c.tc : Thread Cert.Reference27Ideal.nD Cert.Reference27Ideal.τ).loc Cert.Reference27Ideal.main_v49) = v1 c
          ∧ r.2.mem ((c.tc : Thread Cert.Reference27Ideal.nD Cert.Reference27Ideal.τ).loc Cert.Reference27Ideal.main_v32) = v2 c
          ∧ r.2.mem ((c.tc : Thread Cert.Reference27Ideal.nD Cert.Reference27Ideal.τ).loc Cert.Reference27Ideal.main_v58) = v3 c
          ∧ r.2.mem ((c.tc : Thread Cert.Reference27Ideal.nD Cert.Reference27Ideal.τ).loc Cert.Reference27Ideal.main_v57) = v4 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_gated_operands_finite : Cert.Pre_gated_operands_finite.Facts) (hPre_chip9 : Cert.Pre_chip9.Facts) (hPre_chip10 : Cert.Pre_chip10.Facts) (hPre_chip11 : Cert.Pre_chip11.Facts) (hPre_chip12 : Cert.Pre_chip12.Facts) (hPre_chip13 : Cert.Pre_chip13.Facts) (hPre_chip14 : Cert.Pre_chip14.Facts) (hPre_chip15 : Cert.Pre_chip15.Facts) (hPre_chip16 : Cert.Pre_chip16.Facts) (hPre_piece21 : Cert.Pre_piece21.Facts) (hPre_piece22 : Cert.Pre_piece22.Facts) (hPre_piece23 : Cert.Pre_piece23.Facts) (hPre_piece24 : Cert.Pre_piece24.Facts),
    quiescent_Kernel (hKernel := hKernel)
    ∧ quiescent_KernelIdeal (hKernelIdeal := hKernelIdeal)
    ∧ quiescent_KernelIdeal_pre_gated_operands_finite (hKernelIdeal := hKernelIdeal) (hPre_gated_operands_finite := hPre_gated_operands_finite)
    ∧ quiescent_ReferenceIdeal (hReferenceIdeal := hReferenceIdeal)
    ∧ quiescent_ReferenceIdeal_pre_gated_operands_finite (hReferenceIdeal := hReferenceIdeal) (hPre_gated_operands_finite := hPre_gated_operands_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_chip9 := hPre_chip9)
    ∧ quiescent_Kernel9Ideal (hKernel9Ideal := hKernel9Ideal) (hPre_chip9 := hPre_chip9)
    ∧ quiescent_Reference9Ideal (hReference9Ideal := hReference9Ideal) (hPre_chip9 := hPre_chip9)
    ∧ quiescent_Kernel10 (hKernel10 := hKernel10) (hPre_chip10 := hPre_chip10)
    ∧ quiescent_Kernel10Ideal (hKernel10Ideal := hKernel10Ideal) (hPre_chip10 := hPre_chip10)
    ∧ quiescent_Reference10Ideal (hReference10Ideal := hReference10Ideal) (hPre_chip10 := hPre_chip10)
    ∧ quiescent_Kernel11 (hKernel11 := hKernel11) (hPre_chip11 := hPre_chip11)
    ∧ quiescent_Kernel11Ideal (hKernel11Ideal := hKernel11Ideal) (hPre_chip11 := hPre_chip11)
    ∧ quiescent_Reference11Ideal (hReference11Ideal := hReference11Ideal) (hPre_chip11 := hPre_chip11)
    ∧ quiescent_Kernel12 (hKernel12 := hKernel12) (hPre_chip12 := hPre_chip12)
    ∧ quiescent_Kernel12Ideal (hKernel12Ideal := hKernel12Ideal) (hPre_chip12 := hPre_chip12)
    ∧ quiescent_Reference12Ideal (hReference12Ideal := hReference12Ideal) (hPre_chip12 := hPre_chip12)
    ∧ quiescent_Kernel13 (hKernel13 := hKernel13) (hPre_chip13 := hPre_chip13)
    ∧ quiescent_Kernel13Ideal (hKernel13Ideal := hKernel13Ideal) (hPre_chip13 := hPre_chip13)
    ∧ quiescent_Reference13Ideal (hReference13Ideal := hReference13Ideal) (hPre_chip13 := hPre_chip13)
    ∧ quiescent_Kernel14 (hKernel14 := hKernel14) (hPre_chip14 := hPre_chip14)
    ∧ quiescent_Kernel14Ideal (hKernel14Ideal := hKernel14Ideal) (hPre_chip14 := hPre_chip14)
    ∧ quiescent_Reference14Ideal (hReference14Ideal := hReference14Ideal) (hPre_chip14 := hPre_chip14)
    ∧ quiescent_Kernel15 (hKernel15 := hKernel15) (hPre_chip15 := hPre_chip15)
    ∧ quiescent_Kernel15Ideal (hKernel15Ideal := hKernel15Ideal) (hPre_chip15 := hPre_chip15)
    ∧ quiescent_Reference15Ideal (hReference15Ideal := hReference15Ideal) (hPre_chip15 := hPre_chip15)
    ∧ quiescent_Kernel16 (hKernel16 := hKernel16) (hPre_chip16 := hPre_chip16)
    ∧ quiescent_Kernel16Ideal (hKernel16Ideal := hKernel16Ideal) (hPre_chip16 := hPre_chip16)
    ∧ quiescent_Reference16Ideal (hReference16Ideal := hReference16Ideal) (hPre_chip16 := hPre_chip16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21) (hPre_piece21 := hPre_piece21)
    ∧ quiescent_Kernel21Ideal (hKernel21Ideal := hKernel21Ideal) (hPre_piece21 := hPre_piece21)
    ∧ quiescent_Reference21Ideal (hReference21Ideal := hReference21Ideal) (hPre_piece21 := hPre_piece21)
    ∧ quiescent_Kernel22 (hKernel22 := hKernel22) (hPre_piece22 := hPre_piece22)
    ∧ quiescent_Kernel22Ideal (hKernel22Ideal := hKernel22Ideal) (hPre_piece22 := hPre_piece22)
    ∧ quiescent_Reference22Ideal (hReference22Ideal := hReference22Ideal) (hPre_piece22 := hPre_piece22)
    ∧ quiescent_Kernel23 (hKernel23 := hKernel23) (hPre_piece23 := hPre_piece23)
    ∧ quiescent_Kernel23Ideal (hKernel23Ideal := hKernel23Ideal) (hPre_piece23 := hPre_piece23)
    ∧ quiescent_Reference23Ideal (hReference23Ideal := hReference23Ideal) (hPre_piece23 := hPre_piece23)
    ∧ quiescent_Kernel24 (hKernel24 := hKernel24) (hPre_piece24 := hPre_piece24)
    ∧ quiescent_Kernel24Ideal (hKernel24Ideal := hKernel24Ideal) (hPre_piece24 := hPre_piece24)
    ∧ quiescent_Reference24Ideal (hReference24Ideal := hReference24Ideal) (hPre_piece24 := hPre_piece24)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_gated_operands_finite (hKernelIdeal := hKernelIdeal) (hReferenceIdeal := hReferenceIdeal) (hPre_gated_operands_finite := hPre_gated_operands_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_chip9 := hPre_chip9)
    ∧ preserves_Kernel10_Kernel10Ideal
    ∧ algebraic_Kernel10Ideal_Reference10Ideal (hKernel10Ideal := hKernel10Ideal) (hReference10Ideal := hReference10Ideal) (hPre_chip10 := hPre_chip10)
    ∧ preserves_Kernel11_Kernel11Ideal
    ∧ algebraic_Kernel11Ideal_Reference11Ideal (hKernel11Ideal := hKernel11Ideal) (hReference11Ideal := hReference11Ideal) (hPre_chip11 := hPre_chip11)
    ∧ preserves_Kernel12_Kernel12Ideal
    ∧ algebraic_Kernel12Ideal_Reference12Ideal (hKernel12Ideal := hKernel12Ideal) (hReference12Ideal := hReference12Ideal) (hPre_chip12 := hPre_chip12)
    ∧ preserves_Kernel13_Kernel13Ideal
    ∧ algebraic_Kernel13Ideal_Reference13Ideal (hKernel13Ideal := hKernel13Ideal) (hReference13Ideal := hReference13Ideal) (hPre_chip13 := hPre_chip13)
    ∧ preserves_Kernel14_Kernel14Ideal
    ∧ algebraic_Kernel14Ideal_Reference14Ideal (hKernel14Ideal := hKernel14Ideal) (hReference14Ideal := hReference14Ideal) (hPre_chip14 := hPre_chip14)
    ∧ preserves_Kernel15_Kernel15Ideal
    ∧ algebraic_Kernel15Ideal_Reference15Ideal (hKernel15Ideal := hKernel15Ideal) (hReference15Ideal := hReference15Ideal) (hPre_chip15 := hPre_chip15)
    ∧ preserves_Kernel16_Kernel16Ideal
    ∧ algebraic_Kernel16Ideal_Reference16Ideal (hKernel16Ideal := hKernel16Ideal) (hReference16Ideal := hReference16Ideal) (hPre_chip16 := hPre_chip16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal) (hPre_piece21 := hPre_piece21)
    ∧ preserves_Kernel22_Kernel22Ideal
    ∧ algebraic_Kernel22Ideal_Reference22Ideal (hKernel22Ideal := hKernel22Ideal) (hReference22Ideal := hReference22Ideal) (hPre_piece22 := hPre_piece22)
    ∧ preserves_Kernel23_Kernel23Ideal
    ∧ algebraic_Kernel23Ideal_Reference23Ideal (hKernel23Ideal := hKernel23Ideal) (hReference23Ideal := hReference23Ideal) (hPre_piece23 := hPre_piece23)
    ∧ preserves_Kernel24_Kernel24Ideal
    ∧ algebraic_Kernel24Ideal_Reference24Ideal (hKernel24Ideal := hKernel24Ideal) (hReference24Ideal := hReference24Ideal) (hPre_piece24 := hPre_piece24)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_chip10.lean ====
abbrev S2048x2048 : Shape := ⟨2, ![2048, 2048]⟩
abbrev S4x2048x4096 : Shape := ⟨3, ![4, 2048, 4096]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S2048x2048 .bf16) (main_arg1 : FVec F S4x2048x4096 .bf16) (main_arg2 : IVec S5 32) : IVec S_ 1 :=
  let main_v0 : IVec S1 32 := (extractStridedSlice S1 ![0] · slices_S5_S1_0) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip11.lean ====
abbrev S2048x2048 : Shape := ⟨2, ![2048, 2048]⟩
abbrev S4x2048x4096 : Shape := ⟨3, ![4, 2048, 4096]⟩
abbrev S5 : Shape := ⟨1, ![5]⟩
abbrev S1 : Shape := ⟨1, ![1]⟩
abbrev S_ : Shape := ⟨0, ![]⟩

class Facts : Prop where
  slices_S5_S1_1 : S5.Slices ![1] S1
  shapeCasts_S1_S_ : S1.ShapeCasts S_

variable [Facts]

def fn {F : FTy → Type} [FloatOps F] (main_arg0 : FVec F S2048x2048 .bf16) (main_arg1 : FVec F S4x2048x4096 .bf16) (main_arg2 : IVec S5 32) : IVec S_ 1 :=
  let main_v0 : IVec S1 32 := (extractStridedSlice S1 ![1] · slices_S5_S1_1) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip12.lean ====
abbrev S2048x2048 : Shape := ⟨2, ![2048, 2048]⟩
abbrev S4x2048x4096 : Shape := ⟨3, ![4, 2048, 4096]⟩
abbrev S5 : Shape := ⟨1, ![5]⟩
abbrev S1 : Shape := ⟨1, ![1]⟩
abbrev S_ : Shape := ⟨0, ![]⟩

class Facts : Prop where
  slices_S5_S1_2 : S5.Slices ![2] S1
  shapeCasts_S1_S_ : S1.ShapeCasts S_

variable [Facts]

def fn {F : FTy → Type} [FloatOps F] (main_arg0 : FVec F S2048x2048 .bf16) (main_arg1 : FVec F S4x2048x4096 .bf16) (main_arg2 : IVec S5 32) : IVec S_ 1 :=
  let main_v0 : IVec S1 32 := (extractStridedSlice S1 ![2] · slices_S5_S1_2) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip13.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S1 : Shape := ⟨1, ![1]⟩
abbrev S_ : Shape := ⟨0, ![]⟩

class Facts : Prop where
  slices_S5_S1_3 : S5.Slices ![3] S1
  shapeCasts_S1_S_ : S1.ShapeCasts S_

variable [Facts]

def fn {F : FTy → Type} [FloatOps F] (main_arg0 : FVec F S2048x2048 .bf16) (main_arg1 : FVec F S2048x16384 .f32) (main_arg2 : IVec S5 32) (main_arg3 : FVec F S4x2048x4096 .bf16) : IVec S_ 1 :=
  let main_v0 : IVec S1 32 := (extractStridedSlice S1 ![3] · slices_S5_S1_3) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip14.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S2048x2048 .bf16) (main_arg1 : FVec F S2048x16384 .f32) (main_arg2 : IVec S5 32) (main_arg3 : FVec F S4x2048x4096 .bf16) : IVec S_ 1 :=
  let main_v0 : IVec S1 32 := (extractStridedSlice S1 ![0] · slices_S5_S1_0) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip15.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S1 : Shape := ⟨1, ![1]⟩
abbrev S_ : Shape := ⟨0, ![]⟩

class Facts : Prop where
  slices_S5_S1_1 : S5.Slices ![1] S1
  shapeCasts_S1_S_ : S1.ShapeCasts S_

variable [Facts]

def fn {F : FTy → Type} [FloatOps F] (main_arg0 : FVec F S2048x2048 .bf16) (main_arg1 : FVec F S2048x16384 .f32) (main_arg2 : IVec S5 32) (main_arg3 : FVec F S4x2048x4096 .bf16) : IVec S_ 1 :=
  let main_v0 : IVec S1 32 := (extractStridedSlice S1 ![1] · slices_S5_S1_1) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip16.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S1 : Shape := ⟨1, ![1]⟩
abbrev S_ : Shape := ⟨0, ![]⟩

class Facts : Prop where
  slices_S5_S1_2 : S5.Slices ![2] S1
  shapeCasts_S1_S_ : S1.ShapeCasts S_

variable [Facts]

def fn {F : FTy → Type} [FloatOps F] (main_arg0 : FVec F S2048x2048 .bf16) (main_arg1 : FVec F S2048x16384 .f32) (main_arg2 : IVec S5 32) (main_arg3 : FVec F S4x2048x4096 .bf16) : IVec S_ 1 :=
  let main_v0 : IVec S1 32 := (extractStridedSlice S1 ![2] · slices_S5_S1_2) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_chip9.lean ====
abbrev S2048x2048 : Shape := ⟨2, ![2048, 2048]⟩
abbrev S4x2048x4096 : Shape := ⟨3, ![4, 2048, 4096]⟩
abbrev S5 : Shape := ⟨1, ![5]⟩
abbrev S1 : Shape := ⟨1, ![1]⟩
abbrev S_ : Shape := ⟨0, ![]⟩

class Facts : Prop where
  slices_S5_S1_3 : S5.Slices ![3] S1
  shapeCasts_S1_S_ : S1.ShapeCasts S_

variable [Facts]

def fn {F : FTy → Type} [FloatOps F] (main_arg0 : FVec F S2048x2048 .bf16) (main_arg1 : FVec F S4x2048x4096 .bf16) (main_arg2 : IVec S5 32) : IVec S_ 1 :=
  let main_v0 : IVec S1 32 := (extractStridedSlice S1 ![3] · slices_S5_S1_3) main_arg2
  let main_v1 : IVec S_ 32 := shapeCast S_ main_v0 shapeCasts_S1_S_
  let main_c : IVec S_ 32 := constantI S_ 32 0#32
  let main_v2 : IVec S_ 1 := cmpi .sge main_v1 main_c
  let main_c_0 : IVec S_ 32 := constantI S_ 32 4#32
  let main_v3 : IVec S_ 1 := cmpi .slt main_v1 main_c_0
  let main_v4 : IVec S_ 1 := andi main_v2 main_v3
  main_v4
-- ==== Pre_gated_operands_finite.lean ====
abbrev S4x2048x4096 : Shape := ⟨3, ![4, 2048, 4096]⟩
abbrev S2048x4096 : Shape := ⟨2, ![2048, 4096]⟩
abbrev S3x4096 : Shape := ⟨2, ![3, 4096]⟩
abbrev S3x2048x4096 : Shape := ⟨3, ![3, 2048, 4096]⟩
abbrev S_ : Shape := ⟨0, ![]⟩

class Facts : Prop where
  slices_S4x2048x4096_S3x2048x4096_0_0_0 : S4x2048x4096.Slices ![0, 0, 0] S3x2048x4096
  bitsLt_bf16_f32 : FTy.bits .bf16 < FTy.bits .f32
  bcast_S_S3x2048x4096 : S_.BroadcastsInDim S3x2048x4096 (![] : Fin 0 → Fin S3x2048x4096.rank)
  reducesTo_S3x2048x4096_S_d0_1_2 : S3x2048x4096.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S3x4096 : S_.BroadcastsInDim S3x4096 (![] : Fin 0 → Fin S3x4096.rank)
  reducesTo_S3x4096_S_d0_1 : S3x4096.ReducesTo [0, 1] S_

variable [Facts]

def fn {F : FTy → Type} [FloatOps F] (main_arg0 : FVec F S4x2048x4096 .bf16) (main_arg1 : FVec F S2048x4096 .bf16) (main_arg2 : FVec F S3x4096 .f32) : IVec S_ 1 :=
  let main_v0 : FVec F S3x2048x4096 .bf16 := (extractStridedSlice S3x2048x4096 ![0, 0, 0] · slices_S4x2048x4096_S3x2048x4096_0_0_0) main_arg0
  let main_v1 : FVec F S3x2048x4096 .f32 := (extf .f32 · bitsLt_bf16_f32) main_v0
  let main_v2 : FVec F S3x2048x4096 .f32 := Host.absf main_v1
  let main_cst : FVec F S_ .f32 := constant S_ .f32 0x7F800000#32
  let main_v3 : FVec F S3x2048x4096 .f32 := broadcastInDim S3x2048x4096 ![] bcast_S_S3x2048x4096 main_cst
  let main_v4 : IVec S3x2048x4096 1 := cmpf .olt main_v2 main_v3
  let main_c : IVec S_ 1 := constantI S_ 1 1#1
  let main_v5 : IVec S_ 1 := (fun x v => Host.reduce IntOp.andi x v reducesTo_S3x2048x4096_S_d0_1_2 h_S_) main_v4 main_c
  let main_v6 : FVec F S2048x4096 .f32 := (extf .f32 · bitsLt_bf16_f32) main_arg1
  let main_v7 : FVec F S2048x4096 .f32 := Host.absf main_v6
  let main_cst_0 : FVec F S_ .f32 := constant S_ .f32 0x7F800000#32
  let main_v8 : FVec F S2048x4096 .f32 := broadcastInDim S2048x4096 ![] bcast_S_S2048x4096 main_cst_0
  let main_v9 : IVec S2048x4096 1 := cmpf .olt main_v7 main_v8
  let main_c_1 : IVec S_ 1 := constantI S_ 1 1#1
  let main_v10 : IVec S_ 1 := (fun x v => Host.reduce IntOp.andi x v reducesTo_S2048x4096_S_d0_1 h_S_) main_v9 main_c_1
  let main_v11 : IVec S_ 1 := andi main_v5 main_v10
  let main_v12 : FVec F S3x4096 .f32 := Host.absf main_arg2
  let main_cst_2 : FVec F S_ .f32 := constant S_ .f32 0x7F800000#32
  let main_v13 : FVec F S3x4096 .f32 := broadcastInDim S3x4096 ![] bcast_S_S3x4096 main_cst_2
  let main_v14 : IVec S3x4096 1 := cmpf .olt main_v12 main_v13
  let main_c_3 : IVec S_ 1 := constantI S_ 1 1#1
  let main_v15 : IVec S_ 1 := (fun x v => Host.reduce IntOp.andi x v reducesTo_S3x4096_S_d0_1 h_S_) main_v14 main_c_3
  let main_v16 : IVec S_ 1 := andi main_v11 main_v15
  main_v16
-- ==== Pre_piece21.lean ====
abbrev S5 : Shape := ⟨1, ![5]⟩
abbrev S2048x1024 : Shape := ⟨2, ![2048, 1024]⟩
abbrev S4x2x2048x1024 : Shape := ⟨4, ![4, 2, 2048, 1024]⟩
abbrev S4x1x2048x1024 : Shape := ⟨4, ![4, 1, 2048, 1024]⟩
abbrev S3x2048x1024 : Shape := ⟨3, ![3, 2048, 1024]⟩
abbrev S1 : Shape := ⟨1, ![1]⟩
abbrev S_ : Shape := ⟨0, ![]⟩

class Facts : Prop where
  slices_S5_S1_3 : S5.Slices ![3] S1
  shapeCasts_S1_S_ : S1.ShapeCasts S_
  slices_S5_S1_4 : S5.Slices ![4] S1

variable [Facts]

def fn {F : FTy → Type} [FloatOps F] (main_arg0 : IVec S5 32) (main_arg1 : FVec F S2048x1024 .f32) (main_arg2 : FVec F S2048x1024 .f32) (main_arg3 : FVec F S2048x1024 .f32) (main_arg4 : FVec F S4x2x2048x1024 .bf16) (main_arg5 : FVec F S4x1x2048x1024 .bf16) (main_arg6 : FVec F S3x2048x1024 .bf16) : IVec S_ 1 :=
  let main_v0 : IVec S1 32 := (extractStridedSlice S1 ![3] · slices_S5_S1_3) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![3] · slices_S5_S1_3) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![4] · slices_S5_S1_4) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![4] · slices_S5_S1_4) main_arg0
  let main_v11 : IVec S_ 32 := shapeCast S_ main_v10 shapeCasts_S1_S_
  let main_c_2 : IVec S_ 32 := constantI S_ 32 2#32
  let main_v12 : IVec S_ 1 := cmpi .slt main_v11 main_c_2
  let main_v13 : IVec S_ 1 := andi main_v9 main_v12
  let main_v14 : IVec S_ 1 := andi main_v6 main_v13
  main_v14
-- ==== Pre_piece22.lean ====
abbrev S5 : Shape := ⟨1, ![5]⟩
abbrev S512x2048 : Shape := ⟨2, ![512, 2048]⟩
abbrev S4x2x512x2048 : Shape := ⟨4, ![4, 2, 512, 2048]⟩
abbrev S4x1x512x2048 : Shape := ⟨4, ![4, 1, 512, 2048]⟩
abbrev S3x512x2048 : Shape := ⟨3, ![3, 512, 2048]⟩
abbrev S1 : Shape := ⟨1, ![1]⟩
abbrev S_ : Shape := ⟨0, ![]⟩

class Facts : Prop where
  slices_S5_S1_3 : S5.Slices ![3] S1
  shapeCasts_S1_S_ : S1.ShapeCasts S_
  slices_S5_S1_4 : S5.Slices ![4] S1

variable [Facts]

def fn {F : FTy → Type} [FloatOps F] (main_arg0 : IVec S5 32) (main_arg1 : FVec F S512x2048 .f32) (main_arg2 : FVec F S512x2048 .f32) (main_arg3 : FVec F S512x2048 .f32) (main_arg4 : FVec F S4x2x512x2048 .bf16) (main_arg5 : FVec F S4x1x512x2048 .bf16) (main_arg6 : FVec F S3x512x2048 .bf16) : IVec S_ 1 :=
  let main_v0 : IVec S1 32 := (extractStridedSlice S1 ![3] · slices_S5_S1_3) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![3] · slices_S5_S1_3) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![4] · slices_S5_S1_4) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![4] · slices_S5_S1_4) main_arg0
  let main_v11 : IVec S_ 32 := shapeCast S_ main_v10 shapeCasts_S1_S_
  let main_c_2 : IVec S_ 32 := constantI S_ 32 2#32
  let main_v12 : IVec S_ 1 := cmpi .slt main_v11 main_c_2
  let main_v13 : IVec S_ 1 := andi main_v9 main_v12
  let main_v14 : IVec S_ 1 := andi main_v6 main_v13
  main_v14
-- ==== Pre_piece23.lean ====
abbrev S5 : Shape := ⟨1, ![5]⟩
abbrev S512x256 : Shape := ⟨2, ![512, 256]⟩
abbrev S4x2x512x256 : Shape := ⟨4, ![4, 2, 512, 256]⟩
abbrev S4x1x512x256 : Shape := ⟨4, ![4, 1, 512, 256]⟩
abbrev S3x512x256 : Shape := ⟨3, ![3, 512, 256]⟩
abbrev S1 : Shape := ⟨1, ![1]⟩
abbrev S_ : Shape := ⟨0, ![]⟩

class Facts : Prop where
  slices_S5_S1_3 : S5.Slices ![3] S1
  shapeCasts_S1_S_ : S1.ShapeCasts S_
  slices_S5_S1_4 : S5.Slices ![4] S1

variable [Facts]

def fn {F : FTy → Type} [FloatOps F] (main_arg0 : IVec S5 32) (main_arg1 : FVec F S512x256 .f32) (main_arg2 : FVec F S512x256 .f32) (main_arg3 : FVec F S512x256 .f32) (main_arg4 : FVec F S4x2x512x256 .bf16) (main_arg5 : FVec F S4x1x512x256 .bf16) (main_arg6 : FVec F S3x512x256 .bf16) : IVec S_ 1 :=
  let main_v0 : IVec S1 32 := (extractStridedSlice S1 ![3] · slices_S5_S1_3) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![3] · slices_S5_S1_3) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![4] · slices_S5_S1_4) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![4] · slices_S5_S1_4) main_arg0
  let main_v11 : IVec S_ 32 := shapeCast S_ main_v10 shapeCasts_S1_S_
  let main_c_2 : IVec S_ 32 := constantI S_ 32 2#32
  let main_v12 : IVec S_ 1 := cmpi .slt main_v11 main_c_2
  let main_v13 : IVec S_ 1 := andi main_v9 main_v12
  let main_v14 : IVec S_ 1 := andi main_v6 main_v13
  main_v14
-- ==== Pre_piece24.lean ====
abbrev S5 : Shape := ⟨1, ![5]⟩
abbrev S2048x2048 : Shape := ⟨2, ![2048, 2048]⟩
abbrev S1x2x2048x2048 : Shape := ⟨4, ![1, 2, 2048, 2048]⟩
abbrev S1x1x2048x2048 : Shape := ⟨4, ![1, 1, 2048, 2048]⟩
abbrev S1x2048x2048 : Shape := ⟨3, ![1, 2048, 2048]⟩
abbrev S1 : Shape := ⟨1, ![1]⟩
abbrev S_ : Shape := ⟨0, ![]⟩

class Facts : Prop where
  slices_S5_S1_3 : S5.Slices ![3] S1
  shapeCasts_S1_S_ : S1.ShapeCasts S_
  slices_S5_S1_4 : S5.Slices ![4] S1

variable [Facts]

def fn {F : FTy → Type} [FloatOps F] (main_arg0 : IVec S5 32) (main_arg1 : FVec F S2048x2048 .f32) (main_arg2 : FVec F S2048x2048 .f32) (main_arg3 : FVec F S2048x2048 .f32) (main_arg4 : FVec F S1x2x2048x2048 .bf16) (main_arg5 : FVec F S1x1x2048x2048 .bf16) (main_arg6 : FVec F S1x2048x2048 .bf16) (main_arg7 : FVec F S1x2048x2048 .bf16) (main_arg8 : FVec F S1x2048x2048 .bf16) : IVec S_ 1 :=
  let main_v0 : IVec S1 32 := (extractStridedSlice S1 ![3] · slices_S5_S1_3) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![3] · slices_S5_S1_3) main_arg0
  let main_v4 : IVec S_ 32 := shapeCast S_ main_v3 shapeCasts_S1_S_
  let main_c_0 : IVec S_ 32 := constantI S_ 32 1#32
  let main_v5 : IVec S_ 1 := cmpi .slt main_v4 main_c_0
  let main_v6 : IVec S_ 1 := andi main_v2 main_v5
  let main_v7 : IVec S1 32 := (extractStridedSlice S1 ![4] · slices_S5_S1_4) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![4] · slices_S5_S1_4) main_arg0
  let main_v11 : IVec S_ 32 := shapeCast S_ main_v10 shapeCasts_S1_S_
  let main_c_2 : IVec S_ 32 := constantI S_ 32 2#32
  let main_v12 : IVec S_ 1 := cmpi .slt main_v11 main_c_2
  let main_v13 : IVec S_ 1 := andi main_v9 main_v12
  let main_v14 : IVec S_ 1 := andi main_v6 main_v13
  main_v14
-- ==== Kernel.lean ====
abbrev S4x2048x4096 : Shape := ⟨3, ![4, 2048, 4096]⟩
abbrev S2048x4096 : Shape := ⟨2, ![2048, 4096]⟩
abbrev S3x4096 : Shape := ⟨2, ![3, 4096]⟩
abbrev S8x4096 : Shape := ⟨2, ![8, 4096]⟩
abbrev S1x2048x256 : Shape := ⟨3, ![1, 2048, 256]⟩
abbrev S2048x256 : Shape := ⟨2, ![2048, 256]⟩
abbrev S3x256 : Shape := ⟨2, ![3, 256]⟩
abbrev S4x2048x256 : Shape := ⟨3, ![4, 2048, 256]⟩
abbrev S8x256 : Shape := ⟨2, ![8, 256]⟩
abbrev S1x256 : Shape := ⟨2, ![1, 256]⟩
abbrev S256 : Shape := ⟨1, ![256]⟩

abbrev nBuf : Space → Nat
  | .hbm => 5
  | .vmem => 16
  | .smem => 0
  | _ => 0

abbrev bufTy : (tb : Table) → Fin (tcTables nBuf tb) → BufTy
  | .hbm, ⟨0, _⟩ => ⟨S4x2048x4096, .bf16⟩
  | .hbm, ⟨1, _⟩ => ⟨S2048x4096, .bf16⟩
  | .hbm, ⟨2, _⟩ => ⟨S3x4096, .f32⟩
  | .hbm, ⟨3, _⟩ => ⟨S4x2048x4096, .bf16⟩
  | .hbm, ⟨4, _⟩ => ⟨S8x4096, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S4x2048x256, .bf16⟩
  | .local _ .vmem, ⟨13, _⟩ => ⟨S4x2048x256, .bf16⟩
  | .local _ .vmem, ⟨14, _⟩ => ⟨S8x256, .f32⟩
  | .local _ .vmem, ⟨15, _⟩ => ⟨S8x256, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x4096 : Shape := ⟨3, ![4, 2048, 4096]⟩
abbrev S2048x4096 : Shape := ⟨2, ![2048, 4096]⟩
abbrev S3x4096 : Shape := ⟨2, ![3, 4096]⟩
abbrev S1x2048x4096 : Shape := ⟨3, ![1, 2048, 4096]⟩
abbrev S_ : Shape := ⟨0, ![]⟩
abbrev S2x4096 : Shape := ⟨2, ![2, 4096]⟩
abbrev S2050x4096 : Shape := ⟨2, ![2050, 4096]⟩
abbrev S1x4096 : Shape := ⟨2, ![1, 4096]⟩
abbrev S4096 : Shape := ⟨1, ![4096]⟩
abbrev S8x4096 : Shape := ⟨2, ![8, 4096]⟩

abbrev nBuf : Space → Nat
  | .hbm => 131
  | .vmem => 0
  | .smem => 0
  | _ => 0

abbrev hbmTy0_0 (i : Nat) : BufTy := match i % 128 with
  | 0 => ⟨S4x2048x4096, .bf16⟩
  | 1 => ⟨S2048x4096, .bf16⟩
  | 2 => ⟨S3x4096, .f32⟩
  | 3 => ⟨S4x2048x4096, .f32⟩
  | 4 => ⟨S1x2048x4096, .f32⟩
  | 5 => ⟨S2048x4096, .f32⟩
  | 6 => ⟨S1x2048x4096, .f32⟩
  | 7 => ⟨S2048x4096, .f32⟩
  | 8 => ⟨S1x2048x4096, .f32⟩
  | 9 => ⟨S2048x4096, .f32⟩
  | 10 => ⟨S1x2048x4096, .f32⟩
  | 11 => ⟨S2048x4096, .f32⟩
  | 12 => ⟨S2048x4096, .f32⟩
  | 13 => ⟨S_, .f32⟩
  | 14 => ⟨S2x4096, .f32⟩
  | 15 => ⟨S2050x4096, .f32⟩
  | 16 => ⟨S_, .f32⟩
  | 17 => ⟨S2x4096, .f32⟩
  | 18 => ⟨S1x4096, .f32⟩
  | 19 => ⟨S4096, .f32⟩
  | 20 => ⟨S2048x4096, .f32⟩
  | 21 => ⟨S1x4096, .f32⟩
  | 22 => ⟨S2048x4096, .f32⟩
  | 23 => ⟨S2048x4096, .f32⟩
  | 24 => ⟨S_, .f32⟩
  | 25 => ⟨S2048x4096, .f32⟩
  | 26 => ⟨S2048x4096, .f32⟩
  | 27 => ⟨S1x4096, .f32⟩
  | 28 => ⟨S4096, .f32⟩
  | 29 => ⟨S2048x4096, .f32⟩
  | 30 => ⟨S1x4096, .f32⟩
  | 31 => ⟨S2048x4096, .f32⟩
  | 32 => ⟨S2048x4096, .f32⟩
  | 33 => ⟨S2048x4096, .f32⟩
  | 34 => ⟨S1x4096, .f32⟩
  | 35 => ⟨S4096, .f32⟩
  | 36 => ⟨S2048x4096, .f32⟩
  | 37 => ⟨S1x4096, .f32⟩
  | 38 => ⟨S2048x4096, .f32⟩
  | 39 => ⟨S2048x4096, .f32⟩
  | 40 => ⟨S2048x4096, .f32⟩
  | 41 => ⟨S2048x4096, .f32⟩
  | 42 => ⟨S2048x4096, .f32⟩
  | 43 => ⟨S2048x4096, .f32⟩
  | 44 => ⟨S_, .f32⟩
  | 45 => ⟨S2048x4096, .f32⟩
  | 46 => ⟨S2048x4096, .f32⟩
  | 47 => ⟨S_, .f32⟩
  | 48 => ⟨S2048x4096, .f32⟩
  | 49 => ⟨S2048x4096, .f32⟩
  | 50 => ⟨S_, .f32⟩
  | 51 => ⟨S2048x4096, .f32⟩
  | 52 => ⟨S2048x4096, .f32⟩
  | 53 => ⟨S2048x4096, .f32⟩
  | 54 => ⟨S2048x4096, .f32⟩
  | 55 => ⟨S2048x4096, .f32⟩
  | 56 => ⟨S2048x4096, .f32⟩
  | 57 => ⟨S2048x4096, .f32⟩
  | 58 => ⟨S2048x4096, .f32⟩
  | 59 => ⟨S2048x4096, .f32⟩
  | 60 => ⟨S2048x4096, .f32⟩
  | 61 => ⟨S2048x4096, .f32⟩
  | 62 => ⟨S2048x4096, .f32⟩
  | 63 => ⟨S2048x4096, .f32⟩
  | 64 => ⟨S2048x4096, .f32⟩
  | 65 => ⟨S2048x4096, .f32⟩
  | 66 => ⟨S2048x4096, .f32⟩
  | 67 => ⟨S2048x4096, .f32⟩
  | 68 => ⟨S_, .f32⟩
  | 69 => ⟨S4096, .f32⟩
  | 70 => ⟨S1x4096, .f32⟩
  | 71 => ⟨S_, .f32⟩
  | 72 => ⟨S4096, .f32⟩
  | 73 => ⟨S_, .f32⟩
  | 74 => ⟨S2050x4096, .f32⟩
  | 75 => ⟨S1x4096, .f32⟩
  | 76 => ⟨S_, .f32⟩
  | 77 => ⟨S3x4096, .f32⟩
  | 78 => ⟨S2048x4096, .f32⟩
  | 79 => ⟨S2048x4096, .f32⟩
  | 80 => ⟨S2048x4096, .f32⟩
  | 81 => ⟨S_, .f32⟩
  | 82 => ⟨S4096, .f32⟩
  | 83 => ⟨S1x4096, .f32⟩
  | 84 => ⟨S_, .f32⟩
  | 85 => ⟨S4096, .f32⟩
  | 86 => ⟨S_, .f32⟩
  | 87 => ⟨S2050x4096, .f32⟩
  | 88 => ⟨S2050x4096, .f32⟩
  | 89 => ⟨S1x4096, .f32⟩
  | 90 => ⟨S_, .f32⟩
  | 91 => ⟨S3x4096, .f32⟩
  | 92 => ⟨S3x4096, .f32⟩
  | 93 => ⟨S2048x4096, .f32⟩
  | 94 => ⟨S2048x4096, .f32⟩
  | 95 => ⟨S2048x4096, .f32⟩
  | 96 => ⟨S_, .f32⟩
  | 97 => ⟨S4096, .f32⟩
  | 98 => ⟨S1x4096, .f32⟩
  | 99 => ⟨S_, .f32⟩
  | 100 => ⟨S4096, .f32⟩
  | 101 => ⟨S_, .f32⟩
  | 102 => ⟨S2050x4096, .f32⟩
  | 103 => ⟨S2050x4096, .f32⟩
  | 104 => ⟨S1x4096, .f32⟩
  | 105 => ⟨S_, .f32⟩
  | 106 => ⟨S3x4096, .f32⟩
  | 107 => ⟨S3x4096, .f32⟩
  | 108 => ⟨S2x4096, .f32⟩
  | 109 => ⟨S2048x4096, .f32⟩
  | 110 => ⟨S2048x4096, .f32⟩
  | 111 => ⟨S2048x4096, .f32⟩
  | 112 => ⟨S1x2048x4096, .f32⟩
  | 113 => ⟨S_, .f32⟩
  | 114 => ⟨S4x2048x4096, .f32⟩
  | 115 => ⟨S1x2048x4096, .f32⟩
  | 116 => ⟨S_, .f32⟩
  | 117 => ⟨S4x2048x4096, .f32⟩
  | 118 => ⟨S4x2048x4096, .f32⟩
  | 119 => ⟨S1x2048x4096, .f32⟩
  | 120 => ⟨S_, .f32⟩
  | 121 => ⟨S4x2048x4096, .f32⟩
  | 122 => ⟨S4x2048x4096, .f32⟩
  | 123 => ⟨S1x2048x4096, .f32⟩
  | 124 => ⟨S_, .f32⟩
  | 125 => ⟨S4x2048x4096, .f32⟩
  | 126 => ⟨S4x2048x4096, .f32⟩
  | 127 => ⟨S4x2048x4096, .bf16⟩
  | _ => ⟨S4x2048x4096, .bf16⟩

abbrev hbmTy0_1 (i : Nat) : BufTy := match i % 128 with
  | 0 => ⟨S_, .i32⟩
  | 1 => ⟨S_, .f32⟩
  | 2 => ⟨S8x4096, .f32⟩
  | _ => ⟨S4x2048x4096, .bf16⟩

abbrev hbmTy (i : Nat) : BufTy := match i / 128 with
  | 0 => hbmTy0_0 i
  | 1 => hbmTy0_1 i
  | _ => ⟨S4x2048x4096, .bf16⟩

abbrev bufTy : (tb : Table) → Fin (tcTables nBuf tb) → BufTy
  | .hbm, ⟨i, _⟩ => hbmTy i
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v36_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v36_1 : Ref sig .tc := ⟨.hbm, 53, rfl⟩
abbrev main_v36_0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_cst_3 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c : Ref sig .tc := ⟨.hbm, 128, rfl⟩
abbrev main_call2_v0 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Kernel2.lean ====
abbrev S2048x8192 : Shape := ⟨2, ![2048, 8192]⟩
abbrev S2x2048x4096 : Shape := ⟨3, ![2, 2048, 4096]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2x2048x4096, .bf16⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S2048x8192 : Shape := ⟨2, ![2048, 8192]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2x2048x4096, .bf16⟩
  | .hbm, ⟨2, _⟩ => ⟨S2x2048x4096, .f32⟩
  | .hbm, ⟨3, _⟩ => ⟨S1x2048x4096, .f32⟩
  | .hbm, ⟨4, _⟩ => ⟨S2048x4096, .f32⟩
  | .hbm, ⟨5, _⟩ => ⟨S1x2048x4096, .f32⟩
  | .hbm, ⟨6, _⟩ => ⟨S2048x4096, .f32⟩
  | .hbm, ⟨7, _⟩ => ⟨S2048x8192, .f32⟩
  | .hbm, ⟨8, _⟩ => ⟨S2048x2048, .f32⟩
  | .hbm, ⟨9, _⟩ => ⟨S2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S2048x2048 : Shape := ⟨2, ![2048, 2048]⟩
abbrev S2x2048x4096 : Shape := ⟨3, ![2, 2048, 4096]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x4096, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2048 : Shape := ⟨2, ![2048, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x4096, .bf16⟩
  | .hbm, ⟨2, _⟩ => ⟨S2x2048x4096, .f32⟩
  | .hbm, ⟨3, _⟩ => ⟨S2048x2048, .f32⟩
  | .hbm, ⟨4, _⟩ => ⟨S1x2048x4096, .f32⟩
  | .hbm, ⟨5, _⟩ => ⟨S2048x4096, .f32⟩
  | .hbm, ⟨6, _⟩ => ⟨S1x2048x4096, .f32⟩
  | .hbm, ⟨7, _⟩ => ⟨S2048x4096, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x8192, .bf16⟩
  | .hbm, ⟨12, _⟩ => ⟨S2048x8x1024, .bf16⟩
  | .hbm, ⟨13, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S2x2048x4096 : Shape := ⟨3, ![2, 2048, 4096]⟩
abbrev S1x2048x512 : Shape := ⟨3, ![1, 2048, 512]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S2x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c512_i32_4 : BitVec 32 := 512#32
  let v18 : BitVec 32 := Scalar.muli arg0 c512_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32_11 : BitVec 32 := 512#32
  let v29 : BitVec 32 := Scalar.divsi v28 c512_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c512_i32_11 c0_i32_14
  let v36 : BitVec 32 := Scalar.extui v35
  let c0_i32_15 : BitVec 32 := 0#32
  let v37 : BitVec 1 := Scalar.cmpi .slt c512_i32_11 c0_i32_15
  let v38 : BitVec 32 := Scalar.extui v37
  let v39 : BitVec 32 := Scalar.subi v36 v38
  let v40 : BitVec 1 := Scalar.cmpi .ne v34 v39
  let v41 : BitVec 32 := Scalar.remsi v28 c512_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c512_i32_4 : BitVec 32 := 512#32
  let v18 : BitVec 32 := Scalar.muli arg0 c512_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32_11 : BitVec 32 := 512#32
  let v29 : BitVec 32 := Scalar.divsi v28 c512_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c512_i32_11 c0_i32_14
  let v36 : BitVec 32 := Scalar.extui v35
  let c0_i32_15 : BitVec 32 := 0#32
  let v37 : BitVec 1 := Scalar.cmpi .slt c512_i32_11 c0_i32_15
  let v38 : BitVec 32 := Scalar.extui v37
  let v39 : BitVec 32 := Scalar.subi v36 v38
  let v40 : BitVec 1 := Scalar.cmpi .ne v34 v39
  let v41 : BitVec 32 := Scalar.remsi v28 c512_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x2048 : Shape := ⟨2, ![2048, 2048]⟩
abbrev S2048x8192 : Shape := ⟨2, ![2048, 8192]⟩
abbrev S2048x4096 : Shape := ⟨2, ![2048, 4096]⟩
abbrev S1x2048x4096 : Shape := ⟨3, ![1, 2048, 4096]⟩
abbrev S2x2048x4096 : Shape := ⟨3, ![2, 2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S2048x2048, .f32⟩
  | .hbm, ⟨3, _⟩ => ⟨S2048x8192, .f32⟩
  | .hbm, ⟨4, _⟩ => ⟨S2048x4096, .f32⟩
  | .hbm, ⟨5, _⟩ => ⟨S2048x4096, .f32⟩
  | .hbm, ⟨6, _⟩ => ⟨S1x2048x4096, .f32⟩
  | .hbm, ⟨7, _⟩ => ⟨S1x2048x4096, .f32⟩
  | .hbm, ⟨8, _⟩ => ⟨S2x2048x4096, .f32⟩
  | .hbm, ⟨9, _⟩ => ⟨S2x2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1x2048x2048 : Shape := ⟨3, ![1, 2048, 2048]⟩
abbrev S1x4096x2048 : Shape := ⟨3, ![1, 4096, 2048]⟩
abbrev S2048x4096 : Shape := ⟨2, ![2048, 4096]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S1x2048x2048, .bf16⟩
  | .hbm, ⟨3, _⟩ => ⟨S4096x2048, .bf16⟩
  | .hbm, ⟨4, _⟩ => ⟨S1x4096x2048, .bf16⟩
  | .hbm, ⟨5, _⟩ => ⟨S2048x4096, .bf16⟩
  | .local _ .vmem, ⟨0, _⟩ => ⟨S1x2048x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_10 : BitVec 32 := 0#32
  let v13 : BitVec 1 := Scalar.cmpi .eq arg1 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2048_i32_5 : BitVec 32 := 2048#32
  let v18 : BitVec 32 := Scalar.muli arg1 c2048_i32_5
  let c2048_i32_6 : BitVec 32 := 2048#32
  let c0_i32_7 : BitVec 32 := 0#32
  let v19 : BitVec 1 := Scalar.cmpi .eq c2048_i32_6 c0_i32_7
  let c1_i32_8 : BitVec 32 := 1#32
  let v20 : BitVec 32 := Scalar.select v19 c1_i32_8 c2048_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2048_i32_12 : BitVec 32 := 2048#32
  let v29 : BitVec 32 := Scalar.divsi v28 c2048_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2048_i32_12 c0_i32_15
  let v36 : BitVec 32 := Scalar.extui v35
  let c0_i32_16 : BitVec 32 := 0#32
  let v37 : BitVec 1 := Scalar.cmpi .slt c2048_i32_12 c0_i32_16
  let v38 : BitVec 32 := Scalar.extui v37
  let v39 : BitVec 32 := Scalar.subi v36 v38
  let v40 : BitVec 1 := Scalar.cmpi .ne v34 v39
  let v41 : BitVec 32 := Scalar.remsi v28 c2048_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  let c0_i32_20 : BitVec 32 := 0#32
  ![v17.toNat, c0_i32_19.toNat, v45.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2048_i32_5 : BitVec 32 := 2048#32
  let v18 : BitVec 32 := Scalar.muli arg1 c2048_i32_5
  let c2048_i32_6 : BitVec 32 := 2048#32
  let c0_i32_7 : BitVec 32 := 0#32
  let v19 : BitVec 1 := Scalar.cmpi .eq c2048_i32_6 c0_i32_7
  let c1_i32_8 : BitVec 32 := 1#32
  let v20 : BitVec 32 := Scalar.select v19 c1_i32_8 c2048_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2048_i32_12 : BitVec 32 := 2048#32
  let v29 : BitVec 32 := Scalar.divsi v28 c2048_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2048_i32_12 c0_i32_15
  let v36 : BitVec 32 := Scalar.extui v35
  let c0_i32_16 : BitVec 32 := 0#32
  let v37 : BitVec 1 := Scalar.cmpi .slt c2048_i32_12 c0_i32_16
  let v38 : BitVec 32 := Scalar.extui v37
  let v39 : BitVec 32 := Scalar.subi v36 v38
  let v40 : BitVec 1 := Scalar.cmpi .ne v34 v39
  let v41 : BitVec 32 := Scalar.remsi v28 c2048_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x2048 : Shape := ⟨2, ![4096, 2048]⟩
abbrev S2048x2048 : Shape := ⟨2, ![2048, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S2048x2048, .f32⟩
  | .hbm, ⟨3, _⟩ => ⟨S2048x4096, .f32⟩
  | .hbm, ⟨4, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x4096 : Shape := ⟨2, ![2048, 4096]⟩
abbrev S2048x2048 : Shape := ⟨2, ![2048, 2048]⟩
abbrev S1x2048x2048 : Shape := ⟨3, ![1, 2048, 2048]⟩
abbrev S1x4096x2048 : Shape := ⟨3, ![1, 4096, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S1x2048x2048, .bf16⟩
  | .hbm, ⟨3, _⟩ => ⟨S1x4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x4096 : Shape := ⟨2, ![2048, 4096]⟩
abbrev S2048x2048 : Shape := ⟨2, ![2048, 2048]⟩
abbrev S4096x2048 : Shape := ⟨2, ![4096, 2048]⟩
abbrev S1x4096x2048 : Shape := ⟨3, ![1, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .f32⟩
  | .hbm, ⟨3, _⟩ => ⟨S2048x4096, .f32⟩
  | .hbm, ⟨4, _⟩ => ⟨S2048x4096, .f32⟩
  | .hbm, ⟨5, _⟩ => ⟨S4096x2048, .f32⟩
  | .hbm, ⟨6, _⟩ => ⟨S4096x2048, .bf16⟩
  | .hbm, ⟨7, _⟩ => ⟨S1x4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S2048x4096 : Shape := ⟨2, ![2048, 4096]⟩
abbrev S4096x2048 : Shape := ⟨2, ![4096, 2048]⟩
abbrev S2048x2048 : Shape := ⟨2, ![2048, 2048]⟩
abbrev S1x2048 : Shape := ⟨2, ![1, 2048]⟩
abbrev S2048x512 : Shape := ⟨2, ![2048, 512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x2048, .f32⟩
  | .hbm, ⟨3, _⟩ => ⟨S1x2048, .f32⟩
  | .hbm, ⟨4, _⟩ => ⟨S4096x2048, .bf16⟩
  | .hbm, ⟨5, _⟩ => ⟨S2048x2048, .f32⟩
  | .hbm, ⟨6, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S2048x4096 : Shape := ⟨2, ![2048, 4096]⟩
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x2048, .f32⟩
  | .hbm, ⟨3, _⟩ => ⟨S1x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S2048x16384 : Shape := ⟨2, ![2048, 16384]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S2048x2048 : Shape := ⟨2, ![2048, 2048]⟩
abbrev S1x2048x2048 : Shape := ⟨3, ![1, 2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2048x16384, .f32⟩
  | .hbm, ⟨1, _⟩ => ⟨S4x2048x4096, .bf16⟩
  | .hbm, ⟨2, _⟩ => ⟨S2048x16384, .bf16⟩
  | .hbm, ⟨3, _⟩ => ⟨S2048x8x2048, .bf16⟩
  | .hbm, ⟨4, _⟩ => ⟨S8x2048x2048, .bf16⟩
  | .hbm, ⟨5, _⟩ => ⟨S2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2048_i32_4 : BitVec 32 := 2048#32
  let v18 : BitVec 32 := Scalar.muli arg1 c2048_i32_4
  let c4096_i32_5 : BitVec 32 := 4096#32
  let c0_i32_6 : BitVec 32 := 0#32
  let v19 : BitVec 1 := Scalar.cmpi .eq c4096_i32_5 c0_i32_6
  let c1_i32_7 : BitVec 32 := 1#32
  let v20 : BitVec 32 := Scalar.select v19 c1_i32_7 c4096_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2048_i32_11 : BitVec 32 := 2048#32
  let v29 : BitVec 32 := Scalar.divsi v28 c2048_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2048_i32_11 c0_i32_14
  let v36 : BitVec 32 := Scalar.extui v35
  let c0_i32_15 : BitVec 32 := 0#32
  let v37 : BitVec 1 := Scalar.cmpi .slt c2048_i32_11 c0_i32_15
  let v38 : BitVec 32 := Scalar.extui v37
  let v39 : BitVec 32 := Scalar.subi v36 v38
  let v40 : BitVec 1 := Scalar.cmpi .ne v34 v39
  let v41 : BitVec 32 := Scalar.remsi v28 c2048_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2048_i32_5 : BitVec 32 := 2048#32
  let v18 : BitVec 32 := Scalar.muli arg1 c2048_i32_5
  let c2048_i32_6 : BitVec 32 := 2048#32
  let c0_i32_7 : BitVec 32 := 0#32
  let v19 : BitVec 1 := Scalar.cmpi .eq c2048_i32_6 c0_i32_7
  let c1_i32_8 : BitVec 32 := 1#32
  let v20 : BitVec 32 := Scalar.select v19 c1_i32_8 c2048_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2048_i32_12 : BitVec 32 := 2048#32
  let v29 : BitVec 32 := Scalar.divsi v28 c2048_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2048_i32_12 c0_i32_15
  let v36 : BitVec 32 := Scalar.extui v35
  let c0_i32_16 : BitVec 32 := 0#32
  let v37 : BitVec 1 := Scalar.cmpi .slt c2048_i32_12 c0_i32_16
  let v38 : BitVec 32 := Scalar.extui v37
  let v39 : BitVec 32 := Scalar.subi v36 v38
  let v40 : BitVec 1 := Scalar.cmpi .ne v34 v39
  let v41 : BitVec 32 := Scalar.remsi v28 c2048_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S2048x16384 : Shape := ⟨2, ![2048, 16384]⟩
abbrev S4x2048x4096 : Shape := ⟨3, ![4, 2048, 4096]⟩
abbrev S1x2048x4096 : Shape := ⟨3, ![1, 2048, 4096]⟩
abbrev S2048x4096 : Shape := ⟨2, ![2048, 4096]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S4x2048x4096, .bf16⟩
  | .hbm, ⟨2, _⟩ => ⟨S4x2048x4096, .f32⟩
  | .hbm, ⟨3, _⟩ => ⟨S1x2048x4096, .f32⟩
  | .hbm, ⟨4, _⟩ => ⟨S2048x4096, .f32⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S2048x4096, .f32⟩
  | .hbm, ⟨9, _⟩ => ⟨S1x2048x4096, .f32⟩
  | .hbm, ⟨10, _⟩ => ⟨S2048x4096, .f32⟩
  | .hbm, ⟨11, _⟩ => ⟨S2048x16384, .f32⟩
  | .hbm, ⟨12, _⟩ => ⟨S2048x2048, .f32⟩
  | .hbm, ⟨13, _⟩ => ⟨S2048x2048, .bf16⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel9.lean ====
abbrev S2048x2048 : Shape := ⟨2, ![2048, 2048]⟩
abbrev S4x2048x4096 : Shape := ⟨3, ![4, 2048, 4096]⟩
abbrev S5 : Shape := ⟨1, ![5]⟩
abbrev S2x2048x2048 : Shape := ⟨3, ![2, 2048, 2048]⟩
abbrev S2048x1024 : Shape := ⟨2, ![2048, 1024]⟩
abbrev S1x2048x1024 : Shape := ⟨3, ![1, 2048, 1024]⟩
abbrev S1 : Shape := ⟨1, ![1]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 7
  | .smem => 1
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S5) ![3] S1.size inb_S5_S1_3) numel1_S1
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S4x2048x4096 : Shape := ⟨3, ![4, 2048, 4096]⟩
abbrev S5 : Shape := ⟨1, ![5]⟩
abbrev S1x2048x4096 : Shape := ⟨3, ![1, 2048, 4096]⟩
abbrev S2048x4096 : Shape := ⟨2, ![2048, 4096]⟩
abbrev S2048x16384 : Shape := ⟨2, ![2048, 16384]⟩
abbrev S16384x2048 : Shape := ⟨2, ![16384, 2048]⟩
abbrev S2048x8x2048 : Shape := ⟨3, ![2048, 8, 2048]⟩
abbrev S8x2048x2048 : Shape := ⟨3, ![8, 2048, 2048]⟩
abbrev S1 : Shape := ⟨1, ![1]⟩
abbrev S_ : Shape := ⟨0, ![]⟩
abbrev S2x2048x2048 : Shape := ⟨3, ![2, 2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S5, .i32⟩
  | .hbm, ⟨3, _⟩ => ⟨S4x2048x4096, .f32⟩
  | .hbm, ⟨4, _⟩ => ⟨S2048x2048, .f32⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S2048x4096, .f32⟩
  | .hbm, ⟨9, _⟩ => ⟨S1x2048x4096, .f32⟩
  | .hbm, ⟨10, _⟩ => ⟨S2048x4096, .f32⟩
  | .hbm, ⟨11, _⟩ => ⟨S1x2048x4096, .f32⟩
  | .hbm, ⟨12, _⟩ => ⟨S2048x4096, .f32⟩
  | .hbm, ⟨13, _⟩ => ⟨S2048x16384, .f32⟩
  | .hbm, ⟨14, _⟩ => ⟨S16384x2048, .f32⟩
  | .hbm, ⟨15, _⟩ => ⟨S2048x16384, .f32⟩
  | .hbm, ⟨16, _⟩ => ⟨S2048x16384, .bf16⟩
  | .hbm, ⟨17, _⟩ => ⟨S2048x8x2048, .bf16⟩
  | .hbm, ⟨18, _⟩ => ⟨S8x2048x2048, .bf16⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_c_3 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel10.lean ====
abbrev S2048x2048 : Shape := ⟨2, ![2048, 2048]⟩
abbrev S4x2048x4096 : Shape := ⟨3, ![4, 2048, 4096]⟩
abbrev S5 : Shape := ⟨1, ![5]⟩
abbrev S2x2048x2048 : Shape := ⟨3, ![2, 2048, 2048]⟩
abbrev S2048x1024 : Shape := ⟨2, ![2048, 1024]⟩
abbrev S1x2048x1024 : Shape := ⟨3, ![1, 2048, 1024]⟩
abbrev S1 : Shape := ⟨1, ![1]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 7
  | .smem => 1
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S5_S1_0 : ∀ a, (![0] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S5) ![0] S1.size inb_S5_S1_0) numel1_S1
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S4x2048x4096 : Shape := ⟨3, ![4, 2048, 4096]⟩
abbrev S5 : Shape := ⟨1, ![5]⟩
abbrev S1x2048x4096 : Shape := ⟨3, ![1, 2048, 4096]⟩
abbrev S2048x4096 : Shape := ⟨2, ![2048, 4096]⟩
abbrev S2048x16384 : Shape := ⟨2, ![2048, 16384]⟩
abbrev S16384x2048 : Shape := ⟨2, ![16384, 2048]⟩
abbrev S2048x8x2048 : Shape := ⟨3, ![2048, 8, 2048]⟩
abbrev S8x2048x2048 : Shape := ⟨3, ![8, 2048, 2048]⟩
abbrev S1 : Shape := ⟨1, ![1]⟩
abbrev S_ : Shape := ⟨0, ![]⟩
abbrev S2x2048x2048 : Shape := ⟨3, ![2, 2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S5, .i32⟩
  | .hbm, ⟨3, _⟩ => ⟨S4x2048x4096, .f32⟩
  | .hbm, ⟨4, _⟩ => ⟨S2048x2048, .f32⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S2048x4096, .f32⟩
  | .hbm, ⟨9, _⟩ => ⟨S1x2048x4096, .f32⟩
  | .hbm, ⟨10, _⟩ => ⟨S2048x4096, .f32⟩
  | .hbm, ⟨11, _⟩ => ⟨S1x2048x4096, .f32⟩
  | .hbm, ⟨12, _⟩ => ⟨S2048x4096, .f32⟩
  | .hbm, ⟨13, _⟩ => ⟨S2048x16384, .f32⟩
  | .hbm, ⟨14, _⟩ => ⟨S16384x2048, .f32⟩
  | .hbm, ⟨15, _⟩ => ⟨S2048x16384, .f32⟩
  | .hbm, ⟨16, _⟩ => ⟨S2048x16384, .bf16⟩
  | .hbm, ⟨17, _⟩ => ⟨S2048x8x2048, .bf16⟩
  | .hbm, ⟨18, _⟩ => ⟨S8x2048x2048, .bf16⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_c_3 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel11.lean ====
abbrev S2048x2048 : Shape := ⟨2, ![2048, 2048]⟩
abbrev S4x2048x4096 : Shape := ⟨3, ![4, 2048, 4096]⟩
abbrev S5 : Shape := ⟨1, ![5]⟩
abbrev S2x2048x2048 : Shape := ⟨3, ![2, 2048, 2048]⟩
abbrev S2048x1024 : Shape := ⟨2, ![2048, 1024]⟩
abbrev S1x2048x1024 : Shape := ⟨3, ![1, 2048, 1024]⟩
abbrev S1 : Shape := ⟨1, ![1]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 7
  | .smem => 1
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S4x2048x4096 : Shape := ⟨3, ![4, 2048, 4096]⟩
abbrev S5 : Shape := ⟨1, ![5]⟩
abbrev S1x2048x4096 : Shape := ⟨3, ![1, 2048, 4096]⟩
abbrev S2048x4096 : Shape := ⟨2, ![2048, 4096]⟩
abbrev S2048x16384 : Shape := ⟨2, ![2048, 16384]⟩
abbrev S16384x2048 : Shape := ⟨2, ![16384, 2048]⟩
abbrev S2048x8x2048 : Shape := ⟨3, ![2048, 8, 2048]⟩
abbrev S8x2048x2048 : Shape := ⟨3, ![8, 2048, 2048]⟩
abbrev S1 : Shape := ⟨1, ![1]⟩
abbrev S_ : Shape := ⟨0, ![]⟩
abbrev S2x2048x2048 : Shape := ⟨3, ![2, 2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S5, .i32⟩
  | .hbm, ⟨3, _⟩ => ⟨S4x2048x4096, .f32⟩
  | .hbm, ⟨4, _⟩ => ⟨S2048x2048, .f32⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S2048x4096, .f32⟩
  | .hbm, ⟨9, _⟩ => ⟨S1x2048x4096, .f32⟩
  | .hbm, ⟨10, _⟩ => ⟨S2048x4096, .f32⟩
  | .hbm, ⟨11, _⟩ => ⟨S1x2048x4096, .f32⟩
  | .hbm, ⟨12, _⟩ => ⟨S2048x4096, .f32⟩
  | .hbm, ⟨13, _⟩ => ⟨S2048x16384, .f32⟩
  | .hbm, ⟨14, _⟩ => ⟨S16384x2048, .f32⟩
  | .hbm, ⟨15, _⟩ => ⟨S2048x16384, .f32⟩
  | .hbm, ⟨16, _⟩ => ⟨S2048x16384, .bf16⟩
  | .hbm, ⟨17, _⟩ => ⟨S2048x8x2048, .bf16⟩
  | .hbm, ⟨18, _⟩ => ⟨S8x2048x2048, .bf16⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_c_3 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel12.lean ====
abbrev S2048x2048 : Shape := ⟨2, ![2048, 2048]⟩
abbrev S4x2048x4096 : Shape := ⟨3, ![4, 2048, 4096]⟩
abbrev S5 : Shape := ⟨1, ![5]⟩
abbrev S2x2048x2048 : Shape := ⟨3, ![2, 2048, 2048]⟩
abbrev S2048x1024 : Shape := ⟨2, ![2048, 1024]⟩
abbrev S1x2048x1024 : Shape := ⟨3, ![1, 2048, 1024]⟩
abbrev S1 : Shape := ⟨1, ![1]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 7
  | .smem => 1
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S2x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1024_i32_4 : BitVec 32 := 1024#32
  let v18 : BitVec 32 := Scalar.muli arg1 c1024_i32_4
  let c2048_i32_5 : BitVec 32 := 2048#32
  let c0_i32_6 : BitVec 32 := 0#32
  let v19 : BitVec 1 := Scalar.cmpi .eq c2048_i32_5 c0_i32_6
  let c1_i32_7 : BitVec 32 := 1#32
  let v20 : BitVec 32 := Scalar.select v19 c1_i32_7 c2048_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1024_i32_11 : BitVec 32 := 1024#32
  let v29 : BitVec 32 := Scalar.divsi v28 c1024_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S4x2048x4096 : Shape := ⟨3, ![4, 2048, 4096]⟩
abbrev S5 : Shape := ⟨1, ![5]⟩
abbrev S1x2048x4096 : Shape := ⟨3, ![1, 2048, 4096]⟩
abbrev S2048x4096 : Shape := ⟨2, ![2048, 4096]⟩
abbrev S2048x16384 : Shape := ⟨2, ![2048, 16384]⟩
abbrev S16384x2048 : Shape := ⟨2, ![16384, 2048]⟩
abbrev S2048x8x2048 : Shape := ⟨3, ![2048, 8, 2048]⟩
abbrev S8x2048x2048 : Shape := ⟨3, ![8, 2048, 2048]⟩
abbrev S1 : Shape := ⟨1, ![1]⟩
abbrev S_ : Shape := ⟨0, ![]⟩
abbrev S2x2048x2048 : Shape := ⟨3, ![2, 2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x4096, .bf16⟩
  | .hbm, ⟨2, _⟩ => ⟨S5, .i32⟩
  | .hbm, ⟨3, _⟩ => ⟨S4x2048x4096, .f32⟩
  | .hbm, ⟨4, _⟩ => ⟨S2048x2048, .f32⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S2048x4096, .f32⟩
  | .hbm, ⟨9, _⟩ => ⟨S1x2048x4096, .f32⟩
  | .hbm, ⟨10, _⟩ => ⟨S2048x4096, .f32⟩
  | .hbm, ⟨11, _⟩ => ⟨S1x2048x4096, .f32⟩
  | .hbm, ⟨12, _⟩ => ⟨S2048x4096, .f32⟩
  | .hbm, ⟨13, _⟩ => ⟨S2048x16384, .f32⟩
  | .hbm, ⟨14, _⟩ => ⟨S16384x2048, .f32⟩
  | .hbm, ⟨15, _⟩ => ⟨S2048x16384, .f32⟩
  | .hbm, ⟨16, _⟩ => ⟨S2048x16384, .bf16⟩
  | .hbm, ⟨17, _⟩ => ⟨S2048x8x2048, .bf16⟩
  | .hbm, ⟨18, _⟩ => ⟨S8x2048x2048, .bf16⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_c_3 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel13.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S1x2048x512 : Shape := ⟨3, ![1, 2048, 512]⟩
abbrev S1 : Shape := ⟨1, ![1]⟩
abbrev S2048x512 : Shape := ⟨2, ![2048, 512]⟩

abbrev nBuf : Space → Nat
  | .hbm => 7
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S4x2048x4096, .bf16⟩
  | .hbm, ⟨3, _⟩ => ⟨S2048x16384, .bf16⟩
  | .hbm, ⟨4, _⟩ => ⟨S2048x8x2048, .bf16⟩
  | .hbm, ⟨5, _⟩ => ⟨S8x2048x2048, .bf16⟩
  | .hbm, ⟨6, _⟩ => ⟨S4x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2048_i32 c0_i32_1
  let v11 : BitVec 32 := Scalar.extui v10
  let c0_i32_2 : BitVec 32 := 0#32
  let v12 : BitVec 1 := Scalar.cmpi .slt c2048_i32 c0_i32_2
  let v13 : BitVec 32 := Scalar.extui v12
  let v14 : BitVec 32 := Scalar.subi v11 v13
  let v15 : BitVec 1 := Scalar.cmpi .ne v9 v14
  let v16 : BitVec 32 := Scalar.remsi v3 c2048_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c3_4 : Index := 3#32
  let v21 : BitVec 32 := pf.at 0 (Rect.unit (s := S5) ![3] S1.size inb_S5_S1_3) numel1_S1
  let c4096_i32_5 : BitVec 32 := 4096#32
  let v22 : BitVec 32 := Scalar.muli v21 c4096_i32_5
  let c512_i32_6 : BitVec 32 := 512#32
  let v23 : BitVec 32 := Scalar.muli arg0 c512_i32_6
  let v24 : BitVec 32 := Scalar.addi v22 v23
  let c2048_i32_7 : BitVec 32 := 2048#32
  let c0_i32_8 : BitVec 32 := 0#32
  let v25 : BitVec 1 := Scalar.cmpi .eq c2048_i32_7 c0_i32_8
  let c1_i32_9 : BitVec 32 := 1#32
  let v26 : BitVec 32 := Scalar.select v25 c1_i32_9 c2048_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c512_i32_13 : BitVec 32 := 512#32
  let v35 : BitVec 32 := Scalar.divsi v34 c512_i32_13
  let c0_i32_14 : BitVec 32 := 0#32
  let v36 : BitVec 1 := Scalar.cmpi .sgt v34 c0_i32_14
  let v37 : BitVec 32 := Scalar.extui v36
  let c0_i32_15 : BitVec 32 := 0#32
  let v38 : BitVec 1 := Scalar.cmpi .slt v34 c0_i32_15
  let v39 : BitVec 32 := Scalar.extui v38
  let v40 : BitVec 32 := Scalar.subi v37 v39
  let c0_i32_16 : BitVec 32 := 0#32
  let v41 : BitVec 1 := Scalar.cmpi .sgt c512_i32_13 c0_i32_16
  let v42 : BitVec 32 := Scalar.extui v41
  let c0_i32_17 : BitVec 32 := 0#32
  let v43 : BitVec 1 := Scalar.cmpi .slt c512_i32_13 c0_i32_17
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_18 : BitVec 32 := 0#32
  let v48 : BitVec 1 := Scalar.cmpi .ne v47 c0_i32_18
  let v49 : BitVec 1 := Scalar.andi v46 v48
  let c1_i32_19 : BitVec 32 := 1#32
  let v50 : BitVec 32 := Scalar.subi v35 c1_i32_19
  let v51 : BitVec 32 := Scalar.select v49 v50 v35
  let c0_i32_20 : BitVec 32 := 0#32
  let c0_i32_21 : BitVec 32 := 0#32
  ![v20.toNat, c0_i32_20.toNat, v51.toNat]

def cc0_transform_3 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c3_5 : Index := 3#32
  let v21 : BitVec 32 := pf.at 0 (Rect.unit (s := S5) ![3] S1.size inb_S5_S1_3) numel1_S1
  let c4096_i32_6 : BitVec 32 := 4096#32
  let v22 : BitVec 32 := Scalar.muli v21 c4096_i32_6
  let c512_i32_7 : BitVec 32 := 512#32
  let v23 : BitVec 32 := Scalar.muli arg0 c512_i32_7
  let v24 : BitVec 32 := Scalar.addi v22 v23
  let c4096_i32_8 : BitVec 32 := 4096#32
  let c0_i32_9 : BitVec 32 := 0#32
  let v25 : BitVec 1 := Scalar.cmpi .eq c4096_i32_8 c0_i32_9
  let c1_i32_10 : BitVec 32 := 1#32
  let v26 : BitVec 32 := Scalar.select v25 c1_i32_10 c4096_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c512_i32_14 : BitVec 32 := 512#32
  let v35 : BitVec 32 := Scalar.divsi v34 c512_i32_14
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c0_i32_17 : BitVec 32 := 0#32
  let v41 : BitVec 1 := Scalar.cmpi .sgt c512_i32_14 c0_i32_17
  let v42 : BitVec 32 := Scalar.extui v41
  let c0_i32_18 : BitVec 32 := 0#32
  let v43 : BitVec 1 := Scalar.cmpi .slt c512_i32_14 c0_i32_18
  let v44 : BitVec 32 := Scalar.extui v43
  let v45 : BitVec 32 := Scalar.subi v42 v44
  let v46 : BitVec 1 := Scalar.cmpi .ne v40 v45
  let v47 : BitVec 32 := Scalar.remsi v34 c512_i32_14
  let c0_i32_19 : BitVec 32 := 0#32
  let v48 : BitVec 1 := Scalar.cmpi .ne v47 c0_i32_19
  let v49 : BitVec 1 := Scalar.andi v46 v48
  let c1_i32_20 : BitVec 32 := 1#32
  let v50 : BitVec 32 := Scalar.subi v35 c1_i32_20
  let v51 : BitVec 32 := Scalar.select v49 v50 v35
  let c0_i32_21 : BitVec 32 := 0#32
  let c0_i32_22 : BitVec 32 := 0#32
  ![v20.toNat, c0_i32_21.toNat, v51.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x4096 : Shape := ⟨2, ![2048, 4096]⟩
abbrev S1x2048x4096 : Shape := ⟨3, ![1, 2048, 4096]⟩
abbrev S4 : Shape := ⟨1, ![4]⟩
abbrev S1 : Shape := ⟨1, ![1]⟩
abbrev S_ : Shape := ⟨0, ![]⟩
abbrev S4x1x1 : Shape := ⟨3, ![4, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S5, .i32⟩
  | .hbm, ⟨3, _⟩ => ⟨S4x2048x4096, .bf16⟩
  | .hbm, ⟨4, _⟩ => ⟨S2048x2048, .f32⟩
  | .hbm, ⟨5, _⟩ => ⟨S2048x16384, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S1x2048x4096, .f32⟩
  | .hbm, ⟨11, _⟩ => ⟨S1x2048x4096, .f32⟩
  | .hbm, ⟨12, _⟩ => ⟨S1x2048x4096, .f32⟩
  | .hbm, ⟨13, _⟩ => ⟨S1x2048x4096, .f32⟩
  | .hbm, ⟨14, _⟩ => ⟨S4x2048x4096, .f32⟩
  | .hbm, ⟨15, _⟩ => ⟨S4x2048x4096, .bf16⟩
  | .hbm, ⟨16, _⟩ => ⟨S4, .i32⟩
  | .hbm, ⟨17, _⟩ => ⟨S1, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S4x1x1, .i1⟩
  | .hbm, ⟨22, _⟩ => ⟨S4x2048x4096, .i1⟩
  | .hbm, ⟨23, _⟩ => ⟨S4x2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel14.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S1x2048x512 : Shape := ⟨3, ![1, 2048, 512]⟩
abbrev S1 : Shape := ⟨1, ![1]⟩
abbrev S2048x512 : Shape := ⟨2, ![2048, 512]⟩

abbrev nBuf : Space → Nat
  | .hbm => 7
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S4x2048x4096, .bf16⟩
  | .hbm, ⟨3, _⟩ => ⟨S2048x16384, .bf16⟩
  | .hbm, ⟨4, _⟩ => ⟨S2048x8x2048, .bf16⟩
  | .hbm, ⟨5, _⟩ => ⟨S8x2048x2048, .bf16⟩
  | .hbm, ⟨6, _⟩ => ⟨S4x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S5) ![0] S1.size inb_S5_S1_0) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2048_i32 c0_i32_1
  let v11 : BitVec 32 := Scalar.extui v10
  let c0_i32_2 : BitVec 32 := 0#32
  let v12 : BitVec 1 := Scalar.cmpi .slt c2048_i32 c0_i32_2
  let v13 : BitVec 32 := Scalar.extui v12
  let v14 : BitVec 32 := Scalar.subi v11 v13
  let v15 : BitVec 1 := Scalar.cmpi .ne v9 v14
  let v16 : BitVec 32 := Scalar.remsi v3 c2048_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_4 : Index := 0#32
  let v21 : BitVec 32 := pf.at 0 (Rect.unit (s := S5) ![0] S1.size inb_S5_S1_0) numel1_S1
  let c4096_i32_5 : BitVec 32 := 4096#32
  let v22 : BitVec 32 := Scalar.muli v21 c4096_i32_5
  let c512_i32_6 : BitVec 32 := 512#32
  let v23 : BitVec 32 := Scalar.muli arg0 c512_i32_6
  let v24 : BitVec 32 := Scalar.addi v22 v23
  let c2048_i32_7 : BitVec 32 := 2048#32
  let c0_i32_8 : BitVec 32 := 0#32
  let v25 : BitVec 1 := Scalar.cmpi .eq c2048_i32_7 c0_i32_8
  let c1_i32_9 : BitVec 32 := 1#32
  let v26 : BitVec 32 := Scalar.select v25 c1_i32_9 c2048_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c512_i32_13 : BitVec 32 := 512#32
  let v35 : BitVec 32 := Scalar.divsi v34 c512_i32_13
  let c0_i32_14 : BitVec 32 := 0#32
  let v36 : BitVec 1 := Scalar.cmpi .sgt v34 c0_i32_14
  let v37 : BitVec 32 := Scalar.extui v36
  let c0_i32_15 : BitVec 32 := 0#32
  let v38 : BitVec 1 := Scalar.cmpi .slt v34 c0_i32_15
  let v39 : BitVec 32 := Scalar.extui v38
  let v40 : BitVec 32 := Scalar.subi v37 v39
  let c0_i32_16 : BitVec 32 := 0#32
  let v41 : BitVec 1 := Scalar.cmpi .sgt c512_i32_13 c0_i32_16
  let v42 : BitVec 32 := Scalar.extui v41
  let c0_i32_17 : BitVec 32 := 0#32
  let v43 : BitVec 1 := Scalar.cmpi .slt c512_i32_13 c0_i32_17
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_18 : BitVec 32 := 0#32
  let v48 : BitVec 1 := Scalar.cmpi .ne v47 c0_i32_18
  let v49 : BitVec 1 := Scalar.andi v46 v48
  let c1_i32_19 : BitVec 32 := 1#32
  let v50 : BitVec 32 := Scalar.subi v35 c1_i32_19
  let v51 : BitVec 32 := Scalar.select v49 v50 v35
  let c0_i32_20 : BitVec 32 := 0#32
  let c0_i32_21 : BitVec 32 := 0#32
  ![v20.toNat, c0_i32_20.toNat, v51.toNat]

def cc0_transform_3 (inb_S5_S1_0 : ∀ a, (![0] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S5) ![0] S1.size inb_S5_S1_0) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_5 : Index := 0#32
  let v21 : BitVec 32 := pf.at 0 (Rect.unit (s := S5) ![0] S1.size inb_S5_S1_0) numel1_S1
  let c4096_i32_6 : BitVec 32 := 4096#32
  let v22 : BitVec 32 := Scalar.muli v21 c4096_i32_6
  let c512_i32_7 : BitVec 32 := 512#32
  let v23 : BitVec 32 := Scalar.muli arg0 c512_i32_7
  let v24 : BitVec 32 := Scalar.addi v22 v23
  let c4096_i32_8 : BitVec 32 := 4096#32
  let c0_i32_9 : BitVec 32 := 0#32
  let v25 : BitVec 1 := Scalar.cmpi .eq c4096_i32_8 c0_i32_9
  let c1_i32_10 : BitVec 32 := 1#32
  let v26 : BitVec 32 := Scalar.select v25 c1_i32_10 c4096_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c512_i32_14 : BitVec 32 := 512#32
  let v35 : BitVec 32 := Scalar.divsi v34 c512_i32_14
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c0_i32_17 : BitVec 32 := 0#32
  let v41 : BitVec 1 := Scalar.cmpi .sgt c512_i32_14 c0_i32_17
  let v42 : BitVec 32 := Scalar.extui v41
  let c0_i32_18 : BitVec 32 := 0#32
  let v43 : BitVec 1 := Scalar.cmpi .slt c512_i32_14 c0_i32_18
  let v44 : BitVec 32 := Scalar.extui v43
  let v45 : BitVec 32 := Scalar.subi v42 v44
  let v46 : BitVec 1 := Scalar.cmpi .ne v40 v45
  let v47 : BitVec 32 := Scalar.remsi v34 c512_i32_14
  let c0_i32_19 : BitVec 32 := 0#32
  let v48 : BitVec 1 := Scalar.cmpi .ne v47 c0_i32_19
  let v49 : BitVec 1 := Scalar.andi v46 v48
  let c1_i32_20 : BitVec 32 := 1#32
  let v50 : BitVec 32 := Scalar.subi v35 c1_i32_20
  let v51 : BitVec 32 := Scalar.select v49 v50 v35
  let c0_i32_21 : BitVec 32 := 0#32
  let c0_i32_22 : BitVec 32 := 0#32
  ![v20.toNat, c0_i32_21.toNat, v51.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x4096 : Shape := ⟨2, ![2048, 4096]⟩
abbrev S1x2048x4096 : Shape := ⟨3, ![1, 2048, 4096]⟩
abbrev S4 : Shape := ⟨1, ![4]⟩
abbrev S1 : Shape := ⟨1, ![1]⟩
abbrev S_ : Shape := ⟨0, ![]⟩
abbrev S4x1x1 : Shape := ⟨3, ![4, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S5, .i32⟩
  | .hbm, ⟨3, _⟩ => ⟨S4x2048x4096, .bf16⟩
  | .hbm, ⟨4, _⟩ => ⟨S2048x2048, .f32⟩
  | .hbm, ⟨5, _⟩ => ⟨S2048x16384, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S1x2048x4096, .f32⟩
  | .hbm, ⟨11, _⟩ => ⟨S1x2048x4096, .f32⟩
  | .hbm, ⟨12, _⟩ => ⟨S1x2048x4096, .f32⟩
  | .hbm, ⟨13, _⟩ => ⟨S1x2048x4096, .f32⟩
  | .hbm, ⟨14, _⟩ => ⟨S4x2048x4096, .f32⟩
  | .hbm, ⟨15, _⟩ => ⟨S4x2048x4096, .bf16⟩
  | .hbm, ⟨16, _⟩ => ⟨S4, .i32⟩
  | .hbm, ⟨17, _⟩ => ⟨S1, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S4x1x1, .i1⟩
  | .hbm, ⟨22, _⟩ => ⟨S4x2048x4096, .i1⟩
  | .hbm, ⟨23, _⟩ => ⟨S4x2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel15.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S1x2048x512 : Shape := ⟨3, ![1, 2048, 512]⟩
abbrev S1 : Shape := ⟨1, ![1]⟩
abbrev S2048x512 : Shape := ⟨2, ![2048, 512]⟩

abbrev nBuf : Space → Nat
  | .hbm => 7
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S4x2048x4096, .bf16⟩
  | .hbm, ⟨3, _⟩ => ⟨S2048x16384, .bf16⟩
  | .hbm, ⟨4, _⟩ => ⟨S2048x8x2048, .bf16⟩
  | .hbm, ⟨5, _⟩ => ⟨S8x2048x2048, .bf16⟩
  | .hbm, ⟨6, _⟩ => ⟨S4x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2048_i32 c0_i32_1
  let v11 : BitVec 32 := Scalar.extui v10
  let c0_i32_2 : BitVec 32 := 0#32
  let v12 : BitVec 1 := Scalar.cmpi .slt c2048_i32 c0_i32_2
  let v13 : BitVec 32 := Scalar.extui v12
  let v14 : BitVec 32 := Scalar.subi v11 v13
  let v15 : BitVec 1 := Scalar.cmpi .ne v9 v14
  let v16 : BitVec 32 := Scalar.remsi v3 c2048_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c1_4 : Index := 1#32
  let v21 : BitVec 32 := pf.at 0 (Rect.unit (s := S5) ![1] S1.size inb_S5_S1_1) numel1_S1
  let c4096_i32_5 : BitVec 32 := 4096#32
  let v22 : BitVec 32 := Scalar.muli v21 c4096_i32_5
  let c512_i32_6 : BitVec 32 := 512#32
  let v23 : BitVec 32 := Scalar.muli arg0 c512_i32_6
  let v24 : BitVec 32 := Scalar.addi v22 v23
  let c2048_i32_7 : BitVec 32 := 2048#32
  let c0_i32_8 : BitVec 32 := 0#32
  let v25 : BitVec 1 := Scalar.cmpi .eq c2048_i32_7 c0_i32_8
  let c1_i32_9 : BitVec 32 := 1#32
  let v26 : BitVec 32 := Scalar.select v25 c1_i32_9 c2048_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c512_i32_13 : BitVec 32 := 512#32
  let v35 : BitVec 32 := Scalar.divsi v34 c512_i32_13
  let c0_i32_14 : BitVec 32 := 0#32
  let v36 : BitVec 1 := Scalar.cmpi .sgt v34 c0_i32_14
  let v37 : BitVec 32 := Scalar.extui v36
  let c0_i32_15 : BitVec 32 := 0#32
  let v38 : BitVec 1 := Scalar.cmpi .slt v34 c0_i32_15
  let v39 : BitVec 32 := Scalar.extui v38
  let v40 : BitVec 32 := Scalar.subi v37 v39
  let c0_i32_16 : BitVec 32 := 0#32
  let v41 : BitVec 1 := Scalar.cmpi .sgt c512_i32_13 c0_i32_16
  let v42 : BitVec 32 := Scalar.extui v41
  let c0_i32_17 : BitVec 32 := 0#32
  let v43 : BitVec 1 := Scalar.cmpi .slt c512_i32_13 c0_i32_17
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_18 : BitVec 32 := 0#32
  let v48 : BitVec 1 := Scalar.cmpi .ne v47 c0_i32_18
  let v49 : BitVec 1 := Scalar.andi v46 v48
  let c1_i32_19 : BitVec 32 := 1#32
  let v50 : BitVec 32 := Scalar.subi v35 c1_i32_19
  let v51 : BitVec 32 := Scalar.select v49 v50 v35
  let c0_i32_20 : BitVec 32 := 0#32
  let c0_i32_21 : BitVec 32 := 0#32
  ![v20.toNat, c0_i32_20.toNat, v51.toNat]

def cc0_transform_3 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_5 : Index := 1#32
  let v21 : BitVec 32 := pf.at 0 (Rect.unit (s := S5) ![1] S1.size inb_S5_S1_1) numel1_S1
  let c4096_i32_6 : BitVec 32 := 4096#32
  let v22 : BitVec 32 := Scalar.muli v21 c4096_i32_6
  let c512_i32_7 : BitVec 32 := 512#32
  let v23 : BitVec 32 := Scalar.muli arg0 c512_i32_7
  let v24 : BitVec 32 := Scalar.addi v22 v23
  let c4096_i32_8 : BitVec 32 := 4096#32
  let c0_i32_9 : BitVec 32 := 0#32
  let v25 : BitVec 1 := Scalar.cmpi .eq c4096_i32_8 c0_i32_9
  let c1_i32_10 : BitVec 32 := 1#32
  let v26 : BitVec 32 := Scalar.select v25 c1_i32_10 c4096_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c512_i32_14 : BitVec 32 := 512#32
  let v35 : BitVec 32 := Scalar.divsi v34 c512_i32_14
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c0_i32_17 : BitVec 32 := 0#32
  let v41 : BitVec 1 := Scalar.cmpi .sgt c512_i32_14 c0_i32_17
  let v42 : BitVec 32 := Scalar.extui v41
  let c0_i32_18 : BitVec 32 := 0#32
  let v43 : BitVec 1 := Scalar.cmpi .slt c512_i32_14 c0_i32_18
  let v44 : BitVec 32 := Scalar.extui v43
  let v45 : BitVec 32 := Scalar.subi v42 v44
  let v46 : BitVec 1 := Scalar.cmpi .ne v40 v45
  let v47 : BitVec 32 := Scalar.remsi v34 c512_i32_14
  let c0_i32_19 : BitVec 32 := 0#32
  let v48 : BitVec 1 := Scalar.cmpi .ne v47 c0_i32_19
  let v49 : BitVec 1 := Scalar.andi v46 v48
  let c1_i32_20 : BitVec 32 := 1#32
  let v50 : BitVec 32 := Scalar.subi v35 c1_i32_20
  let v51 : BitVec 32 := Scalar.select v49 v50 v35
  let c0_i32_21 : BitVec 32 := 0#32
  let c0_i32_22 : BitVec 32 := 0#32
  ![v20.toNat, c0_i32_21.toNat, v51.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x4096 : Shape := ⟨2, ![2048, 4096]⟩
abbrev S1x2048x4096 : Shape := ⟨3, ![1, 2048, 4096]⟩
abbrev S4 : Shape := ⟨1, ![4]⟩
abbrev S1 : Shape := ⟨1, ![1]⟩
abbrev S_ : Shape := ⟨0, ![]⟩
abbrev S4x1x1 : Shape := ⟨3, ![4, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S5, .i32⟩
  | .hbm, ⟨3, _⟩ => ⟨S4x2048x4096, .bf16⟩
  | .hbm, ⟨4, _⟩ => ⟨S2048x2048, .f32⟩
  | .hbm, ⟨5, _⟩ => ⟨S2048x16384, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S1x2048x4096, .f32⟩
  | .hbm, ⟨11, _⟩ => ⟨S1x2048x4096, .f32⟩
  | .hbm, ⟨12, _⟩ => ⟨S1x2048x4096, .f32⟩
  | .hbm, ⟨13, _⟩ => ⟨S1x2048x4096, .f32⟩
  | .hbm, ⟨14, _⟩ => ⟨S4x2048x4096, .f32⟩
  | .hbm, ⟨15, _⟩ => ⟨S4x2048x4096, .bf16⟩
  | .hbm, ⟨16, _⟩ => ⟨S4, .i32⟩
  | .hbm, ⟨17, _⟩ => ⟨S1, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S4x1x1, .i1⟩
  | .hbm, ⟨22, _⟩ => ⟨S4x2048x4096, .i1⟩
  | .hbm, ⟨23, _⟩ => ⟨S4x2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel16.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x8x2048 : Shape := ⟨3, ![2048, 8, 2048]⟩
abbrev S8x2048x2048 : Shape := ⟨3, ![8, 2048, 2048]⟩
abbrev S1x2048x512 : Shape := ⟨3, ![1, 2048, 512]⟩
abbrev S1 : Shape := ⟨1, ![1]⟩
abbrev S2048x512 : Shape := ⟨2, ![2048, 512]⟩

abbrev nBuf : Space → Nat
  | .hbm => 7
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S4x2048x4096, .bf16⟩
  | .hbm, ⟨3, _⟩ => ⟨S2048x16384, .bf16⟩
  | .hbm, ⟨4, _⟩ => ⟨S2048x8x2048, .bf16⟩
  | .hbm, ⟨5, _⟩ => ⟨S8x2048x2048, .bf16⟩
  | .hbm, ⟨6, _⟩ => ⟨S4x2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .smem, ⟨0, _⟩ => ⟨S5, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2048_i32 c0_i32_1
  let v11 : BitVec 32 := Scalar.extui v10
  let c0_i32_2 : BitVec 32 := 0#32
  let v12 : BitVec 1 := Scalar.cmpi .slt c2048_i32 c0_i32_2
  let v13 : BitVec 32 := Scalar.extui v12
  let v14 : BitVec 32 := Scalar.subi v11 v13
  let v15 : BitVec 1 := Scalar.cmpi .ne v9 v14
  let v16 : BitVec 32 := Scalar.remsi v3 c2048_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c2_4 : Index := 2#32
  let v21 : BitVec 32 := pf.at 0 (Rect.unit (s := S5) ![2] S1.size inb_S5_S1_2) numel1_S1
  let c4096_i32_5 : BitVec 32 := 4096#32
  let v22 : BitVec 32 := Scalar.muli v21 c4096_i32_5
  let c512_i32_6 : BitVec 32 := 512#32
  let v23 : BitVec 32 := Scalar.muli arg0 c512_i32_6
  let v24 : BitVec 32 := Scalar.addi v22 v23
  let c2048_i32_7 : BitVec 32 := 2048#32
  let c0_i32_8 : BitVec 32 := 0#32
  let v25 : BitVec 1 := Scalar.cmpi .eq c2048_i32_7 c0_i32_8
  let c1_i32_9 : BitVec 32 := 1#32
  let v26 : BitVec 32 := Scalar.select v25 c1_i32_9 c2048_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c512_i32_13 : BitVec 32 := 512#32
  let v35 : BitVec 32 := Scalar.divsi v34 c512_i32_13
  let c0_i32_14 : BitVec 32 := 0#32
  let v36 : BitVec 1 := Scalar.cmpi .sgt v34 c0_i32_14
  let v37 : BitVec 32 := Scalar.extui v36
  let c0_i32_15 : BitVec 32 := 0#32
  let v38 : BitVec 1 := Scalar.cmpi .slt v34 c0_i32_15
  let v39 : BitVec 32 := Scalar.extui v38
  let v40 : BitVec 32 := Scalar.subi v37 v39
  let c0_i32_16 : BitVec 32 := 0#32
  let v41 : BitVec 1 := Scalar.cmpi .sgt c512_i32_13 c0_i32_16
  let v42 : BitVec 32 := Scalar.extui v41
  let c0_i32_17 : BitVec 32 := 0#32
  let v43 : BitVec 1 := Scalar.cmpi .slt c512_i32_13 c0_i32_17
  let v44 : BitVec 32 := Scalar.extui v43
  let v45 : BitVec 32 := Scalar.subi v42 v44
  let v46 : BitVec 1 := Scalar.cmpi .ne v40 v45
  let v47 : BitVec 32 := Scalar.remsi v34 c512_i32_13
  let c0_i32_18 : BitVec 32 := 0#32
  let v48 : BitVec 1 := Scalar.cmpi .ne v47 c0_i32_18
  let v49 : BitVec 1 := Scalar.andi v46 v48
  let c1_i32_19 : BitVec 32 := 1#32
  let v50 : BitVec 32 := Scalar.subi v35 c1_i32_19
  let v51 : BitVec 32 := Scalar.select v49 v50 v35
  let c0_i32_20 : BitVec 32 := 0#32
  let c0_i32_21 : BitVec 32 := 0#32
  ![v20.toNat, c0_i32_20.toNat, v51.toNat]

def cc0_transform_3 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c4096_i32 : BitVec 32 := 4096#32
  let v1 : BitVec 32 := Scalar.muli v0 c4096_i32
  let c512_i32 : BitVec 32 := 512#32
  let v2 : BitVec 32 := Scalar.muli arg0 c512_i32
  let v3 : BitVec 32 := Scalar.addi v1 v2
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c2_5 : Index := 2#32
  let v21 : BitVec 32 := pf.at 0 (Rect.unit (s := S5) ![2] S1.size inb_S5_S1_2) numel1_S1
  let c4096_i32_6 : BitVec 32 := 4096#32
  let v22 : BitVec 32 := Scalar.muli v21 c4096_i32_6
  let c512_i32_7 : BitVec 32 := 512#32
  let v23 : BitVec 32 := Scalar.muli arg0 c512_i32_7
  let v24 : BitVec 32 := Scalar.addi v22 v23
  let c4096_i32_8 : BitVec 32 := 4096#32
  let c0_i32_9 : BitVec 32 := 0#32
  let v25 : BitVec 1 := Scalar.cmpi .eq c4096_i32_8 c0_i32_9
  let c1_i32_10 : BitVec 32 := 1#32
  let v26 : BitVec 32 := Scalar.select v25 c1_i32_10 c4096_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c512_i32_14 : BitVec 32 := 512#32
  let v35 : BitVec 32 := Scalar.divsi v34 c512_i32_14
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c0_i32_17 : BitVec 32 := 0#32
  let v41 : BitVec 1 := Scalar.cmpi .sgt c512_i32_14 c0_i32_17
  let v42 : BitVec 32 := Scalar.extui v41
  let c0_i32_18 : BitVec 32 := 0#32
  let v43 : BitVec 1 := Scalar.cmpi .slt c512_i32_14 c0_i32_18
  let v44 : BitVec 32 := Scalar.extui v43
  let v45 : BitVec 32 := Scalar.subi v42 v44
  let v46 : BitVec 1 := Scalar.cmpi .ne v40 v45
  let v47 : BitVec 32 := Scalar.remsi v34 c512_i32_14
  let c0_i32_19 : BitVec 32 := 0#32
  let v48 : BitVec 1 := Scalar.cmpi .ne v47 c0_i32_19
  let v49 : BitVec 1 := Scalar.andi v46 v48
  let c1_i32_20 : BitVec 32 := 1#32
  let v50 : BitVec 32 := Scalar.subi v35 c1_i32_20
  let v51 : BitVec 32 := Scalar.select v49 v50 v35
  let c0_i32_21 : BitVec 32 := 0#32
  let c0_i32_22 : BitVec 32 := 0#32
  ![v20.toNat, c0_i32_21.toNat, v51.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x2048 : Shape := ⟨2, ![2048, 2048]⟩
abbrev S2048x16384 : Shape := ⟨2, ![2048, 16384]⟩
abbrev S5 : Shape := ⟨1, ![5]⟩
abbrev S4x2048x4096 : Shape := ⟨3, ![4, 2048, 4096]⟩
abbrev S2048x4096 : Shape := ⟨2, ![2048, 4096]⟩
abbrev S1x2048x4096 : Shape := ⟨3, ![1, 2048, 4096]⟩
abbrev S4 : Shape := ⟨1, ![4]⟩
abbrev S1 : Shape := ⟨1, ![1]⟩
abbrev S_ : Shape := ⟨0, ![]⟩
abbrev S4x1x1 : Shape := ⟨3, ![4, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .f32⟩
  | .hbm, ⟨2, _⟩ => ⟨S5, .i32⟩
  | .hbm, ⟨3, _⟩ => ⟨S4x2048x4096, .bf16⟩
  | .hbm, ⟨4, _⟩ => ⟨S2048x2048, .f32⟩
  | .hbm, ⟨5, _⟩ => ⟨S2048x16384, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S1x2048x4096, .f32⟩
  | .hbm, ⟨11, _⟩ => ⟨S1x2048x4096, .f32⟩
  | .hbm, ⟨12, _⟩ => ⟨S1x2048x4096, .f32⟩
  | .hbm, ⟨13, _⟩ => ⟨S1x2048x4096, .f32⟩
  | .hbm, ⟨14, _⟩ => ⟨S4x2048x4096, .f32⟩
  | .hbm, ⟨15, _⟩ => ⟨S4x2048x4096, .bf16⟩
  | .hbm, ⟨16, _⟩ => ⟨S4, .i32⟩
  | .hbm, ⟨17, _⟩ => ⟨S1, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S4x1x1, .i1⟩
  | .hbm, ⟨22, _⟩ => ⟨S4x2048x4096, .i1⟩
  | .hbm, ⟨23, _⟩ => ⟨S4x2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel17.lean ====
abbrev S192x128 : Shape := ⟨2, ![192, 128]⟩

abbrev nBuf : Space → Nat
  | .hbm => 7
  | .vmem => 7
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8x2048 : Shape := ⟨2, ![8, 2048]⟩
abbrev S2x8x768 : Shape := ⟨3, ![2, 8, 768]⟩
abbrev S2x2048x768 : Shape := ⟨3, ![2, 2048, 768]⟩
abbrev S2048x8 : Shape := ⟨2, ![2048, 8]⟩
abbrev S512x8 : Shape := ⟨2, ![512, 8]⟩
abbrev S1x8x768 : Shape := ⟨3, ![1, 8, 768]⟩
abbrev S1x512x768 : Shape := ⟨3, ![1, 512, 768]⟩
abbrev S512x1 : Shape := ⟨2, ![512, 1]⟩
abbrev S1x1x768 : Shape := ⟨3, ![1, 1, 768]⟩
abbrev S1x768 : Shape := ⟨2, ![1, 768]⟩
abbrev S512x768 : Shape := ⟨2, ![512, 768]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S2x8x768, .f32⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2048x8, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .local _ .vmem, ⟨0, _⟩ => ⟨S512x8, .f32⟩
  | .local _ .vmem, ⟨1, _⟩ => ⟨S512x8, .f32⟩
  | .local _ .vmem, ⟨2, _⟩ => ⟨S1x8x768, .f32⟩
  | .local _ .vmem, ⟨3, _⟩ => ⟨S1x8x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x2048 : Shape := ⟨2, ![8, 2048]⟩
abbrev S2x8x768 : Shape := ⟨3, ![2, 8, 768]⟩
abbrev S2x2048x768 : Shape := ⟨3, ![2, 2048, 768]⟩
abbrev S_ : Shape := ⟨0, ![]⟩
abbrev S2x768x8 : Shape := ⟨3, ![2, 768, 8]⟩
abbrev S2x768x2048 : Shape := ⟨3, ![2, 768, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x8x768, .f32⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2x768x8, .f32⟩
  | .hbm, ⟨15, _⟩ => ⟨S2x768x2048, .f32⟩
  | .hbm, ⟨16, _⟩ => ⟨S2x2048x768, .f32⟩
  | .hbm, ⟨17, _⟩ => ⟨S_, .f32⟩
  | .hbm, ⟨18, _⟩ => ⟨S2x2048x768, .f32⟩
  | .hbm, ⟨19, _⟩ => ⟨S2x2048x768, .f32⟩
  | .hbm, ⟨20, _⟩ => ⟨S_, .f32⟩
  | .hbm, ⟨21, _⟩ => ⟨S2x2048x768, .f32⟩
  | .hbm, ⟨22, _⟩ => ⟨S2x2048x768, .f32⟩
  | .hbm, ⟨23, _⟩ => ⟨S2x2048x768, .f32⟩
  | .hbm, ⟨24, _⟩ => ⟨S_, .f32⟩
  | .hbm, ⟨25, _⟩ => ⟨S2x2048x768, .f32⟩
  | .hbm, ⟨26, _⟩ => ⟨S2x2048x768, .f32⟩
  | .hbm, ⟨27, _⟩ => ⟨S2x2048x768, .f32⟩
  | .hbm, ⟨28, _⟩ => ⟨S_, .f32⟩
  | .hbm, ⟨29, _⟩ => ⟨S2x2048x768, .f32⟩
  | .hbm, ⟨30, _⟩ => ⟨S2x2048x768, .f32⟩
  | .hbm, ⟨31, _⟩ => ⟨S2x2048x768, .f32⟩
  | .hbm, ⟨32, _⟩ => ⟨S_, .f32⟩
  | .hbm, ⟨33, _⟩ => ⟨S2x2048x768, .f32⟩
  | .hbm, ⟨34, _⟩ => ⟨S2x2048x768, .f32⟩
  | .hbm, ⟨35, _⟩ => ⟨S_, .f32⟩
  | .hbm, ⟨36, _⟩ => ⟨S2x2048x768, .f32⟩
  | .hbm, ⟨37, _⟩ => ⟨S2x2048x768, .f32⟩
  | .hbm, ⟨38, _⟩ => ⟨S2x2048x768, .f32⟩
  | .hbm, ⟨39, _⟩ => ⟨S_, .f32⟩
  | .hbm, ⟨40, _⟩ => ⟨S2x2048x768, .f32⟩
  | .hbm, ⟨41, _⟩ => ⟨S2x2048x768, .f32⟩
  | .hbm, ⟨42, _⟩ => ⟨S2x2048x768, .f32⟩
  | .hbm, ⟨43, _⟩ => ⟨S_, .f32⟩
  | .hbm, ⟨44, _⟩ => ⟨S2x2048x768, .f32⟩
  | .hbm, ⟨45, _⟩ => ⟨S2x2048x768, .f32⟩
  | .hbm, ⟨46, _⟩ => ⟨S2x2048x768, .f32⟩
  | .hbm, ⟨47, _⟩ => ⟨S_, .f32⟩
  | .hbm, ⟨48, _⟩ => ⟨S2x2048x768, .f32⟩
  | .hbm, ⟨49, _⟩ => ⟨S2x2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel19.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel20.lean ====
abbrev S4x2048x4096 : Shape := ⟨3, ![4, 2048, 4096]⟩
abbrev S3x4096 : Shape := ⟨2, ![3, 4096]⟩
abbrev S2048x4096 : Shape := ⟨2, ![2048, 4096]⟩
abbrev S1x2048x256 : Shape := ⟨3, ![1, 2048, 256]⟩
abbrev S3x256 : Shape := ⟨2, ![3, 256]⟩
abbrev S2048x256 : Shape := ⟨2, ![2048, 256]⟩
abbrev S1x256 : Shape := ⟨2, ![1, 256]⟩

abbrev nBuf : Space → Nat
  | .hbm => 3
  | .vmem => 12
  | .smem => 0
  | _ => 0

abbrev bufTy : (tb : Table) → Fin (tcTables nBuf tb) → BufTy
  | .hbm, ⟨0, _⟩ => ⟨S4x2048x4096, .bf16⟩
  | .hbm, ⟨1, _⟩ => ⟨S3x4096, .f32⟩
  | .hbm, ⟨2, _⟩ => ⟨S2048x4096, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S4x2048x4096 : Shape := ⟨3, ![4, 2048, 4096]⟩
abbrev S3x4096 : Shape := ⟨2, ![3, 4096]⟩
abbrev S1x2048x4096 : Shape := ⟨3, ![1, 2048, 4096]⟩
abbrev S2048x4096 : Shape := ⟨2, ![2048, 4096]⟩
abbrev S_ : Shape := ⟨0, ![]⟩
abbrev S2x4096 : Shape := ⟨2, ![2, 4096]⟩
abbrev S2050x4096 : Shape := ⟨2, ![2050, 4096]⟩
abbrev S1x4096 : Shape := ⟨2, ![1, 4096]⟩
abbrev S4096 : Shape := ⟨1, ![4096]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S3x4096, .f32⟩
  | .hbm, ⟨2, _⟩ => ⟨S4x2048x4096, .f32⟩
  | .hbm, ⟨3, _⟩ => ⟨S1x2048x4096, .f32⟩
  | .hbm, ⟨4, _⟩ => ⟨S2048x4096, .f32⟩
  | .hbm, ⟨5, _⟩ => ⟨S1x2048x4096, .f32⟩
  | .hbm, ⟨6, _⟩ => ⟨S2048x4096, .f32⟩
  | .hbm, ⟨7, _⟩ => ⟨S1x2048x4096, .f32⟩
  | .hbm, ⟨8, _⟩ => ⟨S2048x4096, .f32⟩
  | .hbm, ⟨9, _⟩ => ⟨S1x2048x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2x4096, .f32⟩
  | .hbm, ⟨14, _⟩ => ⟨S2050x4096, .f32⟩
  | .hbm, ⟨15, _⟩ => ⟨S1x4096, .f32⟩
  | .hbm, ⟨16, _⟩ => ⟨S4096, .f32⟩
  | .hbm, ⟨17, _⟩ => ⟨S2048x4096, .f32⟩
  | .hbm, ⟨18, _⟩ => ⟨S1x4096, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S1x4096, .f32⟩
  | .hbm, ⟨25, _⟩ => ⟨S4096, .f32⟩
  | .hbm, ⟨26, _⟩ => ⟨S2048x4096, .f32⟩
  | .hbm, ⟨27, _⟩ => ⟨S1x4096, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S1x4096, .f32⟩
  | .hbm, ⟨32, _⟩ => ⟨S4096, .f32⟩
  | .hbm, ⟨33, _⟩ => ⟨S2048x4096, .f32⟩
  | .hbm, ⟨34, _⟩ => ⟨S1x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S2048x4096, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel21.lean ====
abbrev S5 : Shape := ⟨1, ![5]⟩
abbrev S2048x1024 : Shape := ⟨2, ![2048, 1024]⟩
abbrev S4x2x2048x1024 : Shape := ⟨4, ![4, 2, 2048, 1024]⟩
abbrev S4x1x2048x1024 : Shape := ⟨4, ![4, 1, 2048, 1024]⟩
abbrev S3x2048x1024 : Shape := ⟨3, ![3, 2048, 1024]⟩
abbrev S256x1024 : Shape := ⟨2, ![256, 1024]⟩
abbrev S1x1x256x1024 : Shape := ⟨4, ![1, 1, 256, 1024]⟩
abbrev S1 : Shape := ⟨1, ![1]⟩
abbrev S3x256x1024 : Shape := ⟨3, ![3, 256, 1024]⟩
abbrev S1x256x1024 : Shape := ⟨3, ![1, 256, 1024]⟩

abbrev nBuf : Space → Nat
  | .hbm => 10
  | .vmem => 20
  | .smem => 1
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2x2048x1024, .bf16⟩
  | .hbm, ⟨4, _⟩ => ⟨S4x1x2048x1024, .bf16⟩
  | .hbm, ⟨5, _⟩ => ⟨S3x2048x1024, .bf16⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .smem, ⟨0, _⟩ => ⟨S5, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_3 : ∀ a, (![3] : Fin 1 → Nat) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c4 : Index := 4#32
  let v1 : BitVec 32 := pf.at 0 (Rect.unit (s := S5) ![4] S1.size inb_S5_S1_4) numel1_S1
  let c0_i32 : BitVec 32 := 0#32
  let c0_i32_0 : BitVec 32 := 0#32
  ![v0.toNat, v1.toNat, arg0.toNat, c0_i32.toNat]

def cc0_transform_4 (inb_S5_S1_3 : ∀ a, (![3] : Fin 1 → Nat) a + S1.size a ≤ S5.size a) (numel1_S1 : S1.numel = 1) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference21Ideal.lean ====
abbrev S5 : Shape := ⟨1, ![5]⟩
abbrev S2048x1024 : Shape := ⟨2, ![2048, 1024]⟩
abbrev S4x2x2048x1024 : Shape := ⟨4, ![4, 2, 2048, 1024]⟩
abbrev S4x1x2048x1024 : Shape := ⟨4, ![4, 1, 2048, 1024]⟩
abbrev S3x2048x1024 : Shape := ⟨3, ![3, 2048, 1024]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x2048x1024 : Shape := ⟨3, ![2, 2048, 1024]⟩
abbrev S2 : Shape := ⟨1, ![2]⟩
abbrev S2x1x1 : Shape := ⟨3, ![2, 1, 1]⟩
abbrev S4x2048x1024 : Shape := ⟨3, ![4, 2048, 1024]⟩
abbrev S4x1x1 : Shape := ⟨3, ![4, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S5, .i32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S4x2x2048x1024, .bf16⟩
  | .hbm, ⟨5, _⟩ => ⟨S4x1x2048x1024, .bf16⟩
  | .hbm, ⟨6, _⟩ => ⟨S3x2048x1024, .bf16⟩
  | .hbm, ⟨7, _⟩ => ⟨S4x2x2048x1024, .f32⟩
  | .hbm, ⟨8, _⟩ => ⟨S1, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i1⟩
  | .hbm, ⟨13, _⟩ => ⟨S4x1x1x1, .i1⟩
  | .hbm, ⟨14, _⟩ => ⟨S_, .i32⟩
  | .hbm, ⟨15, _⟩ => ⟨S_, .f32⟩
  | .hbm, ⟨16, _⟩ => ⟨S4x2x2048x1024, .i1⟩
  | .hbm, ⟨17, _⟩ => ⟨S4x2x2048x1024, .f32⟩
  | .hbm, ⟨18, _⟩ => ⟨S4x2x2048x1024, .f32⟩
  | .hbm, ⟨19, _⟩ => ⟨S_, .f32⟩
  | .hbm, ⟨20, _⟩ => ⟨S2x2048x1024, .f32⟩
  | .hbm, ⟨21, _⟩ => ⟨S1, .i32⟩
  | .hbm, ⟨22, _⟩ => ⟨S_, .i32⟩
  | .hbm, ⟨23, _⟩ => ⟨S2, .i32⟩
  | .hbm, ⟨24, _⟩ => ⟨S2, .i32⟩
  | .hbm, ⟨25, _⟩ => ⟨S2, .i1⟩
  | .hbm, ⟨26, _⟩ => ⟨S2x1x1, .i1⟩
  | .hbm, ⟨27, _⟩ => ⟨S_, .i32⟩
  | .hbm, ⟨28, _⟩ => ⟨S_, .f32⟩
  | .hbm, ⟨29, _⟩ => ⟨S2x2048x1024, .i1⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2048x1024, .f32⟩
  | .hbm, ⟨34, _⟩ => ⟨S4x1x2048x1024, .f32⟩
  | .hbm, ⟨35, _⟩ => ⟨S4x2048x1024, .f32⟩
  | .hbm, ⟨36, _⟩ => ⟨S1, .i32⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i1⟩
  | .hbm, ⟨41, _⟩ => ⟨S4x1x1, .i1⟩
  | .hbm, ⟨42, _⟩ => ⟨S_, .i32⟩
  | .hbm, ⟨43, _⟩ => ⟨S_, .f32⟩
  | .hbm, ⟨44, _⟩ => ⟨S4x2048x1024, .i1⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S3x2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048x1024, .f32⟩
  | .hbm, ⟨86, _⟩ => ⟨S2048x1024, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== Kernel22.lean ====
abbrev S5 : Shape := ⟨1, ![5]⟩
abbrev S512x2048 : Shape := ⟨2, ![512, 2048]⟩
abbrev S4x2x512x2048 : Shape := ⟨4, ![4, 2, 512, 2048]⟩
abbrev S4x1x512x2048 : Shape := ⟨4, ![4, 1, 512, 2048]⟩
abbrev S3x512x2048 : Shape := ⟨3, ![3, 512, 2048]⟩
abbrev S256x2048 : Shape := ⟨2, ![256, 2048]⟩
abbrev S1x1x256x2048 : Shape := ⟨4, ![1, 1, 256, 2048]⟩
abbrev S1 : Shape := ⟨1, ![1]⟩
abbrev S3x256x2048 : Shape := ⟨3, ![3, 256, 2048]⟩
abbrev S1x256x2048 : Shape := ⟨3, ![1, 256, 2048]⟩

abbrev nBuf : Space → Nat
  | .hbm => 10
  | .vmem => 20
  | .smem => 1
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S4x2x512x2048, .bf16⟩
  | .hbm, ⟨4, _⟩ => ⟨S4x1x512x2048, .bf16⟩
  | .hbm, ⟨5, _⟩ => ⟨S3x512x2048, .bf16⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x256x2048, .bf16⟩
  | .local _ .vmem, ⟨7, _⟩ => ⟨S1x1x256x2048, .bf16⟩
  | .local _ .vmem, ⟨8, _⟩ => ⟨S1x1x256x2048, .bf16⟩
  | .local _ .vmem, ⟨9, _⟩ => ⟨S1x1x256x2048, .bf16⟩
  | .local _ .vmem, ⟨10, _⟩ => ⟨S3x256x2048, .bf16⟩
  | .local _ .vmem, ⟨11, _⟩ => ⟨S3x256x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .smem, ⟨0, _⟩ => ⟨S5, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_3 : ∀ a, (![3] : Fin 1 → Nat) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c4 : Index := 4#32
  let v1 : BitVec 32 := pf.at 0 (Rect.unit (s := S5) ![4] S1.size inb_S5_S1_4) numel1_S1
  let c0_i32 : BitVec 32 := 0#32
  let c0_i32_0 : BitVec 32 := 0#32
  ![v0.toNat, v1.toNat, arg0.toNat, c0_i32.toNat]

def cc0_transform_4 (inb_S5_S1_3 : ∀ a, (![3] : Fin 1 → Nat) a + S1.size a ≤ S5.size a) (numel1_S1 : S1.numel = 1) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference22Ideal.lean ====
abbrev S5 : Shape := ⟨1, ![5]⟩
abbrev S512x2048 : Shape := ⟨2, ![512, 2048]⟩
abbrev S4x2x512x2048 : Shape := ⟨4, ![4, 2, 512, 2048]⟩
abbrev S4x1x512x2048 : Shape := ⟨4, ![4, 1, 512, 2048]⟩
abbrev S3x512x2048 : Shape := ⟨3, ![3, 512, 2048]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x512x2048 : Shape := ⟨3, ![2, 512, 2048]⟩
abbrev S2 : Shape := ⟨1, ![2]⟩
abbrev S2x1x1 : Shape := ⟨3, ![2, 1, 1]⟩
abbrev S4x512x2048 : Shape := ⟨3, ![4, 512, 2048]⟩
abbrev S4x1x1 : Shape := ⟨3, ![4, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S5, .i32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S4x2x512x2048, .bf16⟩
  | .hbm, ⟨5, _⟩ => ⟨S4x1x512x2048, .bf16⟩
  | .hbm, ⟨6, _⟩ => ⟨S3x512x2048, .bf16⟩
  | .hbm, ⟨7, _⟩ => ⟨S4x2x512x2048, .f32⟩
  | .hbm, ⟨8, _⟩ => ⟨S1, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i1⟩
  | .hbm, ⟨13, _⟩ => ⟨S4x1x1x1, .i1⟩
  | .hbm, ⟨14, _⟩ => ⟨S_, .i32⟩
  | .hbm, ⟨15, _⟩ => ⟨S_, .f32⟩
  | .hbm, ⟨16, _⟩ => ⟨S4x2x512x2048, .i1⟩
  | .hbm, ⟨17, _⟩ => ⟨S4x2x512x2048, .f32⟩
  | .hbm, ⟨18, _⟩ => ⟨S4x2x512x2048, .f32⟩
  | .hbm, ⟨19, _⟩ => ⟨S_, .f32⟩
  | .hbm, ⟨20, _⟩ => ⟨S2x512x2048, .f32⟩
  | .hbm, ⟨21, _⟩ => ⟨S1, .i32⟩
  | .hbm, ⟨22, _⟩ => ⟨S_, .i32⟩
  | .hbm, ⟨23, _⟩ => ⟨S2, .i32⟩
  | .hbm, ⟨24, _⟩ => ⟨S2, .i32⟩
  | .hbm, ⟨25, _⟩ => ⟨S2, .i1⟩
  | .hbm, ⟨26, _⟩ => ⟨S2x1x1, .i1⟩
  | .hbm, ⟨27, _⟩ => ⟨S_, .i32⟩
  | .hbm, ⟨28, _⟩ => ⟨S_, .f32⟩
  | .hbm, ⟨29, _⟩ => ⟨S2x512x2048, .i1⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S512x2048, .f32⟩
  | .hbm, ⟨34, _⟩ => ⟨S4x1x512x2048, .f32⟩
  | .hbm, ⟨35, _⟩ => ⟨S4x512x2048, .f32⟩
  | .hbm, ⟨36, _⟩ => ⟨S1, .i32⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i1⟩
  | .hbm, ⟨41, _⟩ => ⟨S4x1x1, .i1⟩
  | .hbm, ⟨42, _⟩ => ⟨S_, .i32⟩
  | .hbm, ⟨43, _⟩ => ⟨S_, .f32⟩
  | .hbm, ⟨44, _⟩ => ⟨S4x512x2048, .i1⟩
  | .hbm, ⟨45, _⟩ => ⟨S4x512x2048, .f32⟩
  | .hbm, ⟨46, _⟩ => ⟨S4x512x2048, .f32⟩
  | .hbm, ⟨47, _⟩ => ⟨S_, .f32⟩
  | .hbm, ⟨48, _⟩ => ⟨S512x2048, .f32⟩
  | .hbm, ⟨49, _⟩ => ⟨S512x2048, .f32⟩
  | .hbm, ⟨50, _⟩ => ⟨S3x512x2048, .f32⟩
  | .hbm, ⟨51, _⟩ => ⟨S_, .f32⟩
  | .hbm, ⟨52, _⟩ => ⟨S512x2048, .f32⟩
  | .hbm, ⟨53, _⟩ => ⟨S512x2048, .f32⟩
  | .hbm, ⟨54, _⟩ => ⟨S_, .f32⟩
  | .hbm, ⟨55, _⟩ => ⟨S512x2048, .f32⟩
  | .hbm, ⟨56, _⟩ => ⟨S512x2048, .f32⟩
  | .hbm, ⟨57, _⟩ => ⟨S_, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S_, .f32⟩
  | .hbm, ⟨62, _⟩ => ⟨S512x2048, .f32⟩
  | .hbm, ⟨63, _⟩ => ⟨S512x2048, .f32⟩
  | .hbm, ⟨64, _⟩ => ⟨S512x2048, .f32⟩
  | .hbm, ⟨65, _⟩ => ⟨S_, .f32⟩
  | .hbm, ⟨66, _⟩ => ⟨S512x2048, .f32⟩
  | .hbm, ⟨67, _⟩ => ⟨S512x2048, .f32⟩
  | .hbm, ⟨68, _⟩ => ⟨S512x2048, .f32⟩
  | .hbm, ⟨69, _⟩ => ⟨S_, .f32⟩
  | .hbm, ⟨70, _⟩ => ⟨S512x2048, .f32⟩
  | .hbm, ⟨71, _⟩ => ⟨S512x2048, .f32⟩
  | .hbm, ⟨72, _⟩ => ⟨S_, .f32⟩
  | .hbm, ⟨73, _⟩ => ⟨S512x2048, .f32⟩
  | .hbm, ⟨74, _⟩ => ⟨S512x2048, .f32⟩
  | .hbm, ⟨75, _⟩ => ⟨S512x2048, .f32⟩
  | .hbm, ⟨76, _⟩ => ⟨S_, .f32⟩
  | .hbm, ⟨77, _⟩ => ⟨S512x2048, .f32⟩
  | .hbm, ⟨78, _⟩ => ⟨S512x2048, .f32⟩
  | .hbm, ⟨79, _⟩ => ⟨S512x2048, .f32⟩
  | .hbm, ⟨80, _⟩ => ⟨S_, .f32⟩
  | .hbm, ⟨81, _⟩ => ⟨S512x2048, .f32⟩
  | .hbm, ⟨82, _⟩ => ⟨S512x2048, .f32⟩
  | .hbm, ⟨83, _⟩ => ⟨S512x2048, .f32⟩
  | .hbm, ⟨84, _⟩ => ⟨S_, .f32⟩
  | .hbm, ⟨85, _⟩ => ⟨S512x2048, .f32⟩
  | .hbm, ⟨86, _⟩ => ⟨S512x2048, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== Kernel23.lean ====
abbrev S5 : Shape := ⟨1, ![5]⟩
abbrev S512x256 : Shape := ⟨2, ![512, 256]⟩
abbrev S4x2x512x256 : Shape := ⟨4, ![4, 2, 512, 256]⟩
abbrev S4x1x512x256 : Shape := ⟨4, ![4, 1, 512, 256]⟩
abbrev S3x512x256 : Shape := ⟨3, ![3, 512, 256]⟩
abbrev S256x256 : Shape := ⟨2, ![256, 256]⟩
abbrev S1x1x256x256 : Shape := ⟨4, ![1, 1, 256, 256]⟩
abbrev S1 : Shape := ⟨1, ![1]⟩
abbrev S3x256x256 : Shape := ⟨3, ![3, 256, 256]⟩
abbrev S1x256x256 : Shape := ⟨3, ![1, 256, 256]⟩

abbrev nBuf : Space → Nat
  | .hbm => 10
  | .vmem => 20
  | .smem => 1
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S4x2x512x256, .bf16⟩
  | .hbm, ⟨4, _⟩ => ⟨S4x1x512x256, .bf16⟩
  | .hbm, ⟨5, _⟩ => ⟨S3x512x256, .bf16⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x1x256x256, .bf16⟩
  | .local _ .vmem, ⟨7, _⟩ => ⟨S1x1x256x256, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S3x256x256, .bf16⟩
  | .local _ .vmem, ⟨11, _⟩ => ⟨S3x256x256, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .smem, ⟨0, _⟩ => ⟨S5, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_3 : ∀ a, (![3] : Fin 1 → Nat) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c4 : Index := 4#32
  let v1 : BitVec 32 := pf.at 0 (Rect.unit (s := S5) ![4] S1.size inb_S5_S1_4) numel1_S1
  let c0_i32 : BitVec 32 := 0#32
  let c0_i32_0 : BitVec 32 := 0#32
  ![v0.toNat, v1.toNat, arg0.toNat, c0_i32.toNat]

def cc0_transform_4 (inb_S5_S1_3 : ∀ a, (![3] : Fin 1 → Nat) a + S1.size a ≤ S5.size a) (numel1_S1 : S1.numel = 1) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference23Ideal.lean ====
abbrev S5 : Shape := ⟨1, ![5]⟩
abbrev S512x256 : Shape := ⟨2, ![512, 256]⟩
abbrev S4x2x512x256 : Shape := ⟨4, ![4, 2, 512, 256]⟩
abbrev S4x1x512x256 : Shape := ⟨4, ![4, 1, 512, 256]⟩
abbrev S3x512x256 : Shape := ⟨3, ![3, 512, 256]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x512x256 : Shape := ⟨3, ![2, 512, 256]⟩
abbrev S2 : Shape := ⟨1, ![2]⟩
abbrev S2x1x1 : Shape := ⟨3, ![2, 1, 1]⟩
abbrev S4x512x256 : Shape := ⟨3, ![4, 512, 256]⟩
abbrev S4x1x1 : Shape := ⟨3, ![4, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S5, .i32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S4x2x512x256, .bf16⟩
  | .hbm, ⟨5, _⟩ => ⟨S4x1x512x256, .bf16⟩
  | .hbm, ⟨6, _⟩ => ⟨S3x512x256, .bf16⟩
  | .hbm, ⟨7, _⟩ => ⟨S4x2x512x256, .f32⟩
  | .hbm, ⟨8, _⟩ => ⟨S1, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i1⟩
  | .hbm, ⟨13, _⟩ => ⟨S4x1x1x1, .i1⟩
  | .hbm, ⟨14, _⟩ => ⟨S_, .i32⟩
  | .hbm, ⟨15, _⟩ => ⟨S_, .f32⟩
  | .hbm, ⟨16, _⟩ => ⟨S4x2x512x256, .i1⟩
  | .hbm, ⟨17, _⟩ => ⟨S4x2x512x256, .f32⟩
  | .hbm, ⟨18, _⟩ => ⟨S4x2x512x256, .f32⟩
  | .hbm, ⟨19, _⟩ => ⟨S_, .f32⟩
  | .hbm, ⟨20, _⟩ => ⟨S2x512x256, .f32⟩
  | .hbm, ⟨21, _⟩ => ⟨S1, .i32⟩
  | .hbm, ⟨22, _⟩ => ⟨S_, .i32⟩
  | .hbm, ⟨23, _⟩ => ⟨S2, .i32⟩
  | .hbm, ⟨24, _⟩ => ⟨S2, .i32⟩
  | .hbm, ⟨25, _⟩ => ⟨S2, .i1⟩
  | .hbm, ⟨26, _⟩ => ⟨S2x1x1, .i1⟩
  | .hbm, ⟨27, _⟩ => ⟨S_, .i32⟩
  | .hbm, ⟨28, _⟩ => ⟨S_, .f32⟩
  | .hbm, ⟨29, _⟩ => ⟨S2x512x256, .i1⟩
  | .hbm, ⟨30, _⟩ => ⟨S2x512x256, .f32⟩
  | .hbm, ⟨31, _⟩ => ⟨S2x512x256, .f32⟩
  | .hbm, ⟨32, _⟩ => ⟨S_, .f32⟩
  | .hbm, ⟨33, _⟩ => ⟨S512x256, .f32⟩
  | .hbm, ⟨34, _⟩ => ⟨S4x1x512x256, .f32⟩
  | .hbm, ⟨35, _⟩ => ⟨S4x512x256, .f32⟩
  | .hbm, ⟨36, _⟩ => ⟨S1, .i32⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .i1⟩
  | .hbm, ⟨41, _⟩ => ⟨S4x1x1, .i1⟩
  | .hbm, ⟨42, _⟩ => ⟨S_, .i32⟩
  | .hbm, ⟨43, _⟩ => ⟨S_, .f32⟩
  | .hbm, ⟨44, _⟩ => ⟨S4x512x256, .i1⟩
  | .hbm, ⟨45, _⟩ => ⟨S4x512x256, .f32⟩
  | .hbm, ⟨46, _⟩ => ⟨S4x512x256, .f32⟩
  | .hbm, ⟨47, _⟩ => ⟨S_, .f32⟩
  | .hbm, ⟨48, _⟩ => ⟨S512x256, .f32⟩
  | .hbm, ⟨49, _⟩ => ⟨S512x256, .f32⟩
  | .hbm, ⟨50, _⟩ => ⟨S3x512x256, .f32⟩
  | .hbm, ⟨51, _⟩ => ⟨S_, .f32⟩
  | .hbm, ⟨52, _⟩ => ⟨S512x256, .f32⟩
  | .hbm, ⟨53, _⟩ => ⟨S512x256, .f32⟩
  | .hbm, ⟨54, _⟩ => ⟨S_, .f32⟩
  | .hbm, ⟨55, _⟩ => ⟨S512x256, .f32⟩
  | .hbm, ⟨56, _⟩ => ⟨S512x256, .f32⟩
  | .hbm, ⟨57, _⟩ => ⟨S_, .f32⟩
  | .hbm, ⟨58, _⟩ => ⟨S512x256, .f32⟩
  | .hbm, ⟨59, _⟩ => ⟨S512x256, .f32⟩
  | .hbm, ⟨60, _⟩ => ⟨S512x256, .f32⟩
  | .hbm, ⟨61, _⟩ => ⟨S_, .f32⟩
  | .hbm, ⟨62, _⟩ => ⟨S512x256, .f32⟩
  | .hbm, ⟨63, _⟩ => ⟨S512x256, .f32⟩
  | .hbm, ⟨64, _⟩ => ⟨S512x256, .f32⟩
  | .hbm, ⟨65, _⟩ => ⟨S_, .f32⟩
  | .hbm, ⟨66, _⟩ => ⟨S512x256, .f32⟩
  | .hbm, ⟨67, _⟩ => ⟨S512x256, .f32⟩
  | .hbm, ⟨68, _⟩ => ⟨S512x256, .f32⟩
  | .hbm, ⟨69, _⟩ => ⟨S_, .f32⟩
  | .hbm, ⟨70, _⟩ => ⟨S512x256, .f32⟩
  | .hbm, ⟨71, _⟩ => ⟨S512x256, .f32⟩
  | .hbm, ⟨72, _⟩ => ⟨S_, .f32⟩
  | .hbm, ⟨73, _⟩ => ⟨S512x256, .f32⟩
  | .hbm, ⟨74, _⟩ => ⟨S512x256, .f32⟩
  | .hbm, ⟨75, _⟩ => ⟨S512x256, .f32⟩
  | .hbm, ⟨76, _⟩ => ⟨S_, .f32⟩
  | .hbm, ⟨77, _⟩ => ⟨S512x256, .f32⟩
  | .hbm, ⟨78, _⟩ => ⟨S512x256, .f32⟩
  | .hbm, ⟨79, _⟩ => ⟨S512x256, .f32⟩
  | .hbm, ⟨80, _⟩ => ⟨S_, .f32⟩
  | .hbm, ⟨81, _⟩ => ⟨S512x256, .f32⟩
  | .hbm, ⟨82, _⟩ => ⟨S512x256, .f32⟩
  | .hbm, ⟨83, _⟩ => ⟨S512x256, .f32⟩
  | .hbm, ⟨84, _⟩ => ⟨S_, .f32⟩
  | .hbm, ⟨85, _⟩ => ⟨S512x256, .f32⟩
  | .hbm, ⟨86, _⟩ => ⟨S512x256, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== Kernel24.lean ====
abbrev S5 : Shape := ⟨1, ![5]⟩
abbrev S2048x2048 : Shape := ⟨2, ![2048, 2048]⟩
abbrev S1x2x2048x2048 : Shape := ⟨4, ![1, 2, 2048, 2048]⟩
abbrev S1x1x2048x2048 : Shape := ⟨4, ![1, 1, 2048, 2048]⟩
abbrev S1x2048x2048 : Shape := ⟨3, ![1, 2048, 2048]⟩
abbrev S256x2048 : Shape := ⟨2, ![256, 2048]⟩
abbrev S1x1x256x2048 : Shape := ⟨4, ![1, 1, 256, 2048]⟩
abbrev S1 : Shape := ⟨1, ![1]⟩
abbrev S1x256x2048 : Shape := ⟨3, ![1, 256, 2048]⟩

abbrev nBuf : Space → Nat
  | .hbm => 12
  | .vmem => 24
  | .smem => 1
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2x2048x2048, .bf16⟩
  | .hbm, ⟨4, _⟩ => ⟨S1x1x2048x2048, .bf16⟩
  | .hbm, ⟨5, _⟩ => ⟨S1x2048x2048, .bf16⟩
  | .hbm, ⟨6, _⟩ => ⟨S1x2048x2048, .bf16⟩
  | .hbm, ⟨7, _⟩ => ⟨S1x2048x2048, .bf16⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x256x2048, .bf16⟩
  | .local _ .vmem, ⟨7, _⟩ => ⟨S1x1x256x2048, .bf16⟩
  | .local _ .vmem, ⟨8, _⟩ => ⟨S1x1x256x2048, .bf16⟩
  | .local _ .vmem, ⟨9, _⟩ => ⟨S1x1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .smem, ⟨0, _⟩ => ⟨S5, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_3 : ∀ a, (![3] : Fin 1 → Nat) a + S1.size a ≤ S5.size a) (numel1_S1 : S1.numel = 1) (inb_S5_S1_4 : ∀ a, (![4] : Fin 1 → Nat) a + S1.size a ≤ S5.size a) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c4 : Index := 4#32
  let v1 : BitVec 32 := pf.at 0 (Rect.unit (s := S5) ![4] S1.size inb_S5_S1_4) numel1_S1
  let c0_i32 : BitVec 32 := 0#32
  let c0_i32_0 : BitVec 32 := 0#32
  ![v0.toNat, v1.toNat, arg0.toNat, c0_i32.toNat]

def cc0_transform_4 (inb_S5_S1_3 : ∀ a, (![3] : Fin 1 → Nat) a + S1.size a ≤ S5.size a) (numel1_S1 : S1.numel = 1) (pf : pre0.Contents (Elt F)) (i : grid0.Coords) : Fin 4 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference24Ideal.lean ====
abbrev S5 : Shape := ⟨1, ![5]⟩
abbrev S2048x2048 : Shape := ⟨2, ![2048, 2048]⟩
abbrev S1x2x2048x2048 : Shape := ⟨4, ![1, 2, 2048, 2048]⟩
abbrev S1x1x2048x2048 : Shape := ⟨4, ![1, 1, 2048, 2048]⟩
abbrev S1x2048x2048 : Shape := ⟨3, ![1, 2048, 2048]⟩
abbrev S1 : Shape := ⟨1, ![1]⟩
abbrev S_ : Shape := ⟨0, ![]⟩
abbrev S2x2048x2048 : Shape := ⟨3, ![2, 2048, 2048]⟩
abbrev S2 : Shape := ⟨1, ![2]⟩
abbrev S2x1x1 : Shape := ⟨3, ![2, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S5, .i32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2x2048x2048, .bf16⟩
  | .hbm, ⟨5, _⟩ => ⟨S1x1x2048x2048, .bf16⟩
  | .hbm, ⟨6, _⟩ => ⟨S1x2048x2048, .bf16⟩
  | .hbm, ⟨7, _⟩ => ⟨S1x2048x2048, .bf16⟩
  | .hbm, ⟨8, _⟩ => ⟨S1x2048x2048, .bf16⟩
  | .hbm, ⟨9, _⟩ => ⟨S1x2x2048x2048, .f32⟩
  | .hbm, ⟨10, _⟩ => ⟨S1, .i32⟩
  | .hbm, ⟨11, _⟩ => ⟨S_, .i32⟩
  | .hbm, ⟨12, _⟩ => ⟨S2x2048x2048, .f32⟩
  | .hbm, ⟨13, _⟩ => ⟨S1, .i32⟩
  | .hbm, ⟨14, _⟩ => ⟨S_, .i32⟩
  | .hbm, ⟨15, _⟩ => ⟨S2, .i32⟩
  | .hbm, ⟨16, _⟩ => ⟨S2, .i32⟩
  | .hbm, ⟨17, _⟩ => ⟨S2, .i1⟩
  | .hbm, ⟨18, _⟩ => ⟨S2x1x1, .i1⟩
  | .hbm, ⟨19, _⟩ => ⟨S_, .i32⟩
  | .hbm, ⟨20, _⟩ => ⟨S_, .f32⟩
  | .hbm, ⟨21, _⟩ => ⟨S2x2048x2048, .i1⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2048x2048, .f32⟩
  | .hbm, ⟨26, _⟩ => ⟨S1x1x2048x2048, .f32⟩
  | .hbm, ⟨27, _⟩ => ⟨S1x2048x2048, .f32⟩
  | .hbm, ⟨28, _⟩ => ⟨S1, .i32⟩
  | .hbm, ⟨29, _⟩ => ⟨S_, .i32⟩
  | .hbm, ⟨30, _⟩ => ⟨S2048x2048, .f32⟩
  | .hbm, ⟨31, _⟩ => ⟨S2048x2048, .f32⟩
  | .hbm, ⟨32, _⟩ => ⟨S1x2048x2048, .f32⟩
  | .hbm, ⟨33, _⟩ => ⟨S_, .f32⟩
  | .hbm, ⟨34, _⟩ => ⟨S2048x2048, .f32⟩
  | .hbm, ⟨35, _⟩ => ⟨S1x2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S1x2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048x2048, .f32⟩
  | .hbm, ⟨76, _⟩ => ⟨S2048x2048, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Kernel25.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel26.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S1x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x2048, .bf16⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference26Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel27.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S2048x2048, .f32⟩
  | .hbm, ⟨6, _⟩ => ⟨S1x128, .f32⟩
  | .hbm, ⟨7, _⟩ => ⟨S1x2048, .f32⟩
  | .hbm, ⟨8, _⟩ => ⟨S2048x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x128, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference27Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S1x128, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel28.lean ====
abbrev S8x920x128 : Shape := ⟨3, ![8, 920, 128]⟩
abbrev S920x128 : Shape := ⟨2, ![920, 128]⟩
abbrev S1x920x128 : Shape := ⟨3, ![1, 920, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x920x128, .f32⟩
  | .hbm, ⟨1, _⟩ => ⟨S920x128, .f32⟩
  | .local _ .vmem, ⟨0, _⟩ => ⟨S8x920x128, .f32⟩
  | .local _ .vmem, ⟨1, _⟩ => ⟨S920x128, .f32⟩
  | _, _ => ⟨S8x920x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x920x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference28Ideal.lean ====
abbrev S8x920x128 : Shape := ⟨3, ![8, 920, 128]⟩
abbrev S_ : Shape := ⟨0, ![]⟩
abbrev S920x128 : Shape := ⟨2, ![920, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x920x128, .f32⟩
  | .hbm, ⟨1, _⟩ => ⟨S_, .f32⟩
  | .hbm, ⟨2, _⟩ => ⟨S920x128, .f32⟩
  | _, _ => ⟨S8x920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8x2048 : Shape := ⟨2, ![8, 2048]⟩
abbrev S2x2048x768 : Shape := ⟨3, ![2, 2048, 768]⟩
abbrev S2x1x768 : Shape := ⟨3, ![2, 1, 768]⟩
abbrev S2x8x768 : Shape := ⟨3, ![2, 8, 768]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S2x1x768, .f32⟩
  | .hbm, ⟨3, _⟩ => ⟨S2x8x768, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference29Ideal.lean ====
abbrev S8x2048 : Shape := ⟨2, ![8, 2048]⟩
abbrev S2x2048x768 : Shape := ⟨3, ![2, 2048, 768]⟩
abbrev S2x1x768 : Shape := ⟨3, ![2, 1, 768]⟩
abbrev S_ : Shape := ⟨0, ![]⟩
abbrev S2x768x8 : Shape := ⟨3, ![2, 768, 8]⟩
abbrev S2x8x768 : Shape := ⟨3, ![2, 8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S2x1x768, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x768x8, .f32⟩
  | .hbm, ⟨13, _⟩ => ⟨S2x8x768, .f32⟩
  | .hbm, ⟨14, _⟩ => ⟨S2x8x768, .f32⟩
  | .hbm, ⟨15, _⟩ => ⟨S2x8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.ConvBwd.Spec.lean ====
/-
  The mathematics of the gradient of the gated causal convolution, one element at a time, over the extended reals.

  `p k t e` is the projection `k` (0: output gate, 1: input gate, 2: value, 3: the argument of silu) of token `t` in
  channel `e`, `y t e` the cotangent of the layer's output and `w j e` the tap `j` of the convolution of width three.
-/
module

public import Idealize.ShloMosaic.Lib.Pointwise
public import Idealize.ShloMosaic.Lib.KernelVsHost

@[expose] public section

noncomputable section

namespace Cert.Proof.ConvBwd

open Idealize.ShloMosaic

abbrev Proj : Shape := ⟨3, ![4, 2048, 4096]⟩
abbrev Act : Shape := ⟨2, ![2048, 4096]⟩
abbrev Taps : Shape := ⟨2, ![3, 4096]⟩
abbrev TapGrads : Shape := ⟨2, ![8, 4096]⟩

/-- A column of tokens moved `k` places later, zero in front: what a causal convolution reads. -/
def down (k : Nat) (f : Fin 2048 → EReal) (t : Fin 2048) : EReal :=
  if k ≤ t.val then f ⟨t.val - k, by omega⟩ else 0

/-- A column of tokens moved `k` places earlier, zero behind: what the transpose of a causal convolution reads. -/
def up (k : Nat) (f : Fin 2048 → EReal) (t : Fin 2048) : EReal :=
  if h : t.val + k < 2048 then f ⟨t.val + k, h⟩ else 0

variable (p : Proj.Idx → EReal) (y : Act.Idx → EReal) (w : Taps.Idx → EReal)

/-- The convolution's input: the input gate times the value. -/
def cu (e : Fin 4096) (t : Fin 2048) : EReal := p (ix3 1 t e) * p (ix3 2 t e)

/-- The convolution's output. -/
def cv (e : Fin 4096) (t : Fin 2048) : EReal :=
  w (ix2 2 e) * cu p e t + w (ix2 0 e) * down 2 (cu p e) t + w (ix2 1 e) * down 1 (cu p e) t

/-- The logistic function of the fourth projection. -/
def sg (e : Fin 4096) (t : Fin 2048) : EReal := Ideal.logistic (p (ix3 3 t e))

/-- The gradient with respect to the convolution's output. -/
def du (e : Fin 4096) (t : Fin 2048) : EReal := y (ix2 t e) * p (ix3 0 t e) * (p (ix3 3 t e) * sg p e t)

/-- The gradient with respect to the convolution's input. -/
def dcv (e : Fin 4096) (t : Fin 2048) : EReal :=
  w (ix2 2 e) * du p y e t + w (ix2 0 e) * up 2 (du p y e) t + w (ix2 1 e) * up 1 (du p y e) t

/-- The gradient with respect to the output gate. -/
def dgate (e : Fin 4096) (t : Fin 2048) : EReal := y (ix2 t e) * cv p w e t * (p (ix3 3 t e) * sg p e t)

/-- The gradient with respect to silu's argument, with the derivative of silu factored as the kernel has it. -/
def dsilu (e : Fin 4096) (t : Fin 2048) : EReal :=
  y (ix2 t e) * p (ix3 0 t e) * cv p w e t * (sg p e t * (1 + p (ix3 3 t e) * (1 - sg p e t)))

/-- The gradient with respect to projection `k`. -/
def dproj (k : Fin 4) (t : Fin 2048) (e : Fin 4096) : EReal :=
  match k with
  | 0 => dgate p y w e t
  | 1 => dcv p y w e t * p (ix3 2 t e)
  | 2 => dcv p y w e t * p (ix3 1 t e)
  | 3 => dsilu p y w e t

/-- Row `r` of the gradients with respect to the taps, five rows of zeros after the three taps. -/
def dtap (r : Fin 8) (e : Fin 4096) : EReal :=
  match r with
  | 0 => ∑ t, du p y e t * down 2 (cu p e) t
  | 1 => ∑ t, du p y e t * down 1 (cu p e) t
  | 2 => ∑ t, du p y e t * cu p e t
  | _ => 0

end Cert.Proof.ConvBwd

end
-- ==== Proof.ConvBwd.Pay.lean ====
/-
  The kernel's arithmetic on one block of 256 channels, read at a token and a channel: if the blocks hold the argument
  arrays' column of channel `e` in their column `l`, the values the kernel stores are the columns of `dproj` and `dtap`.
-/
module

public import proofs.«01_k».proof.Proof.Gen.KernelIdeal.Value
public import proofs.«01_k».proof.Proof.ConvBwd.Spec
public import Idealize.ShloMosaic.Lib.Pointwise
public import Idealize.ShloMosaic.Lib.WordCmp

@[expose] public section

set_option maxRecDepth 20000

noncomputable section

namespace Cert.Proof.ConvBwd

open Cert.KernelIdeal Cert.KernelIdeal.Gen Idealize.ShloMosaic Idealize.ShloMosaic.TcCoe

/-- The mask "row number at least `k`". -/
theorem select_ge (k : Nat) (hk : k < 2 ^ (32 - 1)) (s : Fin 2048) (x z : EReal) :
    Scalar.select (IntOp.cmpi CmpIPredicate.sge (BitVec.ofNat 32 ↑s) (BitVec.ofNat 32 k)) x z = if k ≤ s.val then x else z := by
  unfold Scalar.select
  exact if_congr (WordCmp.cmpi_sge_ofNat_eq_one_iff (by omega) hk) rfl rfl

/-- The mask "row number less than `k`". -/
theorem select_lt (k : Nat) (hk : k < 2 ^ (32 - 1)) (s : Fin 2048) (x z : EReal) :
    Scalar.select (IntOp.cmpi CmpIPredicate.slt (BitVec.ofNat 32 ↑s) (BitVec.ofNat 32 k)) x z = if s.val < k then x else z := by
  unfold Scalar.select
  exact if_congr (WordCmp.cmpi_slt_ofNat_eq_one_iff (by omega) hk) rfl rfl

/-- A column rotated by `k`, its first `k` rows masked, is the column moved `k` places later. -/
theorem rot_down (k : Nat) (hk : k < 2048) (f : Fin 2048 → EReal) (s : Fin 2048) (h : (s.val + 2048 - k) % 2048 < 2048) :
    (if k ≤ s.val then f ⟨(s.val + 2048 - k) % 2048, h⟩ else 0) = down k f s := by
  unfold down
  by_cases hs : k ≤ s.val
  · rw [if_pos hs, if_pos hs]; congr 1; apply Fin.ext; show (s.val + 2048 - k) % 2048 = s.val - k; omega
  · rw [if_neg hs, if_neg hs]

/-- A column rotated by `2048 - k`, its last `k` rows masked, is the column moved `k` places earlier. -/
theorem rot_up (k n : Nat) (hn : n + k = 2048) (h0 : 0 < k) (f : Fin 2048 → EReal) (s : Fin 2048)
    (h : (s.val + 2048 - n) % 2048 < 2048) :
    (if s.val < n then f ⟨(s.val + 2048 - n) % 2048, h⟩ else 0) = up k f s := by
  unfold up
  by_cases hs : s.val + k < 2048
  · rw [if_pos (by omega), dif_pos hs]; congr 1; apply Fin.ext; show (s.val + 2048 - n) % 2048 = s.val + k; omega
  · rw [if_neg (by omega), dif_neg hs]

/-- A masked factor is a masked product. -/
theorem ite_mul_zero' (c : Prop) [Decidable c] (x y : EReal) : (if c then x * y else 0) = x * (if c then y else 0) := by
  split_ifs
  · rfl
  · rw [mul_zero]

variable {p : Proj.Idx → EReal} {y : Act.Idx → EReal} {w : Taps.Idx → EReal} {e : Fin 4096} {l : Fin 256}
variable {b0 b1 b2 b3 : Vec Ideal S1x2048x256 .bf16} {b4 : Vec Ideal S2048x256 .bf16} {r0 r1 r2 : Vec Ideal S1x256 .f32}

/-- The convolution's first two terms. -/
theorem pay9_at (h1 : ∀ s, b1 (ix3 0 s l) = p (ix3 1 s e)) (h2 : ∀ s, b2 (ix3 0 s l) = p (ix3 2 s e))
    (hr0 : r0 (ix2 0 l) = w (ix2 0 e)) (hr2 : r2 (ix2 0 l) = w (ix2 2 e)) (s : Fin 2048) :
    k0_pay9 b1 b2 r2 r0 (ix2 s l) = w (ix2 2 e) * cu p e s + w (ix2 0 e) * down 2 (cu p e) s := by
  pointwise [k0_pay9, k0_pay8, k0_pay4, k0_pay5]
  rw [select_ge 2 (by decide), ite_mul_zero', ← rot_down 2 (by decide) (cu p e) s (Nat.mod_lt _ (by decide)), hr0, hr2, h1, h2, h1, h2]
  rfl

/-- The convolution's output. -/
theorem pay12_at (h1 : ∀ s, b1 (ix3 0 s l) = p (ix3 1 s e)) (h2 : ∀ s, b2 (ix3 0 s l) = p (ix3 2 s e))
    (hr0 : r0 (ix2 0 l) = w (ix2 0 e)) (hr1 : r1 (ix2 0 l) = w (ix2 1 e)) (hr2 : r2 (ix2 0 l) = w (ix2 2 e)) (s : Fin 2048) :
    k0_pay12 (k0_pay9 b1 b2 r2 r0) r1 k0_pay10 (k0_pay11 b1 b2) (FloatOps.ofBits FTy.f32 0#32) (ix2 s l) = cv p w e s := by
  have h9 := pay9_at h1 h2 hr0 hr2 s
  generalize k0_pay9 b1 b2 r2 r0 = v27 at h9
  pointwise [k0_pay12, k0_pay10, k0_pay11, k0_pay8, k0_pay4, k0_pay5]
  rw [select_ge 1 (by decide), ite_mul_zero', h9]
  unfold cv
  rw [← rot_down 1 (by decide) (cu p e) s (Nat.mod_lt _ (by decide)), hr1, h1, h2]
  rfl

/-- Silu of the fourth projection. -/
theorem pay14_at (h3 : ∀ s, b3 (ix3 0 s l) = p (ix3 3 s e)) (s : Fin 2048) :
    k0_pay14 (k0_pay6 b3) (ix2 s l) = p (ix3 3 s e) * sg p e s := by
  pointwise [k0_pay14, k0_pay13, k0_pay6]
  rw [h3]; rfl

/-- The gradient with respect to the convolution's output. -/
theorem pay16_at (h0 : ∀ s, b0 (ix3 0 s l) = p (ix3 0 s e)) (h3 : ∀ s, b3 (ix3 0 s l) = p (ix3 3 s e))
    (h4 : ∀ s, b4 (ix2 s l) = y (ix2 s e)) (s : Fin 2048) :
    k0_pay16 (k0_pay3 b0) (k0_pay6 b3) (k0_pay7 b4) (ix2 s l) = du p y e s := by
  have h14 := pay14_at (b3 := b3) h3 s
  pointwise [k0_pay16, k0_pay14, k0_pay13, k0_pay6, k0_pay3, k0_pay7]
  rw [h3, h0, h4]; rfl

/-- What is stored in plane 0. -/
theorem pay15_at (h1 : ∀ s, b1 (ix3 0 s l) = p (ix3 1 s e)) (h2 : ∀ s, b2 (ix3 0 s l) = p (ix3 2 s e))
    (h3 : ∀ s, b3 (ix3 0 s l) = p (ix3 3 s e)) (h4 : ∀ s, b4 (ix2 s l) = y (ix2 s e))
    (hr0 : r0 (ix2 0 l) = w (ix2 0 e)) (hr1 : r1 (ix2 0 l) = w (ix2 1 e)) (hr2 : r2 (ix2 0 l) = w (ix2 2 e)) (s : Fin 2048) :
    k0_pay15 (k0_pay6 b3) (k0_pay7 b4) (k0_pay9 b1 b2 r2 r0) r1 k0_pay10 (k0_pay11 b1 b2) (FloatOps.ofBits FTy.f32 0#32)
      (ix3 0 s l) = dgate p y w e s := by
  have h12 := pay12_at h1 h2 hr0 hr1 hr2 s
  have h14 := pay14_at (b3 := b3) h3 s
  unfold k0_pay15
  generalize k0_pay12 (k0_pay9 b1 b2 r2 r0) r1 k0_pay10 (k0_pay11 b1 b2) (FloatOps.ofBits FTy.f32 0#32) = v12 at h12 ⊢
  generalize k0_pay14 (k0_pay6 b3) = v14 at h14 ⊢
  pointwise [k0_pay7]
  rw [h12, h14, h4]; rfl

/-- What is stored in plane 3. -/
theorem pay17_at (h0 : ∀ s, b0 (ix3 0 s l) = p (ix3 0 s e))
    (h1 : ∀ s, b1 (ix3 0 s l) = p (ix3 1 s e)) (h2 : ∀ s, b2 (ix3 0 s l) = p (ix3 2 s e))
    (h3 : ∀ s, b3 (ix3 0 s l) = p (ix3 3 s e)) (h4 : ∀ s, b4 (ix2 s l) = y (ix2 s e))
    (hr0 : r0 (ix2 0 l) = w (ix2 0 e)) (hr1 : r1 (ix2 0 l) = w (ix2 1 e)) (hr2 : r2 (ix2 0 l) = w (ix2 2 e)) (s : Fin 2048) :
    k0_pay17 (k0_pay3 b0) (k0_pay6 b3) (k0_pay7 b4) (k0_pay9 b1 b2 r2 r0) r1 k0_pay10 (k0_pay11 b1 b2) (FloatOps.ofBits FTy.f32 0#32)
      (ix3 0 s l) = dsilu p y w e s := by
  have h12 := pay12_at h1 h2 hr0 hr1 hr2 s
  unfold k0_pay17
  generalize k0_pay12 (k0_pay9 b1 b2 r2 r0) r1 k0_pay10 (k0_pay11 b1 b2) (FloatOps.ofBits FTy.f32 0#32) = v12 at h12 ⊢
  pointwise [k0_pay7, k0_pay13, k0_pay6, k0_pay3]
  rw [h12, h0, h3, h4]; rfl

/-- The gradient with respect to the convolution's input. -/
theorem pay22_at (h0 : ∀ s, b0 (ix3 0 s l) = p (ix3 0 s e)) (h3 : ∀ s, b3 (ix3 0 s l) = p (ix3 3 s e))
    (h4 : ∀ s, b4 (ix2 s l) = y (ix2 s e))
    (hr0 : r0 (ix2 0 l) = w (ix2 0 e)) (hr1 : r1 (ix2 0 l) = w (ix2 1 e)) (hr2 : r2 (ix2 0 l) = w (ix2 2 e)) (s : Fin 2048) :
    k0_pay22 (k0_pay16 (k0_pay3 b0) (k0_pay6 b3) (k0_pay7 b4)) (k0_pay18 (k0_pay3 b0) (k0_pay6 b3) (k0_pay7 b4) r2) r0 r1
      (ix2 s l) = dcv p y w e s := by
  have h16 := pay16_at h0 h3 h4
  unfold k0_pay18
  generalize k0_pay16 (k0_pay3 b0) (k0_pay6 b3) (k0_pay7 b4) = v16 at h16 ⊢
  pointwise [k0_pay22]
  rw [select_lt 2046 (by decide), select_lt 2047 (by decide), ite_mul_zero', ite_mul_zero', hr0, hr1, hr2, h16, h16, h16]
  unfold dcv
  rw [← rot_up 2 2046 rfl (by decide) (du p y e) s (Nat.mod_lt _ (by decide)),
    ← rot_up 1 2047 rfl (by decide) (du p y e) s (Nat.mod_lt _ (by decide))]

/-- What is stored in planes 1 and 2. -/
theorem pay1_at (v8 v99 : FVec Ideal S2048x256 .f32) (s : Fin 2048) :
    k0_pay1 v8 v99 (ix3 0 s l) = v99 (ix2 s l) * v8 (ix2 s l) := by
  pointwise [k0_pay1]

theorem pay2_at (v5 v99 : FVec Ideal S2048x256 .f32) (s : Fin 2048) :
    k0_pay2 v5 v99 (ix3 0 s l) = v99 (ix2 s l) * v5 (ix2 s l) := by
  pointwise [k0_pay2]

/-- The gradient of the last tap. -/
theorem pay20_at (h0 : ∀ s, b0 (ix3 0 s l) = p (ix3 0 s e))
    (h1 : ∀ s, b1 (ix3 0 s l) = p (ix3 1 s e)) (h2 : ∀ s, b2 (ix3 0 s l) = p (ix3 2 s e))
    (h3 : ∀ s, b3 (ix3 0 s l) = p (ix3 3 s e)) (h4 : ∀ s, b4 (ix2 s l) = y (ix2 s e)) :
    k0_pay20 (k0_pay3 b0) (k0_pay6 b3) (k0_pay7 b4) (k0_pay8 b1 b2) (ix2 0 l) = ∑ s, du p y e s * cu p e s := by
  have h16 := pay16_at h0 h3 h4
  unfold k0_pay20
  generalize k0_pay16 (k0_pay3 b0) (k0_pay6 b3) (k0_pay7 b4) = v16 at h16 ⊢
  pointwise [k0_pay8, k0_pay4, k0_pay5]
  refine Finset.sum_congr rfl fun s _ => ?_
  rw [h16, h1, h2]; rfl

/-- The gradient of the first tap. -/
theorem pay21_at (h0 : ∀ s, b0 (ix3 0 s l) = p (ix3 0 s e))
    (h1 : ∀ s, b1 (ix3 0 s l) = p (ix3 1 s e)) (h2 : ∀ s, b2 (ix3 0 s l) = p (ix3 2 s e))
    (h3 : ∀ s, b3 (ix3 0 s l) = p (ix3 3 s e)) (h4 : ∀ s, b4 (ix2 s l) = y (ix2 s e)) :
    k0_pay21 (k0_pay8 b1 b2) (k0_pay16 (k0_pay3 b0) (k0_pay6 b3) (k0_pay7 b4)) (ix2 0 l)
      = ∑ s, du p y e s * down 2 (cu p e) s := by
  have h16 := pay16_at h0 h3 h4
  generalize k0_pay16 (k0_pay3 b0) (k0_pay6 b3) (k0_pay7 b4) = v16 at h16 ⊢
  pointwise [k0_pay21, k0_pay8, k0_pay4, k0_pay5]
  refine Finset.sum_congr rfl fun s _ => ?_
  rw [select_ge 2 (by decide), ite_mul_zero', ← rot_down 2 (by decide) (cu p e) s (Nat.mod_lt _ (by decide)), h16, h1, h2]
  rfl

/-- The gradient of the middle tap. -/
theorem pay23_at (h0 : ∀ s, b0 (ix3 0 s l) = p (ix3 0 s e))
    (h1 : ∀ s, b1 (ix3 0 s l) = p (ix3 1 s e)) (h2 : ∀ s, b2 (ix3 0 s l) = p (ix3 2 s e))
    (h3 : ∀ s, b3 (ix3 0 s l) = p (ix3 3 s e)) (h4 : ∀ s, b4 (ix2 s l) = y (ix2 s e)) :
    k0_pay23 (k0_pay8 b1 b2) (k0_pay16 (k0_pay3 b0) (k0_pay6 b3) (k0_pay7 b4)) (ix2 0 l)
      = ∑ s, du p y e s * down 1 (cu p e) s := by
  have h16 := pay16_at h0 h3 h4
  generalize k0_pay16 (k0_pay3 b0) (k0_pay6 b3) (k0_pay7 b4) = v16 at h16 ⊢
  pointwise [k0_pay23, k0_pay8, k0_pay4, k0_pay5]
  refine Finset.sum_congr rfl fun s _ => ?_
  rw [select_ge 1 (by decide), ite_mul_zero', ← rot_down 1 (by decide) (cu p e) s (Nat.mod_lt _ (by decide)), h16, h1, h2]
  rfl

/-- The rows of zeros. -/
theorem pay19_at (j : S8x256.Idx) : k0_pay19 (F := Ideal) j = 0 := by
  pointwise [k0_pay19]

end Cert.Proof.ConvBwd

end
-- ==== Proof.ConvBwd.Stores.lean ====
/-
  A buffer written row by row, or plane by plane, read at an index.
-/
module

public import Idealize.ShloMosaic.Lib.Pointwise
public import Idealize.ShloMosaic.Lib.Pipeline.Value

@[expose] public section

noncomputable section

namespace Cert.Proof

open Idealize.ShloMosaic Idealize.SL.Sem

variable {Val : EltTy → Type} [∀ e, Nonempty (Val e)] {ty : EltTy}

/-- The last store is row `r`: row `r` reads it. -/
theorem canon_row {M n r : Nat} (inb : ∀ a, (![r, 0] : Fin 2 → Nat) a + (![1, n] : Fin 2 → Nat) a ≤ (⟨2, ![M, n]⟩ : Shape).size a)
    (w : (⟨2, ![1, n]⟩ : Shape).Idx → Val ty) (L : List (View.Piece Val ⟨2, ![M, n]⟩ ty)) (a : Fin M) (l : Fin n) (ha : a.val = r) :
    View.canon ((⟨Rect.unit ![r, 0] ![1, n] inb, w⟩ : View.Piece Val ⟨2, ![M, n]⟩ ty) :: L) (ix2 a l) = w (ix2 0 l) := by
  have h := View.canon_cons_emb (Val := Val) (Rect.unit (s := ⟨2, ![M, n]⟩) ![r, 0] ![1, n] inb) w L (ix2 0 l : (⟨2, ![1, n]⟩ : Shape).Idx)
  have e : (Rect.unit (s := ⟨2, ![M, n]⟩) ![r, 0] ![1, n] inb).emb (ix2 0 l : (⟨2, ![1, n]⟩ : Shape).Idx) = (ix2 a l : (⟨2, ![M, n]⟩ : Shape).Idx) := by
    funext b
    match b with
    | ⟨0, _⟩ => apply Fin.ext; show r + 1 * 0 = a.val; omega
    | ⟨1, _⟩ => apply Fin.ext; show 0 + 1 * l.val = l.val; omega
  exact (congrArg (View.canon _) e.symm).trans h

/-- The last store is another row: it is not seen. -/
theorem canon_row_ne {M n r : Nat} (inb : ∀ a, (![r, 0] : Fin 2 → Nat) a + (![1, n] : Fin 2 → Nat) a ≤ (⟨2, ![M, n]⟩ : Shape).size a)
    (w : (⟨2, ![1, n]⟩ : Shape).Idx → Val ty) (L : List (View.Piece Val ⟨2, ![M, n]⟩ ty)) (a : Fin M) (l : Fin n) (ha : a.val ≠ r) :
    View.canon ((⟨Rect.unit ![r, 0] ![1, n] inb, w⟩ : View.Piece Val ⟨2, ![M, n]⟩ ty) :: L) (ix2 a l) = View.canon L (ix2 a l) := by
  refine View.canon_cons_of_not_mem _ _ fun hm => ha ?_
  have h0 := (Rect.mem_set_unit (inb := inb)).mp hm 0
  have h1 : r ≤ a.val ∧ a.val < r + 1 := h0
  omega

/-- The last store is plane `r`: plane `r` reads it. -/
theorem canon_plane {K M n r : Nat}
    (inb : ∀ a, (![r, 0, 0] : Fin 3 → Nat) a + (![1, M, n] : Fin 3 → Nat) a ≤ (⟨3, ![K, M, n]⟩ : Shape).size a)
    (w : (⟨3, ![1, M, n]⟩ : Shape).Idx → Val ty) (L : List (View.Piece Val ⟨3, ![K, M, n]⟩ ty)) (a : Fin K) (s : Fin M) (l : Fin n)
    (ha : a.val = r) :
    View.canon ((⟨Rect.unit ![r, 0, 0] ![1, M, n] inb, w⟩ : View.Piece Val ⟨3, ![K, M, n]⟩ ty) :: L) (ix3 a s l) = w (ix3 0 s l) := by
  have h := View.canon_cons_emb (Val := Val) (Rect.unit (s := ⟨3, ![K, M, n]⟩) ![r, 0, 0] ![1, M, n] inb) w L (ix3 0 s l : (⟨3, ![1, M, n]⟩ : Shape).Idx)
  have e : (Rect.unit (s := ⟨3, ![K, M, n]⟩) ![r, 0, 0] ![1, M, n] inb).emb (ix3 0 s l : (⟨3, ![1, M, n]⟩ : Shape).Idx)
      = (ix3 a s l : (⟨3, ![K, M, n]⟩ : Shape).Idx) := by
    funext b
    match b with
    | ⟨0, _⟩ => apply Fin.ext; show r + 1 * 0 = a.val; omega
    | ⟨1, _⟩ => apply Fin.ext; show 0 + 1 * s.val = s.val; omega
    | ⟨2, _⟩ => apply Fin.ext; show 0 + 1 * l.val = l.val; omega
  exact (congrArg (View.canon _) e.symm).trans h

/-- The last store is another plane: it is not seen. -/
theorem canon_plane_ne {K M n r : Nat}
    (inb : ∀ a, (![r, 0, 0] : Fin 3 → Nat) a + (![1, M, n] : Fin 3 → Nat) a ≤ (⟨3, ![K, M, n]⟩ : Shape).size a)
    (w : (⟨3, ![1, M, n]⟩ : Shape).Idx → Val ty) (L : List (View.Piece Val ⟨3, ![K, M, n]⟩ ty)) (a : Fin K) (s : Fin M) (l : Fin n)
    (ha : a.val ≠ r) :
    View.canon ((⟨Rect.unit ![r, 0, 0] ![1, M, n] inb, w⟩ : View.Piece Val ⟨3, ![K, M, n]⟩ ty) :: L) (ix3 a s l)
      = View.canon L (ix3 a s l) := by
  refine View.canon_cons_of_not_mem _ _ fun hm => ha ?_
  have h0 := (Rect.mem_set_unit (inb := inb)).mp hm 0
  have h1 : r ≤ a.val ∧ a.val < r + 1 := h0
  omega

end Cert.Proof

end
-- ==== Proof.ConvBwd.Block.lean ====
/-
  What the kernel leaves in its two output buffers at block `t` of 256 channels: the columns of `dproj` and `dtap` of
  those channels.
-/
module

public import proofs.«01_k».proof.Proof.ConvBwd.Pay
public import proofs.«01_k».proof.Proof.ConvBwd.Stores
public import Idealize.ShloMosaic.Lib.Pipeline.Value
public import Idealize.ShloMosaic.Lib.Pipeline.ValueKit.Point
public import Idealize.ShloMosaic.Lib.Pipeline.ValueKit.Tiles
public import Idealize.ShloMosaic.Lib.Pipeline.ValueKit.Acc

@[expose] public section

noncomputable section

namespace Cert.Proof.ConvBwd

open Cert.KernelIdeal Cert.KernelIdeal.Gen Idealize.ShloMosaic Idealize.ShloMosaic.TcCoe Idealize.SL.Sem

/-! ## The blocks read -/

variable (m : (ℓ : Loc nD τ sig) → Buf (Elt Ideal) ℓ)

theorem idx0 : ∀ t : Fin cfg0.N, win0_0.index t = ![0, 0, t.val] := (by decide +kernel : ∀ t : Fin grid0.N, _)
theorem idx1 : ∀ t : Fin cfg0.N, win0_1.index t = ![1, 0, t.val] := (by decide +kernel : ∀ t : Fin grid0.N, _)
theorem idx2 : ∀ t : Fin cfg0.N, win0_2.index t = ![2, 0, t.val] := (by decide +kernel : ∀ t : Fin grid0.N, _)
theorem idx3 : ∀ t : Fin cfg0.N, win0_3.index t = ![3, 0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, 0, t.val] := (by decide +kernel : ∀ t : Fin grid0.N, _)
theorem idx7 : ∀ t : Fin cfg0.N, win0_7.index t = ![0, t.val] := (by decide +kernel : ∀ t : Fin grid0.N, _)

/-- The channel that column `l` of block `t` holds. -/
def chan (t : Fin cfg0.N) (l : Fin 256) : Fin 4096 := ⟨t.val * 256 + l.val, by have := t.isLt; have : cfg0.N = 16 := rfl; omega⟩

variable (c : Dev nD) (t : Fin cfg0.N)

/-- The three argument arrays. -/
abbrev P : Proj.Idx → EReal := m ((c : Thread nD τ).loc main_arg0)
abbrev Y : Act.Idx → EReal := m ((c : Thread nD τ).loc main_arg1)
abbrev W : Taps.Idx → EReal := m ((c : Thread nD τ).loc main_arg2)

theorem rd0 (l : Fin 256) (s : Fin 2048) : iblk m c 0 t (ix3 0 s l) = P m c (ix3 0 s (chan t l)) := by
  blk_point [iblk, V, idx0 t, chan]
theorem rd1 (l : Fin 256) (s : Fin 2048) : iblk m c 1 t (ix3 0 s l) = P m c (ix3 1 s (chan t l)) := by
  blk_point [iblk, V, idx1 t, chan]
theorem rd2 (l : Fin 256) (s : Fin 2048) : iblk m c 2 t (ix3 0 s l) = P m c (ix3 2 s (chan t l)) := by
  blk_point [iblk, V, idx2 t, chan]
theorem rd3 (l : Fin 256) (s : Fin 2048) : iblk m c 3 t (ix3 0 s l) = P m c (ix3 3 s (chan t l)) := by
  blk_point [iblk, V, idx3 t, chan]
theorem rd4 (l : Fin 256) (s : Fin 2048) : iblk m c 4 t (ix2 s l) = Y m c (ix2 s (chan t l)) := by
  blk_point [iblk, V, idx4 t, chan]

theorem rw0 (l : Fin 256) : View.ld (iblk m c 5 t) (Rect.unit (s := S3x256) ![0, 0] S1x256.size inb_S3x256_S1x256_0_0) (ix2 0 l)
    = W m c (ix2 0 (chan t l)) := by
  blk_point [iblk, V, idx5 t, chan]
theorem rw1 (l : Fin 256) : View.ld (iblk m c 5 t) (Rect.unit (s := S3x256) ![1, 0] S1x256.size inb_S3x256_S1x256_1_0) (ix2 0 l)
    = W m c (ix2 1 (chan t l)) := by
  blk_point [iblk, V, idx5 t, chan]
theorem rw2 (l : Fin 256) : View.ld (iblk m c 5 t) (Rect.unit (s := S3x256) ![2, 0] S1x256.size inb_S3x256_S1x256_2_0) (ix2 0 l)
    = W m c (ix2 2 (chan t l)) := by
  blk_point [iblk, V, idx5 t, chan]

/-! ## The buffers left -/

theorem pay4_at (l : Fin 256) (s : Fin 2048) : k0_pay4 (iblk m c 1 t) (ix2 s l) = P m c (ix3 1 s (chan t l)) := by
  refine Eq.trans ?_ (rd1 m c t l s)
  generalize iblk m c 1 t = b
  pointwise [k0_pay4]

theorem pay5_at (l : Fin 256) (s : Fin 2048) : k0_pay5 (iblk m c 2 t) (ix2 s l) = P m c (ix3 2 s (chan t l)) := by
  refine Eq.trans ?_ (rd2 m c t l s)
  generalize iblk m c 2 t = b
  pointwise [k0_pay5]

/-- The buffer of the projections' gradient, plane by plane. -/
theorem out6_0 (k : Fin 4) (hk : k.val = 0) (s : Fin 2048) (l : Fin 256) :
    (outsAt0 m c t).1 (ix3 k s l) = dgate (P m c) (Y m c) (W m c) (chan t l) s := by
  unfold outsAt0
  frame_out
  refine (canon_plane_ne _ _ _ _ _ _ (by omega)).trans ?_
  refine (canon_plane_ne _ _ _ _ _ _ (by omega)).trans ?_
  refine (canon_plane_ne _ _ _ _ _ _ (by omega)).trans ?_
  refine (canon_plane _ _ _ _ _ _ hk).trans ?_
  exact pay15_at (rd1 m c t l) (rd2 m c t l) (rd3 m c t l) (rd4 m c t l) (rw0 m c t l) (rw1 m c t l) (rw2 m c t l) s

theorem out6_1 (k : Fin 4) (hk : k.val = 1) (s : Fin 2048) (l : Fin 256) :
    (outsAt0 m c t).1 (ix3 k s l) = dcv (P m c) (Y m c) (W m c) (chan t l) s * P m c (ix3 2 s (chan t l)) := by
  unfold outsAt0
  frame_out
  refine (canon_plane_ne _ _ _ _ _ _ (by omega)).trans ?_
  refine (canon_plane _ _ _ _ _ _ hk).trans ?_
  refine (pay1_at _ _ s).trans ?_
  exact congrArg₂ (· * ·) (pay22_at (rd0 m c t l) (rd3 m c t l) (rd4 m c t l) (rw0 m c t l) (rw1 m c t l) (rw2 m c t l) s)
    (pay5_at m c t l s)

theorem out6_2 (k : Fin 4) (hk : k.val = 2) (s : Fin 2048) (l : Fin 256) :
    (outsAt0 m c t).1 (ix3 k s l) = dcv (P m c) (Y m c) (W m c) (chan t l) s * P m c (ix3 1 s (chan t l)) := by
  unfold outsAt0
  frame_out
  refine (canon_plane _ _ _ _ _ _ hk).trans ?_
  refine (pay2_at _ _ s).trans ?_
  exact congrArg₂ (· * ·) (pay22_at (rd0 m c t l) (rd3 m c t l) (rd4 m c t l) (rw0 m c t l) (rw1 m c t l) (rw2 m c t l) s)
    (pay4_at m c t l s)

theorem out6_3 (k : Fin 4) (hk : k.val = 3) (s : Fin 2048) (l : Fin 256) :
    (outsAt0 m c t).1 (ix3 k s l) = dsilu (P m c) (Y m c) (W m c) (chan t l) s := by
  unfold outsAt0
  frame_out
  refine (canon_plane_ne _ _ _ _ _ _ (by omega)).trans ?_
  refine (canon_plane_ne _ _ _ _ _ _ (by omega)).trans ?_
  refine (canon_plane _ _ _ _ _ _ hk).trans ?_
  exact pay17_at (rd0 m c t l) (rd1 m c t l) (rd2 m c t l) (rd3 m c t l) (rd4 m c t l) (rw0 m c t l) (rw1 m c t l) (rw2 m c t l) s

/-- The buffer of the projections' gradient. -/
theorem out6_eq (k : Fin 4) (s : Fin 2048) (l : Fin 256) :
    (outsAt0 m c t).1 (ix3 k s l) = dproj (P m c) (Y m c) (W m c) k s (chan t l) :=
  match k with
  | 0 => out6_0 m c t 0 rfl s l
  | 1 => out6_1 m c t 1 rfl s l
  | 2 => out6_2 m c t 2 rfl s l
  | 3 => out6_3 m c t 3 rfl s l

/-- The buffer of the taps' gradients. -/
theorem out7_eq (r : Fin 8) (l : Fin 256) :
    (outsAt0 m c t).2 (ix2 r l) = dtap (P m c) (Y m c) r (chan t l) := by
  unfold outsAt0
  frame_out
  by_cases h1 : r.val = 1
  · refine (canon_row _ _ _ _ _ h1).trans ?_
    obtain rfl : r = 1 := Fin.ext h1
    exact pay23_at (rd0 m c t l) (rd1 m c t l) (rd2 m c t l) (rd3 m c t l) (rd4 m c t l)
  refine (canon_row_ne _ _ _ _ _ h1).trans ?_
  by_cases h0 : r.val = 0
  · refine (canon_row _ _ _ _ _ h0).trans ?_
    obtain rfl : r = 0 := Fin.ext h0
    exact pay21_at (rd0 m c t l) (rd1 m c t l) (rd2 m c t l) (rd3 m c t l) (rd4 m c t l)
  refine (canon_row_ne _ _ _ _ _ h0).trans ?_
  by_cases h2 : r.val = 2
  · refine (canon_row _ _ _ _ _ h2).trans ?_
    obtain rfl : r = 2 := Fin.ext h2
    exact pay20_at (rd0 m c t l) (rd1 m c t l) (rd2 m c t l) (rd3 m c t l) (rd4 m c t l)
  refine (canon_row_ne _ _ _ _ _ h2).trans ?_
  refine (congrFun (View.canon_cons_unit_lit _ _ _ (by decide)) _).trans ?_
  rw [pay19_at]
  match r, h0, h1, h2 with
  | 3, _, _, _ => rfl
  | 4, _, _, _ => rfl
  | 5, _, _, _ => rfl
  | 6, _, _, _ => rfl
  | 7, _, _, _ => rfl

end Cert.Proof.ConvBwd

end
-- ==== Proof.ConvBwd.Array.lean ====
/-
  The kernel's two result arrays after its run, assembled from their sixteen blocks of 256 channels.
-/
module

public import proofs.«01_k».proof.Proof.ConvBwd.Block
public import Idealize.ShloMosaic.Lib.Pipeline.ValueKit.Geometry

@[expose] public section

noncomputable section

namespace Cert.Proof.ConvBwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the four projections as an array. -/
def DPROJ (p : Proj.Idx → EReal) (y : Act.Idx → EReal) (w : Taps.Idx → EReal) : Proj.Idx → EReal :=
  fun i => dproj p y w (i 0) (i 1) (i 2)

/-- The gradient of the taps as an array. -/
def DTAP (p : Proj.Idx → EReal) (y : Act.Idx → EReal) : TapGrads.Idx → EReal :=
  fun i => dtap p y (i 0) (i 1)

theorem emb6 (t : Fin cfg0.N) (k : Fin 4) (s : Fin 2048) (l : Fin 256) :
    (win0_6.blk t).view.emb (ix3 k s l) = (ix3 k s (chan t l) : S4x2048x4096.Idx) := by
  blk_ext [idx6 t, chan]

theorem emb7 (t : Fin cfg0.N) (r : Fin 8) (l : Fin 256) :
    (win0_7.blk t).view.emb (ix2 r l) = (ix2 r (chan t l) : S8x4096.Idx) := by
  blk_ext [idx7 t, chan]

theorem at6 (t : Fin cfg0.N) (z : S4x2048x256.Idx) :
    (outsAt0 m c t).1 z = DPROJ (P m c) (Y m c) (W m c) ((win0_6.blk t).view.emb z) := by
  obtain ⟨k, s, l, rfl⟩ : ∃ k s l, z = ix3 k s l := ⟨z 0, z 1, z 2, by
    funext b; match b with | ⟨0, _⟩ => rfl | ⟨1, _⟩ => rfl | ⟨2, _⟩ => rfl⟩
  rw [out6_eq, emb6]
  rfl

theorem at7 (t : Fin cfg0.N) (z : S8x256.Idx) :
    (outsAt0 m c t).2 z = DTAP (P m c) (Y m c) ((win0_7.blk t).view.emb z) := by
  obtain ⟨r, l, rfl⟩ : ∃ r l, z = ix2 r l := ⟨z 0, z 1, by
    funext b; match b with | ⟨0, _⟩ => rfl | ⟨1, _⟩ => rfl⟩
  rw [out7_eq, emb7]
  rfl

/-- The array of the projections' gradient after the run. -/
theorem final6 : (dats m 0 c).arrAt 6 cfg0.N = DPROJ (P m c) (Y m c) (W m c) := by
  refine (dats m 0 c).arrAt_eq_of_covers 6 _ (by decide +kernel) fun t _ z => ?_
  blk_simp
  rw [after0_6]
  exact at6 m c t z

/-- The array of the taps' gradients after the run. -/
theorem final7 : (dats m 0 c).arrAt 7 cfg0.N = DTAP (P m c) (Y m c) := by
  refine (dats m 0 c).arrAt_eq_of_covers 7 _ (by decide +kernel) fun t _ z => ?_
  blk_simp
  rw [after0_7]
  exact at7 m c t z

end Cert.Proof.ConvBwd

end
-- ==== Proof.ConvBwd.Pads.lean ====
/-
  Zero padding along the first axis, read at an index.
-/
module

public import Idealize.ShloMosaic.Lib.Pointwise
public import Idealize.ShloMosaic.Lib.KernelVsHost

@[expose] public section

noncomputable section

namespace Cert.Proof

open Idealize.ShloMosaic

variable {α : Type}

/-- A matrix with `lo` rows put before it and `hi` after it, read at row `t`. -/
theorem pad_rows_apply {m M n lo hi : Nat} (x : (⟨2, ![m, n]⟩ : Shape).Idx → α) {u : Shape} (v : u.Idx → α)
    (h : (⟨2, ![m, n]⟩ : Shape).Pads ![lo, 0] ![hi, 0] ![0, 0] ⟨2, ![M, n]⟩) (hu : 0 < u.numel) (t : Fin M) (e : Fin n) :
    pad (⟨2, ![M, n]⟩ : Shape) ![lo, 0] ![hi, 0] ![0, 0] x v h hu (ix2 t e)
      = if h : lo ≤ t.val ∧ t.val - lo < m then x (ix2 ⟨t.val - lo, h.2⟩ e) else v (Shape.Idx.first hu) := by
  by_cases hin : lo ≤ t.val ∧ t.val - lo < m
  · rw [dif_pos hin]
    refine pad_apply_of_inside _ _ _ x v h hu _ _ fun a => ?_
    match a with
    | ⟨0, _⟩ => show t.val = lo + (t.val - lo) * (0 + 1); omega
    | ⟨1, _⟩ => show e.val = 0 + e.val * (0 + 1); omega
  · rw [dif_neg hin]
    refine pad_apply_of_not_inside _ _ _ x v h hu _ 0 fun hh => hin ?_
    have h1 : lo ≤ t.val := hh.1
    have h2 : (t.val - lo) / (0 + 1) < m := hh.2.2
    rw [Nat.zero_add, Nat.div_one] at h2
    exact ⟨h1, h2⟩

/-- One plane put at place `lo` of a stack, zeros elsewhere, read at plane `k`. -/
theorem pad_plane_apply {K m n lo hi : Nat} (x : (⟨3, ![1, m, n]⟩ : Shape).Idx → α) {u : Shape} (v : u.Idx → α)
    (h : (⟨3, ![1, m, n]⟩ : Shape).Pads ![lo, 0, 0] ![hi, 0, 0] ![0, 0, 0] ⟨3, ![K, m, n]⟩) (hu : 0 < u.numel)
    (k : Fin K) (t : Fin m) (e : Fin n) :
    pad (⟨3, ![K, m, n]⟩ : Shape) ![lo, 0, 0] ![hi, 0, 0] ![0, 0, 0] x v h hu (ix3 k t e)
      = if k.val = lo then x (ix3 0 t e) else v (Shape.Idx.first hu) := by
  by_cases hin : k.val = lo
  · rw [if_pos hin]
    refine pad_apply_of_inside _ _ _ x v h hu _ _ fun a => ?_
    match a with
    | ⟨0, _⟩ => show k.val = lo + 0 * (0 + 1); omega
    | ⟨1, _⟩ => show t.val = 0 + t.val * (0 + 1); omega
    | ⟨2, _⟩ => show e.val = 0 + e.val * (0 + 1); omega
  · rw [if_neg hin]
    refine pad_apply_of_not_inside _ _ _ x v h hu _ 0 fun hh => hin ?_
    have h1 : lo ≤ k.val := hh.1
    have h2 : (k.val - lo) / (0 + 1) < 1 := hh.2.2
    rw [Nat.zero_add, Nat.div_one] at h2
    omega

end Cert.Proof

end
-- ==== Proof.ConvBwd.Ref.lean ====
/-
  The reference, the reverse-mode gradient of the gated causal convolution, read at an index.
-/
module

public import proofs.«01_k».proof.Proof.Gen.ReferenceIdeal.Read
public import proofs.«01_k».proof.Proof.ConvBwd.Spec
public import proofs.«01_k».proof.Proof.ConvBwd.Pads

@[expose] public section

noncomputable section

namespace Cert.Proof.ConvBwd

open Cert.ReferenceIdeal Cert.ReferenceIdeal.Gen Cert.ReferenceIdeal.Read Idealize.ShloMosaic

variable (x0 : Proj.Idx → EReal) (x1 : Act.Idx → EReal) (x2 : Taps.Idx → EReal)

theorem add_rotate_right (a b c : EReal) : a + b + c = c + a + b := by ac_rfl

theorem v2_at (t : Fin 2048) (e : Fin 4096) : val_main_v2 (F := Ideal) x0 (ix2 t e) = x0 (ix3 0 t e) := by
  pointwise [val_main_v2, val_main_v1, val_main_v0]

theorem v4_at (t : Fin 2048) (e : Fin 4096) : val_main_v4 (F := Ideal) x0 (ix2 t e) = x0 (ix3 1 t e) := by
  pointwise [val_main_v4, val_main_v3, val_main_v0]

theorem v6_at (t : Fin 2048) (e : Fin 4096) : val_main_v6 (F := Ideal) x0 (ix2 t e) = x0 (ix3 2 t e) := by
  pointwise [val_main_v6, val_main_v5, val_main_v0]

theorem v8_at (t : Fin 2048) (e : Fin 4096) : val_main_v8 (F := Ideal) x0 (ix2 t e) = x0 (ix3 3 t e) := by
  pointwise [val_main_v8, val_main_v7, val_main_v0]

theorem v9_at (t : Fin 2048) (e : Fin 4096) : val_main_v9 (F := Ideal) x0 (ix2 t e) = cu x0 e t := by
  rw [val_main_v9_apply, v4_at, v6_at]; rfl

/-- The convolution's input with two rows of zeros in front. -/
theorem v11_at (s : Fin 2050) (e : Fin 4096) : val_main_v11 (F := Ideal) x0 (ix2 s e)
    = if h : 2 ≤ s.val then cu x0 e ⟨s.val - 2, by omega⟩ else 0 := by
  pointwise [val_main_v11, val_main_v10, val_main_cst, v9_at]
  by_cases h : 2 ≤ s.val
  · rw [dif_neg (by omega), dif_pos h]
  · rw [dif_pos (by omega), dif_neg h]

theorem v15_at (t : Fin 2048) (e : Fin 4096) : val_main_v15 (F := Ideal) x0 (ix2 t e) = down 2 (cu x0 e) t := by
  pointwise [val_main_v15, v11_at]
  rfl

theorem v23_at (t : Fin 2048) (e : Fin 4096) : val_main_v23 (F := Ideal) x0 (ix2 t e) = down 1 (cu x0 e) t := by
  pointwise [val_main_v23, v11_at]
  unfold down
  by_cases h : 1 ≤ t.val
  · rw [dif_pos (by omega), if_pos h]; congr 1; apply Fin.ext; show 1 + t.val - 2 = t.val - 1; omega
  · rw [dif_neg (by omega), if_neg h]

theorem v30_at (t : Fin 2048) (e : Fin 4096) : val_main_v30 (F := Ideal) x0 (ix2 t e) = cu x0 e t := by
  pointwise [val_main_v30, v11_at]

theorem v34_at (t : Fin 2048) (e : Fin 4096) : val_main_v34 (F := Ideal) x0 x2 (ix2 t e) = cv x0 x2 e t := by
  pointwise [val_main_v34, val_main_v33, val_main_v32, val_main_v31, val_main_v29, val_main_v28, val_main_v27,
    val_main_v26, val_main_v25, val_main_v24, val_main_v22, val_main_v21, val_main_v20, val_main_v19, val_main_cst_1,
    val_main_v18, val_main_v17, val_main_v16, val_main_v14, val_main_v13, v15_at, v23_at, v30_at]
  exact add_rotate_right _ _ _

/-- The reference's logistic function, a quotient, is the kernel's. -/
theorem v36_2_at (t : Fin 2048) (e : Fin 4096) : val_main_v36_2 (F := Ideal) x0 (ix2 t e) = sg x0 e t := by
  pointwise [val_main_v36_2, val_main_call0_v4, val_main_call0_v3, val_main_call0_v2, val_main_call0_v1, val_main_call0_v0,
    val_main_call0_cst, val_main_call0_cst_0, v8_at]
  rfl

theorem v36_1_at (t : Fin 2048) (e : Fin 4096) : val_main_v36_1 (F := Ideal) x0 (ix2 t e) = sg x0 e t * (1 - sg x0 e t) := by
  pointwise [val_main_v36_1, val_main_call0_v7, val_main_call0_v6, val_main_call0_cst_1, v36_2_at]

theorem v36_0_at (t : Fin 2048) (e : Fin 4096) : val_main_v36_0 (F := Ideal) x0 (ix2 t e) = x0 (ix3 3 t e) * sg x0 e t := by
  pointwise [val_main_v36_0, v36_2_at, v8_at]

theorem v40_at (t : Fin 2048) (e : Fin 4096) :
    val_main_v40 (F := Ideal) x0 x1 (ix2 t e) = x1 (ix2 t e) * (x0 (ix3 3 t e) * sg x0 e t) := by
  pointwise [val_main_v40, val_main_v38, v36_0_at]

theorem v42_at (t : Fin 2048) (e : Fin 4096) : val_main_v42 (F := Ideal) x0 x1 (ix2 t e) = du x0 x1 e t := by
  pointwise [val_main_v42, v40_at, v2_at]
  unfold du
  ac_rfl

theorem v43_at (t : Fin 2048) (e : Fin 4096) : val_main_v43 (F := Ideal) x0 x1 x2 (ix2 t e) = dgate x0 x1 x2 e t := by
  pointwise [val_main_v43, v40_at, v34_at]
  unfold dgate
  ac_rfl

/-- The gradient with respect to silu's argument as the reference sums it: the factor's own gradient and the logistic's. -/
theorem v41_at (t : Fin 2048) (e : Fin 4096) : val_main_v41 (F := Ideal) x0 x1 x2 (ix2 t e)
    = (x1 (ix2 t e) * x0 (ix3 0 t e) * cv x0 x2 e t) * sg x0 e t
      + x0 (ix3 3 t e) * (x1 (ix2 t e) * x0 (ix3 0 t e) * cv x0 x2 e t) * (sg x0 e t * (1 - sg x0 e t)) := by
  pointwise [val_main_v41, val_main_call1_v2, val_main_call1_v1, val_main_call1_v0, val_main_v39, val_main_v38,
    val_main_v35, v8_at, v36_1_at, v36_2_at, v34_at, v2_at]
  rw [show x0 (ix3 0 t e) * cv x0 x2 e t * x1 (ix2 t e) = x1 (ix2 t e) * x0 (ix3 0 t e) * cv x0 x2 e t by ac_rfl]

/-- The gradient of the padded input, row `s`: three moved copies of the output's gradient, each times its tap. -/
theorem v71_at (s : Fin 2050) (e : Fin 4096) : val_main_v71 (F := Ideal) x0 x1 x2 (ix2 s e)
    = ((if h : 2 ≤ s.val ∧ s.val - 2 < 2048 then x2 (ix2 2 e) * du x0 x1 e ⟨s.val - 2, h.2⟩ else 0)
      + (if h : 1 ≤ s.val ∧ s.val - 1 < 2048 then x2 (ix2 1 e) * du x0 x1 e ⟨s.val - 1, h.2⟩ else 0))
      + (if h : 0 ≤ s.val ∧ s.val - 0 < 2048 then x2 (ix2 0 e) * du x0 x1 e ⟨s.val - 0, h.2⟩ else 0) := by
  have h50 : val_main_v50 (F := Ideal) x0 x1 x2 (ix2 s e) = _ := pad_rows_apply _ _ _ _ s e
  have h59 : val_main_v59 (F := Ideal) x0 x1 x2 (ix2 s e) = _ := pad_rows_apply _ _ _ _ s e
  have h70 : val_main_v70 (F := Ideal) x0 x1 x2 (ix2 s e) = _ := pad_rows_apply _ _ _ _ s e
  rw [val_main_v71_apply, val_main_v60_apply, h50, h59, h70]
  pointwise [val_main_v45, val_main_v44, val_main_v31, val_main_v29, val_main_v28,
    val_main_v54, val_main_v53, val_main_v24, val_main_v22, val_main_v21,
    val_main_v65, val_main_v64, val_main_v16, val_main_v14, val_main_v13, v42_at,
    val_main_cst_4, val_main_cst_8, val_main_cst_12]

theorem v76_at (t : Fin 2048) (e : Fin 4096) : val_main_v76 (F := Ideal) x0 x1 x2 (ix2 t e) = dcv x0 x1 x2 e t := by
  pointwise [val_main_v76, v71_at]
  unfold dcv up
  rw [add_right_comm]
  congr 1
  · congr 1
    by_cases h : t.val + 2 < 2048
    · rw [dif_pos (by omega), dif_pos h]
      congr 2; apply Fin.ext; show 2 + t.val = t.val + 2; omega
    · rw [dif_neg (by omega), dif_neg h, mul_zero]
  · by_cases h : t.val + 1 < 2048
    · rw [dif_pos (by omega), dif_pos h]
      congr 2; apply Fin.ext; show 2 + t.val - 1 = t.val + 1; omega
    · rw [dif_neg (by omega), dif_neg h, mul_zero]

/-- The reference's row `k` of the gradient with respect to the projections. -/
theorem v89_at (k : Fin 4) (t : Fin 2048) (e : Fin 4096) : val_main_v90 (F := Ideal) x0 x1 x2 (ix3 k t e)
    = (((if k.val = 3 then val_main_v41 (F := Ideal) x0 x1 x2 (ix2 t e) else 0)
        + (if k.val = 2 then dcv x0 x1 x2 e t * x0 (ix3 1 t e) else 0))
        + (if k.val = 1 then dcv x0 x1 x2 e t * x0 (ix3 2 t e) else 0))
        + (if k.val = 0 then dgate x0 x1 x2 e t else 0) := by
  have h80 : val_main_v80 (F := Ideal) x0 x1 x2 (ix3 k t e) = _ := pad_plane_apply _ _ _ _ k t e
  have h82 : val_main_v82 (F := Ideal) x0 x1 x2 (ix3 k t e) = _ := pad_plane_apply _ _ _ _ k t e
  have h85 : val_main_v85 (F := Ideal) x0 x1 x2 (ix3 k t e) = _ := pad_plane_apply _ _ _ _ k t e
  have h88 : val_main_v88 (F := Ideal) x0 x1 x2 (ix3 k t e) = _ := pad_plane_apply _ _ _ _ k t e
  rw [val_main_v90_apply, val_main_v89_apply, val_main_v86_apply, val_main_v83_apply, h80, h82, h85, h88]
  pointwise [val_main_v79, val_main_v81, val_main_v84, val_main_v87, val_main_v77, val_main_v78, v4_at, v6_at, v76_at,
    v43_at, val_main_cst_14, val_main_cst_15, val_main_cst_16, val_main_cst_17]
  rw [mul_comm (dcv x0 x1 x2 e t) (x0 (ix3 1 t e))]

theorem v49_at (e : Fin 4096) : val_main_v49 (F := Ideal) x0 x1 (ix1 e) = ∑ t, du x0 x1 e t * cu x0 e t := by
  pointwise [val_main_v49, val_main_v48, val_main_v47, val_main_v46, val_main_cst_2, val_main_cst_3, v42_at, v30_at]
  exact Fin.sum_univ_one _

theorem v58_at (e : Fin 4096) : val_main_v58 (F := Ideal) x0 x1 (ix1 e) = ∑ t, du x0 x1 e t * down 1 (cu x0 e) t := by
  pointwise [val_main_v58, val_main_v57, val_main_v56, val_main_v55, val_main_cst_6, val_main_cst_7, v42_at, v23_at]
  exact Fin.sum_univ_one _

theorem v69_at (e : Fin 4096) : val_main_v69 (F := Ideal) x0 x1 (ix1 e) = ∑ t, du x0 x1 e t * down 2 (cu x0 e) t := by
  pointwise [val_main_v69, val_main_v68, val_main_v67, val_main_v66, val_main_cst_10, val_main_cst_11, v42_at, v15_at]
  exact Fin.sum_univ_one _

theorem v74_at (r : Fin 3) (e : Fin 4096) : val_main_v74 (F := Ideal) x0 x1 (ix2 r e)
    = dtap x0 x1 ⟨r.val, by omega⟩ e := by
  have h52 : val_main_v52 (F := Ideal) x0 x1 (ix2 r e) = _ := pad_rows_apply _ _ _ _ r e
  have h62 : val_main_v62 (F := Ideal) x0 x1 (ix2 r e) = _ := pad_rows_apply _ _ _ _ r e
  have h73 : val_main_v73 (F := Ideal) x0 x1 (ix2 r e) = _ := pad_rows_apply _ _ _ _ r e
  rw [val_main_v74_apply, val_main_v63_apply, h52, h62, h73]
  pointwise [val_main_v51, val_main_v61, val_main_v72, v49_at, v58_at, v69_at, val_main_cst_5, val_main_cst_9, val_main_cst_13]
  fin_cases r <;> simp [dtap]

/-- The reference's second result: the taps' gradients, five rows of zeros after them. -/
theorem v91_at (r : Fin 8) (e : Fin 4096) : val_main_v91 (F := Ideal) x0 x1 (ix2 r e) = dtap x0 x1 r e := by
  have h91 : val_main_v91 (F := Ideal) x0 x1 (ix2 r e) = _ := pad_rows_apply _ _ _ _ r e
  rw [h91]
  pointwise [v74_at, val_main_call2_v0, val_main_c]
  by_cases h : r.val < 3
  · rw [dif_pos h]
  · rw [dif_neg h]
    have h0 : (FloatOps.sitofp (F := Ideal) FTy.f32 0#32 : EReal) = 0 := by
      show (((0#32).toInt : ℝ) : EReal) = 0
      norm_num
    refine h0.trans ?_
    fin_cases r <;> first | rfl | exact absurd (by decide) h

end Cert.Proof.ConvBwd

end
-- ==== Proof.ConvBwd.Finite.lean ====
/-
  The precondition read element by element, and the one law of arithmetic that needs it: the two ways of writing the
  gradient of silu agree at a finite cotangent.
-/
module

public import proofs.«01_k».proof.Proof.ConvBwd.Ref
public import proofs.«01_k».proof.Pre_gated_operands_finite
public import Idealize.ShloMosaic.Lib.ReduceAll
public import Idealize.ShloMosaic.Lib.WordCmp

@[expose] public section

noncomputable section

namespace Cert.Proof.ConvBwd

open Idealize.ShloMosaic

/-- The side conditions of the precondition's own operations. -/
theorem preFacts : Cert.Pre_gated_operands_finite.Facts :=
  { slices_S4x2048x4096_S3x2048x4096_0_0_0 := by decide
    bitsLt_bf16_f32 := by decide
    bcast_S_S3x2048x4096 := by decide
    reducesTo_S3x2048x4096_S_d0_1_2 := by decide
    h_S_ := by decide
    bcast_S_S2048x4096 := by decide
    reducesTo_S2048x4096_S_d0_1 := by decide
    bcast_S_S3x4096 := by decide
    reducesTo_S3x4096_S_d0_1 := by decide }

/-- The test `|x| < ∞` met is that `x` is a real number. -/
theorem real_of_olt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | coe r => exact ⟨r, rfl⟩
  | top => simp [Ideal.cmp] at h'

variable {p : Proj.Idx → EReal} {y : Act.Idx → EReal} {w : Taps.Idx → EReal}

/-- What the precondition says of the argument arrays. -/
theorem finite_of_pre [Cert.Pre_gated_operands_finite.Facts] (h : Cert.Pre_gated_operands_finite.fn (F := Ideal) p y w = fun _ => 1#1) :
    (∀ (k : Fin 4) (t : Fin 2048) (e : Fin 4096), k.val < 3 → ∃ r : ℝ, p (ix3 k t e) = (r : EReal))
      ∧ (∀ (t : Fin 2048) (e : Fin 4096), ∃ r : ℝ, y (ix2 t e) = (r : EReal))
      ∧ (∀ (k : Fin 3) (e : Fin 4096), ∃ r : ℝ, w (ix2 k e) = (r : EReal)) := by
  have h0 := congrFun h ix0
  dsimp only [Cert.Pre_gated_operands_finite.fn] at h0
  obtain ⟨h1, hw⟩ := IntOp.andi_eq_one.mp h0
  obtain ⟨hp, hy⟩ := IntOp.andi_eq_one.mp h1
  refine ⟨fun k t e hk => ?_, fun t e => ?_, fun k e => ?_⟩
  · have := Host.reduce_andi_all _ _ _ _ _ hp (ix3 ⟨k.val, hk⟩ t e)
    obtain ⟨r, hr⟩ := real_of_olt _ this
    refine ⟨r, Eq.trans ?_ hr⟩
    pointwise
  · have := Host.reduce_andi_all _ _ _ _ _ hy (ix2 t e)
    exact real_of_olt _ this
  · have := Host.reduce_andi_all _ _ _ _ _ hw (ix2 k e)
    exact real_of_olt _ this

/-- Silu's gradient summed from its two factors' gradients, and factored, at a finite cotangent. -/
theorem silu_grad (r : ℝ) (x : EReal) :
    (r : EReal) * Ideal.logistic x + x * (r : EReal) * (Ideal.logistic x * (1 - Ideal.logistic x))
      = (r : EReal) * (Ideal.logistic x * (1 + x * (1 - Ideal.logistic x))) := by
  induction x with
  | bot => rw [Ideal.logistic_bot]; simp
  | top =>
    rw [Ideal.logistic_top]
    have h : (1 : EReal) - 1 = 0 := by rw [← EReal.coe_one, ← EReal.coe_sub, sub_self, EReal.coe_zero]
    rw [h]; simp
  | coe a =>
    rw [Ideal.logistic_coe]
    generalize ((1 + Real.exp (-a))⁻¹ : ℝ) = q
    norm_cast
    ring

theorem down_real {k : Nat} {f : Fin 2048 → EReal} (hf : ∀ t, ∃ r : ℝ, f t = (r : EReal)) (t : Fin 2048) :
    ∃ r : ℝ, down k f t = (r : EReal) := by
  unfold down
  split_ifs
  · exact hf _
  · exact ⟨0, EReal.coe_zero.symm⟩

theorem mul_real {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul _ _).symm⟩

theorem add_real {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add _ _).symm⟩

/-- The reference's gradient of the projections is the kernel's. -/
theorem ref_eq [Cert.Pre_gated_operands_finite.Facts]
    (h : Cert.Pre_gated_operands_finite.fn (F := Ideal) p y w = fun _ => 1#1) (k : Fin 4) (t : Fin 2048) (e : Fin 4096) :
    Cert.ReferenceIdeal.Read.val_main_v90 (F := Ideal) p y w (ix3 k t e) = dproj p y w k t e := by
  obtain ⟨hp, hy, hw⟩ := finite_of_pre h
  have hcu : ∀ s, ∃ r : ℝ, cu p e s = (r : EReal) := fun s => mul_real (hp 1 s e (by decide)) (hp 2 s e (by decide))
  have hcv : ∃ r : ℝ, cv p w e t = (r : EReal) :=
    add_real (add_real (mul_real (hw 2 e) (hcu t)) (mul_real (hw 0 e) (down_real hcu t))) (mul_real (hw 1 e) (down_real hcu t))
  rw [v89_at]
  match k with
  | 0 => simp [dproj]
  | 1 => simp [dproj]
  | 2 => simp [dproj]
  | 3 =>
    obtain ⟨r, hr⟩ := mul_real (mul_real (hy t e) (hp 0 t e (by decide))) hcv
    have h41 := v41_at p y w t e
    rw [hr] at h41
    have hs := silu_grad r (p (ix3 3 t e))
    simp only [dproj, dsilu]
    rw [hr, sg, ← hs]
    simpa [sg] using h41

end Cert.Proof.ConvBwd

end
-- ==== Proof.Product.Index.lean ====
/-
  Indices of matrices and of stacked matrices, compared by their numbers.
-/
module

public import Idealize.ShloMosaic.Lib.Pointwise
public import Idealize.ShloMosaic.Lib.Pipeline.Value
public import Idealize.ShloMosaic.Lib.Pipeline.ValueKit.Point
public import Idealize.ShloMosaic.Lib.Pipeline.ValueKit.Tiles
public import Idealize.ShloMosaic.Lib.Pipeline.ValueKit.Acc
public import Idealize.ShloMosaic.Lib.Pipeline.ValueKit.Geometry
public import Idealize.ShloMosaic.Lib.StableHlo.ReadAt

@[expose] public section

namespace Cert.Proof

open Idealize.ShloMosaic

/-- A matrix's index from equal numbers. -/
theorem ix2_val {a b : ℕ} {i i' : Fin a} {j j' : Fin b} (hi : i.val = i'.val) (hj : j.val = j'.val) :
    ix2 i j = ix2 i' j' := by
  rw [Fin.ext hi, Fin.ext hj]

/-- A stack's index from equal numbers. -/
theorem ix3_val {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

/-- A matrix's index is made of two numbers. -/
theorem exists_ix2 {a b : ℕ} (z : (Shape.mk 2 ![a, b]).Idx) : ∃ (i : Fin a) (j : Fin b), z = ix2 i j :=
  ⟨z 0, z 1, by funext x; match x with | ⟨0, _⟩ => rfl | ⟨1, _⟩ => rfl⟩

/-- A stack's index is made of three numbers. -/
theorem exists_ix3 {a b c : ℕ} (z : (Shape.mk 3 ![a, b, c]).Idx) : ∃ (i : Fin a) (j : Fin b) (k : Fin c), z = ix3 i j k :=
  ⟨z 0, z 1, z 2, by funext x; match x with | ⟨0, _⟩ => rfl | ⟨1, _⟩ => rfl | ⟨2, _⟩ => rfl⟩

end Cert.Proof
-- ==== Proof.Product.InputGrad1.lean ====
/-
  The gradient of the second layer's projections in their input: the kernel's accumulated product and the reference's.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Product.Index

@[expose] public section

noncomputable section

namespace Cert.Proof.InputGrad1

open Cert.Kernel2Ideal Cert.Kernel2Ideal.Gen Idealize.ShloMosaic Idealize.ShloMosaic.TcCoe Idealize.SL.Sem

/-- The gradient at a token and a feature: the projections' cotangents at the token against the weight's row of the feature. -/
def dh (w : S2048x8192.Idx → EReal) (p : S2x2048x4096.Idx → EReal) (s n : Fin 2048) : EReal :=
  ∑ l : Fin 8192, p (ix3 ⟨l.val / 4096, by omega⟩ s ⟨l.val % 4096, by omega⟩) * w (ix2 n l)

variable (m : (ℓ : Loc nD τ sig) → Buf (Elt Ideal) ℓ) (c : Dev nD)

/-- The weight. -/
abbrev W : S2048x8192.Idx → EReal := m ((c : Thread nD τ).loc main_arg0)
/-- The projections' cotangents. -/
abbrev P : S2x2048x4096.Idx → EReal := m ((c : Thread nD τ).loc main_arg1)

/-! ## The blocks at a grid point -/

theorem idx0 : ∀ t : Fin cfg0.N, win0_0.index t = ![t.val % 8 / 4, 0, t.val % 4] := (by decide +kernel : ∀ t : Fin grid0.N, _)
theorem idx1 : ∀ t : Fin cfg0.N, win0_1.index t = ![t.val % 8, t.val / 8, 0] := (by decide +kernel : ∀ t : Fin grid0.N, _)
theorem idx2 : ∀ t : Fin cfg0.N, win0_2.index t = ![0, t.val / 8] := (by decide +kernel : ∀ t : Fin grid0.N, _)

/-- The weight as the exchange gathers it. -/
theorem gathered (a : Fin 8) (n : Fin 2048) (k : Fin 1024) :
    V m c main_v2 (ix3 a n k) = W m c (ix2 n ⟨a.val * 1024 + k.val, by omega⟩) := by
  unfold V
  after_reads_at

/-- The first operand's block at a point. -/
theorem rd0 (t : Fin cfg0.N) (s : Fin 2048) (k : Fin 1024) :
    iblk m c 0 t (ix3 0 s k) = P m c (ix3 ⟨t.val % 8 / 4, by omega⟩ s ⟨t.val % 4 * 1024 + k.val, by omega⟩) := by
  unfold P
  rw [← V_main_arg1 m c]
  blk_point [iblk, idx0 t]

/-- The second operand's block at a point. -/
theorem rd1 (t : Fin cfg0.N) (n k : Fin 1024) :
    iblk m c 1 t (ix3 0 n k) = V m c main_v2 (ix3 ⟨t.val % 8, by omega⟩ ⟨t.val / 8 * 1024 + n.val, by have := t.isLt; have : cfg0.N = 16 := rfl; omega⟩ k) := by
  blk_point [iblk, idx1 t]

/-- The product of two blocks, the second transposed. -/
def part (a : S1x2048x1024.Idx → EReal) (b : S1x1024x1024.Idx → EReal) (s : Fin 2048) (n : Fin 1024) : EReal :=
  ∑ k : Fin 1024, a (ix3 0 s k) * b (ix3 0 n k)

/-- One step of the accumulation. -/
theorem pay2_at (acc : S2048x1024.Idx → EReal) (a : S1x2048x1024.Idx → EReal) (b : S1x1024x1024.Idx → EReal) (s : Fin 2048) (n : Fin 1024) :
    k0_pay2 (F := Ideal) acc a b (ix2 s n) = acc (ix2 s n) + part a b s n := by
  unfold part
  pointwise [k0_pay2]

/-- The accumulator's start. -/
theorem pay1_at (j : S2048x1024.Idx) : k0_pay1 (F := Ideal) j = 0 := by
  pointwise [k0_pay1]

/-- The accumulator at the last point of a column of blocks: the sum of the eight products. -/
theorem acc_at (t : Fin cfg0.N) (h : t.val % 8 = 7) (s : Fin 2048) (n : Fin 1024) :
    (outsAt0 m c t.val t.isLt).2 (ix2 s n) = ∑ q : Fin 8,
      part (iblk m c 0 ⟨8 * (t.val / 8) + q.val, by have := t.isLt; have : cfg0.N = 16 := rfl; omega⟩)
        (iblk m c 1 ⟨8 * (t.val / 8) + q.val, by have := t.isLt; have : cfg0.N = 16 := rfl; omega⟩) s n := by
  rw [Pipeline.eq_sum_fin_of_reset_step_apply_of_flush (fun n h => (outsAt0 m c n h).2) 8 (fun _ => 0)
    (fun t j => part (iblk m c 0 t) (iblk m c 1 t) (j 0) (j 1))
    (fun t h j => by
      have h1 : ¬ t.val % 8 = 7 := by omega
      obtain ⟨s, n, rfl⟩ := exists_ix2 (a := 2048) (b := 1024) j
      rw [outsAt0_A m c t h h1]; frame_out; rw [pay2_at, pay1_at]; rfl)
    (fun t h j => by
      obtain ⟨s, n, rfl⟩ := exists_ix2 (a := 2048) (b := 1024) j
      by_cases h1 : t.val % 8 = 7
      · rw [outsAt0_C m c t h h1]; frame_out; rw [pay2_at, (Memref.isWhole_whole _).read_unread]; rfl
      · rw [outsAt0_B m c t h h1]; frame_out; rw [pay2_at, (Memref.isWhole_whole _).read_unread]; rfl)
    t h (ix2 s n), zero_add]
  rfl

/-- At that point the block written back is the accumulator. -/
theorem out_eq (t : Fin cfg0.N) (h : t.val % 8 = 7) (s : Fin 2048) (n : Fin 1024) :
    (outsAt0 m c t.val t.isLt).1 (ix2 s n) = (outsAt0 m c t.val t.isLt).2 (ix2 s n) := by
  rw [outsAt0_C m c t (by omega) h]; frame_out
  pointwise [k0_pay3]

/-- The block written back, over the arrays. -/
theorem out_at (t : Fin cfg0.N) (h : t.val % 8 = 7) (s : Fin 2048) (n : Fin 1024) :
    (outsAt0 m c t.val t.isLt).1 (ix2 s n)
      = dh (W m c) (P m c) s ⟨t.val / 8 * 1024 + n.val, by have := t.isLt; have : cfg0.N = 16 := rfl; omega⟩ := by
  have hN : cfg0.N = 16 := rfl
  have ht := t.isLt
  rw [out_eq m c t h, acc_at m c t h]
  unfold part dh
  refine Fin.sum_mul_add_congr fun q k hl => ?_
  rw [rd0, rd1, gathered]
  congr 2
  · refine ix3_val ?_ rfl ?_
    · show (8 * (t.val / 8) + q.val) % 8 / 4 = (q.val * 1024 + k.val) / 4096; omega
    · show (8 * (t.val / 8) + q.val) % 4 * 1024 + k.val = (q.val * 1024 + k.val) % 4096; omega
  · refine ix2_val ?_ ?_
    · show (8 * (t.val / 8) + q.val) / 8 * 1024 + n.val = t.val / 8 * 1024 + n.val; omega
    · show (8 * (t.val / 8) + q.val) % 8 * 1024 + k.val = q.val * 1024 + k.val; omega

/-- Where the block lies in the array. -/
theorem emb2 (t : Fin cfg0.N) (s : Fin 2048) (n : Fin 1024) :
    (win0_2.blk t).view.emb (ix2 s n)
      = (ix2 s ⟨t.val / 8 * 1024 + n.val, by have := t.isLt; have : cfg0.N = 16 := rfl; omega⟩ : S2048x2048.Idx) := by
  blk_ext [idx2 t]

/-- The gradient as an array. -/
def DH (w : S2048x8192.Idx → EReal) (p : S2x2048x4096.Idx → EReal) : S2048x2048.Idx → EReal := fun i => dh w p (i 0) (i 1)

/-- The block written back is the gradient's. -/
theorem at2 (t : Fin cfg0.N) (h : t.val % 8 = 7) (z : S2048x1024.Idx) :
    (outsAt0 m c t.val t.isLt).1 z = DH (W m c) (P m c) ((win0_2.blk t).view.emb z) := by
  obtain ⟨s, n, rfl⟩ := exists_ix2 (a := 2048) (b := 1024) z
  rw [out_at m c t h, emb2]
  rfl

/-- The kernel's array after its run. -/
theorem final2 : (dats m 0 c).arrAt 2 cfg0.N = DH (W m c) (P m c) := by
  refine (dats m 0 c).arrAt_eq_of_covers 2 _ (by decide +kernel) fun t hf z => ?_
  blk_simp
  rw [after0_2]
  exact at2 m c t ((flush0_2 t).mp hf) z

open Cert.Reference2Ideal.Read in
/-- The reference's array. -/
theorem ref_at (w : S2048x8192.Idx → EReal) (p : S2x2048x4096.Idx → EReal) (s n : Fin 2048) :
    val_main_v7 (F := Ideal) w p (ix2 s n) = dh w p s n := by
  pointwise [val_main_v7, val_main_v6]
  unfold dh
  refine Fin.sum_fin_congr fun l => ?_
  congr 1
  pointwise [val_main_v5, val_main_v4, val_main_v3, val_main_v2, val_main_v1, val_main_v0]
  split
  · exact congrArg p (ix3_val (by show 0 = l.val / 4096; omega) rfl (by show l.val = l.val % 4096; omega))
  · exact congrArg p (ix3_val (by show 1 = l.val / 4096; omega) rfl (by show l.val - 4096 = l.val % 4096; omega))

/-- The kernel's result is the reference's. -/
theorem value : algebraic_Kernel2Ideal_Reference2Ideal (hKernel2Ideal := Cert.Kernel2Ideal.Gen.facts)
    (hReference2Ideal := Cert.Reference2Ideal.Gen.facts) := by
  intro m g m' g' _ hag
  refine ⟨fun c => DH (W m c) (P m c), ?_, ?_⟩
  · exact (θ_run _ _ _).mono (fun r h c => ⟨(h c).1.trans (final2 m c), (h c).2⟩) (Cert.Kernel2Ideal.Value.run_blocks m g)
  · refine (θ_run _ _ _).mono (fun r h c => ⟨(h c).1.trans ?_, (h c).2⟩) (Cert.Reference2Ideal.Value.run m' g')
    rw [Cert.Reference2Ideal.Read.val_main_v7_eq, (hag c).1, (hag c).2]
    funext i
    exact (congrArg _ (ix2_eta i).symm).trans (ref_at (W m c) (P m c) (i 0) (i 1))

/-- The reference runs, its arguments end unchanged, and it has no semaphore to leave raised. -/
theorem refFrame : quiescent_Reference2Ideal (hReference2Ideal := Cert.Reference2Ideal.Gen.facts) := fun m g _ =>
  (θ_run _ _ _).mono (fun r h => ⟨fun c => (h c).2, funext fun s => by
    rcases s with ⟨_, s⟩; rcases s with s | s <;> exact s.elim0⟩) (Cert.Reference2Ideal.Value.run m g)

end Cert.Proof.InputGrad1

end
-- ==== Proof.Product.WeightGrad1.lean ====
/-
  The gradient of the second layer's projections in their weight: the kernel's product with the input transposed and kept, and the reference's.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Product.Index

@[expose] public section

set_option maxRecDepth 20000

noncomputable section

namespace Cert.Proof.WeightGrad1

open Cert.Kernel3Ideal Cert.Kernel3Ideal.Gen Idealize.ShloMosaic Idealize.ShloMosaic.TcCoe Idealize.SL.Sem

/-- The weight's gradient at a feature and a column of the joined projections: the input's feature against the column's cotangent, over the tokens. -/
def dw (h : S2048x2048.Idx → EReal) (p : S2x2048x4096.Idx → EReal) (d : Fin 2048) (l : Fin 8192) : EReal :=
  ∑ s : Fin 2048, h (ix2 s d) * p (ix3 ⟨l.val / 4096, by omega⟩ s ⟨l.val % 4096, by omega⟩)

variable (m : (ℓ : Loc nD τ sig) → Buf (Elt Ideal) ℓ) (c : Dev nD)

/-- The projections' input. -/
abbrev H : S2048x2048.Idx → EReal := m ((c : Thread nD τ).loc main_arg0)
/-- The projections' cotangents. -/
abbrev P : S2x2048x4096.Idx → EReal := m ((c : Thread nD τ).loc main_arg1)

/-! ## The blocks at a grid point -/

theorem idx0 : ∀ t : Fin cfg0.N, win0_0.index t = ![0, t.val / 8] := (by decide +kernel : ∀ t : Fin grid0.N, _)
theorem idx1 : ∀ t : Fin cfg0.N, win0_1.index t = ![t.val % 8 / 4, 0, t.val % 4] := (by decide +kernel : ∀ t : Fin grid0.N, _)
theorem idx2 : ∀ t : Fin cfg0.N, win0_2.index t = ![t.val % 8, t.val / 8, 0] := (by decide +kernel : ∀ t : Fin grid0.N, _)

/-- The input's block at a point. -/
theorem rd0 (t : Fin cfg0.N) (s : Fin 2048) (d : Fin 1024) :
    iblk m c 0 t (ix2 s d) = H m c (ix2 s ⟨t.val / 8 * 1024 + d.val, by have := t.isLt; have : cfg0.N = 16 := rfl; omega⟩) := by
  blk_point [iblk, idx0 t]

/-- The cotangents' block at a point. -/
theorem rd1 (t : Fin cfg0.N) (s : Fin 2048) (n : Fin 1024) :
    iblk m c 1 t (ix3 0 s n) = P m c (ix3 ⟨t.val % 8 / 4, by omega⟩ s ⟨t.val % 4 * 1024 + n.val, by omega⟩) := by
  blk_point [iblk, idx1 t]

/-- The kept block is the input's, transposed. -/
theorem pay1_at (a : S2048x1024.Idx → EReal) (d : Fin 1024) (s : Fin 2048) :
    k0_pay1 (F := Ideal) a (ix2 d s) = a (ix2 s d) := by
  pointwise [k0_pay1]

/-- One block of the result. -/
theorem pay2_at (a : S1024x2048.Idx → EReal) (b : S1x2048x1024.Idx → EReal) (d n : Fin 1024) :
    k0_pay2 (F := Ideal) a b (ix3 0 d n) = ∑ s : Fin 2048, a (ix2 d s) * b (ix3 0 s n) := by
  pointwise [k0_pay2]

/-- At a point that does not begin a row the scratch keeps what it held. -/
theorem kept_step (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  unfold sout0_B_0
  first | rfl | exact (Memref.isWhole_whole _).read_unread _

/-- What the scratch holds after a point: the transposed block of the input that all points of the row share. -/
theorem kept_at (n : ℕ) (hn : n < cfg0.N) (d : Fin 1024) (s : Fin 2048) :
    (outsAt0 m c n hn).2 (ix2 d s) = H m c (ix2 s ⟨n / 8 * 1024 + d.val, by have : cfg0.N = 16 := rfl; omega⟩) := by
  induction n with
  | zero =>
    rw [outsAt0_A m c ⟨0, hn⟩ (Nat.zero_mod 8)]; frame_out
    rw [pay1_at, rd0]
  | succ n ih =>
    by_cases h : (n + 1) % 8 = 0
    · rw [outsAt0_A m c ⟨n + 1, hn⟩ h]; frame_out
      rw [pay1_at, rd0]
    · rw [kept_step m c ⟨n + 1, hn⟩ h]
      refine (ih (by omega)).trans (congrArg (H m c) (ix2_val rfl ?_))
      show n / 8 * 1024 + d.val = (n + 1) / 8 * 1024 + d.val; omega

/-- The block a point writes, over the arrays. -/
theorem out_at (t : Fin cfg0.N) (d n : Fin 1024) :
    (outsAt0 m c t.val t.isLt).1 (ix3 0 d n)
      = dw (H m c) (P m c) ⟨t.val / 8 * 1024 + d.val, by have := t.isLt; have : cfg0.N = 16 := rfl; omega⟩ ⟨t.val % 8 * 1024 + n.val, by omega⟩ := by
  have e : (outsAt0 m c t.val t.isLt).1 (ix3 0 d n)
      = ∑ s : Fin 2048, (outsAt0 m c t.val t.isLt).2 (ix2 d s) * iblk m c 1 t (ix3 0 s n) := by
    by_cases h : t.val % 8 = 0
    · rw [outsAt0_A m c t h]; frame_out; rw [pay2_at]
    · rw [kept_step m c t h, outsAt0_B m c t h]; frame_out; rw [pay2_at, (Memref.isWhole_whole _).read_unread]
  rw [e]
  unfold dw
  refine Fin.sum_fin_congr fun s => ?_
  rw [kept_at, rd1]
  congr 2
  refine ix3_val ?_ rfl ?_
  · show t.val % 8 / 4 = (t.val % 8 * 1024 + n.val) / 4096; omega
  · show t.val % 4 * 1024 + n.val = (t.val % 8 * 1024 + n.val) % 4096; omega

/-- Where the block lies in the array. -/
theorem emb2 (t : Fin cfg0.N) (d n : Fin 1024) :
    (win0_2.blk t).view.emb (ix3 0 d n)
      = (ix3 ⟨t.val % 8, by omega⟩ ⟨t.val / 8 * 1024 + d.val, by have := t.isLt; have : cfg0.N = 16 := rfl; omega⟩ n : S8x2048x1024.Idx) := by
  blk_ext [idx2 t]

/-- The gradient as an array, cut by columns into one piece for each device. -/
def DW (h : S2048x2048.Idx → EReal) (p : S2x2048x4096.Idx → EReal) : S8x2048x1024.Idx → EReal := fun i =>
  dw h p (i 1) ⟨(i 0).val * 1024 + (i 2).val, by
    have h0 : (i 0).val < 8 := (i 0).isLt
    have h2 : (i 2).val < 1024 := (i 2).isLt
    omega⟩

/-- The block a point writes is the gradient's. -/
theorem at2 (t : Fin cfg0.N) (z : S1x1024x1024.Idx) :
    (outsAt0 m c t.val t.isLt).1 z = DW (H m c) (P m c) ((win0_2.blk t).view.emb z) := by
  obtain ⟨a, d, n, rfl⟩ := exists_ix3 (a := 1) (b := 1024) (c := 1024) z
  obtain rfl : a = 0 := Subsingleton.elim _ _
  rw [out_at m c t, emb2]
  rfl

/-- The kernel's array after its run. -/
theorem final2 : (dats m 0 c).arrAt 2 cfg0.N = DW (H m c) (P m c) := by
  refine (dats m 0 c).arrAt_eq_of_covers 2 _ (by decide +kernel) fun t hf z => ?_
  blk_simp
  rw [after0_2]
  exact at2 m c t z

open Cert.Reference3Ideal.Read in
/-- The reference's array. -/
theorem ref_at (h : S2048x2048.Idx → EReal) (p : S2x2048x4096.Idx → EReal) (a : Fin 8) (d : Fin 2048) (n : Fin 1024) :
    val_main_v11 (F := Ideal) h p (ix3 a d n) = DW h p (ix3 a d n) := by
  pointwise [val_main_v11, val_main_v10, val_main_v9, val_main_v8, val_main_v7]
  unfold DW dw
  refine Fin.sum_fin_congr fun s => ?_
  rw [mul_comm]
  pointwise [val_main_v6, val_main_v5, val_main_v4, val_main_v3, val_main_v2, val_main_v1, val_main_v0]
  refine congrArg (h (ix2 s d) * ·) ?_
  have ha := a.isLt
  have hn := n.isLt
  split
  · exact congrArg p (ix3_val (by show 0 = (a.val * 1024 + n.val) / 4096; omega) rfl
      (by show a.val * 1024 + n.val = (a.val * 1024 + n.val) % 4096; omega))
  · exact congrArg p (ix3_val (by show 1 = (a.val * 1024 + n.val) / 4096; omega) rfl
      (by show a.val * 1024 + n.val - 4096 = (a.val * 1024 + n.val) % 4096; omega))

/-- The kernel's result is the reference's. -/
theorem value : algebraic_Kernel3Ideal_Reference3Ideal (hKernel3Ideal := Cert.Kernel3Ideal.Gen.facts)
    (hReference3Ideal := Cert.Reference3Ideal.Gen.facts) := by
  intro m g m' g' _ hag
  refine ⟨fun c => DW (H m c) (P m c), ?_, ?_⟩
  · exact (θ_run _ _ _).mono (fun r h c => ⟨(h c).1.trans (final2 m c), (h c).2⟩) (Cert.Kernel3Ideal.Value.run_blocks m g)
  · refine (θ_run _ _ _).mono (fun r h c => ⟨(h c).1.trans ?_, (h c).2⟩) (Cert.Reference3Ideal.Value.run m' g')
    rw [Cert.Reference3Ideal.Read.val_main_v11_eq, (hag c).1, (hag c).2]
    funext i
    exact (congrArg _ (ix3_eta i).symm).trans (ref_at (H m c) (P m c) (i 0) (i 1) (i 2))

/-- The reference runs, its arguments end unchanged, and it has no semaphore to leave raised. -/
theorem refFrame : quiescent_Reference3Ideal (hReference3Ideal := Cert.Reference3Ideal.Gen.facts) := fun m g _ =>
  (θ_run _ _ _).mono (fun r h => ⟨fun c => (h c).2, funext fun s => by
    rcases s with ⟨_, s⟩; rcases s with s | s <;> exact s.elim0⟩) (Cert.Reference3Ideal.Value.run m g)

end Cert.Proof.WeightGrad1

end
-- ==== Proof.Product.Project1.lean ====
/-
  The second layer's projections: the kernel's product, a block of columns at a time, and the reference's.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Product.Index

@[expose] public section

set_option maxRecDepth 20000

noncomputable section

namespace Cert.Proof.Project1

open Cert.Kernel4Ideal Cert.Kernel4Ideal.Gen Idealize.ShloMosaic Idealize.ShloMosaic.TcCoe Idealize.SL.Sem

/-- The joined projections at a token and a column. -/
def pr (h : S2048x2048.Idx → EReal) (w : S2048x8192.Idx → EReal) (s : Fin 2048) (l : Fin 8192) : EReal :=
  ∑ d : Fin 2048, h (ix2 s d) * w (ix2 d l)

variable (m : (ℓ : Loc nD τ sig) → Buf (Elt Ideal) ℓ) (c : Dev nD)

/-- The projections' input. -/
abbrev H : S2048x2048.Idx → EReal := m ((c : Thread nD τ).loc main_arg0)
/-- The weight. -/
abbrev W : S2048x8192.Idx → EReal := m ((c : Thread nD τ).loc main_arg1)

/-! ## The blocks at a grid point -/

theorem idx0 : ∀ t : Fin cfg0.N, win0_0.index t = ![0, 0] := (by decide +kernel : ∀ t : Fin grid0.N, _)
theorem idx1 : ∀ t : Fin cfg0.N, win0_1.index t = ![t.val / 2, 0, t.val % 2] := (by decide +kernel : ∀ t : Fin grid0.N, _)
theorem idx2 : ∀ t : Fin cfg0.N, win0_2.index t = ![t.val / 8, 0, t.val % 8] := (by decide +kernel : ∀ t : Fin grid0.N, _)

/-- The weight as the exchange gathers it. -/
theorem gathered (a : Fin 8) (n : Fin 2048) (k : Fin 1024) :
    V m c main_v2 (ix3 a n k) = W m c (ix2 n ⟨a.val * 1024 + k.val, by omega⟩) := by
  unfold V
  after_reads_at

/-- The input's block at a point: all of it. -/
theorem rd0 (t : Fin cfg0.N) (s d : Fin 2048) : iblk m c 0 t (ix2 s d) = H m c (ix2 s d) := by
  unfold H
  rw [← V_main_arg0 m c]
  blk_point [iblk, idx0 t]

/-- The weight's block at a point. -/
theorem rd1 (t : Fin cfg0.N) (d : Fin 2048) (n : Fin 512) :
    iblk m c 1 t (ix3 0 d n) = V m c main_v2 (ix3 ⟨t.val / 2, by have := t.isLt; have : cfg0.N = 16 := rfl; omega⟩ d ⟨t.val % 2 * 512 + n.val, by omega⟩) := by
  blk_point [iblk, idx1 t]

/-- One block of the result. -/
theorem pay1_at (a : S2048x2048.Idx → EReal) (b : S1x2048x512.Idx → EReal) (s : Fin 2048) (n : Fin 512) :
    k0_pay1 (F := Ideal) a b (ix3 0 s n) = ∑ d : Fin 2048, a (ix2 s d) * b (ix3 0 d n) := by
  pointwise [k0_pay1]

/-- The block a point writes, over the arrays. -/
theorem out_at (t : Fin cfg0.N) (s : Fin 2048) (n : Fin 512) :
    out0_2 (iblk m c 0 t) (iblk m c 1 t) (ix3 0 s n) = pr (H m c) (W m c) s ⟨t.val * 512 + n.val, by have := t.isLt; have : cfg0.N = 16 := rfl; omega⟩ := by
  frame_out
  rw [pay1_at]
  unfold pr
  refine Fin.sum_fin_congr fun d => ?_
  rw [rd0, rd1, gathered]
  congr 2
  refine ix2_val rfl ?_
  show t.val / 2 * 1024 + (t.val % 2 * 512 + n.val) = t.val * 512 + n.val; omega

/-- Where the block lies in the array. -/
theorem emb2 (t : Fin cfg0.N) (s : Fin 2048) (n : Fin 512) :
    (win0_2.blk t).view.emb (ix3 0 s n)
      = (ix3 ⟨t.val / 8, by have := t.isLt; have : cfg0.N = 16 := rfl; omega⟩ s ⟨t.val % 8 * 512 + n.val, by omega⟩ : S2x2048x4096.Idx) := by
  blk_ext [idx2 t]

/-- The projections as an array, one after the other. -/
def PR (h : S2048x2048.Idx → EReal) (w : S2048x8192.Idx → EReal) : S2x2048x4096.Idx → EReal := fun i =>
  pr h w (i 1) ⟨(i 0).val * 4096 + (i 2).val, by
    have h0 : (i 0).val < 2 := (i 0).isLt
    have h2 : (i 2).val < 4096 := (i 2).isLt
    omega⟩

/-- The block a point writes is the projections'. -/
theorem at2 (t : Fin cfg0.N) (z : S1x2048x512.Idx) :
    out0_2 (iblk m c 0 t) (iblk m c 1 t) z = PR (H m c) (W m c) ((win0_2.blk t).view.emb z) := by
  obtain ⟨a, s, n, rfl⟩ := exists_ix3 (a := 1) (b := 2048) (c := 512) z
  obtain rfl : a = 0 := Subsingleton.elim _ _
  rw [out_at m c t, emb2]
  refine congrArg (pr (H m c) (W m c) s) (Fin.ext ?_)
  show t.val * 512 + n.val = t.val / 8 * 4096 + (t.val % 8 * 512 + n.val); omega

/-- The kernel's array after its run. -/
theorem final2 : (dats m 0 c).arrAt 2 cfg0.N = PR (H m c) (W m c) := by
  refine (dats m 0 c).arrAt_eq_of_covers 2 _ (by decide +kernel) fun t hf z => ?_
  blk_simp
  rw [after0_2]
  exact at2 m c t z

open Cert.Reference4Ideal.Read in
/-- The reference's array. -/
theorem ref_at (h : S2048x2048.Idx → EReal) (w : S2048x8192.Idx → EReal) (a : Fin 2) (s : Fin 2048) (n : Fin 4096) :
    val_main_v7 (F := Ideal) h w (ix3 a s n) = PR h w (ix3 a s n) := by
  pointwise [val_main_v7, val_main_v6, val_main_v5, val_main_v4, val_main_v3, val_main_v2, val_main_v1, val_main_v0]
  unfold PR pr
  have ha := a.isLt
  split
  · refine Fin.sum_fin_congr fun d => congrArg (h (ix2 s d) * ·) (congrArg w (ix2_val rfl ?_))
    show n.val = a.val * 4096 + n.val; omega
  · refine Fin.sum_fin_congr fun d => congrArg (h (ix2 s d) * ·) (congrArg w (ix2_val rfl ?_))
    show 4096 + n.val = a.val * 4096 + n.val; omega

/-- The kernel's result is the reference's. -/
theorem value : algebraic_Kernel4Ideal_Reference4Ideal (hKernel4Ideal := Cert.Kernel4Ideal.Gen.facts)
    (hReference4Ideal := Cert.Reference4Ideal.Gen.facts) := by
  intro m g m' g' _ hag
  refine ⟨fun c => PR (H m c) (W m c), ?_, ?_⟩
  · exact (θ_run _ _ _).mono (fun r h c => ⟨(h c).1.trans (final2 m c), (h c).2⟩) (Cert.Kernel4Ideal.Value.run_blocks m g)
  · refine (θ_run _ _ _).mono (fun r h c => ⟨(h c).1.trans ?_, (h c).2⟩) (Cert.Reference4Ideal.Value.run m' g')
    rw [Cert.Reference4Ideal.Read.val_main_v7_eq, (hag c).1, (hag c).2]
    funext i
    exact (congrArg _ (ix3_eta i).symm).trans (ref_at (H m c) (W m c) (i 0) (i 1) (i 2))

/-- The reference runs, its arguments end unchanged, and it has no semaphore to leave raised. -/
theorem refFrame : quiescent_Reference4Ideal (hReference4Ideal := Cert.Reference4Ideal.Gen.facts) := fun m g _ =>
  (θ_run _ _ _).mono (fun r h => ⟨fun c => (h c).2, funext fun s => by
    rcases s with ⟨_, s⟩; rcases s with s | s <;> exact s.elim0⟩) (Cert.Reference4Ideal.Value.run m g)

end Cert.Proof.Project1

end
-- ==== Proof.Product.OutInputGrad.lean ====
/-
  The gradient of a layer's output product in the mixer's result: the kernel's product and the reference's.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Product.Index

@[expose] public section

set_option maxRecDepth 20000

noncomputable section

namespace Cert.Proof.OutInputGrad

open Cert.Kernel5Ideal Cert.Kernel5Ideal.Gen Idealize.ShloMosaic Idealize.ShloMosaic.TcCoe Idealize.SL.Sem

/-- The gradient at a token and a channel: the product's cotangent at the token against the weight's row of the channel. -/
def dy (w : S4096x2048.Idx → EReal) (p : S2048x2048.Idx → EReal) (s : Fin 2048) (e : Fin 4096) : EReal :=
  ∑ d : Fin 2048, p (ix2 s d) * w (ix2 e d)

variable (m : (ℓ : Loc nD τ sig) → Buf (Elt Ideal) ℓ) (c : Dev nD)

/-- The weight. -/
abbrev W : S4096x2048.Idx → EReal := m ((c : Thread nD τ).loc main_arg0)
/-- The product's cotangent. -/
abbrev P : S2048x2048.Idx → EReal := m ((c : Thread nD τ).loc main_arg1)

/-! ## The blocks at a grid point -/

theorem idx0 : ∀ t : Fin cfg0.N, win0_0.index t = ![0, 0, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val] := (by decide +kernel : ∀ t : Fin grid0.N, _)

/-- The cotangent with a leading axis, as the kernel takes it. -/
theorem stacked0 (s d : Fin 2048) : V m c main_v0 (ix3 0 s d) = P m c (ix2 s d) := by
  unfold V
  after_reads_at

/-- The weight with a leading axis, as the kernel takes it. -/
theorem stacked1 (e : Fin 4096) (d : Fin 2048) : V m c main_v2 (ix3 0 e d) = W m c (ix2 e d) := by
  unfold V
  after_reads_at

/-- The cotangent's block at a point: all of it. -/
theorem rd0 (t : Fin cfg0.N) (s d : Fin 2048) : iblk m c 0 t (ix3 0 s d) = V m c main_v0 (ix3 0 s d) := by
  blk_point [iblk, idx0 t]

/-- The weight's block at a point. -/
theorem rd1 (t : Fin cfg0.N) (e : Fin 1024) (d : Fin 2048) :
    iblk m c 1 t (ix3 0 e d) = V m c main_v2 (ix3 0 ⟨t.val * 1024 + e.val, by have := t.isLt; have : cfg0.N = 4 := rfl; omega⟩ d) := by
  blk_point [iblk, idx1 t]

/-- The one step of the accumulation. -/
theorem pay2_at (acc : S2048x1024.Idx → EReal) (a : S1x2048x2048.Idx → EReal) (b : S1x1024x2048.Idx → EReal) (s : Fin 2048) (e : Fin 1024) :
    k0_pay2 (F := Ideal) acc a b (ix2 s e) = acc (ix2 s e) + ∑ d : Fin 2048, a (ix3 0 s d) * b (ix3 0 e d) := by
  pointwise [k0_pay2]

/-- The accumulator's start. -/
theorem pay1_at (j : S2048x1024.Idx) : k0_pay1 (F := Ideal) j = 0 := by
  pointwise [k0_pay1]

/-- The result is the accumulator. -/
theorem pay3_at (a : S2048x1024.Idx → EReal) (j : S2048x1024.Idx) : k0_pay3 (F := Ideal) a j = a j := by
  pointwise [k0_pay3]

/-- The block a point writes, over the arrays. -/
theorem out_at (t : Fin cfg0.N) (s : Fin 2048) (e : Fin 1024) :
    outsAt0 m c t (ix2 s e) = dy (W m c) (P m c) s ⟨t.val * 1024 + e.val, by have := t.isLt; have : cfg0.N = 4 := rfl; omega⟩ := by
  unfold outsAt0
  frame_out
  rw [pay3_at, pay2_at, pay1_at, zero_add]
  unfold dy
  refine Fin.sum_fin_congr fun d => ?_
  rw [rd0, rd1, stacked0, stacked1]

/-- Where the block lies in the array. -/
theorem emb2 (t : Fin cfg0.N) (s : Fin 2048) (e : Fin 1024) :
    (win0_2.blk t).view.emb (ix2 s e) = (ix2 s ⟨t.val * 1024 + e.val, by have := t.isLt; have : cfg0.N = 4 := rfl; omega⟩ : S2048x4096.Idx) := by
  blk_ext [idx2 t]

/-- The gradient as an array. -/
def DY (w : S4096x2048.Idx → EReal) (p : S2048x2048.Idx → EReal) : S2048x4096.Idx → EReal := fun i => dy w p (i 0) (i 1)

/-- The block a point writes is the gradient's. -/
theorem at2 (t : Fin cfg0.N) (z : S2048x1024.Idx) :
    outsAt0 m c t z = DY (W m c) (P m c) ((win0_2.blk t).view.emb z) := by
  obtain ⟨s, e, rfl⟩ := exists_ix2 (a := 2048) (b := 1024) z
  rw [out_at m c t, emb2]
  rfl

/-- The kernel's array after its run. -/
theorem final2 : (dats m 0 c).arrAt 2 cfg0.N = DY (W m c) (P m c) := by
  refine (dats m 0 c).arrAt_eq_of_covers 2 _ (by decide +kernel) fun t hf z => ?_
  blk_simp
  rw [after0_2]
  exact at2 m c t z

open Cert.Reference5Ideal.Read in
/-- The reference's array. -/
theorem ref_at (w : S4096x2048.Idx → EReal) (p : S2048x2048.Idx → EReal) (s : Fin 2048) (e : Fin 4096) :
    val_main_v2 (F := Ideal) w p (ix2 s e) = DY w p (ix2 s e) := by
  pointwise [val_main_v2, val_main_v1]
  unfold DY dy
  refine Fin.sum_fin_congr fun d => ?_
  pointwise [val_main_v0]

/-- The kernel's result is the reference's. -/
theorem value : algebraic_Kernel5Ideal_Reference5Ideal (hKernel5Ideal := Cert.Kernel5Ideal.Gen.facts)
    (hReference5Ideal := Cert.Reference5Ideal.Gen.facts) := by
  intro m g m' g' _ hag
  refine ⟨fun c => DY (W m c) (P m c), ?_, ?_⟩
  · exact (θ_run _ _ _).mono (fun r h c => ⟨(h c).1.trans (final2 m c), (h c).2⟩) (Cert.Kernel5Ideal.Value.run_blocks m g)
  · refine (θ_run _ _ _).mono (fun r h c => ⟨(h c).1.trans ?_, (h c).2⟩) (Cert.Reference5Ideal.Value.run m' g')
    rw [Cert.Reference5Ideal.Read.val_main_v2_eq, (hag c).1, (hag c).2]
    funext i
    exact (congrArg _ (ix2_eta i).symm).trans (ref_at (W m c) (P m c) (i 0) (i 1))

/-- The reference runs, its arguments end unchanged, and it has no semaphore to leave raised. -/
theorem refFrame : quiescent_Reference5Ideal (hReference5Ideal := Cert.Reference5Ideal.Gen.facts) := fun m g _ =>
  (θ_run _ _ _).mono (fun r h => ⟨fun c => (h c).2, funext fun s => by
    rcases s with ⟨_, s⟩; rcases s with s | s <;> exact s.elim0⟩) (Cert.Reference5Ideal.Value.run m g)

end Cert.Proof.OutInputGrad

end
-- ==== Proof.Product.OutWeightGrad.lean ====
/-
  The gradient of a layer's output product in its weight: the kernel's product with the mixer's result transposed and kept, and the reference's.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Product.Index

@[expose] public section

set_option maxRecDepth 20000

noncomputable section

namespace Cert.Proof.OutWeightGrad

open Cert.Kernel6Ideal Cert.Kernel6Ideal.Gen Idealize.ShloMosaic Idealize.ShloMosaic.TcCoe Idealize.SL.Sem

/-- The weight's gradient at a channel and a feature: the mixer's result at the channel against the cotangent at the feature, over the tokens. -/
def dw (y : S2048x4096.Idx → EReal) (p : S2048x2048.Idx → EReal) (e : Fin 4096) (n : Fin 2048) : EReal :=
  ∑ s : Fin 2048, y (ix2 s e) * p (ix2 s n)

variable (m : (ℓ : Loc nD τ sig) → Buf (Elt Ideal) ℓ) (c : Dev nD)

/-- The mixer's result. -/
abbrev Y : S2048x4096.Idx → EReal := m ((c : Thread nD τ).loc main_arg0)
/-- The product's cotangent. -/
abbrev P : S2048x2048.Idx → EReal := m ((c : Thread nD τ).loc main_arg1)

/-! ## The blocks at a grid point -/

theorem idx0 : ∀ t : Fin cfg0.N, win0_0.index t = ![0, t.val / 2] := (by decide +kernel : ∀ t : Fin grid0.N, _)
theorem idx1 : ∀ t : Fin cfg0.N, win0_1.index t = ![0, 0, t.val % 2] := (by decide +kernel : ∀ t : Fin grid0.N, _)
theorem idx2 : ∀ t : Fin cfg0.N, win0_2.index t = ![0, t.val / 2, t.val % 2] := (by decide +kernel : ∀ t : Fin grid0.N, _)

/-- The cotangent with a leading axis, as the kernel takes it. -/
theorem stacked (s n : Fin 2048) : V m c main_v0 (ix3 0 s n) = P m c (ix2 s n) := by
  unfold V
  after_reads_at

/-- The mixer's block at a point. -/
theorem rd0 (t : Fin cfg0.N) (s : Fin 2048) (e : Fin 1024) :
    iblk m c 0 t (ix2 s e) = Y m c (ix2 s ⟨t.val / 2 * 1024 + e.val, by have := t.isLt; have : cfg0.N = 8 := rfl; omega⟩) := by
  unfold Y
  rw [← V_main_arg0 m c]
  blk_point [iblk, idx0 t]

/-- The cotangent's block at a point. -/
theorem rd1 (t : Fin cfg0.N) (s : Fin 2048) (n : Fin 1024) :
    iblk m c 1 t (ix3 0 s n) = V m c main_v0 (ix3 0 s ⟨t.val % 2 * 1024 + n.val, by omega⟩) := by
  blk_point [iblk, idx1 t]

/-- The kept block is the mixer's, transposed. -/
theorem pay1_at (a : S2048x1024.Idx → EReal) (e : Fin 1024) (s : Fin 2048) :
    k0_pay1 (F := Ideal) a (ix2 e s) = a (ix2 s e) := by
  pointwise [k0_pay1]

/-- One block of the result. -/
theorem pay2_at (a : S1024x2048.Idx → EReal) (b : S1x2048x1024.Idx → EReal) (e n : Fin 1024) :
    k0_pay2 (F := Ideal) a b (ix3 0 e n) = ∑ s : Fin 2048, a (ix2 e s) * b (ix3 0 s n) := by
  pointwise [k0_pay2]

/-- At a point that does not begin a row the scratch keeps what it held. -/
theorem kept_step (t : Fin cfg0.N) (h : ¬ t.val % 2 = 0) :
    (outsAt0 m c t.val t.isLt).2 = (outsAt0 m c (t.val - 1) (Nat.lt_of_le_of_lt (Nat.sub_le _ _) t.isLt)).2 := by
  rw [outsAt0_B m c t h]
  unfold sout0_B_0
  first | rfl | exact (Memref.isWhole_whole _).read_unread _

/-- What the scratch holds after a point: the transposed block of the mixer's result that both points of the row share. -/
theorem kept_at (n : ℕ) (hn : n < cfg0.N) (e : Fin 1024) (s : Fin 2048) :
    (outsAt0 m c n hn).2 (ix2 e s) = Y m c (ix2 s ⟨n / 2 * 1024 + e.val, by have : cfg0.N = 8 := rfl; omega⟩) := by
  induction n with
  | zero =>
    rw [outsAt0_A m c ⟨0, hn⟩ (Nat.zero_mod 2)]; frame_out
    rw [pay1_at, rd0]
  | succ n ih =>
    by_cases h : (n + 1) % 2 = 0
    · rw [outsAt0_A m c ⟨n + 1, hn⟩ h]; frame_out
      rw [pay1_at, rd0]
    · rw [kept_step m c ⟨n + 1, hn⟩ h]
      refine (ih (by omega)).trans (congrArg (Y m c) (ix2_val rfl ?_))
      show n / 2 * 1024 + e.val = (n + 1) / 2 * 1024 + e.val; omega

/-- The block a point writes, over the arrays. -/
theorem out_at (t : Fin cfg0.N) (e n : Fin 1024) :
    (outsAt0 m c t.val t.isLt).1 (ix3 0 e n)
      = dw (Y m c) (P m c) ⟨t.val / 2 * 1024 + e.val, by have := t.isLt; have : cfg0.N = 8 := rfl; omega⟩ ⟨t.val % 2 * 1024 + n.val, by omega⟩ := by
  have h1 : (outsAt0 m c t.val t.isLt).1 (ix3 0 e n)
      = ∑ s : Fin 2048, (outsAt0 m c t.val t.isLt).2 (ix2 e s) * iblk m c 1 t (ix3 0 s n) := by
    by_cases h : t.val % 2 = 0
    · rw [outsAt0_A m c t h]; frame_out; rw [pay2_at]
    · rw [kept_step m c t h, outsAt0_B m c t h]; frame_out; rw [pay2_at, (Memref.isWhole_whole _).read_unread]
  rw [h1]
  unfold dw
  refine Fin.sum_fin_congr fun s => ?_
  rw [kept_at, rd1, stacked]

/-- Where the block lies in the array. -/
theorem emb2 (t : Fin cfg0.N) (e n : Fin 1024) :
    (win0_2.blk t).view.emb (ix3 0 e n)
      = (ix3 0 ⟨t.val / 2 * 1024 + e.val, by have := t.isLt; have : cfg0.N = 8 := rfl; omega⟩ ⟨t.val % 2 * 1024 + n.val, by omega⟩ : S1x4096x2048.Idx) := by
  blk_ext [idx2 t]

/-- The gradient as an array with a leading axis. -/
def DW (y : S2048x4096.Idx → EReal) (p : S2048x2048.Idx → EReal) : S1x4096x2048.Idx → EReal := fun i => dw y p (i 1) (i 2)

/-- The block a point writes is the gradient's. -/
theorem at2 (t : Fin cfg0.N) (z : S1x1024x1024.Idx) :
    (outsAt0 m c t.val t.isLt).1 z = DW (Y m c) (P m c) ((win0_2.blk t).view.emb z) := by
  obtain ⟨a, e, n, rfl⟩ := exists_ix3 (a := 1) (b := 1024) (c := 1024) z
  obtain rfl : a = 0 := Subsingleton.elim _ _
  rw [out_at m c t, emb2]
  rfl

/-- The kernel's array after its run. -/
theorem final2 : (dats m 0 c).arrAt 2 cfg0.N = DW (Y m c) (P m c) := by
  refine (dats m 0 c).arrAt_eq_of_covers 2 _ (by decide +kernel) fun t hf z => ?_
  blk_simp
  rw [after0_2]
  exact at2 m c t z

open Cert.Reference6Ideal.Read in
/-- The reference's array. -/
theorem ref_at (y : S2048x4096.Idx → EReal) (p : S2048x2048.Idx → EReal) (a : Fin 1) (e : Fin 4096) (n : Fin 2048) :
    val_main_v5 (F := Ideal) y p (ix3 a e n) = DW y p (ix3 a e n) := by
  pointwise [val_main_v5, val_main_v4, val_main_v3, val_main_v2]
  unfold DW dw
  refine Fin.sum_fin_congr fun s => ?_
  rw [mul_comm]
  pointwise [val_main_v1, val_main_v0]

/-- The kernel's result is the reference's. -/
theorem value : algebraic_Kernel6Ideal_Reference6Ideal (hKernel6Ideal := Cert.Kernel6Ideal.Gen.facts)
    (hReference6Ideal := Cert.Reference6Ideal.Gen.facts) := by
  intro m g m' g' _ hag
  refine ⟨fun c => DW (Y m c) (P m c), ?_, ?_⟩
  · exact (θ_run _ _ _).mono (fun r h c => ⟨(h c).1.trans (final2 m c), (h c).2⟩) (Cert.Kernel6Ideal.Value.run_blocks m g)
  · refine (θ_run _ _ _).mono (fun r h c => ⟨(h c).1.trans ?_, (h c).2⟩) (Cert.Reference6Ideal.Value.run m' g')
    rw [Cert.Reference6Ideal.Read.val_main_v5_eq, (hag c).1, (hag c).2]
    funext i
    exact (congrArg _ (ix3_eta i).symm).trans (ref_at (Y m c) (P m c) (i 0) (i 1) (i 2))

/-- The reference runs, its arguments end unchanged, and it has no semaphore to leave raised. -/
theorem refFrame : quiescent_Reference6Ideal (hReference6Ideal := Cert.Reference6Ideal.Gen.facts) := fun m g _ =>
  (θ_run _ _ _).mono (fun r h => ⟨fun c => (h c).2, funext fun s => by
    rcases s with ⟨_, s⟩; rcases s with s | s <;> exact s.elim0⟩) (Cert.Reference6Ideal.Value.run m g)

end Cert.Proof.OutWeightGrad

end
-- ==== Proof.Product.Out.lean ====
/-
  A layer's output product with its gated residual: the kernel's accumulated product and the reference's.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Product.Index

@[expose] public section

set_option maxRecDepth 20000

noncomputable section

namespace Cert.Proof.Out

open Cert.Kernel7Ideal Cert.Kernel7Ideal.Gen Idealize.ShloMosaic Idealize.ShloMosaic.TcCoe Idealize.SL.Sem

/-- The product at a token and a feature. -/
def pr (y : S2048x4096.Idx → EReal) (w : S4096x2048.Idx → EReal) (s n : Fin 2048) : EReal :=
  ∑ l : Fin 4096, y (ix2 s l) * w (ix2 l n)

variable (m : (ℓ : Loc nD τ sig) → Buf (Elt Ideal) ℓ) (c : Dev nD)

/-- The mixer's result. -/
abbrev Y : S2048x4096.Idx → EReal := m ((c : Thread nD τ).loc main_arg0)
/-- The weight. -/
abbrev W : S4096x2048.Idx → EReal := m ((c : Thread nD τ).loc main_arg1)

/-- The residual stream. -/
abbrev X : S2048x2048.Idx → EReal := m ((c : Thread nD τ).loc main_arg2)
/-- The gate, one number for each feature. -/
abbrev G : S1x2048.Idx → EReal := m ((c : Thread nD τ).loc main_arg3)

/-! ## The blocks at a grid point -/

theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)
theorem idx3 : ∀ t : Fin cfg0.N, win0_3.index t = ![0, t.val / 2] := (by decide +kernel : ∀ t : Fin grid0.N, _)
theorem idx4 : ∀ t : Fin cfg0.N, win0_4.index t = ![0, t.val / 2] := (by decide +kernel : ∀ t : Fin grid0.N, _)
theorem idx5 : ∀ t : Fin cfg0.N, win0_5.index t = ![0, t.val / 2] := (by decide +kernel : ∀ t : Fin grid0.N, _)

/-- The weight's rounding changes nothing here. -/
theorem cast (l : Fin 4096) (n : Fin 2048) : V m c main_v0 (ix2 l n) = W m c (ix2 l n) := by
  unfold V
  after_reads_at

/-- The mixer's block at a point. -/
theorem rd0 (t : Fin cfg0.N) (s k : Fin 2048) :
    iblk m c 0 t (ix2 s k) = Y m c (ix2 s ⟨t.val % 2 * 2048 + k.val, by omega⟩) := by
  unfold Y
  rw [← V_main_arg0 m c]
  blk_point [iblk, idx0 t]

/-- The weight's block at a point. -/
theorem rd1 (t : Fin cfg0.N) (k : Fin 2048) (n : Fin 512) :
    iblk m c 1 t (ix2 k n) = V m c main_v0 (ix2 ⟨t.val % 2 * 2048 + k.val, by omega⟩ ⟨t.val / 2 * 512 + n.val, by have := t.isLt; have : cfg0.N = 8 := rfl; omega⟩) := by
  blk_point [iblk, idx1 t]

/-- The residual's block at a point. -/
theorem rd2 (t : Fin cfg0.N) (s : Fin 2048) (n : Fin 512) :
    iblk m c 2 t (ix2 s n) = X m c (ix2 s ⟨t.val / 2 * 512 + n.val, by have := t.isLt; have : cfg0.N = 8 := rfl; omega⟩) := by
  unfold X
  rw [← V_main_arg2 m c]
  blk_point [iblk, idx2 t]

/-- The gate's block at a point. -/
theorem rd3 (t : Fin cfg0.N) (n : Fin 512) :
    iblk m c 3 t (ix2 0 n) = G m c (ix2 0 ⟨t.val / 2 * 512 + n.val, by have := t.isLt; have : cfg0.N = 8 := rfl; omega⟩) := by
  unfold G
  rw [← V_main_arg3 m c]
  blk_point [iblk, idx3 t]

/-- The product of two blocks. -/
def part (a : S2048x2048.Idx → EReal) (b : S2048x512.Idx → EReal) (s : Fin 2048) (n : Fin 512) : EReal :=
  ∑ k : Fin 2048, a (ix2 s k) * b (ix2 k n)

/-- One step of the accumulation. -/
theorem pay2_at (acc : S2048x512.Idx → EReal) (a : S2048x2048.Idx → EReal) (b : S2048x512.Idx → EReal) (s : Fin 2048) (n : Fin 512) :
    k0_pay2 (F := Ideal) acc a b (ix2 s n) = acc (ix2 s n) + part a b s n := by
  unfold part
  pointwise [k0_pay2]

/-- The accumulator's start. -/
theorem pay1_at (j : S2048x512.Idx) : k0_pay1 (F := Ideal) j = 0 := by
  pointwise [k0_pay1]

/-- The stored product is the accumulator. -/
theorem pay3_at (a : S2048x512.Idx → EReal) (j : S2048x512.Idx) : k0_pay3 (F := Ideal) a j = a j := by
  pointwise [k0_pay3]

/-- The gated residual. -/
theorem pay4_at (a x : S2048x512.Idx → EReal) (g : S1x512.Idx → EReal) (s : Fin 2048) (n : Fin 512) :
    k0_pay4 (F := Ideal) a x g (ix2 s n) = x (ix2 s n) + g (ix2 0 n) * a (ix2 s n) := by
  pointwise [k0_pay4]

/-- The accumulator at the last point of a column of blocks: the sum of the two products. -/
theorem acc_at (t : Fin cfg0.N) (h : t.val % 2 = 1) (s : Fin 2048) (n : Fin 512) :
    (outsAt0 m c t.val t.isLt).2.2 (ix2 s n) = pr (Y m c) (W m c) s ⟨t.val / 2 * 512 + n.val, by have := t.isLt; have : cfg0.N = 8 := rfl; omega⟩ := by
  have hN : cfg0.N = 8 := rfl
  have ht := t.isLt
  rw [Pipeline.eq_sum_fin_of_reset_step_apply_of_flush (fun n h => (outsAt0 m c n h).2.2) 2 (fun _ => 0)
    (fun t j => part (iblk m c 0 t) (iblk m c 1 t) (j 0) (j 1))
    (fun t h j => by
      have h1 : ¬ t.val % 2 = 1 := by omega
      obtain ⟨s, n, rfl⟩ := exists_ix2 (a := 2048) (b := 512) j
      rw [outsAt0_A m c t h h1]; frame_out; rw [pay2_at, pay1_at]; rfl)
    (fun t h j => by
      obtain ⟨s, n, rfl⟩ := exists_ix2 (a := 2048) (b := 512) j
      rw [outsAt0_B m c t h (by omega)]; frame_out; rw [pay2_at, (Memref.isWhole_whole _).read_unread]; rfl)
    t h (ix2 s n), zero_add]
  show ∑ q : Fin 2, part _ _ s n = _
  unfold part pr
  refine Fin.sum_mul_add_congr fun q k hl => ?_
  rw [rd0, rd1, cast]
  congr 2
  · refine ix2_val rfl ?_
    show (2 * (t.val / 2) + q.val) % 2 * 2048 + k.val = q.val * 2048 + k.val; omega
  · refine ix2_val ?_ ?_
    · show (2 * (t.val / 2) + q.val) % 2 * 2048 + k.val = q.val * 2048 + k.val; omega
    · show (2 * (t.val / 2) + q.val) / 2 * 512 + n.val = t.val / 2 * 512 + n.val; omega

/-- The product's block at that point. -/
theorem out5_at (t : Fin cfg0.N) (h : t.val % 2 = 1) (s : Fin 2048) (n : Fin 512) :
    (outsAt0 m c t.val t.isLt).2.1 (ix2 s n) = (outsAt0 m c t.val t.isLt).2.2 (ix2 s n) := by
  rw [outsAt0_B m c t (by omega) h]; frame_out
  rw [pay3_at]

/-- The gated residual of two blocks. -/
def gated (a x : S2048x512.Idx → EReal) (g : S1x512.Idx → EReal) (s : Fin 2048) (n : Fin 512) : EReal :=
  x (ix2 s n) + g (ix2 0 n) * a (ix2 s n)

/-- The new residual stream's block at that point. -/
theorem out4_at (t : Fin cfg0.N) (h : t.val % 2 = 1) (s : Fin 2048) (n : Fin 512) :
    (outsAt0 m c t.val t.isLt).1 (ix2 s n)
      = gated (outsAt0 m c t.val t.isLt).2.2 (iblk m c 2 t) (iblk m c 3 t) s n := by
  rw [outsAt0_B m c t (by omega) h]; frame_out
  rw [pay4_at]
  rfl

/-- Where the new stream's block lies in its array. -/
theorem emb4 (t : Fin cfg0.N) (s : Fin 2048) (n : Fin 512) :
    (win0_4.blk t).view.emb (ix2 s n) = (ix2 s ⟨t.val / 2 * 512 + n.val, by have := t.isLt; have : cfg0.N = 8 := rfl; omega⟩ : S2048x2048.Idx) := by
  blk_ext [idx4 t]

/-- Where the product's block lies in its array. -/
theorem emb5 (t : Fin cfg0.N) (s : Fin 2048) (n : Fin 512) :
    (win0_5.blk t).view.emb (ix2 s n) = (ix2 s ⟨t.val / 2 * 512 + n.val, by have := t.isLt; have : cfg0.N = 8 := rfl; omega⟩ : S2048x2048.Idx) := by
  blk_ext [idx5 t]

/-- The product as an array. -/
def PR (y : S2048x4096.Idx → EReal) (w : S4096x2048.Idx → EReal) : S2048x2048.Idx → EReal := fun i => pr y w (i 0) (i 1)

/-- The new residual stream as an array. -/
def XO (y : S2048x4096.Idx → EReal) (w : S4096x2048.Idx → EReal) (x : S2048x2048.Idx → EReal) (g : S1x2048.Idx → EReal) :
    S2048x2048.Idx → EReal := fun i => x (ix2 (i 0) (i 1)) + g (ix2 0 (i 1)) * pr y w (i 0) (i 1)

/-- The stored block is the new stream's. -/
theorem at4 (t : Fin cfg0.N) (h : t.val % 2 = 1) (z : S2048x512.Idx) :
    (outsAt0 m c t.val t.isLt).1 z = XO (Y m c) (W m c) (X m c) (G m c) ((win0_4.blk t).view.emb z) := by
  obtain ⟨s, n, rfl⟩ := exists_ix2 (a := 2048) (b := 512) z
  rw [out4_at m c t h]
  unfold gated
  rw [acc_at m c t h, rd2, rd3, emb4]
  rfl

/-- The stored block is the product's. -/
theorem at5 (t : Fin cfg0.N) (h : t.val % 2 = 1) (z : S2048x512.Idx) :
    (outsAt0 m c t.val t.isLt).2.1 z = PR (Y m c) (W m c) ((win0_5.blk t).view.emb z) := by
  obtain ⟨s, n, rfl⟩ := exists_ix2 (a := 2048) (b := 512) z
  rw [out5_at m c t h, acc_at m c t h, emb5]
  rfl

/-- The new stream's array after the run. -/
theorem final4 : (dats m 0 c).arrAt 4 cfg0.N = XO (Y m c) (W m c) (X m c) (G m c) := by
  refine (dats m 0 c).arrAt_eq_of_covers 4 _ (by decide +kernel) fun t hf z => ?_
  blk_simp
  rw [after0_4]
  exact at4 m c t ((flush0_4 t).mp hf) z

/-- The product's array after the run. -/
theorem final5 : (dats m 0 c).arrAt 5 cfg0.N = PR (Y m c) (W m c) := by
  refine (dats m 0 c).arrAt_eq_of_covers 5 _ (by decide +kernel) fun t hf z => ?_
  blk_simp
  rw [after0_5]
  exact at5 m c t ((flush0_5 t).mp hf) z

open Cert.Reference7Ideal.Read in
/-- The reference's product. -/
theorem ref1_at (y : S2048x4096.Idx → EReal) (w : S4096x2048.Idx → EReal) (s n : Fin 2048) :
    val_main_v1 (F := Ideal) y w (ix2 s n) = pr y w s n := by
  pointwise [val_main_v1]
  unfold pr
  refine Fin.sum_fin_congr fun l => ?_
  pointwise [val_main_v0]

open Cert.Reference7Ideal.Read in
/-- The reference's new stream. -/
theorem ref4_at (y : S2048x4096.Idx → EReal) (w : S4096x2048.Idx → EReal) (x : S2048x2048.Idx → EReal) (g : S1x2048.Idx → EReal) (s n : Fin 2048) :
    val_main_v4 (F := Ideal) y w x g (ix2 s n) = XO y w x g (ix2 s n) := by
  pointwise [val_main_v4, val_main_v3, val_main_v2]
  rw [ref1_at]
  rfl

open Cert.Reference7Ideal.Read in
/-- The reference's second result is its product. -/
theorem ref5_at (y : S2048x4096.Idx → EReal) (w : S4096x2048.Idx → EReal) (s n : Fin 2048) :
    val_main_v5 (F := Ideal) y w (ix2 s n) = PR y w (ix2 s n) := by
  pointwise [val_main_v5]
  exact ref1_at y w s n

/-- The kernel's two results are the reference's. -/
theorem value : algebraic_Kernel7Ideal_Reference7Ideal (hKernel7Ideal := Cert.Kernel7Ideal.Gen.facts)
    (hReference7Ideal := Cert.Reference7Ideal.Gen.facts) := by
  intro m g m' g' _ hag
  refine ⟨fun c => XO (Y m c) (W m c) (X m c) (G m c), fun c => PR (Y m c) (W m c), ?_, ?_⟩
  · exact (θ_run _ _ _).mono (fun r h c => ⟨(h c).1.trans (final4 m c), (h c).2.1.trans (final5 m c), (h c).2.2⟩)
      (Cert.Kernel7Ideal.Value.run_blocks m g)
  · refine (θ_run _ _ _).mono (fun r h c => ⟨(h c).1.trans ?_, (h c).2.1.trans ?_, (h c).2.2⟩) (Cert.Reference7Ideal.Value.run m' g')
    · rw [Cert.Reference7Ideal.Read.val_main_v4_eq, (hag c).1, (hag c).2.1, (hag c).2.2.1, (hag c).2.2.2]
      funext i
      exact (congrArg _ (ix2_eta i).symm).trans (ref4_at (Y m c) (W m c) (X m c) (G m c) (i 0) (i 1))
    · rw [Cert.Reference7Ideal.Read.val_main_v5_eq, (hag c).1, (hag c).2.1]
      funext i
      exact (congrArg _ (ix2_eta i).symm).trans (ref5_at (Y m c) (W m c) (i 0) (i 1))

/-- The reference runs, its arguments end unchanged, and it has no semaphore to leave raised. -/
theorem refFrame : quiescent_Reference7Ideal (hReference7Ideal := Cert.Reference7Ideal.Gen.facts) := fun m g _ =>
  (θ_run _ _ _).mono (fun r h => ⟨fun c => (h c).2.2, funext fun s => by
    rcases s with ⟨_, s⟩; rcases s with s | s <;> exact s.elim0⟩) (Cert.Reference7Ideal.Value.run m g)

end Cert.Proof.Out

end
-- ==== Proof.Product.InputGrad0.lean ====
/-
  The gradient of the first layer's projections in their input: the kernel's accumulated product and the reference's.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Product.Index

@[expose] public section

set_option maxRecDepth 20000

noncomputable section

namespace Cert.Proof.InputGrad0

open Cert.Kernel8Ideal Cert.Kernel8Ideal.Gen Idealize.ShloMosaic Idealize.ShloMosaic.TcCoe Idealize.SL.Sem

/-- The gradient at a token and a feature: the projections' cotangents at the token against the weight's row of the feature. -/
def dh (w : S2048x16384.Idx → EReal) (p : S4x2048x4096.Idx → EReal) (s n : Fin 2048) : EReal :=
  ∑ l : Fin 16384, p (ix3 ⟨l.val / 4096, by omega⟩ s ⟨l.val % 4096, by omega⟩) * w (ix2 n l)

variable (m : (ℓ : Loc nD τ sig) → Buf (Elt Ideal) ℓ) (c : Dev nD)

/-- The weight. -/
abbrev W : S2048x16384.Idx → EReal := m ((c : Thread nD τ).loc main_arg0)
/-- The projections' cotangents. -/
abbrev P : S4x2048x4096.Idx → EReal := m ((c : Thread nD τ).loc main_arg1)

/-! ## The blocks at a grid point -/

theorem idx0 : ∀ t : Fin cfg0.N, win0_0.index t = ![t.val % 8 / 2, 0, t.val % 2] := (by decide +kernel : ∀ t : Fin grid0.N, _)
theorem idx1 : ∀ t : Fin cfg0.N, win0_1.index t = ![t.val % 8, t.val / 8, 0] := (by decide +kernel : ∀ t : Fin grid0.N, _)
theorem idx2 : ∀ t : Fin cfg0.N, win0_2.index t = ![0, t.val / 8] := (by decide +kernel : ∀ t : Fin grid0.N, _)

/-- The weight as the exchange gathers it. -/
theorem gathered (a : Fin 8) (n : Fin 2048) (k : Fin 2048) :
    V m c main_v2 (ix3 a n k) = W m c (ix2 n ⟨a.val * 2048 + k.val, by omega⟩) := by
  unfold V
  after_reads_at

/-- The first operand's block at a point. -/
theorem rd0 (t : Fin cfg0.N) (s k : Fin 2048) :
    iblk m c 0 t (ix3 0 s k) = P m c (ix3 ⟨t.val % 8 / 2, by omega⟩ s ⟨t.val % 2 * 2048 + k.val, by omega⟩) := by
  unfold P
  rw [← V_main_arg1 m c]
  blk_point [iblk, idx0 t]

/-- The second operand's block at a point. -/
theorem rd1 (t : Fin cfg0.N) (n : Fin 1024) (k : Fin 2048) :
    iblk m c 1 t (ix3 0 n k) = V m c main_v2 (ix3 ⟨t.val % 8, by omega⟩ ⟨t.val / 8 * 1024 + n.val, by have := t.isLt; have : cfg0.N = 16 := rfl; omega⟩ k) := by
  blk_point [iblk, idx1 t]

/-- The product of two blocks, the second transposed. -/
def part (a : S1x2048x2048.Idx → EReal) (b : S1x1024x2048.Idx → EReal) (s : Fin 2048) (n : Fin 1024) : EReal :=
  ∑ k : Fin 2048, a (ix3 0 s k) * b (ix3 0 n k)

/-- One step of the accumulation. -/
theorem pay2_at (acc : S2048x1024.Idx → EReal) (a : S1x2048x2048.Idx → EReal) (b : S1x1024x2048.Idx → EReal) (s : Fin 2048) (n : Fin 1024) :
    k0_pay2 (F := Ideal) acc a b (ix2 s n) = acc (ix2 s n) + part a b s n := by
  unfold part
  pointwise [k0_pay2]

/-- The accumulator's start. -/
theorem pay1_at (j : S2048x1024.Idx) : k0_pay1 (F := Ideal) j = 0 := by
  pointwise [k0_pay1]

/-- The accumulator at the last point of a column of blocks: the sum of the eight products. -/
theorem acc_at (t : Fin cfg0.N) (h : t.val % 8 = 7) (s : Fin 2048) (n : Fin 1024) :
    (outsAt0 m c t.val t.isLt).2 (ix2 s n) = ∑ q : Fin 8,
      part (iblk m c 0 ⟨8 * (t.val / 8) + q.val, by have := t.isLt; have : cfg0.N = 16 := rfl; omega⟩)
        (iblk m c 1 ⟨8 * (t.val / 8) + q.val, by have := t.isLt; have : cfg0.N = 16 := rfl; omega⟩) s n := by
  rw [Pipeline.eq_sum_fin_of_reset_step_apply_of_flush (fun n h => (outsAt0 m c n h).2) 8 (fun _ => 0)
    (fun t j => part (iblk m c 0 t) (iblk m c 1 t) (j 0) (j 1))
    (fun t h j => by
      have h1 : ¬ t.val % 8 = 7 := by omega
      obtain ⟨s, n, rfl⟩ := exists_ix2 (a := 2048) (b := 1024) j
      rw [outsAt0_A m c t h h1]; frame_out; rw [pay2_at, pay1_at]; rfl)
    (fun t h j => by
      obtain ⟨s, n, rfl⟩ := exists_ix2 (a := 2048) (b := 1024) j
      by_cases h1 : t.val % 8 = 7
      · rw [outsAt0_C m c t h h1]; frame_out; rw [pay2_at, (Memref.isWhole_whole _).read_unread]; rfl
      · rw [outsAt0_B m c t h h1]; frame_out; rw [pay2_at, (Memref.isWhole_whole _).read_unread]; rfl)
    t h (ix2 s n), zero_add]
  rfl

/-- At that point the block written back is the accumulator. -/
theorem out_eq (t : Fin cfg0.N) (h : t.val % 8 = 7) (s : Fin 2048) (n : Fin 1024) :
    (outsAt0 m c t.val t.isLt).1 (ix2 s n) = (outsAt0 m c t.val t.isLt).2 (ix2 s n) := by
  rw [outsAt0_C m c t (by omega) h]; frame_out
  pointwise [k0_pay3]

/-- The block written back, over the arrays. -/
theorem out_at (t : Fin cfg0.N) (h : t.val % 8 = 7) (s : Fin 2048) (n : Fin 1024) :
    (outsAt0 m c t.val t.isLt).1 (ix2 s n)
      = dh (W m c) (P m c) s ⟨t.val / 8 * 1024 + n.val, by have := t.isLt; have : cfg0.N = 16 := rfl; omega⟩ := by
  have hN : cfg0.N = 16 := rfl
  have ht := t.isLt
  rw [out_eq m c t h, acc_at m c t h]
  unfold part dh
  refine Fin.sum_mul_add_congr fun q k hl => ?_
  rw [rd0, rd1, gathered]
  congr 2
  · refine ix3_val ?_ rfl ?_
    · show (8 * (t.val / 8) + q.val) % 8 / 2 = (q.val * 2048 + k.val) / 4096; omega
    · show (8 * (t.val / 8) + q.val) % 2 * 2048 + k.val = (q.val * 2048 + k.val) % 4096; omega
  · refine ix2_val ?_ ?_
    · show (8 * (t.val / 8) + q.val) / 8 * 1024 + n.val = t.val / 8 * 1024 + n.val; omega
    · show (8 * (t.val / 8) + q.val) % 8 * 2048 + k.val = q.val * 2048 + k.val; omega

/-- Where the block lies in the array. -/
theorem emb2 (t : Fin cfg0.N) (s : Fin 2048) (n : Fin 1024) :
    (win0_2.blk t).view.emb (ix2 s n)
      = (ix2 s ⟨t.val / 8 * 1024 + n.val, by have := t.isLt; have : cfg0.N = 16 := rfl; omega⟩ : S2048x2048.Idx) := by
  blk_ext [idx2 t]

/-- The gradient as an array. -/
def DH (w : S2048x16384.Idx → EReal) (p : S4x2048x4096.Idx → EReal) : S2048x2048.Idx → EReal := fun i => dh w p (i 0) (i 1)

/-- The block written back is the gradient's. -/
theorem at2 (t : Fin cfg0.N) (h : t.val % 8 = 7) (z : S2048x1024.Idx) :
    (outsAt0 m c t.val t.isLt).1 z = DH (W m c) (P m c) ((win0_2.blk t).view.emb z) := by
  obtain ⟨s, n, rfl⟩ := exists_ix2 (a := 2048) (b := 1024) z
  rw [out_at m c t h, emb2]
  rfl

/-- The kernel's array after its run. -/
theorem final2 : (dats m 0 c).arrAt 2 cfg0.N = DH (W m c) (P m c) := by
  refine (dats m 0 c).arrAt_eq_of_covers 2 _ (by decide +kernel) fun t hf z => ?_
  blk_simp
  rw [after0_2]
  exact at2 m c t ((flush0_2 t).mp hf) z

open Cert.Reference8Ideal.Read in
/-- The reference's array. -/
theorem ref_at (w : S2048x16384.Idx → EReal) (p : S4x2048x4096.Idx → EReal) (s n : Fin 2048) :
    val_main_v11 (F := Ideal) w p (ix2 s n) = dh w p s n := by
  pointwise [val_main_v11, val_main_v10]
  unfold dh
  refine Fin.sum_fin_congr fun l => ?_
  congr 1
  pointwise [val_main_v9, val_main_v8, val_main_v7, val_main_v6, val_main_v5, val_main_v4, val_main_v3, val_main_v2, val_main_v1, val_main_v0]
  have hl := l.isLt
  split
  · exact congrArg p (ix3_val (by show 0 = l.val / 4096; omega) rfl (by show l.val = l.val % 4096; omega))
  split
  · exact congrArg p (ix3_val (by show 1 = l.val / 4096; omega) rfl (by show l.val - 4096 = l.val % 4096; omega))
  split
  · exact congrArg p (ix3_val (by show 2 = l.val / 4096; omega) rfl (by show l.val - 4096 - 4096 = l.val % 4096; omega))
  · exact congrArg p (ix3_val (by show 3 = l.val / 4096; omega) rfl (by show l.val - 4096 - 4096 - 4096 = l.val % 4096; omega))

/-- The kernel's result is the reference's. -/
theorem value : algebraic_Kernel8Ideal_Reference8Ideal (hKernel8Ideal := Cert.Kernel8Ideal.Gen.facts)
    (hReference8Ideal := Cert.Reference8Ideal.Gen.facts) := by
  intro m g m' g' _ hag
  refine ⟨fun c => DH (W m c) (P m c), ?_, ?_⟩
  · exact (θ_run _ _ _).mono (fun r h c => ⟨(h c).1.trans (final2 m c), (h c).2⟩) (Cert.Kernel8Ideal.Value.run_blocks m g)
  · refine (θ_run _ _ _).mono (fun r h c => ⟨(h c).1.trans ?_, (h c).2⟩) (Cert.Reference8Ideal.Value.run m' g')
    rw [Cert.Reference8Ideal.Read.val_main_v11_eq, (hag c).1, (hag c).2]
    funext i
    exact (congrArg _ (ix2_eta i).symm).trans (ref_at (W m c) (P m c) (i 0) (i 1))

/-- The reference runs, its arguments end unchanged, and it has no semaphore to leave raised. -/
theorem refFrame : quiescent_Reference8Ideal (hReference8Ideal := Cert.Reference8Ideal.Gen.facts) := fun m g _ =>
  (θ_run _ _ _).mono (fun r h => ⟨fun c => (h c).2, funext fun s => by
    rcases s with ⟨_, s⟩; rcases s with s | s <;> exact s.elim0⟩) (Cert.Reference8Ideal.Value.run m g)

end Cert.Proof.InputGrad0

end
-- ==== Proof.Product.Word.lean ====
/-
  A table's word that a precondition keeps in range.
-/
module

public import Idealize.ShloMosaic.PureOps
public import Idealize.ShloMosaic.Lib.WordCmp

@[expose] public section

namespace Cert.Proof.Word

open Idealize.ShloMosaic

/-- A word between zero and four, read signed, is the word of a number below four. -/
theorem word_of_range (w : BitVec 32) (h0 : IntOp.cmpi .sge w 0#32 = 1#1) (h4 : IntOp.cmpi .slt w 4#32 = 1#1) :
    ∃ q : Fin 4, w = BitVec.ofNat 32 q.val := by
  have a : (0#32).sle w = true := by
    by_contra h; rw [Bool.not_eq_true] at h; simp [IntOp.cmpi, h] at h0
  have b : w.slt 4#32 = true := by
    by_contra h; rw [Bool.not_eq_true] at h; simp [IntOp.cmpi, h] at h4
  have hb : w.toNat < 4 := by
    have h0 := BitVec.sle_iff_toInt_le.mp a
    have h4 := BitVec.slt_iff_toInt_lt.mp b
    have hw := w.isLt
    simp only [BitVec.toInt_eq_toNat_cond, BitVec.toNat_ofNat] at h0 h4
    split at h4 <;> split at h0 <;> omega
  exact ⟨⟨w.toNat, hb⟩, by simp⟩

end Cert.Proof.Word
-- ==== Proof.Product.WeightGrad0.lean ====
/-
  The gradient of the first layer's projections in their weight, one chip's share of the columns: the kernel's products, whose
  blocks a table steers, and the reference's slice of the whole gradient.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Product.Index
public import proofs.«01_k».proof.Proof.Product.Word
public import Idealize.ShloMosaic.Lib.WordCmp
public import Idealize.ShloMosaic.Lib.DynamicIndex
public import Idealize.ShloMosaic.Lib.Pipeline.Covers

@[expose] public section

set_option maxRecDepth 20000

noncomputable section

namespace Cert.Proof.WeightGrad0

open Cert.Kernel9Ideal Cert.Kernel9Ideal.Gen Idealize.ShloMosaic Idealize.ShloMosaic.TcCoe Idealize.SL.Sem

/-- The side conditions of the precondition's own operations. -/
theorem preFacts : Cert.Pre_chip9.Facts :=
  { slices_S5_S1_3 := by decide
    shapeCasts_S1_S_ := by decide }

/-- What the precondition says of the table: its fourth word names a chip. -/
theorem chip_of_pre {F : FTy → Type} [FloatOps F] [Cert.Pre_chip9.Facts] {a : FVec F S2048x2048 .bf16} {b : FVec F S4x2048x4096 .bf16} {t : IVec S5 32}
    (h : Cert.Pre_chip9.fn (F := F) a b t = fun _ => 1#1) : ∃ q : Fin 4, t (ix1 3) = BitVec.ofNat 32 q.val := by
  have h0 := congrFun h ix0
  dsimp only [Cert.Pre_chip9.fn] at h0
  obtain ⟨h1, h2⟩ := IntOp.andi_eq_one.mp h0
  have e : shapeCast Cert.Pre_chip9.S_ (extractStridedSlice Cert.Pre_chip9.S1 ![3] t Cert.Pre_chip9.Facts.slices_S5_S1_3)
      Cert.Pre_chip9.Facts.shapeCasts_S1_S_ ix0 = t (ix1 3) := by pointwise
  rw [← e]
  exact Word.word_of_range _ h1 h2

/-! ## The table's side condition -/

/-- Every block the table can name lies inside the array, on whole words. -/
theorem blocks_inside : ∀ (q : Fin 4) (j : Fin 4),
    ∃ h : (∀ a, ((![q.val, 0, j.val] : Fin 3 → ℕ) a + 1) * S1x2048x1024.size a ≤ S4x2048x4096.size a),
      EltTy.bits .bf16 = 32 ∨ (Rect.block (s := S4x2048x4096) S1x2048x1024.size ![q.val, 0, j.val] h).WholeWords (EltTy.packing .bf16) := by
  decide +kernel

/-- The block of the cotangents at a point: the part the table names. -/
theorem steered {F : FTy → Type} [FloatOps F] (pf : pre0.Contents (Elt F)) (q : Fin 4) (h : (pf 0 : IVec S5 32) (ix1 3) = BitVec.ofNat 32 q.val)
    (i : grid0.Coords) : cc0_transform_1 (F := F) inb_S5_S1_3 numel1_S1 pf i = ![q.val, 0, (i 1).val] := by
  unfold cc0_transform_1
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have hq := q.isLt
  have hi : (i 1).val < 4 := (i 1).isLt
  simp only [e]
  simp only [BitVec.toNat_ofNat, Nat.zero_mod]
  rw [Nat.mod_eq_of_lt (show q.val < 2 ^ 32 by omega), Nat.mod_eq_of_lt (show (i 1).val < 2 ^ 32 by omega)]

/-- The side condition the pipeline puts on its table. -/
theorem ok_of_word {F : FTy → Type} [FloatOps F] (pf : pre0.Contents (Elt F)) (q : Fin 4) (h : (pf 0 : IVec S5 32) (ix1 3) = BitVec.ofNat 32 q.val) :
    ok0 (F := F) pf := fun i => by
  rw [steered pf q h]
  exact blocks_inside q ⟨(i 1).val, (i 1).isLt⟩

/-! ## The arrays -/

/-- The weight's gradient at a feature and a column of part `q`: the input's feature against the part's cotangent, over the tokens. -/
def dw (h : S2048x2048.Idx → EReal) (p : S4x2048x4096.Idx → EReal) (q : Fin 4) (d : Fin 2048) (l : Fin 4096) : EReal :=
  ∑ s : Fin 2048, h (ix2 s d) * p (ix3 q s l)

variable (m : (ℓ : Loc nD τ sig) → Buf (Elt Ideal) ℓ) (c : Dev nD)

/-- The projections' input. -/
abbrev H : S2048x2048.Idx → EReal := m ((c : Thread nD τ).loc main_arg0)
/-- The projections' cotangents. -/
abbrev P : S4x2048x4096.Idx → EReal := m ((c : Thread nD τ).loc main_arg1)
/-- The table. -/
abbrev T : IVec S5 32 := m ((c : Thread nD τ).loc main_arg2)

variable (q : Fin 4) (hw : T m 0 (ix1 3) = BitVec.ofNat 32 q.val) (hO : Ok m)

/-! ## The blocks at a grid point -/

theorem idx0 : ∀ t : Fin (cfgM m hO).N, ((cfgM m hO).win 0).index t = ![0, t.val / 4] := (by decide +kernel : ∀ t : Fin grid0.N, cc0_transform_0 (grid0.coords t) = ![0, t.val / 4])
theorem idx2 : ∀ t : Fin (cfgM m hO).N, ((cfgM m hO).win 2).index t = ![t.val % 4 / 2, t.val / 4, t.val % 2] := (by decide +kernel : ∀ t : Fin grid0.N, cc0_transform_2 (grid0.coords t) = ![t.val % 4 / 2, t.val / 4, t.val % 2])
theorem column : ∀ t : Fin grid0.N, (grid0.coords t 1).val = t.val % 4 := by decide +kernel
include hw in
theorem idx1 (t : Fin (cfgM m hO).N) : ((cfgM m hO).win 1).index t = ![q.val, 0, t.val % 4] := by
  rw [← column t]
  exact steered (tbl m) q hw (grid0.coords t)

/-- The input's block at a point. -/
theorem rd0 (t : Fin (cfgM m hO).N) (s : Fin 2048) (d : Fin 1024) :
    iblk m hO c 0 t (ix2 s d) = H m c (ix2 s ⟨t.val / 4 * 1024 + d.val, by have := t.isLt; have : (cfgM m hO).N = 8 := rfl; omega⟩) := by
  blk_point [iblk, idx0 m hO t]

include hw in
/-- The cotangents' block at a point. -/
theorem rd1 (t : Fin (cfgM m hO).N) (s : Fin 2048) (n : Fin 1024) :
    iblk m hO c 1 t (ix3 0 s n) = P m c (ix3 q s ⟨t.val % 4 * 1024 + n.val, by omega⟩) := by
  blk_point [iblk, idx1 m q hw hO t]

/-- The kept block is the input's, transposed. -/
theorem pay1_at (a : S2048x1024.Idx → EReal) (d : Fin 1024) (s : Fin 2048) :
    k0_pay1 (F := Ideal) a (ix2 d s) = a (ix2 s d) := by
  pointwise [k0_pay1]

/-- One block of the result. -/
theorem pay2_at (a : S1024x2048.Idx → EReal) (b : S1x2048x1024.Idx → EReal) (d n : Fin 1024) :
    k0_pay2 (F := Ideal) a b (ix3 0 d n) = ∑ s : Fin 2048, a (ix2 d s) * b (ix3 0 s n) := by
  pointwise [k0_pay2]

/-- What a row's first point leaves in the result's block. -/
theorem first_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    out0_A_2 c i a3 h3 a4 h4 a5 h5 a6 h6 hc x y z = k0_pay2 (F := Ideal) (k0_pay1 (F := Ideal) x) y := by
  frame_out

/-- What a row's first point leaves in the scratch. -/
theorem first_kept (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    sout0_A_0 c i a3 h3 a4 h4 a5 h5 a6 h6 hc x y z = k0_pay1 (F := Ideal) x := by
  frame_out

/-- What another point leaves in the result's block. -/
theorem next_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : ¬ cond0_0 i) (x : Vec Ideal S2048x1024 .bf16) (y : Vec Ideal S1x2048x1024 .bf16) (z : TbBuf0 (F := Ideal) c tbM0_0)
    (k : Vec Ideal S1024x2048 .bf16) :
    out0_B_2 c i a3 h3 a4 h4 a5 h5 a6 h6 hc x y z k = k0_pay2 (F := Ideal) k y := by
  frame_out

/-- The input's block at a point, as an array of its own shape. -/
def B0 (t : Fin (cfgM m hO).N) : Vec Ideal S2048x1024 .bf16 := iblk m hO c 0 t
/-- The cotangents' block at a point, as an array of its own shape. -/
def B1 (t : Fin (cfgM m hO).N) : Vec Ideal S1x2048x1024 .bf16 := iblk m hO c 1 t

/-- What a row's first point stores. -/
theorem store_A (t : Fin (cfgM m hO).N) (h : t.val % 4 = 0) :
    outsAt0 m hO c t.val t.isLt = (k0_pay2 (F := Ideal) (k0_pay1 (F := Ideal) (B0 m c hO t)) (B1 m c hO t), k0_pay1 (F := Ideal) (B0 m c hO t)) := by
  rw [outsAt0_A m hO c t h]
  exact congrArg₂ Prod.mk
    (first_out c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))
    (first_kept c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))

/-- What another point stores: the scratch keeps what it held. -/
theorem store_B (t : Fin (cfgM m hO).N) (h : ¬ t.val % 4 = 0) :
    outsAt0 m hO c t.val t.isLt
      = (k0_pay2 (F := Ideal) (outsAt0 m hO c (t.val - 1) (Nat.lt_of_le_of_lt (Nat.sub_le _ _) t.isLt)).2 (B1 m c hO t),
        (outsAt0 m hO c (t.val - 1) (Nat.lt_of_le_of_lt (Nat.sub_le _ _) t.isLt)).2) := by
  rw [outsAt0_B m hO c t h]
  exact congrArg (Prod.mk · _)
    (next_out c (grid0.coords t) (ms0_0 m hO t) (hs0_0 m hO t) (ms0_1 m hO t) (hs0_1 m hO t) (ms0_2 m hO t) (hs0_2 m hO t) scM0_0 (Memref.isWhole_whole _)
      (fun e => h ((hcond0_0 t).mp e)) (iblk m hO c 0 t) (iblk m hO c 1 t) (tbl m 0) _)

/-- What the scratch holds after a point: the transposed block of the input that all points of the row share. -/
theorem kept_at (n : ℕ) (hn : n < (cfgM m hO).N) (d : Fin 1024) (s : Fin 2048) :
    (outsAt0 m hO c n hn).2 (ix2 d s) = H m c (ix2 s ⟨n / 4 * 1024 + d.val, by have : (cfgM m hO).N = 8 := rfl; omega⟩) := by
  induction n with
  | zero =>
    rw [store_A m c hO ⟨0, hn⟩ (Nat.zero_mod 4)]
    exact (pay1_at _ d s).trans (rd0 m c hO _ s d)
  | succ n ih =>
    by_cases h : (n + 1) % 4 = 0
    · rw [store_A m c hO ⟨n + 1, hn⟩ h]
      exact (pay1_at _ d s).trans (rd0 m c hO _ s d)
    · rw [store_B m c hO ⟨n + 1, hn⟩ h]
      refine (ih (by omega)).trans (congrArg (H m c) (ix2_val rfl ?_))
      show n / 4 * 1024 + d.val = (n + 1) / 4 * 1024 + d.val; omega

include hw in
/-- The block a point writes, over the arrays. -/
theorem out_at (t : Fin (cfgM m hO).N) (d n : Fin 1024) :
    (outsAt0 m hO c t.val t.isLt).1 (ix3 0 d n)
      = dw (H m c) (P m c) q ⟨t.val / 4 * 1024 + d.val, by have := t.isLt; have : (cfgM m hO).N = 8 := rfl; omega⟩ ⟨t.val % 4 * 1024 + n.val, by omega⟩ := by
  have e : (outsAt0 m hO c t.val t.isLt).1 (ix3 0 d n)
      = ∑ s : Fin 2048, (outsAt0 m hO c t.val t.isLt).2 (ix2 d s) * B1 m c hO t (ix3 0 s n) := by
    by_cases h : t.val % 4 = 0
    · rw [store_A m c hO t h]; exact pay2_at _ _ d n
    · rw [store_B m c hO t h]; exact pay2_at _ _ d n
  rw [e]
  unfold dw
  refine Fin.sum_fin_congr fun s => ?_
  rw [kept_at m c hO]
  exact congrArg (H m c _ * ·) (rd1 m c q hw hO t s n)

/-- Where the block lies in the array. -/
theorem emb2 (t : Fin (cfgM m hO).N) (d n : Fin 1024) :
    (((cfgM m hO).win 2).blk t).view.emb (ix3 0 d n)
      = (ix3 ⟨t.val % 4 / 2, by omega⟩ ⟨t.val / 4 * 1024 + d.val, by have := t.isLt; have : (cfgM m hO).N = 8 := rfl; omega⟩
          ⟨t.val % 2 * 1024 + n.val, by omega⟩ : S2x2048x2048.Idx) := by
  blk_ext [idx2 m hO t]

/-- The gradient of part `q` as an array, cut by columns into the chip's two pieces. -/
def DW (h : S2048x2048.Idx → EReal) (p : S4x2048x4096.Idx → EReal) (q : Fin 4) : S2x2048x2048.Idx → EReal := fun i =>
  dw h p q (i 1) ⟨(i 0).val * 2048 + (i 2).val, by
    have h0 : (i 0).val < 2 := (i 0).isLt
    have h2 : (i 2).val < 2048 := (i 2).isLt
    omega⟩

include hw in
/-- The block a point writes is the gradient's. -/
theorem at2 (t : Fin (cfgM m hO).N) (z : S1x1024x1024.Idx) :
    (outsAt0 m hO c t.val t.isLt).1 z = DW (H m c) (P m c) q ((((cfgM m hO).win 2).blk t).view.emb z) := by
  obtain ⟨a, d, n, rfl⟩ := exists_ix3 (a := 1) (b := 1024) (c := 1024) z
  obtain rfl : a = 0 := Subsingleton.elim _ _
  rw [out_at m c q hw hO t, emb2]
  show dw _ _ _ _ _ = dw _ _ _ _ _
  congr 1
  refine Fin.ext ?_
  show t.val % 4 * 1024 + n.val = t.val % 4 / 2 * 2048 + (t.val % 2 * 1024 + n.val)
  omega

/-- Every block of the result is some point's. -/
theorem parts_covered : ∀ a b d : Fin 2, ∃ t : Fin grid0.N, t.val % 4 / 2 = a.val ∧ t.val / 4 = b.val ∧ t.val % 2 = d.val := by
  decide +kernel

include hw in
/-- The kernel's array after its run. -/
theorem final2 : (dats m hO 0 c).arrAt 2 (cfgM m hO).N = DW (H m c) (P m c) q := by
  refine (dats m hO 0 c).arrAt_eq_of_covers 2 _ (Pipeline.Window.covers_of_index_surj _ rfl (by decide +kernel : ∀ a, 0 < S1x1024x1024.size a)
    fun (β : (a : Fin 3) → Fin (((cfgM m hO).win 2).nblk a)) => ?_) fun t hf z => ?_
  · have h0 : (β 0).val < 2 := lt_of_lt_of_eq (β 0).isLt (show (2 + 1 - 1) / 1 = 2 by decide)
    have h1 : (β 1).val < 2 := lt_of_lt_of_eq (β 1).isLt (show (2048 + 1024 - 1) / 1024 = 2 by decide)
    have h2 : (β 2).val < 2 := lt_of_lt_of_eq (β 2).isLt (show (2048 + 1024 - 1) / 1024 = 2 by decide)
    obtain ⟨t, h⟩ := parts_covered ⟨_, h0⟩ ⟨_, h1⟩ ⟨_, h2⟩
    refine ⟨t, fun a => ?_⟩
    rw [idx2 m hO t]
    match a with
    | ⟨0, _⟩ => exact h.1
    | ⟨1, _⟩ => exact h.2.1
    | ⟨2, _⟩ => exact h.2.2
  blk_simp
  rw [after0_2]
  exact at2 m c q hw hO t z

open Cert.Reference9Ideal.Read in
/-- Where the reference's slice begins. -/
theorem start (t : IVec S5 32) (h : t (ix1 3) = BitVec.ofNat 32 q.val) : val_main_v21 (F := Ideal) t = fun _ => BitVec.ofNat 32 (2 * q.val) := by
  funext i
  obtain rfl : i = Idealize.ShloMosaic.ix0 := Subsingleton.elim _ _
  have e : val_main_v17 (F := Ideal) t Idealize.ShloMosaic.ix0 = BitVec.ofNat 32 q.val := by
    rw [← h]
    unfold val_main_v17
    pointwise [val_main_v16]
  have f : val_main_v18 (F := Ideal) t Idealize.ShloMosaic.ix0 = BitVec.ofNat 32 (2 * q.val) := by
    rw [val_main_v18_apply, e, val_main_c_apply, WordCmp.muli_ofNat]
  rw [val_main_v21_apply, val_main_v20_apply, val_main_v19_apply, f, val_main_c_0_apply, val_main_c_1_apply]
  clear e f h
  revert q
  decide

open Cert.Reference9Ideal.Read in
/-- The reference's array. -/
theorem ref_at (h : S2048x2048.Idx → EReal) (p : S4x2048x4096.Idx → EReal) (t : IVec S5 32) (ht : t (ix1 3) = BitVec.ofNat 32 q.val)
    (a : Fin 2) (d : Fin 2048) (n : Fin 2048) :
    val_main_v22 (F := Ideal) h p t (ix3 a d n) = DW h p q (ix3 a d n) := by
  have hq := q.isLt
  have ha := a.isLt
  have hn := n.isLt
  unfold val_main_v22
  rw [start q t ht]
  rw [Host.dynamicSlice_eq_extractStridedSlice _ _ _ ![2 * q.val, 0, 0] _ (by clear ht hq; revert q; decide) (fun k => by
    match k with
    | ⟨0, _⟩ => show BitVec.toInt (BitVec.ofNat 32 (2 * q.val)) = ((2 * q.val : ℕ) : ℤ); clear ht hq; revert q; decide
    | ⟨1, _⟩ => rfl
    | ⟨2, _⟩ => rfl)]
  pointwise [val_main_v15, val_main_v14, val_main_v13, val_main_v12, val_main_v11]
  unfold DW dw
  refine Fin.sum_fin_congr fun s => ?_
  rw [mul_comm]
  pointwise [val_main_v10, val_main_v9, val_main_v8, val_main_v7, val_main_v6, val_main_v5, val_main_v4, val_main_v3, val_main_v2, val_main_v1, val_main_v0]
  refine congrArg (h (ix2 s d) * ·) ?_
  repeat' split
  · exact congrArg p (ix3_val (by show 0 = q.val; omega) rfl
      (by show (2 * q.val + a.val) * 2048 + n.val = a.val * 2048 + n.val; omega))
  · exact congrArg p (ix3_val (by show 1 = q.val; omega) rfl
      (by show (2 * q.val + a.val) * 2048 + n.val - 4096 = a.val * 2048 + n.val; omega))
  · exact congrArg p (ix3_val (by show 2 = q.val; omega) rfl
      (by show (2 * q.val + a.val) * 2048 + n.val - 4096 - 4096 = a.val * 2048 + n.val; omega))
  · exact congrArg p (ix3_val (by show 3 = q.val; omega) rfl
      (by show (2 * q.val + a.val) * 2048 + n.val - 4096 - 4096 - 4096 = a.val * 2048 + n.val; omega))

/-- The kernel's result is the reference's. -/
theorem value [Cert.Pre_chip9.Facts] : algebraic_Kernel9Ideal_Reference9Ideal (hKernel9Ideal := Cert.Kernel9Ideal.Gen.facts)
    (hReference9Ideal := Cert.Reference9Ideal.Gen.facts) := by
  intro m g m' g' hpre hag
  obtain ⟨q, hw⟩ := chip_of_pre (hpre 0)
  have hO : Ok m := ok_of_word (tbl m) q hw
  refine ⟨fun c => DW (H m c) (P m c) q, ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference9Ideal.Value.run m' g')
    rw [Cert.Reference9Ideal.Read.val_main_v22_eq, (hag c).1, (hag c).2.1, (hag c).2.2]
    funext i
    obtain rfl : c = 0 := Subsingleton.elim _ _
    exact (congrArg _ (ix3_eta i).symm).trans (ref_at q (H m 0) (P m 0) (T m 0) hw (i 0) (i 1) (i 2))

/-- The kernel as compiled runs, its arguments end unchanged, and no semaphore is left raised. -/
theorem frame [Cert.Pre_chip9.Facts] : quiescent_Kernel9 (hKernel9 := Cert.Kernel9.Gen.facts) := fun m g h => by
  obtain ⟨q, hw⟩ := chip_of_pre (h 0)
  exact Cert.Kernel9.Gen.frame m g (ok_of_word (Cert.Kernel9.Gen.tbl m) q hw)

/-- The idealized kernel does too. -/
theorem idealFrame [Cert.Pre_chip9.Facts] : quiescent_Kernel9Ideal (hKernel9Ideal := Cert.Kernel9Ideal.Gen.facts) := fun m g h => by
  obtain ⟨q, hw⟩ := chip_of_pre (h 0)
  exact Cert.Kernel9Ideal.Gen.frame m g (ok_of_word (tbl m) q hw)

/-- The reference runs, its arguments end unchanged, and it has no semaphore to leave raised. -/
theorem refFrame [Cert.Pre_chip9.Facts] : quiescent_Reference9Ideal (hReference9Ideal := Cert.Reference9Ideal.Gen.facts) := fun m g _ =>
  (θ_run _ _ _).mono (fun r h => ⟨fun c => (h c).2, funext fun s => by
    rcases s with ⟨_, s⟩; rcases s with s | s <;> exact s.elim0⟩) (Cert.Reference9Ideal.Value.run m g)

end Cert.Proof.WeightGrad0

end
-- ==== Proof.Product.WeightGrad0Y.lean ====
/-
  The gradient of the first layer's projections in their weight, one chip's share of the columns: the kernel's products, whose
  blocks a table steers, and the reference's slice of the whole gradient.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Product.Index
public import proofs.«01_k».proof.Proof.Product.Word
public import Idealize.ShloMosaic.Lib.WordCmp
public import Idealize.ShloMosaic.Lib.DynamicIndex
public import Idealize.ShloMosaic.Lib.Pipeline.Covers

@[expose] public section

set_option maxRecDepth 20000

noncomputable section

namespace Cert.Proof.WeightGrad0Y

open Cert.Kernel10Ideal Cert.Kernel10Ideal.Gen Idealize.ShloMosaic Idealize.ShloMosaic.TcCoe Idealize.SL.Sem

/-- The side conditions of the precondition's own operations. -/
theorem preFacts : Cert.Pre_chip10.Facts :=
  { slices_S5_S1_0 := by decide
    shapeCasts_S1_S_ := by decide }

/-- What the precondition says of the table: its fourth word names a chip. -/
theorem chip_of_pre {F : FTy → Type} [FloatOps F] [Cert.Pre_chip10.Facts] {a : FVec F S2048x2048 .bf16} {b : FVec F S4x2048x4096 .bf16} {t : IVec S5 32}
    (h : Cert.Pre_chip10.fn (F := F) a b t = fun _ => 1#1) : ∃ q : Fin 4, t (ix1 0) = BitVec.ofNat 32 q.val := by
  have h0 := congrFun h ix0
  dsimp only [Cert.Pre_chip10.fn] at h0
  obtain ⟨h1, h2⟩ := IntOp.andi_eq_one.mp h0
  have e : shapeCast Cert.Pre_chip10.S_ (extractStridedSlice Cert.Pre_chip10.S1 ![0] t Cert.Pre_chip10.Facts.slices_S5_S1_0)
      Cert.Pre_chip10.Facts.shapeCasts_S1_S_ ix0 = t (ix1 0) := by pointwise
  rw [← e]
  exact Word.word_of_range _ h1 h2

/-! ## The table's side condition -/

/-- Every block the table can name lies inside the array, on whole words. -/
theorem blocks_inside : ∀ (q : Fin 4) (j : Fin 4),
    ∃ h : (∀ a, ((![q.val, 0, j.val] : Fin 3 → ℕ) a + 1) * S1x2048x1024.size a ≤ S4x2048x4096.size a),
      EltTy.bits .bf16 = 32 ∨ (Rect.block (s := S4x2048x4096) S1x2048x1024.size ![q.val, 0, j.val] h).WholeWords (EltTy.packing .bf16) := by
  decide +kernel

/-- The block of the cotangents at a point: the part the table names. -/
theorem steered {F : FTy → Type} [FloatOps F] (pf : pre0.Contents (Elt F)) (q : Fin 4) (h : (pf 0 : IVec S5 32) (ix1 0) = BitVec.ofNat 32 q.val)
    (i : grid0.Coords) : cc0_transform_1 (F := F) inb_S5_S1_0 numel1_S1 pf i = ![q.val, 0, (i 1).val] := by
  unfold cc0_transform_1
  have e : pf.at 0 (Rect.unit (s := S5) ![0] S1.size inb_S5_S1_0) numel1_S1 = BitVec.ofNat 32 q.val := by
    rw [← h]
    exact congrArg (pf 0) (funext fun a => Fin.ext (match a with | ⟨0, _⟩ => rfl))
  have hq := q.isLt
  have hi : (i 1).val < 4 := (i 1).isLt
  simp only [e]
  simp only [BitVec.toNat_ofNat, Nat.zero_mod]
  rw [Nat.mod_eq_of_lt (show q.val < 2 ^ 32 by omega), Nat.mod_eq_of_lt (show (i 1).val < 2 ^ 32 by omega)]

/-- The side condition the pipeline puts on its table. -/
theorem ok_of_word {F : FTy → Type} [FloatOps F] (pf : pre0.Contents (Elt F)) (q : Fin 4) (h : (pf 0 : IVec S5 32) (ix1 0) = BitVec.ofNat 32 q.val) :
    ok0 (F := F) pf := fun i => by
  rw [steered pf q h]
  exact blocks_inside q ⟨(i 1).val, (i 1).isLt⟩

/-! ## The arrays -/

/-- The weight's gradient at a feature and a column of part `q`: the input's feature against the part's cotangent, over the tokens. -/
def dw (h : S2048x2048.Idx → EReal) (p : S4x2048x4096.Idx → EReal) (q : Fin 4) (d : Fin 2048) (l : Fin 4096) : EReal :=
  ∑ s : Fin 2048, h (ix2 s d) * p (ix3 q s l)

variable (m : (ℓ : Loc nD τ sig) → Buf (Elt Ideal) ℓ) (c : Dev nD)

/-- The projections' input. -/
abbrev H : S2048x2048.Idx → EReal := m ((c : Thread nD τ).loc main_arg0)
/-- The projections' cotangents. -/
abbrev P : S4x2048x4096.Idx → EReal := m ((c : Thread nD τ).loc main_arg1)
/-- The table. -/
abbrev T : IVec S5 32 := m ((c : Thread nD τ).loc main_arg2)

variable (q : Fin 4) (hw : T m 0 (ix1 0) = BitVec.ofNat 32 q.val) (hO : Ok m)

/-! ## The blocks at a grid point -/

theorem idx0 : ∀ t : Fin (cfgM m hO).N, ((cfgM m hO).win 0).index t = ![0, t.val / 4] := (by decide +kernel : ∀ t : Fin grid0.N, cc0_transform_0 (grid0.coords t) = ![0, t.val / 4])
theorem idx2 : ∀ t : Fin (cfgM m hO).N, ((cfgM m hO).win 2).index t = ![t.val % 4 / 2, t.val / 4, t.val % 2] := (by decide +kernel : ∀ t : Fin grid0.N, cc0_transform_2 (grid0.coords t) = ![t.val % 4 / 2, t.val / 4, t.val % 2])
theorem column : ∀ t : Fin grid0.N, (grid0.coords t 1).val = t.val % 4 := by decide +kernel
include hw in
theorem idx1 (t : Fin (cfgM m hO).N) : ((cfgM m hO).win 1).index t = ![q.val, 0, t.val % 4] := by
  rw [← column t]
  exact steered (tbl m) q hw (grid0.coords t)

/-- The input's block at a point. -/
theorem rd0 (t : Fin (cfgM m hO).N) (s : Fin 2048) (d : Fin 1024) :
    iblk m hO c 0 t (ix2 s d) = H m c (ix2 s ⟨t.val / 4 * 1024 + d.val, by have := t.isLt; have : (cfgM m hO).N = 8 := rfl; omega⟩) := by
  blk_point [iblk, idx0 m hO t]

include hw in
/-- The cotangents' block at a point. -/
theorem rd1 (t : Fin (cfgM m hO).N) (s : Fin 2048) (n : Fin 1024) :
    iblk m hO c 1 t (ix3 0 s n) = P m c (ix3 q s ⟨t.val % 4 * 1024 + n.val, by omega⟩) := by
  blk_point [iblk, idx1 m q hw hO t]

/-- The kept block is the input's, transposed. -/
theorem pay1_at (a : S2048x1024.Idx → EReal) (d : Fin 1024) (s : Fin 2048) :
    k0_pay1 (F := Ideal) a (ix2 d s) = a (ix2 s d) := by
  pointwise [k0_pay1]

/-- One block of the result. -/
theorem pay2_at (a : S1024x2048.Idx → EReal) (b : S1x2048x1024.Idx → EReal) (d n : Fin 1024) :
    k0_pay2 (F := Ideal) a b (ix3 0 d n) = ∑ s : Fin 2048, a (ix2 d s) * b (ix3 0 s n) := by
  pointwise [k0_pay2]

/-- What a row's first point leaves in the result's block. -/
theorem first_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    out0_A_2 c i a3 h3 a4 h4 a5 h5 a6 h6 hc x y z = k0_pay2 (F := Ideal) (k0_pay1 (F := Ideal) x) y := by
  frame_out

/-- What a row's first point leaves in the scratch. -/
theorem first_kept (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    sout0_A_0 c i a3 h3 a4 h4 a5 h5 a6 h6 hc x y z = k0_pay1 (F := Ideal) x := by
  frame_out

/-- What another point leaves in the result's block. -/
theorem next_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : ¬ cond0_0 i) (x : Vec Ideal S2048x1024 .bf16) (y : Vec Ideal S1x2048x1024 .bf16) (z : TbBuf0 (F := Ideal) c tbM0_0)
    (k : Vec Ideal S1024x2048 .bf16) :
    out0_B_2 c i a3 h3 a4 h4 a5 h5 a6 h6 hc x y z k = k0_pay2 (F := Ideal) k y := by
  frame_out

/-- The input's block at a point, as an array of its own shape. -/
def B0 (t : Fin (cfgM m hO).N) : Vec Ideal S2048x1024 .bf16 := iblk m hO c 0 t
/-- The cotangents' block at a point, as an array of its own shape. -/
def B1 (t : Fin (cfgM m hO).N) : Vec Ideal S1x2048x1024 .bf16 := iblk m hO c 1 t

/-- What a row's first point stores. -/
theorem store_A (t : Fin (cfgM m hO).N) (h : t.val % 4 = 0) :
    outsAt0 m hO c t.val t.isLt = (k0_pay2 (F := Ideal) (k0_pay1 (F := Ideal) (B0 m c hO t)) (B1 m c hO t), k0_pay1 (F := Ideal) (B0 m c hO t)) := by
  rw [outsAt0_A m hO c t h]
  exact congrArg₂ Prod.mk
    (first_out c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))
    (first_kept c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))

/-- What another point stores: the scratch keeps what it held. -/
theorem store_B (t : Fin (cfgM m hO).N) (h : ¬ t.val % 4 = 0) :
    outsAt0 m hO c t.val t.isLt
      = (k0_pay2 (F := Ideal) (outsAt0 m hO c (t.val - 1) (Nat.lt_of_le_of_lt (Nat.sub_le _ _) t.isLt)).2 (B1 m c hO t),
        (outsAt0 m hO c (t.val - 1) (Nat.lt_of_le_of_lt (Nat.sub_le _ _) t.isLt)).2) := by
  rw [outsAt0_B m hO c t h]
  exact congrArg (Prod.mk · _)
    (next_out c (grid0.coords t) (ms0_0 m hO t) (hs0_0 m hO t) (ms0_1 m hO t) (hs0_1 m hO t) (ms0_2 m hO t) (hs0_2 m hO t) scM0_0 (Memref.isWhole_whole _)
      (fun e => h ((hcond0_0 t).mp e)) (iblk m hO c 0 t) (iblk m hO c 1 t) (tbl m 0) _)

/-- What the scratch holds after a point: the transposed block of the input that all points of the row share. -/
theorem kept_at (n : ℕ) (hn : n < (cfgM m hO).N) (d : Fin 1024) (s : Fin 2048) :
    (outsAt0 m hO c n hn).2 (ix2 d s) = H m c (ix2 s ⟨n / 4 * 1024 + d.val, by have : (cfgM m hO).N = 8 := rfl; omega⟩) := by
  induction n with
  | zero =>
    rw [store_A m c hO ⟨0, hn⟩ (Nat.zero_mod 4)]
    exact (pay1_at _ d s).trans (rd0 m c hO _ s d)
  | succ n ih =>
    by_cases h : (n + 1) % 4 = 0
    · rw [store_A m c hO ⟨n + 1, hn⟩ h]
      exact (pay1_at _ d s).trans (rd0 m c hO _ s d)
    · rw [store_B m c hO ⟨n + 1, hn⟩ h]
      refine (ih (by omega)).trans (congrArg (H m c) (ix2_val rfl ?_))
      show n / 4 * 1024 + d.val = (n + 1) / 4 * 1024 + d.val; omega

include hw in
/-- The block a point writes, over the arrays. -/
theorem out_at (t : Fin (cfgM m hO).N) (d n : Fin 1024) :
    (outsAt0 m hO c t.val t.isLt).1 (ix3 0 d n)
      = dw (H m c) (P m c) q ⟨t.val / 4 * 1024 + d.val, by have := t.isLt; have : (cfgM m hO).N = 8 := rfl; omega⟩ ⟨t.val % 4 * 1024 + n.val, by omega⟩ := by
  have e : (outsAt0 m hO c t.val t.isLt).1 (ix3 0 d n)
      = ∑ s : Fin 2048, (outsAt0 m hO c t.val t.isLt).2 (ix2 d s) * B1 m c hO t (ix3 0 s n) := by
    by_cases h : t.val % 4 = 0
    · rw [store_A m c hO t h]; exact pay2_at _ _ d n
    · rw [store_B m c hO t h]; exact pay2_at _ _ d n
  rw [e]
  unfold dw
  refine Fin.sum_fin_congr fun s => ?_
  rw [kept_at m c hO]
  exact congrArg (H m c _ * ·) (rd1 m c q hw hO t s n)

/-- Where the block lies in the array. -/
theorem emb2 (t : Fin (cfgM m hO).N) (d n : Fin 1024) :
    (((cfgM m hO).win 2).blk t).view.emb (ix3 0 d n)
      = (ix3 ⟨t.val % 4 / 2, by omega⟩ ⟨t.val / 4 * 1024 + d.val, by have := t.isLt; have : (cfgM m hO).N = 8 := rfl; omega⟩
          ⟨t.val % 2 * 1024 + n.val, by omega⟩ : S2x2048x2048.Idx) := by
  blk_ext [idx2 m hO t]

/-- The gradient of part `q` as an array, cut by columns into the chip's two pieces. -/
def DW (h : S2048x2048.Idx → EReal) (p : S4x2048x4096.Idx → EReal) (q : Fin 4) : S2x2048x2048.Idx → EReal := fun i =>
  dw h p q (i 1) ⟨(i 0).val * 2048 + (i 2).val, by
    have h0 : (i 0).val < 2 := (i 0).isLt
    have h2 : (i 2).val < 2048 := (i 2).isLt
    omega⟩

include hw in
/-- The block a point writes is the gradient's. -/
theorem at2 (t : Fin (cfgM m hO).N) (z : S1x1024x1024.Idx) :
    (outsAt0 m hO c t.val t.isLt).1 z = DW (H m c) (P m c) q ((((cfgM m hO).win 2).blk t).view.emb z) := by
  obtain ⟨a, d, n, rfl⟩ := exists_ix3 (a := 1) (b := 1024) (c := 1024) z
  obtain rfl : a = 0 := Subsingleton.elim _ _
  rw [out_at m c q hw hO t, emb2]
  show dw _ _ _ _ _ = dw _ _ _ _ _
  congr 1
  refine Fin.ext ?_
  show t.val % 4 * 1024 + n.val = t.val % 4 / 2 * 2048 + (t.val % 2 * 1024 + n.val)
  omega

/-- Every block of the result is some point's. -/
theorem parts_covered : ∀ a b d : Fin 2, ∃ t : Fin grid0.N, t.val % 4 / 2 = a.val ∧ t.val / 4 = b.val ∧ t.val % 2 = d.val := by
  decide +kernel

include hw in
/-- The kernel's array after its run. -/
theorem final2 : (dats m hO 0 c).arrAt 2 (cfgM m hO).N = DW (H m c) (P m c) q := by
  refine (dats m hO 0 c).arrAt_eq_of_covers 2 _ (Pipeline.Window.covers_of_index_surj _ rfl (by decide +kernel : ∀ a, 0 < S1x1024x1024.size a)
    fun (β : (a : Fin 3) → Fin (((cfgM m hO).win 2).nblk a)) => ?_) fun t hf z => ?_
  · have h0 : (β 0).val < 2 := lt_of_lt_of_eq (β 0).isLt (show (2 + 1 - 1) / 1 = 2 by decide)
    have h1 : (β 1).val < 2 := lt_of_lt_of_eq (β 1).isLt (show (2048 + 1024 - 1) / 1024 = 2 by decide)
    have h2 : (β 2).val < 2 := lt_of_lt_of_eq (β 2).isLt (show (2048 + 1024 - 1) / 1024 = 2 by decide)
    obtain ⟨t, h⟩ := parts_covered ⟨_, h0⟩ ⟨_, h1⟩ ⟨_, h2⟩
    refine ⟨t, fun a => ?_⟩
    rw [idx2 m hO t]
    match a with
    | ⟨0, _⟩ => exact h.1
    | ⟨1, _⟩ => exact h.2.1
    | ⟨2, _⟩ => exact h.2.2
  blk_simp
  rw [after0_2]
  exact at2 m c q hw hO t z

open Cert.Reference10Ideal.Read in
/-- Where the reference's slice begins. -/
theorem start (t : IVec S5 32) (h : t (ix1 0) = BitVec.ofNat 32 q.val) : val_main_v21 (F := Ideal) t = fun _ => BitVec.ofNat 32 (2 * q.val) := by
  funext i
  obtain rfl : i = Idealize.ShloMosaic.ix0 := Subsingleton.elim _ _
  have e : val_main_v17 (F := Ideal) t Idealize.ShloMosaic.ix0 = BitVec.ofNat 32 q.val := by
    rw [← h]
    unfold val_main_v17
    pointwise [val_main_v16]
  have f : val_main_v18 (F := Ideal) t Idealize.ShloMosaic.ix0 = BitVec.ofNat 32 (2 * q.val) := by
    rw [val_main_v18_apply, e, val_main_c_apply, WordCmp.muli_ofNat]
  rw [val_main_v21_apply, val_main_v20_apply, val_main_v19_apply, f, val_main_c_0_apply, val_main_c_1_apply]
  clear e f h
  revert q
  decide

open Cert.Reference10Ideal.Read in
/-- The reference's array. -/
theorem ref_at (h : S2048x2048.Idx → EReal) (p : S4x2048x4096.Idx → EReal) (t : IVec S5 32) (ht : t (ix1 0) = BitVec.ofNat 32 q.val)
    (a : Fin 2) (d : Fin 2048) (n : Fin 2048) :
    val_main_v22 (F := Ideal) h p t (ix3 a d n) = DW h p q (ix3 a d n) := by
  have hq := q.isLt
  have ha := a.isLt
  have hn := n.isLt
  unfold val_main_v22
  rw [start q t ht]
  rw [Host.dynamicSlice_eq_extractStridedSlice _ _ _ ![2 * q.val, 0, 0] _ (by clear ht hq; revert q; decide) (fun k => by
    match k with
    | ⟨0, _⟩ => show BitVec.toInt (BitVec.ofNat 32 (2 * q.val)) = ((2 * q.val : ℕ) : ℤ); clear ht hq; revert q; decide
    | ⟨1, _⟩ => rfl
    | ⟨2, _⟩ => rfl)]
  pointwise [val_main_v15, val_main_v14, val_main_v13, val_main_v12, val_main_v11]
  unfold DW dw
  refine Fin.sum_fin_congr fun s => ?_
  rw [mul_comm]
  pointwise [val_main_v10, val_main_v9, val_main_v8, val_main_v7, val_main_v6, val_main_v5, val_main_v4, val_main_v3, val_main_v2, val_main_v1, val_main_v0]
  refine congrArg (h (ix2 s d) * ·) ?_
  repeat' split
  · exact congrArg p (ix3_val (by show 0 = q.val; omega) rfl
      (by show (2 * q.val + a.val) * 2048 + n.val = a.val * 2048 + n.val; omega))
  · exact congrArg p (ix3_val (by show 1 = q.val; omega) rfl
      (by show (2 * q.val + a.val) * 2048 + n.val - 4096 = a.val * 2048 + n.val; omega))
  · exact congrArg p (ix3_val (by show 2 = q.val; omega) rfl
      (by show (2 * q.val + a.val) * 2048 + n.val - 4096 - 4096 = a.val * 2048 + n.val; omega))
  · exact congrArg p (ix3_val (by show 3 = q.val; omega) rfl
      (by show (2 * q.val + a.val) * 2048 + n.val - 4096 - 4096 - 4096 = a.val * 2048 + n.val; omega))

/-- The kernel's result is the reference's. -/
theorem value [Cert.Pre_chip10.Facts] : algebraic_Kernel10Ideal_Reference10Ideal (hKernel10Ideal := Cert.Kernel10Ideal.Gen.facts)
    (hReference10Ideal := Cert.Reference10Ideal.Gen.facts) := by
  intro m g m' g' hpre hag
  obtain ⟨q, hw⟩ := chip_of_pre (hpre 0)
  have hO : Ok m := ok_of_word (tbl m) q hw
  refine ⟨fun c => DW (H m c) (P m c) q, ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference10Ideal.Value.run m' g')
    rw [Cert.Reference10Ideal.Read.val_main_v22_eq, (hag c).1, (hag c).2.1, (hag c).2.2]
    funext i
    obtain rfl : c = 0 := Subsingleton.elim _ _
    exact (congrArg _ (ix3_eta i).symm).trans (ref_at q (H m 0) (P m 0) (T m 0) hw (i 0) (i 1) (i 2))

/-- The kernel as compiled runs, its arguments end unchanged, and no semaphore is left raised. -/
theorem frame [Cert.Pre_chip10.Facts] : quiescent_Kernel10 (hKernel10 := Cert.Kernel10.Gen.facts) := fun m g h => by
  obtain ⟨q, hw⟩ := chip_of_pre (h 0)
  exact Cert.Kernel10.Gen.frame m g (ok_of_word (Cert.Kernel10.Gen.tbl m) q hw)

/-- The idealized kernel does too. -/
theorem idealFrame [Cert.Pre_chip10.Facts] : quiescent_Kernel10Ideal (hKernel10Ideal := Cert.Kernel10Ideal.Gen.facts) := fun m g h => by
  obtain ⟨q, hw⟩ := chip_of_pre (h 0)
  exact Cert.Kernel10Ideal.Gen.frame m g (ok_of_word (tbl m) q hw)

/-- The reference runs, its arguments end unchanged, and it has no semaphore to leave raised. -/
theorem refFrame [Cert.Pre_chip10.Facts] : quiescent_Reference10Ideal (hReference10Ideal := Cert.Reference10Ideal.Gen.facts) := fun m g _ =>
  (θ_run _ _ _).mono (fun r h => ⟨fun c => (h c).2, funext fun s => by
    rcases s with ⟨_, s⟩; rcases s with s | s <;> exact s.elim0⟩) (Cert.Reference10Ideal.Value.run m g)

end Cert.Proof.WeightGrad0Y

end
-- ==== Proof.Product.WeightGrad0X.lean ====
/-
  The gradient of the first layer's projections in their weight, one chip's share of the columns: the kernel's products, whose
  blocks a table steers, and the reference's slice of the whole gradient.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Product.Index
public import proofs.«01_k».proof.Proof.Product.Word
public import Idealize.ShloMosaic.Lib.WordCmp
public import Idealize.ShloMosaic.Lib.DynamicIndex
public import Idealize.ShloMosaic.Lib.Pipeline.Covers

@[expose] public section

set_option maxRecDepth 20000

noncomputable section

namespace Cert.Proof.WeightGrad0X

open Cert.Kernel11Ideal Cert.Kernel11Ideal.Gen Idealize.ShloMosaic Idealize.ShloMosaic.TcCoe Idealize.SL.Sem

/-- The side conditions of the precondition's own operations. -/
theorem preFacts : Cert.Pre_chip11.Facts :=
  { slices_S5_S1_1 := by decide
    shapeCasts_S1_S_ := by decide }

/-- What the precondition says of the table: its fourth word names a chip. -/
theorem chip_of_pre {F : FTy → Type} [FloatOps F] [Cert.Pre_chip11.Facts] {a : FVec F S2048x2048 .bf16} {b : FVec F S4x2048x4096 .bf16} {t : IVec S5 32}
    (h : Cert.Pre_chip11.fn (F := F) a b t = fun _ => 1#1) : ∃ q : Fin 4, t (ix1 1) = BitVec.ofNat 32 q.val := by
  have h0 := congrFun h ix0
  dsimp only [Cert.Pre_chip11.fn] at h0
  obtain ⟨h1, h2⟩ := IntOp.andi_eq_one.mp h0
  have e : shapeCast Cert.Pre_chip11.S_ (extractStridedSlice Cert.Pre_chip11.S1 ![1] t Cert.Pre_chip11.Facts.slices_S5_S1_1)
      Cert.Pre_chip11.Facts.shapeCasts_S1_S_ ix0 = t (ix1 1) := by pointwise
  rw [← e]
  exact Word.word_of_range _ h1 h2

/-! ## The table's side condition -/

/-- Every block the table can name lies inside the array, on whole words. -/
theorem blocks_inside : ∀ (q : Fin 4) (j : Fin 4),
    ∃ h : (∀ a, ((![q.val, 0, j.val] : Fin 3 → ℕ) a + 1) * S1x2048x1024.size a ≤ S4x2048x4096.size a),
      EltTy.bits .bf16 = 32 ∨ (Rect.block (s := S4x2048x4096) S1x2048x1024.size ![q.val, 0, j.val] h).WholeWords (EltTy.packing .bf16) := by
  decide +kernel

/-- The block of the cotangents at a point: the part the table names. -/
theorem steered {F : FTy → Type} [FloatOps F] (pf : pre0.Contents (Elt F)) (q : Fin 4) (h : (pf 0 : IVec S5 32) (ix1 1) = BitVec.ofNat 32 q.val)
    (i : grid0.Coords) : cc0_transform_1 (F := F) inb_S5_S1_1 numel1_S1 pf i = ![q.val, 0, (i 1).val] := by
  unfold cc0_transform_1
  have e : pf.at 0 (Rect.unit (s := S5) ![1] S1.size inb_S5_S1_1) numel1_S1 = BitVec.ofNat 32 q.val := by
    rw [← h]
    exact congrArg (pf 0) (funext fun a => Fin.ext (match a with | ⟨0, _⟩ => rfl))
  have hq := q.isLt
  have hi : (i 1).val < 4 := (i 1).isLt
  simp only [e]
  simp only [BitVec.toNat_ofNat, Nat.zero_mod]
  rw [Nat.mod_eq_of_lt (show q.val < 2 ^ 32 by omega), Nat.mod_eq_of_lt (show (i 1).val < 2 ^ 32 by omega)]

/-- The side condition the pipeline puts on its table. -/
theorem ok_of_word {F : FTy → Type} [FloatOps F] (pf : pre0.Contents (Elt F)) (q : Fin 4) (h : (pf 0 : IVec S5 32) (ix1 1) = BitVec.ofNat 32 q.val) :
    ok0 (F := F) pf := fun i => by
  rw [steered pf q h]
  exact blocks_inside q ⟨(i 1).val, (i 1).isLt⟩

/-! ## The arrays -/

/-- The weight's gradient at a feature and a column of part `q`: the input's feature against the part's cotangent, over the tokens. -/
def dw (h : S2048x2048.Idx → EReal) (p : S4x2048x4096.Idx → EReal) (q : Fin 4) (d : Fin 2048) (l : Fin 4096) : EReal :=
  ∑ s : Fin 2048, h (ix2 s d) * p (ix3 q s l)

variable (m : (ℓ : Loc nD τ sig) → Buf (Elt Ideal) ℓ) (c : Dev nD)

/-- The projections' input. -/
abbrev H : S2048x2048.Idx → EReal := m ((c : Thread nD τ).loc main_arg0)
/-- The projections' cotangents. -/
abbrev P : S4x2048x4096.Idx → EReal := m ((c : Thread nD τ).loc main_arg1)
/-- The table. -/
abbrev T : IVec S5 32 := m ((c : Thread nD τ).loc main_arg2)

variable (q : Fin 4) (hw : T m 0 (ix1 1) = BitVec.ofNat 32 q.val) (hO : Ok m)

/-! ## The blocks at a grid point -/

theorem idx0 : ∀ t : Fin (cfgM m hO).N, ((cfgM m hO).win 0).index t = ![0, t.val / 4] := (by decide +kernel : ∀ t : Fin grid0.N, cc0_transform_0 (grid0.coords t) = ![0, t.val / 4])
theorem idx2 : ∀ t : Fin (cfgM m hO).N, ((cfgM m hO).win 2).index t = ![t.val % 4 / 2, t.val / 4, t.val % 2] := (by decide +kernel : ∀ t : Fin grid0.N, cc0_transform_2 (grid0.coords t) = ![t.val % 4 / 2, t.val / 4, t.val % 2])
theorem column : ∀ t : Fin grid0.N, (grid0.coords t 1).val = t.val % 4 := by decide +kernel
include hw in
theorem idx1 (t : Fin (cfgM m hO).N) : ((cfgM m hO).win 1).index t = ![q.val, 0, t.val % 4] := by
  rw [← column t]
  exact steered (tbl m) q hw (grid0.coords t)

/-- The input's block at a point. -/
theorem rd0 (t : Fin (cfgM m hO).N) (s : Fin 2048) (d : Fin 1024) :
    iblk m hO c 0 t (ix2 s d) = H m c (ix2 s ⟨t.val / 4 * 1024 + d.val, by have := t.isLt; have : (cfgM m hO).N = 8 := rfl; omega⟩) := by
  blk_point [iblk, idx0 m hO t]

include hw in
/-- The cotangents' block at a point. -/
theorem rd1 (t : Fin (cfgM m hO).N) (s : Fin 2048) (n : Fin 1024) :
    iblk m hO c 1 t (ix3 0 s n) = P m c (ix3 q s ⟨t.val % 4 * 1024 + n.val, by omega⟩) := by
  blk_point [iblk, idx1 m q hw hO t]

/-- The kept block is the input's, transposed. -/
theorem pay1_at (a : S2048x1024.Idx → EReal) (d : Fin 1024) (s : Fin 2048) :
    k0_pay1 (F := Ideal) a (ix2 d s) = a (ix2 s d) := by
  pointwise [k0_pay1]

/-- One block of the result. -/
theorem pay2_at (a : S1024x2048.Idx → EReal) (b : S1x2048x1024.Idx → EReal) (d n : Fin 1024) :
    k0_pay2 (F := Ideal) a b (ix3 0 d n) = ∑ s : Fin 2048, a (ix2 d s) * b (ix3 0 s n) := by
  pointwise [k0_pay2]

/-- What a row's first point leaves in the result's block. -/
theorem first_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    out0_A_2 c i a3 h3 a4 h4 a5 h5 a6 h6 hc x y z = k0_pay2 (F := Ideal) (k0_pay1 (F := Ideal) x) y := by
  frame_out

/-- What a row's first point leaves in the scratch. -/
theorem first_kept (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    sout0_A_0 c i a3 h3 a4 h4 a5 h5 a6 h6 hc x y z = k0_pay1 (F := Ideal) x := by
  frame_out

/-- What another point leaves in the result's block. -/
theorem next_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : ¬ cond0_0 i) (x : Vec Ideal S2048x1024 .bf16) (y : Vec Ideal S1x2048x1024 .bf16) (z : TbBuf0 (F := Ideal) c tbM0_0)
    (k : Vec Ideal S1024x2048 .bf16) :
    out0_B_2 c i a3 h3 a4 h4 a5 h5 a6 h6 hc x y z k = k0_pay2 (F := Ideal) k y := by
  frame_out

/-- The input's block at a point, as an array of its own shape. -/
def B0 (t : Fin (cfgM m hO).N) : Vec Ideal S2048x1024 .bf16 := iblk m hO c 0 t
/-- The cotangents' block at a point, as an array of its own shape. -/
def B1 (t : Fin (cfgM m hO).N) : Vec Ideal S1x2048x1024 .bf16 := iblk m hO c 1 t

/-- What a row's first point stores. -/
theorem store_A (t : Fin (cfgM m hO).N) (h : t.val % 4 = 0) :
    outsAt0 m hO c t.val t.isLt = (k0_pay2 (F := Ideal) (k0_pay1 (F := Ideal) (B0 m c hO t)) (B1 m c hO t), k0_pay1 (F := Ideal) (B0 m c hO t)) := by
  rw [outsAt0_A m hO c t h]
  exact congrArg₂ Prod.mk
    (first_out c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))
    (first_kept c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))

/-- What another point stores: the scratch keeps what it held. -/
theorem store_B (t : Fin (cfgM m hO).N) (h : ¬ t.val % 4 = 0) :
    outsAt0 m hO c t.val t.isLt
      = (k0_pay2 (F := Ideal) (outsAt0 m hO c (t.val - 1) (Nat.lt_of_le_of_lt (Nat.sub_le _ _) t.isLt)).2 (B1 m c hO t),
        (outsAt0 m hO c (t.val - 1) (Nat.lt_of_le_of_lt (Nat.sub_le _ _) t.isLt)).2) := by
  rw [outsAt0_B m hO c t h]
  exact congrArg (Prod.mk · _)
    (next_out c (grid0.coords t) (ms0_0 m hO t) (hs0_0 m hO t) (ms0_1 m hO t) (hs0_1 m hO t) (ms0_2 m hO t) (hs0_2 m hO t) scM0_0 (Memref.isWhole_whole _)
      (fun e => h ((hcond0_0 t).mp e)) (iblk m hO c 0 t) (iblk m hO c 1 t) (tbl m 0) _)

/-- What the scratch holds after a point: the transposed block of the input that all points of the row share. -/
theorem kept_at (n : ℕ) (hn : n < (cfgM m hO).N) (d : Fin 1024) (s : Fin 2048) :
    (outsAt0 m hO c n hn).2 (ix2 d s) = H m c (ix2 s ⟨n / 4 * 1024 + d.val, by have : (cfgM m hO).N = 8 := rfl; omega⟩) := by
  induction n with
  | zero =>
    rw [store_A m c hO ⟨0, hn⟩ (Nat.zero_mod 4)]
    exact (pay1_at _ d s).trans (rd0 m c hO _ s d)
  | succ n ih =>
    by_cases h : (n + 1) % 4 = 0
    · rw [store_A m c hO ⟨n + 1, hn⟩ h]
      exact (pay1_at _ d s).trans (rd0 m c hO _ s d)
    · rw [store_B m c hO ⟨n + 1, hn⟩ h]
      refine (ih (by omega)).trans (congrArg (H m c) (ix2_val rfl ?_))
      show n / 4 * 1024 + d.val = (n + 1) / 4 * 1024 + d.val; omega

include hw in
/-- The block a point writes, over the arrays. -/
theorem out_at (t : Fin (cfgM m hO).N) (d n : Fin 1024) :
    (outsAt0 m hO c t.val t.isLt).1 (ix3 0 d n)
      = dw (H m c) (P m c) q ⟨t.val / 4 * 1024 + d.val, by have := t.isLt; have : (cfgM m hO).N = 8 := rfl; omega⟩ ⟨t.val % 4 * 1024 + n.val, by omega⟩ := by
  have e : (outsAt0 m hO c t.val t.isLt).1 (ix3 0 d n)
      = ∑ s : Fin 2048, (outsAt0 m hO c t.val t.isLt).2 (ix2 d s) * B1 m c hO t (ix3 0 s n) := by
    by_cases h : t.val % 4 = 0
    · rw [store_A m c hO t h]; exact pay2_at _ _ d n
    · rw [store_B m c hO t h]; exact pay2_at _ _ d n
  rw [e]
  unfold dw
  refine Fin.sum_fin_congr fun s => ?_
  rw [kept_at m c hO]
  exact congrArg (H m c _ * ·) (rd1 m c q hw hO t s n)

/-- Where the block lies in the array. -/
theorem emb2 (t : Fin (cfgM m hO).N) (d n : Fin 1024) :
    (((cfgM m hO).win 2).blk t).view.emb (ix3 0 d n)
      = (ix3 ⟨t.val % 4 / 2, by omega⟩ ⟨t.val / 4 * 1024 + d.val, by have := t.isLt; have : (cfgM m hO).N = 8 := rfl; omega⟩
          ⟨t.val % 2 * 1024 + n.val, by omega⟩ : S2x2048x2048.Idx) := by
  blk_ext [idx2 m hO t]

/-- The gradient of part `q` as an array, cut by columns into the chip's two pieces. -/
def DW (h : S2048x2048.Idx → EReal) (p : S4x2048x4096.Idx → EReal) (q : Fin 4) : S2x2048x2048.Idx → EReal := fun i =>
  dw h p q (i 1) ⟨(i 0).val * 2048 + (i 2).val, by
    have h0 : (i 0).val < 2 := (i 0).isLt
    have h2 : (i 2).val < 2048 := (i 2).isLt
    omega⟩

include hw in
/-- The block a point writes is the gradient's. -/
theorem at2 (t : Fin (cfgM m hO).N) (z : S1x1024x1024.Idx) :
    (outsAt0 m hO c t.val t.isLt).1 z = DW (H m c) (P m c) q ((((cfgM m hO).win 2).blk t).view.emb z) := by
  obtain ⟨a, d, n, rfl⟩ := exists_ix3 (a := 1) (b := 1024) (c := 1024) z
  obtain rfl : a = 0 := Subsingleton.elim _ _
  rw [out_at m c q hw hO t, emb2]
  show dw _ _ _ _ _ = dw _ _ _ _ _
  congr 1
  refine Fin.ext ?_
  show t.val % 4 * 1024 + n.val = t.val % 4 / 2 * 2048 + (t.val % 2 * 1024 + n.val)
  omega

/-- Every block of the result is some point's. -/
theorem parts_covered : ∀ a b d : Fin 2, ∃ t : Fin grid0.N, t.val % 4 / 2 = a.val ∧ t.val / 4 = b.val ∧ t.val % 2 = d.val := by
  decide +kernel

include hw in
/-- The kernel's array after its run. -/
theorem final2 : (dats m hO 0 c).arrAt 2 (cfgM m hO).N = DW (H m c) (P m c) q := by
  refine (dats m hO 0 c).arrAt_eq_of_covers 2 _ (Pipeline.Window.covers_of_index_surj _ rfl (by decide +kernel : ∀ a, 0 < S1x1024x1024.size a)
    fun (β : (a : Fin 3) → Fin (((cfgM m hO).win 2).nblk a)) => ?_) fun t hf z => ?_
  · have h0 : (β 0).val < 2 := lt_of_lt_of_eq (β 0).isLt (show (2 + 1 - 1) / 1 = 2 by decide)
    have h1 : (β 1).val < 2 := lt_of_lt_of_eq (β 1).isLt (show (2048 + 1024 - 1) / 1024 = 2 by decide)
    have h2 : (β 2).val < 2 := lt_of_lt_of_eq (β 2).isLt (show (2048 + 1024 - 1) / 1024 = 2 by decide)
    obtain ⟨t, h⟩ := parts_covered ⟨_, h0⟩ ⟨_, h1⟩ ⟨_, h2⟩
    refine ⟨t, fun a => ?_⟩
    rw [idx2 m hO t]
    match a with
    | ⟨0, _⟩ => exact h.1
    | ⟨1, _⟩ => exact h.2.1
    | ⟨2, _⟩ => exact h.2.2
  blk_simp
  rw [after0_2]
  exact at2 m c q hw hO t z

open Cert.Reference11Ideal.Read in
/-- Where the reference's slice begins. -/
theorem start (t : IVec S5 32) (h : t (ix1 1) = BitVec.ofNat 32 q.val) : val_main_v21 (F := Ideal) t = fun _ => BitVec.ofNat 32 (2 * q.val) := by
  funext i
  obtain rfl : i = Idealize.ShloMosaic.ix0 := Subsingleton.elim _ _
  have e : val_main_v17 (F := Ideal) t Idealize.ShloMosaic.ix0 = BitVec.ofNat 32 q.val := by
    rw [← h]
    unfold val_main_v17
    pointwise [val_main_v16]
  have f : val_main_v18 (F := Ideal) t Idealize.ShloMosaic.ix0 = BitVec.ofNat 32 (2 * q.val) := by
    rw [val_main_v18_apply, e, val_main_c_apply, WordCmp.muli_ofNat]
  rw [val_main_v21_apply, val_main_v20_apply, val_main_v19_apply, f, val_main_c_0_apply, val_main_c_1_apply]
  clear e f h
  revert q
  decide

open Cert.Reference11Ideal.Read in
/-- The reference's array. -/
theorem ref_at (h : S2048x2048.Idx → EReal) (p : S4x2048x4096.Idx → EReal) (t : IVec S5 32) (ht : t (ix1 1) = BitVec.ofNat 32 q.val)
    (a : Fin 2) (d : Fin 2048) (n : Fin 2048) :
    val_main_v22 (F := Ideal) h p t (ix3 a d n) = DW h p q (ix3 a d n) := by
  have hq := q.isLt
  have ha := a.isLt
  have hn := n.isLt
  unfold val_main_v22
  rw [start q t ht]
  rw [Host.dynamicSlice_eq_extractStridedSlice _ _ _ ![2 * q.val, 0, 0] _ (by clear ht hq; revert q; decide) (fun k => by
    match k with
    | ⟨0, _⟩ => show BitVec.toInt (BitVec.ofNat 32 (2 * q.val)) = ((2 * q.val : ℕ) : ℤ); clear ht hq; revert q; decide
    | ⟨1, _⟩ => rfl
    | ⟨2, _⟩ => rfl)]
  pointwise [val_main_v15, val_main_v14, val_main_v13, val_main_v12, val_main_v11]
  unfold DW dw
  refine Fin.sum_fin_congr fun s => ?_
  rw [mul_comm]
  pointwise [val_main_v10, val_main_v9, val_main_v8, val_main_v7, val_main_v6, val_main_v5, val_main_v4, val_main_v3, val_main_v2, val_main_v1, val_main_v0]
  refine congrArg (h (ix2 s d) * ·) ?_
  repeat' split
  · exact congrArg p (ix3_val (by show 0 = q.val; omega) rfl
      (by show (2 * q.val + a.val) * 2048 + n.val = a.val * 2048 + n.val; omega))
  · exact congrArg p (ix3_val (by show 1 = q.val; omega) rfl
      (by show (2 * q.val + a.val) * 2048 + n.val - 4096 = a.val * 2048 + n.val; omega))
  · exact congrArg p (ix3_val (by show 2 = q.val; omega) rfl
      (by show (2 * q.val + a.val) * 2048 + n.val - 4096 - 4096 = a.val * 2048 + n.val; omega))
  · exact congrArg p (ix3_val (by show 3 = q.val; omega) rfl
      (by show (2 * q.val + a.val) * 2048 + n.val - 4096 - 4096 - 4096 = a.val * 2048 + n.val; omega))

/-- The kernel's result is the reference's. -/
theorem value [Cert.Pre_chip11.Facts] : algebraic_Kernel11Ideal_Reference11Ideal (hKernel11Ideal := Cert.Kernel11Ideal.Gen.facts)
    (hReference11Ideal := Cert.Reference11Ideal.Gen.facts) := by
  intro m g m' g' hpre hag
  obtain ⟨q, hw⟩ := chip_of_pre (hpre 0)
  have hO : Ok m := ok_of_word (tbl m) q hw
  refine ⟨fun c => DW (H m c) (P m c) q, ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference11Ideal.Value.run m' g')
    rw [Cert.Reference11Ideal.Read.val_main_v22_eq, (hag c).1, (hag c).2.1, (hag c).2.2]
    funext i
    obtain rfl : c = 0 := Subsingleton.elim _ _
    exact (congrArg _ (ix3_eta i).symm).trans (ref_at q (H m 0) (P m 0) (T m 0) hw (i 0) (i 1) (i 2))

/-- The kernel as compiled runs, its arguments end unchanged, and no semaphore is left raised. -/
theorem frame [Cert.Pre_chip11.Facts] : quiescent_Kernel11 (hKernel11 := Cert.Kernel11.Gen.facts) := fun m g h => by
  obtain ⟨q, hw⟩ := chip_of_pre (h 0)
  exact Cert.Kernel11.Gen.frame m g (ok_of_word (Cert.Kernel11.Gen.tbl m) q hw)

/-- The idealized kernel does too. -/
theorem idealFrame [Cert.Pre_chip11.Facts] : quiescent_Kernel11Ideal (hKernel11Ideal := Cert.Kernel11Ideal.Gen.facts) := fun m g h => by
  obtain ⟨q, hw⟩ := chip_of_pre (h 0)
  exact Cert.Kernel11Ideal.Gen.frame m g (ok_of_word (tbl m) q hw)

/-- The reference runs, its arguments end unchanged, and it has no semaphore to leave raised. -/
theorem refFrame [Cert.Pre_chip11.Facts] : quiescent_Reference11Ideal (hReference11Ideal := Cert.Reference11Ideal.Gen.facts) := fun m g _ =>
  (θ_run _ _ _).mono (fun r h => ⟨fun c => (h c).2, funext fun s => by
    rcases s with ⟨_, s⟩; rcases s with s | s <;> exact s.elim0⟩) (Cert.Reference11Ideal.Value.run m g)

end Cert.Proof.WeightGrad0X

end
-- ==== Proof.Product.WeightGrad0Far.lean ====
/-
  The gradient of the first layer's projections in their weight, one chip's share of the columns: the kernel's products, whose
  blocks a table steers, and the reference's slice of the whole gradient.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Product.Index
public import proofs.«01_k».proof.Proof.Product.Word
public import Idealize.ShloMosaic.Lib.WordCmp
public import Idealize.ShloMosaic.Lib.DynamicIndex
public import Idealize.ShloMosaic.Lib.Pipeline.Covers

@[expose] public section

set_option maxRecDepth 20000

noncomputable section

namespace Cert.Proof.WeightGrad0Far

open Cert.Kernel12Ideal Cert.Kernel12Ideal.Gen Idealize.ShloMosaic Idealize.ShloMosaic.TcCoe Idealize.SL.Sem

/-- The side conditions of the precondition's own operations. -/
theorem preFacts : Cert.Pre_chip12.Facts :=
  { slices_S5_S1_2 := by decide
    shapeCasts_S1_S_ := by decide }

/-- What the precondition says of the table: its fourth word names a chip. -/
theorem chip_of_pre {F : FTy → Type} [FloatOps F] [Cert.Pre_chip12.Facts] {a : FVec F S2048x2048 .bf16} {b : FVec F S4x2048x4096 .bf16} {t : IVec S5 32}
    (h : Cert.Pre_chip12.fn (F := F) a b t = fun _ => 1#1) : ∃ q : Fin 4, t (ix1 2) = BitVec.ofNat 32 q.val := by
  have h0 := congrFun h ix0
  dsimp only [Cert.Pre_chip12.fn] at h0
  obtain ⟨h1, h2⟩ := IntOp.andi_eq_one.mp h0
  have e : shapeCast Cert.Pre_chip12.S_ (extractStridedSlice Cert.Pre_chip12.S1 ![2] t Cert.Pre_chip12.Facts.slices_S5_S1_2)
      Cert.Pre_chip12.Facts.shapeCasts_S1_S_ ix0 = t (ix1 2) := by pointwise
  rw [← e]
  exact Word.word_of_range _ h1 h2

/-! ## The table's side condition -/

/-- Every block the table can name lies inside the array, on whole words. -/
theorem blocks_inside : ∀ (q : Fin 4) (j : Fin 4),
    ∃ h : (∀ a, ((![q.val, 0, j.val] : Fin 3 → ℕ) a + 1) * S1x2048x1024.size a ≤ S4x2048x4096.size a),
      EltTy.bits .bf16 = 32 ∨ (Rect.block (s := S4x2048x4096) S1x2048x1024.size ![q.val, 0, j.val] h).WholeWords (EltTy.packing .bf16) := by
  decide +kernel

/-- The block of the cotangents at a point: the part the table names. -/
theorem steered {F : FTy → Type} [FloatOps F] (pf : pre0.Contents (Elt F)) (q : Fin 4) (h : (pf 0 : IVec S5 32) (ix1 2) = BitVec.ofNat 32 q.val)
    (i : grid0.Coords) : cc0_transform_1 (F := F) inb_S5_S1_2 numel1_S1 pf i = ![q.val, 0, (i 1).val] := by
  unfold cc0_transform_1
  have e : pf.at 0 (Rect.unit (s := S5) ![2] S1.size inb_S5_S1_2) numel1_S1 = BitVec.ofNat 32 q.val := by
    rw [← h]
    exact congrArg (pf 0) (funext fun a => Fin.ext (match a with | ⟨0, _⟩ => rfl))
  have hq := q.isLt
  have hi : (i 1).val < 4 := (i 1).isLt
  simp only [e]
  simp only [BitVec.toNat_ofNat, Nat.zero_mod]
  rw [Nat.mod_eq_of_lt (show q.val < 2 ^ 32 by omega), Nat.mod_eq_of_lt (show (i 1).val < 2 ^ 32 by omega)]

/-- The side condition the pipeline puts on its table. -/
theorem ok_of_word {F : FTy → Type} [FloatOps F] (pf : pre0.Contents (Elt F)) (q : Fin 4) (h : (pf 0 : IVec S5 32) (ix1 2) = BitVec.ofNat 32 q.val) :
    ok0 (F := F) pf := fun i => by
  rw [steered pf q h]
  exact blocks_inside q ⟨(i 1).val, (i 1).isLt⟩

/-! ## The arrays -/

/-- The weight's gradient at a feature and a column of part `q`: the input's feature against the part's cotangent, over the tokens. -/
def dw (h : S2048x2048.Idx → EReal) (p : S4x2048x4096.Idx → EReal) (q : Fin 4) (d : Fin 2048) (l : Fin 4096) : EReal :=
  ∑ s : Fin 2048, h (ix2 s d) * p (ix3 q s l)

variable (m : (ℓ : Loc nD τ sig) → Buf (Elt Ideal) ℓ) (c : Dev nD)

/-- The projections' input. -/
abbrev H : S2048x2048.Idx → EReal := m ((c : Thread nD τ).loc main_arg0)
/-- The projections' cotangents. -/
abbrev P : S4x2048x4096.Idx → EReal := m ((c : Thread nD τ).loc main_arg1)
/-- The table. -/
abbrev T : IVec S5 32 := m ((c : Thread nD τ).loc main_arg2)

variable (q : Fin 4) (hw : T m 0 (ix1 2) = BitVec.ofNat 32 q.val) (hO : Ok m)

/-! ## The blocks at a grid point -/

theorem idx0 : ∀ t : Fin (cfgM m hO).N, ((cfgM m hO).win 0).index t = ![0, t.val / 4] := (by decide +kernel : ∀ t : Fin grid0.N, cc0_transform_0 (grid0.coords t) = ![0, t.val / 4])
theorem idx2 : ∀ t : Fin (cfgM m hO).N, ((cfgM m hO).win 2).index t = ![t.val % 4 / 2, t.val / 4, t.val % 2] := (by decide +kernel : ∀ t : Fin grid0.N, cc0_transform_2 (grid0.coords t) = ![t.val % 4 / 2, t.val / 4, t.val % 2])
theorem column : ∀ t : Fin grid0.N, (grid0.coords t 1).val = t.val % 4 := by decide +kernel
include hw in
theorem idx1 (t : Fin (cfgM m hO).N) : ((cfgM m hO).win 1).index t = ![q.val, 0, t.val % 4] := by
  rw [← column t]
  exact steered (tbl m) q hw (grid0.coords t)

/-- The input's block at a point. -/
theorem rd0 (t : Fin (cfgM m hO).N) (s : Fin 2048) (d : Fin 1024) :
    iblk m hO c 0 t (ix2 s d) = H m c (ix2 s ⟨t.val / 4 * 1024 + d.val, by have := t.isLt; have : (cfgM m hO).N = 8 := rfl; omega⟩) := by
  blk_point [iblk, idx0 m hO t]

include hw in
/-- The cotangents' block at a point. -/
theorem rd1 (t : Fin (cfgM m hO).N) (s : Fin 2048) (n : Fin 1024) :
    iblk m hO c 1 t (ix3 0 s n) = P m c (ix3 q s ⟨t.val % 4 * 1024 + n.val, by omega⟩) := by
  blk_point [iblk, idx1 m q hw hO t]

/-- The kept block is the input's, transposed. -/
theorem pay1_at (a : S2048x1024.Idx → EReal) (d : Fin 1024) (s : Fin 2048) :
    k0_pay1 (F := Ideal) a (ix2 d s) = a (ix2 s d) := by
  pointwise [k0_pay1]

/-- One block of the result. -/
theorem pay2_at (a : S1024x2048.Idx → EReal) (b : S1x2048x1024.Idx → EReal) (d n : Fin 1024) :
    k0_pay2 (F := Ideal) a b (ix3 0 d n) = ∑ s : Fin 2048, a (ix2 d s) * b (ix3 0 s n) := by
  pointwise [k0_pay2]

/-- What a row's first point leaves in the result's block. -/
theorem first_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    out0_A_2 c i a3 h3 a4 h4 a5 h5 a6 h6 hc x y z = k0_pay2 (F := Ideal) (k0_pay1 (F := Ideal) x) y := by
  frame_out

/-- What a row's first point leaves in the scratch. -/
theorem first_kept (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : cond0_0 i) (x : Vec Ideal S2048x1024 .bf16) (y : Vec Ideal S1x2048x1024 .bf16) (z : TbBuf0 (F := Ideal) c tbM0_0) :
    sout0_A_0 c i a3 h3 a4 h4 a5 h5 a6 h6 hc x y z = k0_pay1 (F := Ideal) x := by
  frame_out

/-- What another point leaves in the result's block. -/
theorem next_out (c : Dev nD) (i : grid0.Coords) (a3 : Memref sig .tc .vmem S2048x1024 .bf16) (h3 : a3.IsWhole)
    (a4 : Memref sig .tc .vmem S1x2048x1024 .bf16) (h4 : a4.IsWhole) (a5 : Memref sig .tc .vmem S1x1024x1024 .bf16) (h5 : a5.IsWhole)
    (a6 : Memref sig .tc .vmem S1024x2048 .bf16) (h6 : a6.IsWhole)
    (hc : ¬ cond0_0 i) (x : Vec Ideal S2048x1024 .bf16) (y : Vec Ideal S1x2048x1024 .bf16) (z : TbBuf0 (F := Ideal) c tbM0_0)
    (k : Vec Ideal S1024x2048 .bf16) :
    out0_B_2 c i a3 h3 a4 h4 a5 h5 a6 h6 hc x y z k = k0_pay2 (F := Ideal) k y := by
  frame_out

/-- The input's block at a point, as an array of its own shape. -/
def B0 (t : Fin (cfgM m hO).N) : Vec Ideal S2048x1024 .bf16 := iblk m hO c 0 t
/-- The cotangents' block at a point, as an array of its own shape. -/
def B1 (t : Fin (cfgM m hO).N) : Vec Ideal S1x2048x1024 .bf16 := iblk m hO c 1 t

/-- What a row's first point stores. -/
theorem store_A (t : Fin (cfgM m hO).N) (h : t.val % 4 = 0) :
    outsAt0 m hO c t.val t.isLt = (k0_pay2 (F := Ideal) (k0_pay1 (F := Ideal) (B0 m c hO t)) (B1 m c hO t), k0_pay1 (F := Ideal) (B0 m c hO t)) := by
  rw [outsAt0_A m hO c t h]
  exact congrArg₂ Prod.mk
    (first_out c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))
    (first_kept c (grid0.coords t) (ms0_0 m hO t) (hs0_0 m hO t) (ms0_1 m hO t) (hs0_1 m hO t) (ms0_2 m hO t) (hs0_2 m hO t) scM0_0 (Memref.isWhole_whole _)
      ((hcond0_0 t).mpr h) (iblk m hO c 0 t) (iblk m hO c 1 t) (tbl m 0))

/-- What another point stores: the scratch keeps what it held. -/
theorem store_B (t : Fin (cfgM m hO).N) (h : ¬ t.val % 4 = 0) :
    outsAt0 m hO c t.val t.isLt
      = (k0_pay2 (F := Ideal) (outsAt0 m hO c (t.val - 1) (Nat.lt_of_le_of_lt (Nat.sub_le _ _) t.isLt)).2 (B1 m c hO t),
        (outsAt0 m hO c (t.val - 1) (Nat.lt_of_le_of_lt (Nat.sub_le _ _) t.isLt)).2) := by
  rw [outsAt0_B m hO c t h]
  exact congrArg (Prod.mk · _)
    (next_out c (grid0.coords t) (ms0_0 m hO t) (hs0_0 m hO t) (ms0_1 m hO t) (hs0_1 m hO t) (ms0_2 m hO t) (hs0_2 m hO t) scM0_0 (Memref.isWhole_whole _)
      (fun e => h ((hcond0_0 t).mp e)) (iblk m hO c 0 t) (iblk m hO c 1 t) (tbl m 0) _)

/-- What the scratch holds after a point: the transposed block of the input that all points of the row share. -/
theorem kept_at (n : ℕ) (hn : n < (cfgM m hO).N) (d : Fin 1024) (s : Fin 2048) :
    (outsAt0 m hO c n hn).2 (ix2 d s) = H m c (ix2 s ⟨n / 4 * 1024 + d.val, by have : (cfgM m hO).N = 8 := rfl; omega⟩) := by
  induction n with
  | zero =>
    rw [store_A m c hO ⟨0, hn⟩ (Nat.zero_mod 4)]
    exact (pay1_at _ d s).trans (rd0 m c hO _ s d)
  | succ n ih =>
    by_cases h : (n + 1) % 4 = 0
    · rw [store_A m c hO ⟨n + 1, hn⟩ h]
      exact (pay1_at _ d s).trans (rd0 m c hO _ s d)
    · rw [store_B m c hO ⟨n + 1, hn⟩ h]
      refine (ih (by omega)).trans (congrArg (H m c) (ix2_val rfl ?_))
      show n / 4 * 1024 + d.val = (n + 1) / 4 * 1024 + d.val; omega

include hw in
/-- The block a point writes, over the arrays. -/
theorem out_at (t : Fin (cfgM m hO).N) (d n : Fin 1024) :
    (outsAt0 m hO c t.val t.isLt).1 (ix3 0 d n)
      = dw (H m c) (P m c) q ⟨t.val / 4 * 1024 + d.val, by have := t.isLt; have : (cfgM m hO).N = 8 := rfl; omega⟩ ⟨t.val % 4 * 1024 + n.val, by omega⟩ := by
  have e : (outsAt0 m hO c t.val t.isLt).1 (ix3 0 d n)
      = ∑ s : Fin 2048, (outsAt0 m hO c t.val t.isLt).2 (ix2 d s) * B1 m c hO t (ix3 0 s n) := by
    by_cases h : t.val % 4 = 0
    · rw [store_A m c hO t h]; exact pay2_at _ _ d n
    · rw [store_B m c hO t h]; exact pay2_at _ _ d n
  rw [e]
  unfold dw
  refine Fin.sum_fin_congr fun s => ?_
  rw [kept_at m c hO]
  exact congrArg (H m c _ * ·) (rd1 m c q hw hO t s n)

/-- Where the block lies in the array. -/
theorem emb2 (t : Fin (cfgM m hO).N) (d n : Fin 1024) :
    (((cfgM m hO).win 2).blk t).view.emb (ix3 0 d n)
      = (ix3 ⟨t.val % 4 / 2, by omega⟩ ⟨t.val / 4 * 1024 + d.val, by have := t.isLt; have : (cfgM m hO).N = 8 := rfl; omega⟩
          ⟨t.val % 2 * 1024 + n.val, by omega⟩ : S2x2048x2048.Idx) := by
  blk_ext [idx2 m hO t]

/-- The gradient of part `q` as an array, cut by columns into the chip's two pieces. -/
def DW (h : S2048x2048.Idx → EReal) (p : S4x2048x4096.Idx → EReal) (q : Fin 4) : S2x2048x2048.Idx → EReal := fun i =>
  dw h p q (i 1) ⟨(i 0).val * 2048 + (i 2).val, by
    have h0 : (i 0).val < 2 := (i 0).isLt
    have h2 : (i 2).val < 2048 := (i 2).isLt
    omega⟩

include hw in
/-- The block a point writes is the gradient's. -/
theorem at2 (t : Fin (cfgM m hO).N) (z : S1x1024x1024.Idx) :
    (outsAt0 m hO c t.val t.isLt).1 z = DW (H m c) (P m c) q ((((cfgM m hO).win 2).blk t).view.emb z) := by
  obtain ⟨a, d, n, rfl⟩ := exists_ix3 (a := 1) (b := 1024) (c := 1024) z
  obtain rfl : a = 0 := Subsingleton.elim _ _
  rw [out_at m c q hw hO t, emb2]
  show dw _ _ _ _ _ = dw _ _ _ _ _
  congr 1
  refine Fin.ext ?_
  show t.val % 4 * 1024 + n.val = t.val % 4 / 2 * 2048 + (t.val % 2 * 1024 + n.val)
  omega

/-- Every block of the result is some point's. -/
theorem parts_covered : ∀ a b d : Fin 2, ∃ t : Fin grid0.N, t.val % 4 / 2 = a.val ∧ t.val / 4 = b.val ∧ t.val % 2 = d.val := by
  decide +kernel

include hw in
/-- The kernel's array after its run. -/
theorem final2 : (dats m hO 0 c).arrAt 2 (cfgM m hO).N = DW (H m c) (P m c) q := by
  refine (dats m hO 0 c).arrAt_eq_of_covers 2 _ (Pipeline.Window.covers_of_index_surj _ rfl (by decide +kernel : ∀ a, 0 < S1x1024x1024.size a)
    fun (β : (a : Fin 3) → Fin (((cfgM m hO).win 2).nblk a)) => ?_) fun t hf z => ?_
  · have h0 : (β 0).val < 2 := lt_of_lt_of_eq (β 0).isLt (show (2 + 1 - 1) / 1 = 2 by decide)
    have h1 : (β 1).val < 2 := lt_of_lt_of_eq (β 1).isLt (show (2048 + 1024 - 1) / 1024 = 2 by decide)
    have h2 : (β 2).val < 2 := lt_of_lt_of_eq (β 2).isLt (show (2048 + 1024 - 1) / 1024 = 2 by decide)
    obtain ⟨t, h⟩ := parts_covered ⟨_, h0⟩ ⟨_, h1⟩ ⟨_, h2⟩
    refine ⟨t, fun a => ?_⟩
    rw [idx2 m hO t]
    match a with
    | ⟨0, _⟩ => exact h.1
    | ⟨1, _⟩ => exact h.2.1
    | ⟨2, _⟩ => exact h.2.2
  blk_simp
  rw [after0_2]
  exact at2 m c q hw hO t z

open Cert.Reference12Ideal.Read in
/-- Where the reference's slice begins. -/
theorem start (t : IVec S5 32) (h : t (ix1 2) = BitVec.ofNat 32 q.val) : val_main_v21 (F := Ideal) t = fun _ => BitVec.ofNat 32 (2 * q.val) := by
  funext i
  obtain rfl : i = Idealize.ShloMosaic.ix0 := Subsingleton.elim _ _
  have e : val_main_v17 (F := Ideal) t Idealize.ShloMosaic.ix0 = BitVec.ofNat 32 q.val := by
    rw [← h]
    unfold val_main_v17
    pointwise [val_main_v16]
  have f : val_main_v18 (F := Ideal) t Idealize.ShloMosaic.ix0 = BitVec.ofNat 32 (2 * q.val) := by
    rw [val_main_v18_apply, e, val_main_c_apply, WordCmp.muli_ofNat]
  rw [val_main_v21_apply, val_main_v20_apply, val_main_v19_apply, f, val_main_c_0_apply, val_main_c_1_apply]
  clear e f h
  revert q
  decide

open Cert.Reference12Ideal.Read in
/-- The reference's array. -/
theorem ref_at (h : S2048x2048.Idx → EReal) (p : S4x2048x4096.Idx → EReal) (t : IVec S5 32) (ht : t (ix1 2) = BitVec.ofNat 32 q.val)
    (a : Fin 2) (d : Fin 2048) (n : Fin 2048) :
    val_main_v22 (F := Ideal) h p t (ix3 a d n) = DW h p q (ix3 a d n) := by
  have hq := q.isLt
  have ha := a.isLt
  have hn := n.isLt
  unfold val_main_v22
  rw [start q t ht]
  rw [Host.dynamicSlice_eq_extractStridedSlice _ _ _ ![2 * q.val, 0, 0] _ (by clear ht hq; revert q; decide) (fun k => by
    match k with
    | ⟨0, _⟩ => show BitVec.toInt (BitVec.ofNat 32 (2 * q.val)) = ((2 * q.val : ℕ) : ℤ); clear ht hq; revert q; decide
    | ⟨1, _⟩ => rfl
    | ⟨2, _⟩ => rfl)]
  pointwise [val_main_v15, val_main_v14, val_main_v13, val_main_v12, val_main_v11]
  unfold DW dw
  refine Fin.sum_fin_congr fun s => ?_
  rw [mul_comm]
  pointwise [val_main_v10, val_main_v9, val_main_v8, val_main_v7, val_main_v6, val_main_v5, val_main_v4, val_main_v3, val_main_v2, val_main_v1, val_main_v0]
  refine congrArg (h (ix2 s d) * ·) ?_
  repeat' split
  · exact congrArg p (ix3_val (by show 0 = q.val; omega) rfl
      (by show (2 * q.val + a.val) * 2048 + n.val = a.val * 2048 + n.val; omega))
  · exact congrArg p (ix3_val (by show 1 = q.val; omega) rfl
      (by show (2 * q.val + a.val) * 2048 + n.val - 4096 = a.val * 2048 + n.val; omega))
  · exact congrArg p (ix3_val (by show 2 = q.val; omega) rfl
      (by show (2 * q.val + a.val) * 2048 + n.val - 4096 - 4096 = a.val * 2048 + n.val; omega))
  · exact congrArg p (ix3_val (by show 3 = q.val; omega) rfl
      (by show (2 * q.val + a.val) * 2048 + n.val - 4096 - 4096 - 4096 = a.val * 2048 + n.val; omega))

/-- The kernel's result is the reference's. -/
theorem value [Cert.Pre_chip12.Facts] : algebraic_Kernel12Ideal_Reference12Ideal (hKernel12Ideal := Cert.Kernel12Ideal.Gen.facts)
    (hReference12Ideal := Cert.Reference12Ideal.Gen.facts) := by
  intro m g m' g' hpre hag
  obtain ⟨q, hw⟩ := chip_of_pre (hpre 0)
  have hO : Ok m := ok_of_word (tbl m) q hw
  refine ⟨fun c => DW (H m c) (P m c) q, ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference12Ideal.Value.run m' g')
    rw [Cert.Reference12Ideal.Read.val_main_v22_eq, (hag c).1, (hag c).2.1, (hag c).2.2]
    funext i
    obtain rfl : c = 0 := Subsingleton.elim _ _
    exact (congrArg _ (ix3_eta i).symm).trans (ref_at q (H m 0) (P m 0) (T m 0) hw (i 0) (i 1) (i 2))

/-- The kernel as compiled runs, its arguments end unchanged, and no semaphore is left raised. -/
theorem frame [Cert.Pre_chip12.Facts] : quiescent_Kernel12 (hKernel12 := Cert.Kernel12.Gen.facts) := fun m g h => by
  obtain ⟨q, hw⟩ := chip_of_pre (h 0)
  exact Cert.Kernel12.Gen.frame m g (ok_of_word (Cert.Kernel12.Gen.tbl m) q hw)

/-- The idealized kernel does too. -/
theorem idealFrame [Cert.Pre_chip12.Facts] : quiescent_Kernel12Ideal (hKernel12Ideal := Cert.Kernel12Ideal.Gen.facts) := fun m g h => by
  obtain ⟨q, hw⟩ := chip_of_pre (h 0)
  exact Cert.Kernel12Ideal.Gen.frame m g (ok_of_word (tbl m) q hw)

/-- The reference runs, its arguments end unchanged, and it has no semaphore to leave raised. -/
theorem refFrame [Cert.Pre_chip12.Facts] : quiescent_Reference12Ideal (hReference12Ideal := Cert.Reference12Ideal.Gen.facts) := fun m g _ =>
  (θ_run _ _ _).mono (fun r h => ⟨fun c => (h c).2, funext fun s => by
    rcases s with ⟨_, s⟩; rcases s with s | s <;> exact s.elim0⟩) (Cert.Reference12Ideal.Value.run m g)

end Cert.Proof.WeightGrad0Far

end
-- ==== Proof.Product.Project0.lean ====
/-
  The first layer's projections, one part of them: the kernel's products, whose blocks of the weight and of the result a table
  steers, and the reference's choice of that part over the array handed in.
-/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Product.Index
public import proofs.«01_k».proof.Proof.Product.Word
public import Idealize.ShloMosaic.Lib.WordCmp
public import Idealize.ShloMosaic.Lib.Pipeline.Covers
public import Idealize.ShloMosaic.Lib.Pipeline.ValueKit

@[expose] public section

set_option maxRecDepth 20000

noncomputable section

namespace Cert.Proof.Project0

open Cert.Kernel13Ideal Cert.Kernel13Ideal.Gen Idealize.ShloMosaic Idealize.ShloMosaic.TcCoe Idealize.SL.Sem

/-- The side conditions of the precondition's own operations. -/
theorem preFacts : Cert.Pre_chip13.Facts :=
  { slices_S5_S1_3 := by decide
    shapeCasts_S1_S_ := by decide }

/-- What the precondition says of the table: its word names a part. -/
theorem part_of_pre {F : FTy → Type} [FloatOps F] [Cert.Pre_chip13.Facts] {a : FVec F S2048x2048 .bf16} {b : FVec F S2048x16384 .f32} {t : IVec S5 32}
    {p : FVec F S4x2048x4096 .bf16} (h : Cert.Pre_chip13.fn (F := F) a b t p = fun _ => 1#1) : ∃ q : Fin 4, t (ix1 3) = BitVec.ofNat 32 q.val := by
  have h0 := congrFun h Idealize.ShloMosaic.ix0
  dsimp only [Cert.Pre_chip13.fn] at h0
  obtain ⟨h1, h2⟩ := IntOp.andi_eq_one.mp h0
  have e : shapeCast Cert.Pre_chip13.S_ (extractStridedSlice Cert.Pre_chip13.S1 ![3] t Cert.Pre_chip13.Facts.slices_S5_S1_3)
      Cert.Pre_chip13.Facts.shapeCasts_S1_S_ Idealize.ShloMosaic.ix0 = t (ix1 3) := by pointwise
  rw [← e]
  exact Word.word_of_range _ h1 h2

/-! ## The table's side condition -/

/-- Every block of the weight that the table can name lies inside the array, on whole words. -/
theorem weight_inside : ∀ (q : Fin 4) (j : Fin 8),
    ∃ h : (∀ a, ((![2 * q.val + j.val / 4, 0, j.val % 4] : Fin 3 → ℕ) a + 1) * S1x2048x512.size a ≤ S8x2048x2048.size a),
      EltTy.bits .bf16 = 32 ∨ (Rect.block (s := S8x2048x2048) S1x2048x512.size ![2 * q.val + j.val / 4, 0, j.val % 4] h).WholeWords (EltTy.packing .bf16) := by
  decide +kernel

/-- So does every block of the result. -/
theorem result_inside : ∀ (q : Fin 4) (j : Fin 8),
    ∃ h : (∀ a, ((![q.val, 0, j.val] : Fin 3 → ℕ) a + 1) * S1x2048x512.size a ≤ S4x2048x4096.size a),
      EltTy.bits .bf16 = 32 ∨ (Rect.block (s := S4x2048x4096) S1x2048x512.size ![q.val, 0, j.val] h).WholeWords (EltTy.packing .bf16) := by
  decide +kernel

/-- The word a block's index reads off the table. -/
theorem at_word {F : FTy → Type} [FloatOps F] (pf : pre0.Contents (Elt F)) (q : Fin 4) (h : (pf 0 : IVec S5 32) (ix1 3) = BitVec.ofNat 32 q.val) :
    pf.at 0 (Rect.unit (s := S5) ![3] S1.size inb_S5_S1_3) numel1_S1 = BitVec.ofNat 32 q.val := by
  rw [← h]
  exact congrArg (pf 0) (funext fun a => Fin.ext (match a with | ⟨0, _⟩ => rfl))

/-- The block of the weight at a point: one of the part's. -/
theorem steered1 {F : FTy → Type} [FloatOps F] (pf : pre0.Contents (Elt F)) (q : Fin 4) (h : (pf 0 : IVec S5 32) (ix1 3) = BitVec.ofNat 32 q.val)
    (i : grid0.Coords) : cc0_transform_1 (F := F) inb_S5_S1_3 numel1_S1 pf i = ![2 * q.val + (i 0).val / 4, 0, (i 0).val % 4] := by
  unfold cc0_transform_1
  simp only [at_word pf q h]
  have hj : ∃ j : Fin 8, (i 0).val = j.val := ⟨i 0, rfl⟩
  obtain ⟨j, hj⟩ := hj
  rw [hj]
  clear h hj
  revert q j
  decide +kernel

/-- The block of the result at a point: one of the part's. -/
theorem steered2 {F : FTy → Type} [FloatOps F] (pf : pre0.Contents (Elt F)) (q : Fin 4) (h : (pf 0 : IVec S5 32) (ix1 3) = BitVec.ofNat 32 q.val)
    (i : grid0.Coords) : cc0_transform_3 (F := F) inb_S5_S1_3 numel1_S1 pf i = ![q.val, 0, (i 0).val] := by
  unfold cc0_transform_3
  simp only [at_word pf q h]
  have hj : ∃ j : Fin 8, (i 0).val = j.val := ⟨i 0, rfl⟩
  obtain ⟨j, hj⟩ := hj
  rw [hj]
  clear h hj
  revert q j
  decide +kernel

/-- The side condition the pipeline puts on its table. -/
theorem ok_of_word {F : FTy → Type} [FloatOps F] (pf : pre0.Contents (Elt F)) (q : Fin 4) (h : (pf 0 : IVec S5 32) (ix1 3) = BitVec.ofNat 32 q.val) :
    ok0 (F := F) pf :=
  ⟨fun i => by rw [steered1 pf q h]; exact weight_inside q ⟨(i 0).val, (i 0).isLt⟩,
   fun i => by rw [steered2 pf q h]; exact result_inside q ⟨(i 0).val, (i 0).isLt⟩⟩

/-! ## The arrays -/

/-- The joined projections at a token and a column. -/
def pr (h : S2048x2048.Idx → EReal) (w : S2048x16384.Idx → EReal) (s : Fin 2048) (l : Fin 16384) : EReal :=
  ∑ d : Fin 2048, h (ix2 s d) * w (ix2 d l)

variable (m : (ℓ : Loc nD τ sig) → Buf (Elt Ideal) ℓ) (c : Dev nD)

/-- The projections' input. -/
abbrev H : S2048x2048.Idx → EReal := m ((c : Thread nD τ).loc main_arg0)
/-- The weight. -/
abbrev W : S2048x16384.Idx → EReal := m ((c : Thread nD τ).loc main_arg1)
/-- The table. -/
abbrev T : IVec S5 32 := m ((c : Thread nD τ).loc main_arg2)
/-- The array handed in, whose other parts stay. -/
abbrev Q : S4x2048x4096.Idx → EReal := m ((c : Thread nD τ).loc main_arg3)

variable (q : Fin 4) (hw : tbl m 0 (ix1 3) = BitVec.ofNat 32 q.val) (hO : Ok m)

/-! ## The blocks at a grid point -/

theorem column : ∀ t : Fin grid0.N, (grid0.coords t 0).val = t.val := by decide +kernel
theorem idx0 : ∀ t : Fin (cfgM m hO).N, ((cfgM m hO).win 0).index t = ![0, 0] := (by decide +kernel : ∀ t : Fin grid0.N, cc0_transform_0 (grid0.coords t) = ![0, 0])
include hw in
theorem idx1 (t : Fin (cfgM m hO).N) : ((cfgM m hO).win 1).index t = ![2 * q.val + t.val / 4, 0, t.val % 4] := by
  rw [← column t]
  exact steered1 (tbl m) q hw (grid0.coords t)
include hw in
theorem idx2 (t : Fin (cfgM m hO).N) : ((cfgM m hO).win 2).index t = ![q.val, 0, t.val] := by
  rw [← column t]
  exact steered2 (tbl m) q hw (grid0.coords t)

/-- The weight as the exchange gathers it. -/
theorem gathered (a : Fin 8) (n : Fin 2048) (k : Fin 2048) :
    V m c main_v2 (ix3 a n k) = W m c (ix2 n ⟨a.val * 2048 + k.val, by omega⟩) := by
  unfold V
  after_reads_at

/-- The result's buffer starts as the array handed in. -/
theorem started : V m c main_v3 = Q m c := by
  unfold V
  after_reads_at
  rfl

/-- The input's block at a point: all of it. -/
theorem rd0 (t : Fin (cfgM m hO).N) (s d : Fin 2048) : iblk m hO c 0 t (ix2 s d) = H m c (ix2 s d) := by
  unfold H
  rw [← V_main_arg0 m c]
  blk_point [iblk, idx0 m hO t]

include hw in
/-- The weight's block at a point. -/
theorem rd1 (t : Fin (cfgM m hO).N) (d : Fin 2048) (n : Fin 512) :
    iblk m hO c 1 t (ix3 0 d n) = V m c main_v2 (ix3 ⟨2 * q.val + t.val / 4, by have := t.isLt; have : (cfgM m hO).N = 8 := rfl; omega⟩ d ⟨t.val % 4 * 512 + n.val, by omega⟩) := by
  blk_point [iblk, idx1 m q hw hO t]

/-- One block of the result. -/
theorem pay1_at (a : S2048x2048.Idx → EReal) (b : S1x2048x512.Idx → EReal) (s : Fin 2048) (n : Fin 512) :
    k0_pay1 (F := Ideal) a b (ix3 0 s n) = ∑ d : Fin 2048, a (ix2 s d) * b (ix3 0 d n) := by
  pointwise [k0_pay1]

/-- What a point leaves in the result's block. -/
theorem point_out (c : Dev nD) (i : grid0.Coords) (a2 : Memref sig .tc .vmem S2048x2048 .bf16) (h2 : a2.IsWhole)
    (a3 : Memref sig .tc .vmem S1x2048x512 .bf16) (h3 : a3.IsWhole) (a5 : Memref sig .tc .vmem S1x2048x512 .bf16) (h5 : a5.IsWhole)
    (x : Vec Ideal S2048x2048 .bf16) (y : Vec Ideal S1x2048x512 .bf16) (z : TbBuf0 (F := Ideal) c tbM0_0) :
    out0_A_2 c i a2 h2 a3 h3 a5 h5 x y z = k0_pay1 (F := Ideal) x y := by
  frame_out

/-- The input's block at a point, as an array of its own shape. -/
def B0 (t : Fin (cfgM m hO).N) : Vec Ideal S2048x2048 .bf16 := iblk m hO c 0 t
/-- The weight's block at a point, as an array of its own shape. -/
def B1 (t : Fin (cfgM m hO).N) : Vec Ideal S1x2048x512 .bf16 := iblk m hO c 1 t

/-- What a point stores. -/
theorem store (t : Fin (cfgM m hO).N) : outsAt0 m hO c t = k0_pay1 (F := Ideal) (B0 m c hO t) (B1 m c hO t) :=
  point_out c (grid0.coords t) (ms0_0 m hO t) (hs0_0 m hO t) (ms0_1 m hO t) (hs0_1 m hO t) (ms0_2 m hO t) (hs0_2 m hO t)
    (iblk m hO c 0 t) (iblk m hO c 1 t) (tbl m 0)

include hw in
/-- The block a point writes, over the arrays. -/
theorem out_at (t : Fin (cfgM m hO).N) (s : Fin 2048) (n : Fin 512) :
    outsAt0 m hO c t (ix3 0 s n) = pr (H m c) (W m c) s ⟨q.val * 4096 + (t.val * 512 + n.val), by have := t.isLt; have : (cfgM m hO).N = 8 := rfl; omega⟩ := by
  rw [store]
  refine (pay1_at _ _ s n).trans ?_
  unfold pr
  refine Fin.sum_fin_congr fun d => congrArg₂ (· * ·) (rd0 m c hO t s d) ((rd1 m c q hw hO t d n).trans ((gathered m c _ _ _).trans (congrArg (W m c) (ix2_val rfl ?_))))
  show (2 * q.val + t.val / 4) * 2048 + (t.val % 4 * 512 + n.val) = q.val * 4096 + (t.val * 512 + n.val); omega

include hw in
/-- Where the block lies in the array. -/
theorem emb2 (t : Fin (cfgM m hO).N) (s : Fin 2048) (n : Fin 512) :
    (((cfgM m hO).win 2).blk t).view.emb (ix3 0 s n)
      = (ix3 q s ⟨t.val * 512 + n.val, by have := t.isLt; have : (cfgM m hO).N = 8 := rfl; omega⟩ : S4x2048x4096.Idx) := by
  blk_ext [idx2 m q hw hO t]

/-- The projections as an array, one part after the other. -/
def PR (h : S2048x2048.Idx → EReal) (w : S2048x16384.Idx → EReal) : S4x2048x4096.Idx → EReal := fun i =>
  pr h w (i 1) ⟨(i 0).val * 4096 + (i 2).val, by
    have h0 : (i 0).val < 4 := (i 0).isLt
    have h2 : (i 2).val < 4096 := (i 2).isLt
    omega⟩

/-- Part `q` of the projections over the array handed in. -/
def mine (q : Fin 4) (h : S2048x2048.Idx → EReal) (w : S2048x16384.Idx → EReal) (p : S4x2048x4096.Idx → EReal) : S4x2048x4096.Idx → EReal := fun i =>
  if (i 0).val = q.val then PR h w i else p i

include hw in
/-- The block a point writes is the projections'. -/
theorem at2 (t : Fin (cfgM m hO).N) (z : S1x2048x512.Idx) :
    outsAt0 m hO c t z = PR (H m c) (W m c) ((((cfgM m hO).win 2).blk t).view.emb z) := by
  obtain ⟨a, s, n, rfl⟩ := exists_ix3 (a := 1) (b := 2048) (c := 512) z
  obtain rfl : a = 0 := Subsingleton.elim _ _
  rw [out_at m c q hw hO t, emb2 m q hw hO]
  rfl

include hw in
/-- The points write the blocks of part `q`, all of them and no others. -/
theorem covers : ((cfgM m hO).win 2).CoversWhere (fun a : Fin 3 → ℕ => a 0 = q.val) := by
  refine ⟨(by decide +kernel : ∀ a, 0 < S1x2048x512.size a), fun t _ => ⟨?_, fun a => Pipeline.Window.xsize_eq_or_end _ rfl _ a⟩,
    fun (β : (a : Fin 3) → Fin (((cfgM m hO).win 2).nblk a)) hβ => ?_⟩
  · rw [idx2 m q hw hO]; rfl
  · have h1 : (β 1).val < 1 := lt_of_lt_of_eq (β 1).isLt (show (2048 + 2048 - 1) / 2048 = 1 by decide)
    have h2 : (β 2).val < 8 := lt_of_lt_of_eq (β 2).isLt (show (4096 + 512 - 1) / 512 = 8 by decide)
    obtain ⟨t, _, hf, hi⟩ := Pipeline.Window.exists_flush_same_index ((cfgM m hO).win 2) rfl (⟨(β 2).val, h2⟩ : Fin (cfgM m hO).N)
    refine ⟨t, fun a => ?_, hf⟩
    rw [hi, idx2 m q hw hO]
    match a with
    | ⟨0, _⟩ => exact hβ.symm
    | ⟨1, _⟩ => show 0 = (β 1).val; omega
    | ⟨2, _⟩ => rfl

include hw in
/-- The kernel's array after its run. -/
theorem final2 : (dats m hO 0 c).arrAt 2 (cfgM m hO).N = mine q (H m c) (W m c) (Q m c) := by
  refine funext fun (i : S4x2048x4096.Idx) => ?_
  refine ((dats m hO 0 c).arrAt_emb_eq_of_coversWhere 2 (PR (H m c) (W m c)) _ (covers m q hw hO) (fun t hf z => ?_) i).trans ?_
  · blk_simp
    rw [after0_2]
    exact at2 m c q hw hO t z
  · show (if (i 0).val / 1 = q.val then PR (H m c) (W m c) i else V m c main_v3 i) = _
    rw [Nat.div_one, started]
    rfl

open Cert.Reference13Ideal.Read in
/-- The reference's projections. -/
theorem all_at (h : S2048x2048.Idx → EReal) (w : S2048x16384.Idx → EReal) (a : Fin 4) (s : Fin 2048) (n : Fin 4096) :
    val_main_v11 (F := Ideal) h w (ix3 a s n) = PR h w (ix3 a s n) := by
  pointwise [val_main_v11, val_main_v10, val_main_v9, val_main_v8, val_main_v7, val_main_v6, val_main_v5, val_main_v4, val_main_v3, val_main_v2, val_main_v1, val_main_v0]
  unfold PR pr
  have ha := a.isLt
  repeat' split
  · refine Fin.sum_fin_congr fun d => congrArg (h (ix2 s d) * ·) (congrArg w (ix2_val rfl ?_))
    show n.val = a.val * 4096 + n.val; omega
  · refine Fin.sum_fin_congr fun d => congrArg (h (ix2 s d) * ·) (congrArg w (ix2_val rfl ?_))
    show 4096 + n.val = a.val * 4096 + n.val; omega
  · refine Fin.sum_fin_congr fun d => congrArg (h (ix2 s d) * ·) (congrArg w (ix2_val rfl ?_))
    show 8192 + n.val = a.val * 4096 + n.val; omega
  · refine Fin.sum_fin_congr fun d => congrArg (h (ix2 s d) * ·) (congrArg w (ix2_val rfl ?_))
    show 12288 + n.val = a.val * 4096 + n.val; omega

open Cert.Reference13Ideal.Read in
/-- The reference's choice of the part. -/
theorem choice_at (t : IVec S5 32) (ht : t (ix1 3) = BitVec.ofNat 32 q.val) (a : Fin 4) (s : Fin 2048) (n : Fin 4096) :
    val_main_call0_v0 (F := Ideal) t (ix3 a s n) = if a.val = q.val then 1#1 else 0#1 := by
  have e : val_main_call0_v0 (F := Ideal) t (ix3 a s n) = IntOp.cmpi .eq (BitVec.ofNat 32 a.val) (t (ix1 3)) := by
    pointwise [val_main_call0_v0, val_main_v17, val_main_v16, val_main_v15, val_main_v14, val_main_v13, val_main_v12]
  rw [e, ht]
  clear e ht
  revert a q
  decide

open Cert.Reference13Ideal.Read in
/-- The reference's array. -/
theorem ref_at (h : S2048x2048.Idx → EReal) (w : S2048x16384.Idx → EReal) (t : IVec S5 32) (p : S4x2048x4096.Idx → EReal)
    (ht : t (ix1 3) = BitVec.ofNat 32 q.val) (a : Fin 4) (s : Fin 2048) (n : Fin 4096) :
    val_main_v18 (F := Ideal) h w t p (ix3 a s n) = mine q h w p (ix3 a s n) := by
  have e : val_main_v18 (F := Ideal) h w t p (ix3 a s n)
      = Scalar.select (val_main_call0_v0 (F := Ideal) t (ix3 a s n)) (val_main_v11 (F := Ideal) h w (ix3 a s n)) (p (ix3 a s n)) := rfl
  rw [e, choice_at q t ht, all_at]
  unfold mine
  by_cases hq : a.val = q.val
  · rw [if_pos hq]; exact (if_pos hq).symm
  · rw [if_neg hq]; exact (if_neg hq).symm

/-- The kernel's result is the reference's. -/
theorem value [Cert.Pre_chip13.Facts] : algebraic_Kernel13Ideal_Reference13Ideal (hKernel13Ideal := Cert.Kernel13Ideal.Gen.facts)
    (hReference13Ideal := Cert.Reference13Ideal.Gen.facts) := by
  intro m g m' g' hpre hag
  obtain ⟨q, hw⟩ := part_of_pre (hpre 0)
  have hO : Ok m := ok_of_word (tbl m) q hw
  refine ⟨fun c => mine q (H m c) (W m c) (Q m c), ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference13Ideal.Value.run m' g')
    rw [Cert.Reference13Ideal.Read.val_main_v18_eq, (hag c).1, (hag c).2.1, (hag c).2.2.1, (hag c).2.2.2]
    funext i
    obtain rfl : c = 0 := Subsingleton.elim _ _
    exact ((congrArg _ (ix3_eta i).symm).trans (ref_at q (H m 0) (W m 0) (T m 0) (Q m 0) hw (i 0) (i 1) (i 2))).trans (congrArg _ (ix3_eta i))

/-- The kernel as compiled runs, its arguments end unchanged, and no semaphore is left raised. -/
theorem frame [Cert.Pre_chip13.Facts] : quiescent_Kernel13 (hKernel13 := Cert.Kernel13.Gen.facts) := fun m g h => by
  obtain ⟨q, hw⟩ := part_of_pre (h 0)
  exact Cert.Kernel13.Gen.frame m g (ok_of_word (Cert.Kernel13.Gen.tbl m) q hw)

/-- The idealized kernel does too. -/
theorem idealFrame [Cert.Pre_chip13.Facts] : quiescent_Kernel13Ideal (hKernel13Ideal := Cert.Kernel13Ideal.Gen.facts) := fun m g h => by
  obtain ⟨q, hw⟩ := part_of_pre (h 0)
  exact Cert.Kernel13Ideal.Gen.frame m g (ok_of_word (tbl m) q hw)

/-- The reference runs, its arguments end unchanged, and it has no semaphore to leave raised. -/
theorem refFrame [Cert.Pre_chip13.Facts] : quiescent_Reference13Ideal (hReference13Ideal := Cert.Reference13Ideal.Gen.facts) := fun m g _ =>
  (θ_run _ _ _).mono (fun r h => ⟨fun c => (h c).2, funext fun s => by
    rcases s with ⟨_, s⟩; rcases s with s | s <;> exact s.elim0⟩) (Cert.Reference13Ideal.Value.run m g)

end Cert.Proof.Project0

end
-- ==== Proof.Product.Project0Y.lean ====
/-
  The first layer's projections, one part of them: the kernel's products, whose blocks of the weight and of the result a table
  steers, and the reference's choice of that part over the array handed in.
-/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Product.Index
public import proofs.«01_k».proof.Proof.Product.Word
public import Idealize.ShloMosaic.Lib.WordCmp
public import Idealize.ShloMosaic.Lib.Pipeline.Covers
public import Idealize.ShloMosaic.Lib.Pipeline.ValueKit

@[expose] public section

set_option maxRecDepth 20000

noncomputable section

namespace Cert.Proof.Project0Y

open Cert.Kernel14Ideal Cert.Kernel14Ideal.Gen Idealize.ShloMosaic Idealize.ShloMosaic.TcCoe Idealize.SL.Sem

/-- The side conditions of the precondition's own operations. -/
theorem preFacts : Cert.Pre_chip14.Facts :=
  { slices_S5_S1_0 := by decide
    shapeCasts_S1_S_ := by decide }

/-- What the precondition says of the table: its word names a part. -/
theorem part_of_pre {F : FTy → Type} [FloatOps F] [Cert.Pre_chip14.Facts] {a : FVec F S2048x2048 .bf16} {b : FVec F S2048x16384 .f32} {t : IVec S5 32}
    {p : FVec F S4x2048x4096 .bf16} (h : Cert.Pre_chip14.fn (F := F) a b t p = fun _ => 1#1) : ∃ q : Fin 4, t (ix1 0) = BitVec.ofNat 32 q.val := by
  have h0 := congrFun h Idealize.ShloMosaic.ix0
  dsimp only [Cert.Pre_chip14.fn] at h0
  obtain ⟨h1, h2⟩ := IntOp.andi_eq_one.mp h0
  have e : shapeCast Cert.Pre_chip14.S_ (extractStridedSlice Cert.Pre_chip14.S1 ![0] t Cert.Pre_chip14.Facts.slices_S5_S1_0)
      Cert.Pre_chip14.Facts.shapeCasts_S1_S_ Idealize.ShloMosaic.ix0 = t (ix1 0) := by pointwise
  rw [← e]
  exact Word.word_of_range _ h1 h2

/-! ## The table's side condition -/

/-- Every block of the weight that the table can name lies inside the array, on whole words. -/
theorem weight_inside : ∀ (q : Fin 4) (j : Fin 8),
    ∃ h : (∀ a, ((![2 * q.val + j.val / 4, 0, j.val % 4] : Fin 3 → ℕ) a + 1) * S1x2048x512.size a ≤ S8x2048x2048.size a),
      EltTy.bits .bf16 = 32 ∨ (Rect.block (s := S8x2048x2048) S1x2048x512.size ![2 * q.val + j.val / 4, 0, j.val % 4] h).WholeWords (EltTy.packing .bf16) := by
  decide +kernel

/-- So does every block of the result. -/
theorem result_inside : ∀ (q : Fin 4) (j : Fin 8),
    ∃ h : (∀ a, ((![q.val, 0, j.val] : Fin 3 → ℕ) a + 1) * S1x2048x512.size a ≤ S4x2048x4096.size a),
      EltTy.bits .bf16 = 32 ∨ (Rect.block (s := S4x2048x4096) S1x2048x512.size ![q.val, 0, j.val] h).WholeWords (EltTy.packing .bf16) := by
  decide +kernel

/-- The word a block's index reads off the table. -/
theorem at_word {F : FTy → Type} [FloatOps F] (pf : pre0.Contents (Elt F)) (q : Fin 4) (h : (pf 0 : IVec S5 32) (ix1 0) = BitVec.ofNat 32 q.val) :
    pf.at 0 (Rect.unit (s := S5) ![0] S1.size inb_S5_S1_0) numel1_S1 = BitVec.ofNat 32 q.val := by
  rw [← h]
  exact congrArg (pf 0) (funext fun a => Fin.ext (match a with | ⟨0, _⟩ => rfl))

/-- The block of the weight at a point: one of the part's. -/
theorem steered1 {F : FTy → Type} [FloatOps F] (pf : pre0.Contents (Elt F)) (q : Fin 4) (h : (pf 0 : IVec S5 32) (ix1 0) = BitVec.ofNat 32 q.val)
    (i : grid0.Coords) : cc0_transform_1 (F := F) inb_S5_S1_0 numel1_S1 pf i = ![2 * q.val + (i 0).val / 4, 0, (i 0).val % 4] := by
  unfold cc0_transform_1
  simp only [at_word pf q h]
  have hj : ∃ j : Fin 8, (i 0).val = j.val := ⟨i 0, rfl⟩
  obtain ⟨j, hj⟩ := hj
  rw [hj]
  clear h hj
  revert q j
  decide +kernel

/-- The block of the result at a point: one of the part's. -/
theorem steered2 {F : FTy → Type} [FloatOps F] (pf : pre0.Contents (Elt F)) (q : Fin 4) (h : (pf 0 : IVec S5 32) (ix1 0) = BitVec.ofNat 32 q.val)
    (i : grid0.Coords) : cc0_transform_3 (F := F) inb_S5_S1_0 numel1_S1 pf i = ![q.val, 0, (i 0).val] := by
  unfold cc0_transform_3
  simp only [at_word pf q h]
  have hj : ∃ j : Fin 8, (i 0).val = j.val := ⟨i 0, rfl⟩
  obtain ⟨j, hj⟩ := hj
  rw [hj]
  clear h hj
  revert q j
  decide +kernel

/-- The side condition the pipeline puts on its table. -/
theorem ok_of_word {F : FTy → Type} [FloatOps F] (pf : pre0.Contents (Elt F)) (q : Fin 4) (h : (pf 0 : IVec S5 32) (ix1 0) = BitVec.ofNat 32 q.val) :
    ok0 (F := F) pf :=
  ⟨fun i => by rw [steered1 pf q h]; exact weight_inside q ⟨(i 0).val, (i 0).isLt⟩,
   fun i => by rw [steered2 pf q h]; exact result_inside q ⟨(i 0).val, (i 0).isLt⟩⟩

/-! ## The arrays -/

/-- The joined projections at a token and a column. -/
def pr (h : S2048x2048.Idx → EReal) (w : S2048x16384.Idx → EReal) (s : Fin 2048) (l : Fin 16384) : EReal :=
  ∑ d : Fin 2048, h (ix2 s d) * w (ix2 d l)

variable (m : (ℓ : Loc nD τ sig) → Buf (Elt Ideal) ℓ) (c : Dev nD)

/-- The projections' input. -/
abbrev H : S2048x2048.Idx → EReal := m ((c : Thread nD τ).loc main_arg0)
/-- The weight. -/
abbrev W : S2048x16384.Idx → EReal := m ((c : Thread nD τ).loc main_arg1)
/-- The table. -/
abbrev T : IVec S5 32 := m ((c : Thread nD τ).loc main_arg2)
/-- The array handed in, whose other parts stay. -/
abbrev Q : S4x2048x4096.Idx → EReal := m ((c : Thread nD τ).loc main_arg3)

variable (q : Fin 4) (hw : tbl m 0 (ix1 0) = BitVec.ofNat 32 q.val) (hO : Ok m)

/-! ## The blocks at a grid point -/

theorem column : ∀ t : Fin grid0.N, (grid0.coords t 0).val = t.val := by decide +kernel
theorem idx0 : ∀ t : Fin (cfgM m hO).N, ((cfgM m hO).win 0).index t = ![0, 0] := (by decide +kernel : ∀ t : Fin grid0.N, cc0_transform_0 (grid0.coords t) = ![0, 0])
include hw in
theorem idx1 (t : Fin (cfgM m hO).N) : ((cfgM m hO).win 1).index t = ![2 * q.val + t.val / 4, 0, t.val % 4] := by
  rw [← column t]
  exact steered1 (tbl m) q hw (grid0.coords t)
include hw in
theorem idx2 (t : Fin (cfgM m hO).N) : ((cfgM m hO).win 2).index t = ![q.val, 0, t.val] := by
  rw [← column t]
  exact steered2 (tbl m) q hw (grid0.coords t)

/-- The weight as the exchange gathers it. -/
theorem gathered (a : Fin 8) (n : Fin 2048) (k : Fin 2048) :
    V m c main_v2 (ix3 a n k) = W m c (ix2 n ⟨a.val * 2048 + k.val, by omega⟩) := by
  unfold V
  after_reads_at

/-- The result's buffer starts as the array handed in. -/
theorem started : V m c main_v3 = Q m c := by
  unfold V
  after_reads_at
  rfl

/-- The input's block at a point: all of it. -/
theorem rd0 (t : Fin (cfgM m hO).N) (s d : Fin 2048) : iblk m hO c 0 t (ix2 s d) = H m c (ix2 s d) := by
  unfold H
  rw [← V_main_arg0 m c]
  blk_point [iblk, idx0 m hO t]

include hw in
/-- The weight's block at a point. -/
theorem rd1 (t : Fin (cfgM m hO).N) (d : Fin 2048) (n : Fin 512) :
    iblk m hO c 1 t (ix3 0 d n) = V m c main_v2 (ix3 ⟨2 * q.val + t.val / 4, by have := t.isLt; have : (cfgM m hO).N = 8 := rfl; omega⟩ d ⟨t.val % 4 * 512 + n.val, by omega⟩) := by
  blk_point [iblk, idx1 m q hw hO t]

/-- One block of the result. -/
theorem pay1_at (a : S2048x2048.Idx → EReal) (b : S1x2048x512.Idx → EReal) (s : Fin 2048) (n : Fin 512) :
    k0_pay1 (F := Ideal) a b (ix3 0 s n) = ∑ d : Fin 2048, a (ix2 s d) * b (ix3 0 d n) := by
  pointwise [k0_pay1]

/-- What a point leaves in the result's block. -/
theorem point_out (c : Dev nD) (i : grid0.Coords) (a2 : Memref sig .tc .vmem S2048x2048 .bf16) (h2 : a2.IsWhole)
    (a3 : Memref sig .tc .vmem S1x2048x512 .bf16) (h3 : a3.IsWhole) (a5 : Memref sig .tc .vmem S1x2048x512 .bf16) (h5 : a5.IsWhole)
    (x : Vec Ideal S2048x2048 .bf16) (y : Vec Ideal S1x2048x512 .bf16) (z : TbBuf0 (F := Ideal) c tbM0_0) :
    out0_A_2 c i a2 h2 a3 h3 a5 h5 x y z = k0_pay1 (F := Ideal) x y := by
  frame_out

/-- The input's block at a point, as an array of its own shape. -/
def B0 (t : Fin (cfgM m hO).N) : Vec Ideal S2048x2048 .bf16 := iblk m hO c 0 t
/-- The weight's block at a point, as an array of its own shape. -/
def B1 (t : Fin (cfgM m hO).N) : Vec Ideal S1x2048x512 .bf16 := iblk m hO c 1 t

/-- What a point stores. -/
theorem store (t : Fin (cfgM m hO).N) : outsAt0 m hO c t = k0_pay1 (F := Ideal) (B0 m c hO t) (B1 m c hO t) :=
  point_out c (grid0.coords t) (ms0_0 m hO t) (hs0_0 m hO t) (ms0_1 m hO t) (hs0_1 m hO t) (ms0_2 m hO t) (hs0_2 m hO t)
    (iblk m hO c 0 t) (iblk m hO c 1 t) (tbl m 0)

include hw in
/-- The block a point writes, over the arrays. -/
theorem out_at (t : Fin (cfgM m hO).N) (s : Fin 2048) (n : Fin 512) :
    outsAt0 m hO c t (ix3 0 s n) = pr (H m c) (W m c) s ⟨q.val * 4096 + (t.val * 512 + n.val), by have := t.isLt; have : (cfgM m hO).N = 8 := rfl; omega⟩ := by
  rw [store]
  refine (pay1_at _ _ s n).trans ?_
  unfold pr
  refine Fin.sum_fin_congr fun d => congrArg₂ (· * ·) (rd0 m c hO t s d) ((rd1 m c q hw hO t d n).trans ((gathered m c _ _ _).trans (congrArg (W m c) (ix2_val rfl ?_))))
  show (2 * q.val + t.val / 4) * 2048 + (t.val % 4 * 512 + n.val) = q.val * 4096 + (t.val * 512 + n.val); omega

include hw in
/-- Where the block lies in the array. -/
theorem emb2 (t : Fin (cfgM m hO).N) (s : Fin 2048) (n : Fin 512) :
    (((cfgM m hO).win 2).blk t).view.emb (ix3 0 s n)
      = (ix3 q s ⟨t.val * 512 + n.val, by have := t.isLt; have : (cfgM m hO).N = 8 := rfl; omega⟩ : S4x2048x4096.Idx) := by
  blk_ext [idx2 m q hw hO t]

/-- The projections as an array, one part after the other. -/
def PR (h : S2048x2048.Idx → EReal) (w : S2048x16384.Idx → EReal) : S4x2048x4096.Idx → EReal := fun i =>
  pr h w (i 1) ⟨(i 0).val * 4096 + (i 2).val, by
    have h0 : (i 0).val < 4 := (i 0).isLt
    have h2 : (i 2).val < 4096 := (i 2).isLt
    omega⟩

/-- Part `q` of the projections over the array handed in. -/
def mine (q : Fin 4) (h : S2048x2048.Idx → EReal) (w : S2048x16384.Idx → EReal) (p : S4x2048x4096.Idx → EReal) : S4x2048x4096.Idx → EReal := fun i =>
  if (i 0).val = q.val then PR h w i else p i

include hw in
/-- The block a point writes is the projections'. -/
theorem at2 (t : Fin (cfgM m hO).N) (z : S1x2048x512.Idx) :
    outsAt0 m hO c t z = PR (H m c) (W m c) ((((cfgM m hO).win 2).blk t).view.emb z) := by
  obtain ⟨a, s, n, rfl⟩ := exists_ix3 (a := 1) (b := 2048) (c := 512) z
  obtain rfl : a = 0 := Subsingleton.elim _ _
  rw [out_at m c q hw hO t, emb2 m q hw hO]
  rfl

include hw in
/-- The points write the blocks of part `q`, all of them and no others. -/
theorem covers : ((cfgM m hO).win 2).CoversWhere (fun a : Fin 3 → ℕ => a 0 = q.val) := by
  refine ⟨(by decide +kernel : ∀ a, 0 < S1x2048x512.size a), fun t _ => ⟨?_, fun a => Pipeline.Window.xsize_eq_or_end _ rfl _ a⟩,
    fun (β : (a : Fin 3) → Fin (((cfgM m hO).win 2).nblk a)) hβ => ?_⟩
  · rw [idx2 m q hw hO]; rfl
  · have h1 : (β 1).val < 1 := lt_of_lt_of_eq (β 1).isLt (show (2048 + 2048 - 1) / 2048 = 1 by decide)
    have h2 : (β 2).val < 8 := lt_of_lt_of_eq (β 2).isLt (show (4096 + 512 - 1) / 512 = 8 by decide)
    obtain ⟨t, _, hf, hi⟩ := Pipeline.Window.exists_flush_same_index ((cfgM m hO).win 2) rfl (⟨(β 2).val, h2⟩ : Fin (cfgM m hO).N)
    refine ⟨t, fun a => ?_, hf⟩
    rw [hi, idx2 m q hw hO]
    match a with
    | ⟨0, _⟩ => exact hβ.symm
    | ⟨1, _⟩ => show 0 = (β 1).val; omega
    | ⟨2, _⟩ => rfl

include hw in
/-- The kernel's array after its run. -/
theorem final2 : (dats m hO 0 c).arrAt 2 (cfgM m hO).N = mine q (H m c) (W m c) (Q m c) := by
  refine funext fun (i : S4x2048x4096.Idx) => ?_
  refine ((dats m hO 0 c).arrAt_emb_eq_of_coversWhere 2 (PR (H m c) (W m c)) _ (covers m q hw hO) (fun t hf z => ?_) i).trans ?_
  · blk_simp
    rw [after0_2]
    exact at2 m c q hw hO t z
  · show (if (i 0).val / 1 = q.val then PR (H m c) (W m c) i else V m c main_v3 i) = _
    rw [Nat.div_one, started]
    rfl

open Cert.Reference14Ideal.Read in
/-- The reference's projections. -/
theorem all_at (h : S2048x2048.Idx → EReal) (w : S2048x16384.Idx → EReal) (a : Fin 4) (s : Fin 2048) (n : Fin 4096) :
    val_main_v11 (F := Ideal) h w (ix3 a s n) = PR h w (ix3 a s n) := by
  pointwise [val_main_v11, val_main_v10, val_main_v9, val_main_v8, val_main_v7, val_main_v6, val_main_v5, val_main_v4, val_main_v3, val_main_v2, val_main_v1, val_main_v0]
  unfold PR pr
  have ha := a.isLt
  repeat' split
  · refine Fin.sum_fin_congr fun d => congrArg (h (ix2 s d) * ·) (congrArg w (ix2_val rfl ?_))
    show n.val = a.val * 4096 + n.val; omega
  · refine Fin.sum_fin_congr fun d => congrArg (h (ix2 s d) * ·) (congrArg w (ix2_val rfl ?_))
    show 4096 + n.val = a.val * 4096 + n.val; omega
  · refine Fin.sum_fin_congr fun d => congrArg (h (ix2 s d) * ·) (congrArg w (ix2_val rfl ?_))
    show 8192 + n.val = a.val * 4096 + n.val; omega
  · refine Fin.sum_fin_congr fun d => congrArg (h (ix2 s d) * ·) (congrArg w (ix2_val rfl ?_))
    show 12288 + n.val = a.val * 4096 + n.val; omega

open Cert.Reference14Ideal.Read in
/-- The reference's choice of the part. -/
theorem choice_at (t : IVec S5 32) (ht : t (ix1 0) = BitVec.ofNat 32 q.val) (a : Fin 4) (s : Fin 2048) (n : Fin 4096) :
    val_main_call0_v0 (F := Ideal) t (ix3 a s n) = if a.val = q.val then 1#1 else 0#1 := by
  have e : val_main_call0_v0 (F := Ideal) t (ix3 a s n) = IntOp.cmpi .eq (BitVec.ofNat 32 a.val) (t (ix1 0)) := by
    pointwise [val_main_call0_v0, val_main_v17, val_main_v16, val_main_v15, val_main_v14, val_main_v13, val_main_v12]
  rw [e, ht]
  clear e ht
  revert a q
  decide

open Cert.Reference14Ideal.Read in
/-- The reference's array. -/
theorem ref_at (h : S2048x2048.Idx → EReal) (w : S2048x16384.Idx → EReal) (t : IVec S5 32) (p : S4x2048x4096.Idx → EReal)
    (ht : t (ix1 0) = BitVec.ofNat 32 q.val) (a : Fin 4) (s : Fin 2048) (n : Fin 4096) :
    val_main_v18 (F := Ideal) h w t p (ix3 a s n) = mine q h w p (ix3 a s n) := by
  have e : val_main_v18 (F := Ideal) h w t p (ix3 a s n)
      = Scalar.select (val_main_call0_v0 (F := Ideal) t (ix3 a s n)) (val_main_v11 (F := Ideal) h w (ix3 a s n)) (p (ix3 a s n)) := rfl
  rw [e, choice_at q t ht, all_at]
  unfold mine
  by_cases hq : a.val = q.val
  · rw [if_pos hq]; exact (if_pos hq).symm
  · rw [if_neg hq]; exact (if_neg hq).symm

/-- The kernel's result is the reference's. -/
theorem value [Cert.Pre_chip14.Facts] : algebraic_Kernel14Ideal_Reference14Ideal (hKernel14Ideal := Cert.Kernel14Ideal.Gen.facts)
    (hReference14Ideal := Cert.Reference14Ideal.Gen.facts) := by
  intro m g m' g' hpre hag
  obtain ⟨q, hw⟩ := part_of_pre (hpre 0)
  have hO : Ok m := ok_of_word (tbl m) q hw
  refine ⟨fun c => mine q (H m c) (W m c) (Q m c), ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference14Ideal.Value.run m' g')
    rw [Cert.Reference14Ideal.Read.val_main_v18_eq, (hag c).1, (hag c).2.1, (hag c).2.2.1, (hag c).2.2.2]
    funext i
    obtain rfl : c = 0 := Subsingleton.elim _ _
    exact ((congrArg _ (ix3_eta i).symm).trans (ref_at q (H m 0) (W m 0) (T m 0) (Q m 0) hw (i 0) (i 1) (i 2))).trans (congrArg _ (ix3_eta i))

/-- The kernel as compiled runs, its arguments end unchanged, and no semaphore is left raised. -/
theorem frame [Cert.Pre_chip14.Facts] : quiescent_Kernel14 (hKernel14 := Cert.Kernel14.Gen.facts) := fun m g h => by
  obtain ⟨q, hw⟩ := part_of_pre (h 0)
  exact Cert.Kernel14.Gen.frame m g (ok_of_word (Cert.Kernel14.Gen.tbl m) q hw)

/-- The idealized kernel does too. -/
theorem idealFrame [Cert.Pre_chip14.Facts] : quiescent_Kernel14Ideal (hKernel14Ideal := Cert.Kernel14Ideal.Gen.facts) := fun m g h => by
  obtain ⟨q, hw⟩ := part_of_pre (h 0)
  exact Cert.Kernel14Ideal.Gen.frame m g (ok_of_word (tbl m) q hw)

/-- The reference runs, its arguments end unchanged, and it has no semaphore to leave raised. -/
theorem refFrame [Cert.Pre_chip14.Facts] : quiescent_Reference14Ideal (hReference14Ideal := Cert.Reference14Ideal.Gen.facts) := fun m g _ =>
  (θ_run _ _ _).mono (fun r h => ⟨fun c => (h c).2, funext fun s => by
    rcases s with ⟨_, s⟩; rcases s with s | s <;> exact s.elim0⟩) (Cert.Reference14Ideal.Value.run m g)

end Cert.Proof.Project0Y

end
-- ==== Proof.Product.Project0X.lean ====
/-
  The first layer's projections, one part of them: the kernel's products, whose blocks of the weight and of the result a table
  steers, and the reference's choice of that part over the array handed in.
-/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Product.Index
public import proofs.«01_k».proof.Proof.Product.Word
public import Idealize.ShloMosaic.Lib.WordCmp
public import Idealize.ShloMosaic.Lib.Pipeline.Covers
public import Idealize.ShloMosaic.Lib.Pipeline.ValueKit

@[expose] public section

set_option maxRecDepth 20000

noncomputable section

namespace Cert.Proof.Project0X

open Cert.Kernel15Ideal Cert.Kernel15Ideal.Gen Idealize.ShloMosaic Idealize.ShloMosaic.TcCoe Idealize.SL.Sem

/-- The side conditions of the precondition's own operations. -/
theorem preFacts : Cert.Pre_chip15.Facts :=
  { slices_S5_S1_1 := by decide
    shapeCasts_S1_S_ := by decide }

/-- What the precondition says of the table: its word names a part. -/
theorem part_of_pre {F : FTy → Type} [FloatOps F] [Cert.Pre_chip15.Facts] {a : FVec F S2048x2048 .bf16} {b : FVec F S2048x16384 .f32} {t : IVec S5 32}
    {p : FVec F S4x2048x4096 .bf16} (h : Cert.Pre_chip15.fn (F := F) a b t p = fun _ => 1#1) : ∃ q : Fin 4, t (ix1 1) = BitVec.ofNat 32 q.val := by
  have h0 := congrFun h Idealize.ShloMosaic.ix0
  dsimp only [Cert.Pre_chip15.fn] at h0
  obtain ⟨h1, h2⟩ := IntOp.andi_eq_one.mp h0
  have e : shapeCast Cert.Pre_chip15.S_ (extractStridedSlice Cert.Pre_chip15.S1 ![1] t Cert.Pre_chip15.Facts.slices_S5_S1_1)
      Cert.Pre_chip15.Facts.shapeCasts_S1_S_ Idealize.ShloMosaic.ix0 = t (ix1 1) := by pointwise
  rw [← e]
  exact Word.word_of_range _ h1 h2

/-! ## The table's side condition -/

/-- Every block of the weight that the table can name lies inside the array, on whole words. -/
theorem weight_inside : ∀ (q : Fin 4) (j : Fin 8),
    ∃ h : (∀ a, ((![2 * q.val + j.val / 4, 0, j.val % 4] : Fin 3 → ℕ) a + 1) * S1x2048x512.size a ≤ S8x2048x2048.size a),
      EltTy.bits .bf16 = 32 ∨ (Rect.block (s := S8x2048x2048) S1x2048x512.size ![2 * q.val + j.val / 4, 0, j.val % 4] h).WholeWords (EltTy.packing .bf16) := by
  decide +kernel

/-- So does every block of the result. -/
theorem result_inside : ∀ (q : Fin 4) (j : Fin 8),
    ∃ h : (∀ a, ((![q.val, 0, j.val] : Fin 3 → ℕ) a + 1) * S1x2048x512.size a ≤ S4x2048x4096.size a),
      EltTy.bits .bf16 = 32 ∨ (Rect.block (s := S4x2048x4096) S1x2048x512.size ![q.val, 0, j.val] h).WholeWords (EltTy.packing .bf16) := by
  decide +kernel

/-- The word a block's index reads off the table. -/
theorem at_word {F : FTy → Type} [FloatOps F] (pf : pre0.Contents (Elt F)) (q : Fin 4) (h : (pf 0 : IVec S5 32) (ix1 1) = BitVec.ofNat 32 q.val) :
    pf.at 0 (Rect.unit (s := S5) ![1] S1.size inb_S5_S1_1) numel1_S1 = BitVec.ofNat 32 q.val := by
  rw [← h]
  exact congrArg (pf 0) (funext fun a => Fin.ext (match a with | ⟨0, _⟩ => rfl))

/-- The block of the weight at a point: one of the part's. -/
theorem steered1 {F : FTy → Type} [FloatOps F] (pf : pre0.Contents (Elt F)) (q : Fin 4) (h : (pf 0 : IVec S5 32) (ix1 1) = BitVec.ofNat 32 q.val)
    (i : grid0.Coords) : cc0_transform_1 (F := F) inb_S5_S1_1 numel1_S1 pf i = ![2 * q.val + (i 0).val / 4, 0, (i 0).val % 4] := by
  unfold cc0_transform_1
  simp only [at_word pf q h]
  have hj : ∃ j : Fin 8, (i 0).val = j.val := ⟨i 0, rfl⟩
  obtain ⟨j, hj⟩ := hj
  rw [hj]
  clear h hj
  revert q j
  decide +kernel

/-- The block of the result at a point: one of the part's. -/
theorem steered2 {F : FTy → Type} [FloatOps F] (pf : pre0.Contents (Elt F)) (q : Fin 4) (h : (pf 0 : IVec S5 32) (ix1 1) = BitVec.ofNat 32 q.val)
    (i : grid0.Coords) : cc0_transform_3 (F := F) inb_S5_S1_1 numel1_S1 pf i = ![q.val, 0, (i 0).val] := by
  unfold cc0_transform_3
  simp only [at_word pf q h]
  have hj : ∃ j : Fin 8, (i 0).val = j.val := ⟨i 0, rfl⟩
  obtain ⟨j, hj⟩ := hj
  rw [hj]
  clear h hj
  revert q j
  decide +kernel

/-- The side condition the pipeline puts on its table. -/
theorem ok_of_word {F : FTy → Type} [FloatOps F] (pf : pre0.Contents (Elt F)) (q : Fin 4) (h : (pf 0 : IVec S5 32) (ix1 1) = BitVec.ofNat 32 q.val) :
    ok0 (F := F) pf :=
  ⟨fun i => by rw [steered1 pf q h]; exact weight_inside q ⟨(i 0).val, (i 0).isLt⟩,
   fun i => by rw [steered2 pf q h]; exact result_inside q ⟨(i 0).val, (i 0).isLt⟩⟩

/-! ## The arrays -/

/-- The joined projections at a token and a column. -/
def pr (h : S2048x2048.Idx → EReal) (w : S2048x16384.Idx → EReal) (s : Fin 2048) (l : Fin 16384) : EReal :=
  ∑ d : Fin 2048, h (ix2 s d) * w (ix2 d l)

variable (m : (ℓ : Loc nD τ sig) → Buf (Elt Ideal) ℓ) (c : Dev nD)

/-- The projections' input. -/
abbrev H : S2048x2048.Idx → EReal := m ((c : Thread nD τ).loc main_arg0)
/-- The weight. -/
abbrev W : S2048x16384.Idx → EReal := m ((c : Thread nD τ).loc main_arg1)
/-- The table. -/
abbrev T : IVec S5 32 := m ((c : Thread nD τ).loc main_arg2)
/-- The array handed in, whose other parts stay. -/
abbrev Q : S4x2048x4096.Idx → EReal := m ((c : Thread nD τ).loc main_arg3)

variable (q : Fin 4) (hw : tbl m 0 (ix1 1) = BitVec.ofNat 32 q.val) (hO : Ok m)

/-! ## The blocks at a grid point -/

theorem column : ∀ t : Fin grid0.N, (grid0.coords t 0).val = t.val := by decide +kernel
theorem idx0 : ∀ t : Fin (cfgM m hO).N, ((cfgM m hO).win 0).index t = ![0, 0] := (by decide +kernel : ∀ t : Fin grid0.N, cc0_transform_0 (grid0.coords t) = ![0, 0])
include hw in
theorem idx1 (t : Fin (cfgM m hO).N) : ((cfgM m hO).win 1).index t = ![2 * q.val + t.val / 4, 0, t.val % 4] := by
  rw [← column t]
  exact steered1 (tbl m) q hw (grid0.coords t)
include hw in
theorem idx2 (t : Fin (cfgM m hO).N) : ((cfgM m hO).win 2).index t = ![q.val, 0, t.val] := by
  rw [← column t]
  exact steered2 (tbl m) q hw (grid0.coords t)

/-- The weight as the exchange gathers it. -/
theorem gathered (a : Fin 8) (n : Fin 2048) (k : Fin 2048) :
    V m c main_v2 (ix3 a n k) = W m c (ix2 n ⟨a.val * 2048 + k.val, by omega⟩) := by
  unfold V
  after_reads_at

/-- The result's buffer starts as the array handed in. -/
theorem started : V m c main_v3 = Q m c := by
  unfold V
  after_reads_at
  rfl

/-- The input's block at a point: all of it. -/
theorem rd0 (t : Fin (cfgM m hO).N) (s d : Fin 2048) : iblk m hO c 0 t (ix2 s d) = H m c (ix2 s d) := by
  unfold H
  rw [← V_main_arg0 m c]
  blk_point [iblk, idx0 m hO t]

include hw in
/-- The weight's block at a point. -/
theorem rd1 (t : Fin (cfgM m hO).N) (d : Fin 2048) (n : Fin 512) :
    iblk m hO c 1 t (ix3 0 d n) = V m c main_v2 (ix3 ⟨2 * q.val + t.val / 4, by have := t.isLt; have : (cfgM m hO).N = 8 := rfl; omega⟩ d ⟨t.val % 4 * 512 + n.val, by omega⟩) := by
  blk_point [iblk, idx1 m q hw hO t]

/-- One block of the result. -/
theorem pay1_at (a : S2048x2048.Idx → EReal) (b : S1x2048x512.Idx → EReal) (s : Fin 2048) (n : Fin 512) :
    k0_pay1 (F := Ideal) a b (ix3 0 s n) = ∑ d : Fin 2048, a (ix2 s d) * b (ix3 0 d n) := by
  pointwise [k0_pay1]

/-- What a point leaves in the result's block. -/
theorem point_out (c : Dev nD) (i : grid0.Coords) (a2 : Memref sig .tc .vmem S2048x2048 .bf16) (h2 : a2.IsWhole)
    (a3 : Memref sig .tc .vmem S1x2048x512 .bf16) (h3 : a3.IsWhole) (a5 : Memref sig .tc .vmem S1x2048x512 .bf16) (h5 : a5.IsWhole)
    (x : Vec Ideal S2048x2048 .bf16) (y : Vec Ideal S1x2048x512 .bf16) (z : TbBuf0 (F := Ideal) c tbM0_0) :
    out0_A_2 c i a2 h2 a3 h3 a5 h5 x y z = k0_pay1 (F := Ideal) x y := by
  frame_out

/-- The input's block at a point, as an array of its own shape. -/
def B0 (t : Fin (cfgM m hO).N) : Vec Ideal S2048x2048 .bf16 := iblk m hO c 0 t
/-- The weight's block at a point, as an array of its own shape. -/
def B1 (t : Fin (cfgM m hO).N) : Vec Ideal S1x2048x512 .bf16 := iblk m hO c 1 t

/-- What a point stores. -/
theorem store (t : Fin (cfgM m hO).N) : outsAt0 m hO c t = k0_pay1 (F := Ideal) (B0 m c hO t) (B1 m c hO t) :=
  point_out c (grid0.coords t) (ms0_0 m hO t) (hs0_0 m hO t) (ms0_1 m hO t) (hs0_1 m hO t) (ms0_2 m hO t) (hs0_2 m hO t)
    (iblk m hO c 0 t) (iblk m hO c 1 t) (tbl m 0)

include hw in
/-- The block a point writes, over the arrays. -/
theorem out_at (t : Fin (cfgM m hO).N) (s : Fin 2048) (n : Fin 512) :
    outsAt0 m hO c t (ix3 0 s n) = pr (H m c) (W m c) s ⟨q.val * 4096 + (t.val * 512 + n.val), by have := t.isLt; have : (cfgM m hO).N = 8 := rfl; omega⟩ := by
  rw [store]
  refine (pay1_at _ _ s n).trans ?_
  unfold pr
  refine Fin.sum_fin_congr fun d => congrArg₂ (· * ·) (rd0 m c hO t s d) ((rd1 m c q hw hO t d n).trans ((gathered m c _ _ _).trans (congrArg (W m c) (ix2_val rfl ?_))))
  show (2 * q.val + t.val / 4) * 2048 + (t.val % 4 * 512 + n.val) = q.val * 4096 + (t.val * 512 + n.val); omega

include hw in
/-- Where the block lies in the array. -/
theorem emb2 (t : Fin (cfgM m hO).N) (s : Fin 2048) (n : Fin 512) :
    (((cfgM m hO).win 2).blk t).view.emb (ix3 0 s n)
      = (ix3 q s ⟨t.val * 512 + n.val, by have := t.isLt; have : (cfgM m hO).N = 8 := rfl; omega⟩ : S4x2048x4096.Idx) := by
  blk_ext [idx2 m q hw hO t]

/-- The projections as an array, one part after the other. -/
def PR (h : S2048x2048.Idx → EReal) (w : S2048x16384.Idx → EReal) : S4x2048x4096.Idx → EReal := fun i =>
  pr h w (i 1) ⟨(i 0).val * 4096 + (i 2).val, by
    have h0 : (i 0).val < 4 := (i 0).isLt
    have h2 : (i 2).val < 4096 := (i 2).isLt
    omega⟩

/-- Part `q` of the projections over the array handed in. -/
def mine (q : Fin 4) (h : S2048x2048.Idx → EReal) (w : S2048x16384.Idx → EReal) (p : S4x2048x4096.Idx → EReal) : S4x2048x4096.Idx → EReal := fun i =>
  if (i 0).val = q.val then PR h w i else p i

include hw in
/-- The block a point writes is the projections'. -/
theorem at2 (t : Fin (cfgM m hO).N) (z : S1x2048x512.Idx) :
    outsAt0 m hO c t z = PR (H m c) (W m c) ((((cfgM m hO).win 2).blk t).view.emb z) := by
  obtain ⟨a, s, n, rfl⟩ := exists_ix3 (a := 1) (b := 2048) (c := 512) z
  obtain rfl : a = 0 := Subsingleton.elim _ _
  rw [out_at m c q hw hO t, emb2 m q hw hO]
  rfl

include hw in
/-- The points write the blocks of part `q`, all of them and no others. -/
theorem covers : ((cfgM m hO).win 2).CoversWhere (fun a : Fin 3 → ℕ => a 0 = q.val) := by
  refine ⟨(by decide +kernel : ∀ a, 0 < S1x2048x512.size a), fun t _ => ⟨?_, fun a => Pipeline.Window.xsize_eq_or_end _ rfl _ a⟩,
    fun (β : (a : Fin 3) → Fin (((cfgM m hO).win 2).nblk a)) hβ => ?_⟩
  · rw [idx2 m q hw hO]; rfl
  · have h1 : (β 1).val < 1 := lt_of_lt_of_eq (β 1).isLt (show (2048 + 2048 - 1) / 2048 = 1 by decide)
    have h2 : (β 2).val < 8 := lt_of_lt_of_eq (β 2).isLt (show (4096 + 512 - 1) / 512 = 8 by decide)
    obtain ⟨t, _, hf, hi⟩ := Pipeline.Window.exists_flush_same_index ((cfgM m hO).win 2) rfl (⟨(β 2).val, h2⟩ : Fin (cfgM m hO).N)
    refine ⟨t, fun a => ?_, hf⟩
    rw [hi, idx2 m q hw hO]
    match a with
    | ⟨0, _⟩ => exact hβ.symm
    | ⟨1, _⟩ => show 0 = (β 1).val; omega
    | ⟨2, _⟩ => rfl

include hw in
/-- The kernel's array after its run. -/
theorem final2 : (dats m hO 0 c).arrAt 2 (cfgM m hO).N = mine q (H m c) (W m c) (Q m c) := by
  refine funext fun (i : S4x2048x4096.Idx) => ?_
  refine ((dats m hO 0 c).arrAt_emb_eq_of_coversWhere 2 (PR (H m c) (W m c)) _ (covers m q hw hO) (fun t hf z => ?_) i).trans ?_
  · blk_simp
    rw [after0_2]
    exact at2 m c q hw hO t z
  · show (if (i 0).val / 1 = q.val then PR (H m c) (W m c) i else V m c main_v3 i) = _
    rw [Nat.div_one, started]
    rfl

open Cert.Reference15Ideal.Read in
/-- The reference's projections. -/
theorem all_at (h : S2048x2048.Idx → EReal) (w : S2048x16384.Idx → EReal) (a : Fin 4) (s : Fin 2048) (n : Fin 4096) :
    val_main_v11 (F := Ideal) h w (ix3 a s n) = PR h w (ix3 a s n) := by
  pointwise [val_main_v11, val_main_v10, val_main_v9, val_main_v8, val_main_v7, val_main_v6, val_main_v5, val_main_v4, val_main_v3, val_main_v2, val_main_v1, val_main_v0]
  unfold PR pr
  have ha := a.isLt
  repeat' split
  · refine Fin.sum_fin_congr fun d => congrArg (h (ix2 s d) * ·) (congrArg w (ix2_val rfl ?_))
    show n.val = a.val * 4096 + n.val; omega
  · refine Fin.sum_fin_congr fun d => congrArg (h (ix2 s d) * ·) (congrArg w (ix2_val rfl ?_))
    show 4096 + n.val = a.val * 4096 + n.val; omega
  · refine Fin.sum_fin_congr fun d => congrArg (h (ix2 s d) * ·) (congrArg w (ix2_val rfl ?_))
    show 8192 + n.val = a.val * 4096 + n.val; omega
  · refine Fin.sum_fin_congr fun d => congrArg (h (ix2 s d) * ·) (congrArg w (ix2_val rfl ?_))
    show 12288 + n.val = a.val * 4096 + n.val; omega

open Cert.Reference15Ideal.Read in
/-- The reference's choice of the part. -/
theorem choice_at (t : IVec S5 32) (ht : t (ix1 1) = BitVec.ofNat 32 q.val) (a : Fin 4) (s : Fin 2048) (n : Fin 4096) :
    val_main_call0_v0 (F := Ideal) t (ix3 a s n) = if a.val = q.val then 1#1 else 0#1 := by
  have e : val_main_call0_v0 (F := Ideal) t (ix3 a s n) = IntOp.cmpi .eq (BitVec.ofNat 32 a.val) (t (ix1 1)) := by
    pointwise [val_main_call0_v0, val_main_v17, val_main_v16, val_main_v15, val_main_v14, val_main_v13, val_main_v12]
  rw [e, ht]
  clear e ht
  revert a q
  decide

open Cert.Reference15Ideal.Read in
/-- The reference's array. -/
theorem ref_at (h : S2048x2048.Idx → EReal) (w : S2048x16384.Idx → EReal) (t : IVec S5 32) (p : S4x2048x4096.Idx → EReal)
    (ht : t (ix1 1) = BitVec.ofNat 32 q.val) (a : Fin 4) (s : Fin 2048) (n : Fin 4096) :
    val_main_v18 (F := Ideal) h w t p (ix3 a s n) = mine q h w p (ix3 a s n) := by
  have e : val_main_v18 (F := Ideal) h w t p (ix3 a s n)
      = Scalar.select (val_main_call0_v0 (F := Ideal) t (ix3 a s n)) (val_main_v11 (F := Ideal) h w (ix3 a s n)) (p (ix3 a s n)) := rfl
  rw [e, choice_at q t ht, all_at]
  unfold mine
  by_cases hq : a.val = q.val
  · rw [if_pos hq]; exact (if_pos hq).symm
  · rw [if_neg hq]; exact (if_neg hq).symm

/-- The kernel's result is the reference's. -/
theorem value [Cert.Pre_chip15.Facts] : algebraic_Kernel15Ideal_Reference15Ideal (hKernel15Ideal := Cert.Kernel15Ideal.Gen.facts)
    (hReference15Ideal := Cert.Reference15Ideal.Gen.facts) := by
  intro m g m' g' hpre hag
  obtain ⟨q, hw⟩ := part_of_pre (hpre 0)
  have hO : Ok m := ok_of_word (tbl m) q hw
  refine ⟨fun c => mine q (H m c) (W m c) (Q m c), ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference15Ideal.Value.run m' g')
    rw [Cert.Reference15Ideal.Read.val_main_v18_eq, (hag c).1, (hag c).2.1, (hag c).2.2.1, (hag c).2.2.2]
    funext i
    obtain rfl : c = 0 := Subsingleton.elim _ _
    exact ((congrArg _ (ix3_eta i).symm).trans (ref_at q (H m 0) (W m 0) (T m 0) (Q m 0) hw (i 0) (i 1) (i 2))).trans (congrArg _ (ix3_eta i))

/-- The kernel as compiled runs, its arguments end unchanged, and no semaphore is left raised. -/
theorem frame [Cert.Pre_chip15.Facts] : quiescent_Kernel15 (hKernel15 := Cert.Kernel15.Gen.facts) := fun m g h => by
  obtain ⟨q, hw⟩ := part_of_pre (h 0)
  exact Cert.Kernel15.Gen.frame m g (ok_of_word (Cert.Kernel15.Gen.tbl m) q hw)

/-- The idealized kernel does too. -/
theorem idealFrame [Cert.Pre_chip15.Facts] : quiescent_Kernel15Ideal (hKernel15Ideal := Cert.Kernel15Ideal.Gen.facts) := fun m g h => by
  obtain ⟨q, hw⟩ := part_of_pre (h 0)
  exact Cert.Kernel15Ideal.Gen.frame m g (ok_of_word (tbl m) q hw)

/-- The reference runs, its arguments end unchanged, and it has no semaphore to leave raised. -/
theorem refFrame [Cert.Pre_chip15.Facts] : quiescent_Reference15Ideal (hReference15Ideal := Cert.Reference15Ideal.Gen.facts) := fun m g _ =>
  (θ_run _ _ _).mono (fun r h => ⟨fun c => (h c).2, funext fun s => by
    rcases s with ⟨_, s⟩; rcases s with s | s <;> exact s.elim0⟩) (Cert.Reference15Ideal.Value.run m g)

end Cert.Proof.Project0X

end
-- ==== Proof.Product.Project0Far.lean ====
/-
  The first layer's projections, one part of them: the kernel's products, whose blocks of the weight and of the result a table
  steers, and the reference's choice of that part over the array handed in.
-/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Product.Index
public import proofs.«01_k».proof.Proof.Product.Word
public import Idealize.ShloMosaic.Lib.WordCmp
public import Idealize.ShloMosaic.Lib.Pipeline.Covers
public import Idealize.ShloMosaic.Lib.Pipeline.ValueKit

@[expose] public section

set_option maxRecDepth 20000

noncomputable section

namespace Cert.Proof.Project0Far

open Cert.Kernel16Ideal Cert.Kernel16Ideal.Gen Idealize.ShloMosaic Idealize.ShloMosaic.TcCoe Idealize.SL.Sem

/-- The side conditions of the precondition's own operations. -/
theorem preFacts : Cert.Pre_chip16.Facts :=
  { slices_S5_S1_2 := by decide
    shapeCasts_S1_S_ := by decide }

/-- What the precondition says of the table: its word names a part. -/
theorem part_of_pre {F : FTy → Type} [FloatOps F] [Cert.Pre_chip16.Facts] {a : FVec F S2048x2048 .bf16} {b : FVec F S2048x16384 .f32} {t : IVec S5 32}
    {p : FVec F S4x2048x4096 .bf16} (h : Cert.Pre_chip16.fn (F := F) a b t p = fun _ => 1#1) : ∃ q : Fin 4, t (ix1 2) = BitVec.ofNat 32 q.val := by
  have h0 := congrFun h Idealize.ShloMosaic.ix0
  dsimp only [Cert.Pre_chip16.fn] at h0
  obtain ⟨h1, h2⟩ := IntOp.andi_eq_one.mp h0
  have e : shapeCast Cert.Pre_chip16.S_ (extractStridedSlice Cert.Pre_chip16.S1 ![2] t Cert.Pre_chip16.Facts.slices_S5_S1_2)
      Cert.Pre_chip16.Facts.shapeCasts_S1_S_ Idealize.ShloMosaic.ix0 = t (ix1 2) := by pointwise
  rw [← e]
  exact Word.word_of_range _ h1 h2

/-! ## The table's side condition -/

/-- Every block of the weight that the table can name lies inside the array, on whole words. -/
theorem weight_inside : ∀ (q : Fin 4) (j : Fin 8),
    ∃ h : (∀ a, ((![2 * q.val + j.val / 4, 0, j.val % 4] : Fin 3 → ℕ) a + 1) * S1x2048x512.size a ≤ S8x2048x2048.size a),
      EltTy.bits .bf16 = 32 ∨ (Rect.block (s := S8x2048x2048) S1x2048x512.size ![2 * q.val + j.val / 4, 0, j.val % 4] h).WholeWords (EltTy.packing .bf16) := by
  decide +kernel

/-- So does every block of the result. -/
theorem result_inside : ∀ (q : Fin 4) (j : Fin 8),
    ∃ h : (∀ a, ((![q.val, 0, j.val] : Fin 3 → ℕ) a + 1) * S1x2048x512.size a ≤ S4x2048x4096.size a),
      EltTy.bits .bf16 = 32 ∨ (Rect.block (s := S4x2048x4096) S1x2048x512.size ![q.val, 0, j.val] h).WholeWords (EltTy.packing .bf16) := by
  decide +kernel

/-- The word a block's index reads off the table. -/
theorem at_word {F : FTy → Type} [FloatOps F] (pf : pre0.Contents (Elt F)) (q : Fin 4) (h : (pf 0 : IVec S5 32) (ix1 2) = BitVec.ofNat 32 q.val) :
    pf.at 0 (Rect.unit (s := S5) ![2] S1.size inb_S5_S1_2) numel1_S1 = BitVec.ofNat 32 q.val := by
  rw [← h]
  exact congrArg (pf 0) (funext fun a => Fin.ext (match a with | ⟨0, _⟩ => rfl))

/-- The block of the weight at a point: one of the part's. -/
theorem steered1 {F : FTy → Type} [FloatOps F] (pf : pre0.Contents (Elt F)) (q : Fin 4) (h : (pf 0 : IVec S5 32) (ix1 2) = BitVec.ofNat 32 q.val)
    (i : grid0.Coords) : cc0_transform_1 (F := F) inb_S5_S1_2 numel1_S1 pf i = ![2 * q.val + (i 0).val / 4, 0, (i 0).val % 4] := by
  unfold cc0_transform_1
  simp only [at_word pf q h]
  have hj : ∃ j : Fin 8, (i 0).val = j.val := ⟨i 0, rfl⟩
  obtain ⟨j, hj⟩ := hj
  rw [hj]
  clear h hj
  revert q j
  decide +kernel

/-- The block of the result at a point: one of the part's. -/
theorem steered2 {F : FTy → Type} [FloatOps F] (pf : pre0.Contents (Elt F)) (q : Fin 4) (h : (pf 0 : IVec S5 32) (ix1 2) = BitVec.ofNat 32 q.val)
    (i : grid0.Coords) : cc0_transform_3 (F := F) inb_S5_S1_2 numel1_S1 pf i = ![q.val, 0, (i 0).val] := by
  unfold cc0_transform_3
  simp only [at_word pf q h]
  have hj : ∃ j : Fin 8, (i 0).val = j.val := ⟨i 0, rfl⟩
  obtain ⟨j, hj⟩ := hj
  rw [hj]
  clear h hj
  revert q j
  decide +kernel

/-- The side condition the pipeline puts on its table. -/
theorem ok_of_word {F : FTy → Type} [FloatOps F] (pf : pre0.Contents (Elt F)) (q : Fin 4) (h : (pf 0 : IVec S5 32) (ix1 2) = BitVec.ofNat 32 q.val) :
    ok0 (F := F) pf :=
  ⟨fun i => by rw [steered1 pf q h]; exact weight_inside q ⟨(i 0).val, (i 0).isLt⟩,
   fun i => by rw [steered2 pf q h]; exact result_inside q ⟨(i 0).val, (i 0).isLt⟩⟩

/-! ## The arrays -/

/-- The joined projections at a token and a column. -/
def pr (h : S2048x2048.Idx → EReal) (w : S2048x16384.Idx → EReal) (s : Fin 2048) (l : Fin 16384) : EReal :=
  ∑ d : Fin 2048, h (ix2 s d) * w (ix2 d l)

variable (m : (ℓ : Loc nD τ sig) → Buf (Elt Ideal) ℓ) (c : Dev nD)

/-- The projections' input. -/
abbrev H : S2048x2048.Idx → EReal := m ((c : Thread nD τ).loc main_arg0)
/-- The weight. -/
abbrev W : S2048x16384.Idx → EReal := m ((c : Thread nD τ).loc main_arg1)
/-- The table. -/
abbrev T : IVec S5 32 := m ((c : Thread nD τ).loc main_arg2)
/-- The array handed in, whose other parts stay. -/
abbrev Q : S4x2048x4096.Idx → EReal := m ((c : Thread nD τ).loc main_arg3)

variable (q : Fin 4) (hw : tbl m 0 (ix1 2) = BitVec.ofNat 32 q.val) (hO : Ok m)

/-! ## The blocks at a grid point -/

theorem column : ∀ t : Fin grid0.N, (grid0.coords t 0).val = t.val := by decide +kernel
theorem idx0 : ∀ t : Fin (cfgM m hO).N, ((cfgM m hO).win 0).index t = ![0, 0] := (by decide +kernel : ∀ t : Fin grid0.N, cc0_transform_0 (grid0.coords t) = ![0, 0])
include hw in
theorem idx1 (t : Fin (cfgM m hO).N) : ((cfgM m hO).win 1).index t = ![2 * q.val + t.val / 4, 0, t.val % 4] := by
  rw [← column t]
  exact steered1 (tbl m) q hw (grid0.coords t)
include hw in
theorem idx2 (t : Fin (cfgM m hO).N) : ((cfgM m hO).win 2).index t = ![q.val, 0, t.val] := by
  rw [← column t]
  exact steered2 (tbl m) q hw (grid0.coords t)

/-- The weight as the exchange gathers it. -/
theorem gathered (a : Fin 8) (n : Fin 2048) (k : Fin 2048) :
    V m c main_v2 (ix3 a n k) = W m c (ix2 n ⟨a.val * 2048 + k.val, by omega⟩) := by
  unfold V
  after_reads_at

/-- The result's buffer starts as the array handed in. -/
theorem started : V m c main_v3 = Q m c := by
  unfold V
  after_reads_at
  rfl

/-- The input's block at a point: all of it. -/
theorem rd0 (t : Fin (cfgM m hO).N) (s d : Fin 2048) : iblk m hO c 0 t (ix2 s d) = H m c (ix2 s d) := by
  unfold H
  rw [← V_main_arg0 m c]
  blk_point [iblk, idx0 m hO t]

include hw in
/-- The weight's block at a point. -/
theorem rd1 (t : Fin (cfgM m hO).N) (d : Fin 2048) (n : Fin 512) :
    iblk m hO c 1 t (ix3 0 d n) = V m c main_v2 (ix3 ⟨2 * q.val + t.val / 4, by have := t.isLt; have : (cfgM m hO).N = 8 := rfl; omega⟩ d ⟨t.val % 4 * 512 + n.val, by omega⟩) := by
  blk_point [iblk, idx1 m q hw hO t]

/-- One block of the result. -/
theorem pay1_at (a : S2048x2048.Idx → EReal) (b : S1x2048x512.Idx → EReal) (s : Fin 2048) (n : Fin 512) :
    k0_pay1 (F := Ideal) a b (ix3 0 s n) = ∑ d : Fin 2048, a (ix2 s d) * b (ix3 0 d n) := by
  pointwise [k0_pay1]

/-- What a point leaves in the result's block. -/
theorem point_out (c : Dev nD) (i : grid0.Coords) (a2 : Memref sig .tc .vmem S2048x2048 .bf16) (h2 : a2.IsWhole)
    (a3 : Memref sig .tc .vmem S1x2048x512 .bf16) (h3 : a3.IsWhole) (a5 : Memref sig .tc .vmem S1x2048x512 .bf16) (h5 : a5.IsWhole)
    (x : Vec Ideal S2048x2048 .bf16) (y : Vec Ideal S1x2048x512 .bf16) (z : TbBuf0 (F := Ideal) c tbM0_0) :
    out0_A_2 c i a2 h2 a3 h3 a5 h5 x y z = k0_pay1 (F := Ideal) x y := by
  frame_out

/-- The input's block at a point, as an array of its own shape. -/
def B0 (t : Fin (cfgM m hO).N) : Vec Ideal S2048x2048 .bf16 := iblk m hO c 0 t
/-- The weight's block at a point, as an array of its own shape. -/
def B1 (t : Fin (cfgM m hO).N) : Vec Ideal S1x2048x512 .bf16 := iblk m hO c 1 t

/-- What a point stores. -/
theorem store (t : Fin (cfgM m hO).N) : outsAt0 m hO c t = k0_pay1 (F := Ideal) (B0 m c hO t) (B1 m c hO t) :=
  point_out c (grid0.coords t) (ms0_0 m hO t) (hs0_0 m hO t) (ms0_1 m hO t) (hs0_1 m hO t) (ms0_2 m hO t) (hs0_2 m hO t)
    (iblk m hO c 0 t) (iblk m hO c 1 t) (tbl m 0)

include hw in
/-- The block a point writes, over the arrays. -/
theorem out_at (t : Fin (cfgM m hO).N) (s : Fin 2048) (n : Fin 512) :
    outsAt0 m hO c t (ix3 0 s n) = pr (H m c) (W m c) s ⟨q.val * 4096 + (t.val * 512 + n.val), by have := t.isLt; have : (cfgM m hO).N = 8 := rfl; omega⟩ := by
  rw [store]
  refine (pay1_at _ _ s n).trans ?_
  unfold pr
  refine Fin.sum_fin_congr fun d => congrArg₂ (· * ·) (rd0 m c hO t s d) ((rd1 m c q hw hO t d n).trans ((gathered m c _ _ _).trans (congrArg (W m c) (ix2_val rfl ?_))))
  show (2 * q.val + t.val / 4) * 2048 + (t.val % 4 * 512 + n.val) = q.val * 4096 + (t.val * 512 + n.val); omega

include hw in
/-- Where the block lies in the array. -/
theorem emb2 (t : Fin (cfgM m hO).N) (s : Fin 2048) (n : Fin 512) :
    (((cfgM m hO).win 2).blk t).view.emb (ix3 0 s n)
      = (ix3 q s ⟨t.val * 512 + n.val, by have := t.isLt; have : (cfgM m hO).N = 8 := rfl; omega⟩ : S4x2048x4096.Idx) := by
  blk_ext [idx2 m q hw hO t]

/-- The projections as an array, one part after the other. -/
def PR (h : S2048x2048.Idx → EReal) (w : S2048x16384.Idx → EReal) : S4x2048x4096.Idx → EReal := fun i =>
  pr h w (i 1) ⟨(i 0).val * 4096 + (i 2).val, by
    have h0 : (i 0).val < 4 := (i 0).isLt
    have h2 : (i 2).val < 4096 := (i 2).isLt
    omega⟩

/-- Part `q` of the projections over the array handed in. -/
def mine (q : Fin 4) (h : S2048x2048.Idx → EReal) (w : S2048x16384.Idx → EReal) (p : S4x2048x4096.Idx → EReal) : S4x2048x4096.Idx → EReal := fun i =>
  if (i 0).val = q.val then PR h w i else p i

include hw in
/-- The block a point writes is the projections'. -/
theorem at2 (t : Fin (cfgM m hO).N) (z : S1x2048x512.Idx) :
    outsAt0 m hO c t z = PR (H m c) (W m c) ((((cfgM m hO).win 2).blk t).view.emb z) := by
  obtain ⟨a, s, n, rfl⟩ := exists_ix3 (a := 1) (b := 2048) (c := 512) z
  obtain rfl : a = 0 := Subsingleton.elim _ _
  rw [out_at m c q hw hO t, emb2 m q hw hO]
  rfl

include hw in
/-- The points write the blocks of part `q`, all of them and no others. -/
theorem covers : ((cfgM m hO).win 2).CoversWhere (fun a : Fin 3 → ℕ => a 0 = q.val) := by
  refine ⟨(by decide +kernel : ∀ a, 0 < S1x2048x512.size a), fun t _ => ⟨?_, fun a => Pipeline.Window.xsize_eq_or_end _ rfl _ a⟩,
    fun (β : (a : Fin 3) → Fin (((cfgM m hO).win 2).nblk a)) hβ => ?_⟩
  · rw [idx2 m q hw hO]; rfl
  · have h1 : (β 1).val < 1 := lt_of_lt_of_eq (β 1).isLt (show (2048 + 2048 - 1) / 2048 = 1 by decide)
    have h2 : (β 2).val < 8 := lt_of_lt_of_eq (β 2).isLt (show (4096 + 512 - 1) / 512 = 8 by decide)
    obtain ⟨t, _, hf, hi⟩ := Pipeline.Window.exists_flush_same_index ((cfgM m hO).win 2) rfl (⟨(β 2).val, h2⟩ : Fin (cfgM m hO).N)
    refine ⟨t, fun a => ?_, hf⟩
    rw [hi, idx2 m q hw hO]
    match a with
    | ⟨0, _⟩ => exact hβ.symm
    | ⟨1, _⟩ => show 0 = (β 1).val; omega
    | ⟨2, _⟩ => rfl

include hw in
/-- The kernel's array after its run. -/
theorem final2 : (dats m hO 0 c).arrAt 2 (cfgM m hO).N = mine q (H m c) (W m c) (Q m c) := by
  refine funext fun (i : S4x2048x4096.Idx) => ?_
  refine ((dats m hO 0 c).arrAt_emb_eq_of_coversWhere 2 (PR (H m c) (W m c)) _ (covers m q hw hO) (fun t hf z => ?_) i).trans ?_
  · blk_simp
    rw [after0_2]
    exact at2 m c q hw hO t z
  · show (if (i 0).val / 1 = q.val then PR (H m c) (W m c) i else V m c main_v3 i) = _
    rw [Nat.div_one, started]
    rfl

open Cert.Reference16Ideal.Read in
/-- The reference's projections. -/
theorem all_at (h : S2048x2048.Idx → EReal) (w : S2048x16384.Idx → EReal) (a : Fin 4) (s : Fin 2048) (n : Fin 4096) :
    val_main_v11 (F := Ideal) h w (ix3 a s n) = PR h w (ix3 a s n) := by
  pointwise [val_main_v11, val_main_v10, val_main_v9, val_main_v8, val_main_v7, val_main_v6, val_main_v5, val_main_v4, val_main_v3, val_main_v2, val_main_v1, val_main_v0]
  unfold PR pr
  have ha := a.isLt
  repeat' split
  · refine Fin.sum_fin_congr fun d => congrArg (h (ix2 s d) * ·) (congrArg w (ix2_val rfl ?_))
    show n.val = a.val * 4096 + n.val; omega
  · refine Fin.sum_fin_congr fun d => congrArg (h (ix2 s d) * ·) (congrArg w (ix2_val rfl ?_))
    show 4096 + n.val = a.val * 4096 + n.val; omega
  · refine Fin.sum_fin_congr fun d => congrArg (h (ix2 s d) * ·) (congrArg w (ix2_val rfl ?_))
    show 8192 + n.val = a.val * 4096 + n.val; omega
  · refine Fin.sum_fin_congr fun d => congrArg (h (ix2 s d) * ·) (congrArg w (ix2_val rfl ?_))
    show 12288 + n.val = a.val * 4096 + n.val; omega

open Cert.Reference16Ideal.Read in
/-- The reference's choice of the part. -/
theorem choice_at (t : IVec S5 32) (ht : t (ix1 2) = BitVec.ofNat 32 q.val) (a : Fin 4) (s : Fin 2048) (n : Fin 4096) :
    val_main_call0_v0 (F := Ideal) t (ix3 a s n) = if a.val = q.val then 1#1 else 0#1 := by
  have e : val_main_call0_v0 (F := Ideal) t (ix3 a s n) = IntOp.cmpi .eq (BitVec.ofNat 32 a.val) (t (ix1 2)) := by
    pointwise [val_main_call0_v0, val_main_v17, val_main_v16, val_main_v15, val_main_v14, val_main_v13, val_main_v12]
  rw [e, ht]
  clear e ht
  revert a q
  decide

open Cert.Reference16Ideal.Read in
/-- The reference's array. -/
theorem ref_at (h : S2048x2048.Idx → EReal) (w : S2048x16384.Idx → EReal) (t : IVec S5 32) (p : S4x2048x4096.Idx → EReal)
    (ht : t (ix1 2) = BitVec.ofNat 32 q.val) (a : Fin 4) (s : Fin 2048) (n : Fin 4096) :
    val_main_v18 (F := Ideal) h w t p (ix3 a s n) = mine q h w p (ix3 a s n) := by
  have e : val_main_v18 (F := Ideal) h w t p (ix3 a s n)
      = Scalar.select (val_main_call0_v0 (F := Ideal) t (ix3 a s n)) (val_main_v11 (F := Ideal) h w (ix3 a s n)) (p (ix3 a s n)) := rfl
  rw [e, choice_at q t ht, all_at]
  unfold mine
  by_cases hq : a.val = q.val
  · rw [if_pos hq]; exact (if_pos hq).symm
  · rw [if_neg hq]; exact (if_neg hq).symm

/-- The kernel's result is the reference's. -/
theorem value [Cert.Pre_chip16.Facts] : algebraic_Kernel16Ideal_Reference16Ideal (hKernel16Ideal := Cert.Kernel16Ideal.Gen.facts)
    (hReference16Ideal := Cert.Reference16Ideal.Gen.facts) := by
  intro m g m' g' hpre hag
  obtain ⟨q, hw⟩ := part_of_pre (hpre 0)
  have hO : Ok m := ok_of_word (tbl m) q hw
  refine ⟨fun c => mine q (H m c) (W m c) (Q m c), ?_, ?_⟩
  · refine (θ_run _ _ _).mono (fun r h c => ⟨((h.1 c).1 2).trans (final2 m c q hw hO), h.2 c⟩)
      (θ_run_and (run_main m g hO) (unchanged m g hO))
  · refine (θ_run _ _ _).mono (fun r h c => ⟨(h c).1.trans ?_, (h c).2⟩) (Cert.Reference16Ideal.Value.run m' g')
    rw [Cert.Reference16Ideal.Read.val_main_v18_eq, (hag c).1, (hag c).2.1, (hag c).2.2.1, (hag c).2.2.2]
    funext i
    obtain rfl : c = 0 := Subsingleton.elim _ _
    exact ((congrArg _ (ix3_eta i).symm).trans (ref_at q (H m 0) (W m 0) (T m 0) (Q m 0) hw (i 0) (i 1) (i 2))).trans (congrArg _ (ix3_eta i))

/-- The kernel as compiled runs, its arguments end unchanged, and no semaphore is left raised. -/
theorem frame [Cert.Pre_chip16.Facts] : quiescent_Kernel16 (hKernel16 := Cert.Kernel16.Gen.facts) := fun m g h => by
  obtain ⟨q, hw⟩ := part_of_pre (h 0)
  exact Cert.Kernel16.Gen.frame m g (ok_of_word (Cert.Kernel16.Gen.tbl m) q hw)

/-- The idealized kernel does too. -/
theorem idealFrame [Cert.Pre_chip16.Facts] : quiescent_Kernel16Ideal (hKernel16Ideal := Cert.Kernel16Ideal.Gen.facts) := fun m g h => by
  obtain ⟨q, hw⟩ := part_of_pre (h 0)
  exact Cert.Kernel16Ideal.Gen.frame m g (ok_of_word (tbl m) q hw)

/-- The reference runs, its arguments end unchanged, and it has no semaphore to leave raised. -/
theorem refFrame [Cert.Pre_chip16.Facts] : quiescent_Reference16Ideal (hReference16Ideal := Cert.Reference16Ideal.Gen.facts) := fun m g _ =>
  (θ_run _ _ _).mono (fun r h => ⟨fun c => (h c).2, funext fun s => by
    rcases s with ⟨_, s⟩; rcases s with s | s <;> exact s.elim0⟩) (Cert.Reference16Ideal.Value.run m g)

end Cert.Proof.Project0Far

end
-- ==== Proof.Optimiser.Step.lean ====
/-
  The optimiser's step on one weight: its moments and its update, over the extended reals with the step's literals as printed.
-/
module

public import Idealize.ShloMosaic.Lib.Pointwise

@[expose] public section

noncomputable section

namespace Cert.Proof

open Idealize.ShloMosaic

/-- The number a printed literal stands for. -/
abbrev lit (b : BitVec 32) : EReal := (Scalar.ofBits .f32 b : Ideal .f32)

/-- The new first moment: nine tenths of the old and a tenth of the gradient. -/
def first (g p : EReal) : EReal := lit 0x3F666666#32 * p + lit 0x3DCCCCCD#32 * g

/-- The new second moment: of the old, and a thousandth of the gradient's square. -/
def second (g q : EReal) : EReal := lit 0x3F7FBE77#32 * q + lit 0x3A83126F#32 * (g * g)

/-- The weight's update: the corrected first moment over the root of the corrected second, with the weight's decay, times the rate. -/
def update (w g p q : EReal) : EReal :=
  lit 0xBA83126F#32 *
    (FloatOps.divf (F := Ideal) (φ := .f32) (FloatOps.divf (F := Ideal) (φ := .f32) (first g p) (lit 0x3F26BD02#32))
        (FloatOps.sqrt (F := Ideal) (φ := .f32) (FloatOps.divf (F := Ideal) (φ := .f32) (second g q) (lit 0x3C231ACC#32)) + lit 0x322BCC77#32)
      + lit 0x3C23D70A#32 * w)

end Cert.Proof

end
-- ==== Proof.Optimiser.Small.lean ====
/-
  The optimiser's step on the packed small weights: the kernel's arrays and the reference's, element by element.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Optimiser.Step

@[expose] public section

set_option maxRecDepth 20000

noncomputable section

namespace Cert.Proof.Small

open Cert.Kernel17Ideal Cert.Kernel17Ideal.Gen Idealize.ShloMosaic Idealize.ShloMosaic.TcCoe Idealize.SL.Sem

/-- The weights' updates as an array. -/
def UPD (w g p q : S192x128.Idx → EReal) : S192x128.Idx → EReal := fun i => update (w i) (g i) (p i) (q i)
/-- The new first moments as an array. -/
def FIRST (g p : S192x128.Idx → EReal) : S192x128.Idx → EReal := fun i => first (g i) (p i)
/-- The new second moments as an array. -/
def SECOND (g q : S192x128.Idx → EReal) : S192x128.Idx → EReal := fun i => second (g i) (q i)

variable (m : (ℓ : Loc nD τ sig) → Buf (Elt Ideal) ℓ) (c : Dev nD)

/-- The packed weights. -/
abbrev W : S192x128.Idx → EReal := m ((c : Thread nD τ).loc main_arg0)
/-- Their gradients. -/
abbrev G : S192x128.Idx → EReal := m ((c : Thread nD τ).loc main_arg1)
/-- The first moments. -/
abbrev M1 : S192x128.Idx → EReal := m ((c : Thread nD τ).loc main_arg2)
/-- The second moments. -/
abbrev M2 : S192x128.Idx → EReal := m ((c : Thread nD τ).loc main_arg3)

open Cert.Reference17Ideal.Read in
/-- The reference's updates. -/
theorem ref_update (w g p q : S192x128.Idx → EReal) : val_main_v23 (F := Ideal) w g p q = UPD w g p q := rfl

open Cert.Reference17Ideal.Read in
/-- The reference's first moments. -/
theorem ref_first (g p : S192x128.Idx → EReal) : val_main_v4 (F := Ideal) g p = FIRST g p := rfl

open Cert.Reference17Ideal.Read in
/-- The reference's second moments. -/
theorem ref_second (g q : S192x128.Idx → EReal) : val_main_v10 (F := Ideal) g q = SECOND g q := rfl

/-- The kernel's three results are the reference's. -/
theorem value : algebraic_Kernel17Ideal_Reference17Ideal (hKernel17Ideal := Cert.Kernel17Ideal.Gen.facts)
    (hReference17Ideal := Cert.Reference17Ideal.Gen.facts) := by
  intro m g m' g' _ hag
  refine ⟨fun c => UPD (W m c) (G m c) (M1 m c) (M2 m c), fun c => FIRST (G m c) (M1 m c), fun c => SECOND (G m c) (M2 m c), ?_, ?_⟩
  · exact (θ_run _ _ _).mono (fun r h c => ⟨(h c).1.trans rfl, (h c).2.1.trans rfl, (h c).2.2.1.trans rfl, (h c).2.2.2⟩)
      (Cert.Kernel17Ideal.Value.run m g)
  · refine (θ_run _ _ _).mono (fun r h c => ⟨(h c).1.trans ?_, (h c).2.1.trans ?_, (h c).2.2.1.trans ?_, (h c).2.2.2⟩)
      (Cert.Reference17Ideal.Value.run m' g')
    · rw [Cert.Reference17Ideal.Read.val_main_v23_eq, (hag c).1, (hag c).2.1, (hag c).2.2.1, (hag c).2.2.2]
      exact ref_update _ _ _ _
    · rw [Cert.Reference17Ideal.Read.val_main_v4_eq, (hag c).2.1, (hag c).2.2.1]
      exact ref_first _ _
    · rw [Cert.Reference17Ideal.Read.val_main_v10_eq, (hag c).2.1, (hag c).2.2.2]
      exact ref_second _ _

/-- The reference runs, its arguments end unchanged, and it has no semaphore to leave raised. -/
theorem refFrame : quiescent_Reference17Ideal (hReference17Ideal := Cert.Reference17Ideal.Gen.facts) := fun m g _ =>
  (θ_run _ _ _).mono (fun r h => ⟨fun c => (h c).2.2.2, funext fun s => by
    rcases s with ⟨_, s⟩; rcases s with s | s <;> exact s.elim0⟩) (Cert.Reference17Ideal.Value.run m g)

end Cert.Proof.Small

end
-- ==== Proof.Optimiser.Modulation.lean ====
/-
  The modulation's weight: its gradient, a sum over the sequences, and the optimiser's step, the kernel's and the reference's.
-/
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import proofs.«01_k».proof.Proof.Optimiser.Step
public import proofs.«01_k».proof.Proof.Product.Index
public import Idealize.ShloMosaic.Lib.KernelVsHost

@[expose] public section

set_option maxRecDepth 20000

noncomputable section

namespace Cert.Proof.Modulation

open Cert.Kernel18Ideal Cert.Kernel18Ideal.Gen Idealize.ShloMosaic Idealize.ShloMosaic.TcCoe Idealize.SL.Sem

/-- The smooth gate of the conditioning. -/
def silu (x : EReal) : EReal := x * Ideal.logistic x

/-- The gradient at a layer, a feature and a column: the gated conditioning against the modulation's cotangent, over the sequences. -/
def grad (x : S8x2048.Idx → EReal) (y : S2x8x768.Idx → EReal) (l : Fin 2) (d : Fin 2048) (f : Fin 768) : EReal :=
  ∑ k : Fin 8, silu (x (ix2 k d)) * y (ix3 l k f)

/-- The gradient as an array. -/
def GRAD (x : S8x2048.Idx → EReal) (y : S2x8x768.Idx → EReal) : S2x2048x768.Idx → EReal := fun i => grad x y (i 0) (i 1) (i 2)
/-- The updates as an array. -/
def UPD (x : S8x2048.Idx → EReal) (y : S2x8x768.Idx → EReal) (w p q : S2x2048x768.Idx → EReal) : S2x2048x768.Idx → EReal :=
  fun i => update (w (ix3 (i 0) (i 1) (i 2))) (grad x y (i 0) (i 1) (i 2)) (p (ix3 (i 0) (i 1) (i 2))) (q (ix3 (i 0) (i 1) (i 2)))
/-- The new first moments as an array. -/
def FIRST (x : S8x2048.Idx → EReal) (y : S2x8x768.Idx → EReal) (p : S2x2048x768.Idx → EReal) : S2x2048x768.Idx → EReal :=
  fun i => first (grad x y (i 0) (i 1) (i 2)) (p (ix3 (i 0) (i 1) (i 2)))
/-- The new second moments as an array. -/
def SECOND (x : S8x2048.Idx → EReal) (y : S2x8x768.Idx → EReal) (q : S2x2048x768.Idx → EReal) : S2x2048x768.Idx → EReal :=
  fun i => second (grad x y (i 0) (i 1) (i 2)) (q (ix3 (i 0) (i 1) (i 2)))

variable (m : (ℓ : Loc nD τ sig) → Buf (Elt Ideal) ℓ) (c : Dev nD)

/-- The conditioning. -/
abbrev X : S8x2048.Idx → EReal := m ((c : Thread nD τ).loc main_arg0)
/-- The modulation's cotangent. -/
abbrev Y : S2x8x768.Idx → EReal := m ((c : Thread nD τ).loc main_arg1)
/-- The weight. -/
abbrev W : S2x2048x768.Idx → EReal := m ((c : Thread nD τ).loc main_arg2)
/-- The first moments. -/
abbrev M1 : S2x2048x768.Idx → EReal := m ((c : Thread nD τ).loc main_arg3)
/-- The second moments. -/
abbrev M2 : S2x2048x768.Idx → EReal := m ((c : Thread nD τ).loc main_arg4)

/-! ## The blocks at a grid point -/

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)

/-- The layer of a point. -/
def lay (t : Fin cfg0.N) : Fin 2 := ⟨t.val / 4, by have := t.isLt; have : cfg0.N = 8 := rfl; omega⟩
/-- The feature of a point's row. -/
def feat (t : Fin cfg0.N) (d : Fin 512) : Fin 2048 := ⟨t.val % 4 * 512 + d.val, by omega⟩

/-- The conditioning, transposed, as the kernel takes it. -/
theorem turned (d : Fin 2048) (k : Fin 8) : V m c main_v0 (ix2 d k) = X m c (ix2 k d) := by
  unfold V
  after_reads_at

/-- The conditioning's block at a point. -/
theorem rd0 (t : Fin cfg0.N) (d : Fin 512) (k : Fin 8) : iblk m c 0 t (ix2 d k) = X m c (ix2 k (feat t d)) := by
  rw [← turned]
  unfold feat
  blk_point [iblk, idx0 t]

/-- The cotangent's block at a point. -/
theorem rd1 (t : Fin cfg0.N) (k : Fin 8) (f : Fin 768) : iblk m c 1 t (ix3 0 k f) = Y m c (ix3 (lay t) k f) := by
  unfold Y lay
  rw [← V_main_arg1 m c]
  blk_point [iblk, idx1 t]

/-- The weight's block at a point. -/
theorem rd2 (t : Fin cfg0.N) (d : Fin 512) (f : Fin 768) : iblk m c 2 t (ix3 0 d f) = W m c (ix3 (lay t) (feat t d) f) := by
  unfold W lay feat
  rw [← V_main_arg2 m c]
  blk_point [iblk, idx2 t]

/-- The first moments' block at a point. -/
theorem rd3 (t : Fin cfg0.N) (d : Fin 512) (f : Fin 768) : iblk m c 3 t (ix3 0 d f) = M1 m c (ix3 (lay t) (feat t d) f) := by
  unfold M1 lay feat
  rw [← V_main_arg3 m c]
  blk_point [iblk, idx3 t]

/-- The second moments' block at a point. -/
theorem rd4 (t : Fin cfg0.N) (d : Fin 512) (f : Fin 768) : iblk m c 4 t (ix3 0 d f) = M2 m c (ix3 (lay t) (feat t d) f) := by
  unfold M2 lay feat
  rw [← V_main_arg4 m c]
  blk_point [iblk, idx4 t]

/-! ## What a point writes -/

/-- The gradient of two blocks. -/
def g0 (x : S512x8.Idx → EReal) (y : S1x8x768.Idx → EReal) (d : Fin 512) (f : Fin 768) : EReal :=
  ∑ k : Fin 8, silu (x (ix2 d k)) * y (ix3 0 k f)

/-- A row of the cotangent's block, read. -/
theorem ld_row (y : Vec Ideal S1x8x768 .f32) (k : Fin 8) (inb : ∀ a, (![0, k.val, 0] : Fin 3 → Nat) a + S1x1x768.size a ≤ S1x8x768.size a) (f : Fin 768) :
    View.ld y (Rect.unit (s := S1x8x768) ![0, k.val, 0] S1x1x768.size inb) (ix3 0 0 f) = y (ix3 0 k f) := by
  refine congrArg y (funext fun b => Fin.ext ?_)
  match b with
  | ⟨0, _⟩ => rfl
  | ⟨1, _⟩ => show k.val + 1 * 0 = k.val; omega
  | ⟨2, _⟩ => show 0 + 1 * f.val = f.val; omega

/-- The body's sum over the sequences, in the order it takes them, is the gradient of its blocks. -/
theorem pay8_at (x : Vec Ideal S512x8 .f32) (y : Vec Ideal S1x8x768 .f32) (w p q : Vec Ideal S1x512x768 .f32) (d : Fin 512) (f : Fin 768) :
    k0_pay8 (F := Ideal) (k0_pay14 x y w p q) (k0_pay15 x y w p q) (k0_pay16 x y w p q) (View.ld y r0_6) (View.ld y r0_7) (View.ld y r0_8) (ix2 d f)
      = g0 x y d f := by
  have hx : View.ld x r0_0 = x := View.ld_unit_zero (S := S512x8) (by funext a; fin_cases a <;> rfl) _ x
  unfold k0_pay14 k0_pay15 k0_pay16 g0
  rw [hx, Fin.sum_univ_eight]
  rw [← ld_row y 0 inb_S1x8x768_S1x1x768_0_0_0, ← ld_row y 1 inb_S1x8x768_S1x1x768_0_1_0, ← ld_row y 2 inb_S1x8x768_S1x1x768_0_2_0,
    ← ld_row y 3 inb_S1x8x768_S1x1x768_0_3_0, ← ld_row y 4 inb_S1x8x768_S1x1x768_0_4_0, ← ld_row y 5 inb_S1x8x768_S1x1x768_0_5_0,
    ← ld_row y 6 inb_S1x8x768_S1x1x768_0_6_0, ← ld_row y 7 inb_S1x8x768_S1x1x768_0_7_0]
  unfold silu
  pointwise [k0_pay8, k0_pay7, k0_pay6, k0_pay5]

/-- The block of gradients a point writes. -/
theorem out5_at (x : Vec Ideal S512x8 .f32) (y : Vec Ideal S1x8x768 .f32) (w p q : Vec Ideal S1x512x768 .f32) (d : Fin 512) (f : Fin 768) :
    out0_5 x y w p q (ix3 0 d f) = g0 x y d f := by
  unfold out0_5
  frame_out
  rw [← pay8_at x y w p q]
  pointwise [k0_pay9]

/-- The block of updates a point writes. -/
theorem out6_at (x : Vec Ideal S512x8 .f32) (y : Vec Ideal S1x8x768 .f32) (w p q : Vec Ideal S1x512x768 .f32) (d : Fin 512) (f : Fin 768) :
    out0_6 x y w p q (ix3 0 d f) = update (w (ix3 0 d f)) (g0 x y d f) (p (ix3 0 d f)) (q (ix3 0 d f)) := by
  unfold out0_6
  frame_out
  rw [← pay8_at x y w p q]
  unfold k0_pay17 k0_pay18 k0_pay19
  pointwise [k0_pay2, k0_pay1, k0_pay10, k0_pay11, k0_pay12, k0_pay13]
  rfl

/-- The block of first moments a point writes. -/
theorem out7_at (x : Vec Ideal S512x8 .f32) (y : Vec Ideal S1x8x768 .f32) (w p q : Vec Ideal S1x512x768 .f32) (d : Fin 512) (f : Fin 768) :
    out0_7 x y w p q (ix3 0 d f) = first (g0 x y d f) (p (ix3 0 d f)) := by
  unfold out0_7
  frame_out
  rw [← pay8_at x y w p q]
  unfold k0_pay17
  pointwise [k0_pay3, k0_pay11]
  rfl

/-- The block of second moments a point writes. -/
theorem out8_at (x : Vec Ideal S512x8 .f32) (y : Vec Ideal S1x8x768 .f32) (w p q : Vec Ideal S1x512x768 .f32) (d : Fin 512) (f : Fin 768) :
    out0_8 x y w p q (ix3 0 d f) = second (g0 x y d f) (q (ix3 0 d f)) := by
  unfold out0_8
  frame_out
  rw [← pay8_at x y w p q]
  unfold k0_pay18 k0_pay19
  pointwise [k0_pay4, k0_pay1, k0_pay12, k0_pay13]
  rfl

/-- The gradient of a point's blocks is the arrays'. -/
theorem g0_at (t : Fin cfg0.N) (d : Fin 512) (f : Fin 768) : g0 (iblk m c 0 t) (iblk m c 1 t) d f = grad (X m c) (Y m c) (lay t) (feat t d) f := by
  unfold g0 grad
  refine Fin.sum_fin_congr fun k => ?_
  rw [rd0, rd1]

/-! ## Where the blocks lie, and the arrays after the run -/

theorem emb5 (t : Fin cfg0.N) (d : Fin 512) (f : Fin 768) :
    (win0_5.blk t).view.emb (ix3 0 d f) = (ix3 (lay t) (feat t d) f : S2x2048x768.Idx) := by
  unfold lay feat
  blk_ext [idx5 t]
theorem emb6 (t : Fin cfg0.N) (d : Fin 512) (f : Fin 768) :
    (win0_6.blk t).view.emb (ix3 0 d f) = (ix3 (lay t) (feat t d) f : S2x2048x768.Idx) := by
  unfold lay feat
  blk_ext [idx6 t]
theorem emb7 (t : Fin cfg0.N) (d : Fin 512) (f : Fin 768) :
    (win0_7.blk t).view.emb (ix3 0 d f) = (ix3 (lay t) (feat t d) f : S2x2048x768.Idx) := by
  unfold lay feat
  blk_ext [idx7 t]
theorem emb8 (t : Fin cfg0.N) (d : Fin 512) (f : Fin 768) :
    (win0_8.blk t).view.emb (ix3 0 d f) = (ix3 (lay t) (feat t d) f : S2x2048x768.Idx) := by
  unfold lay feat
  blk_ext [idx8 t]

/-- The first coordinate of a block of one layer is zero. -/
theorem exists_row (z : S1x512x768.Idx) : ∃ (d : Fin 512) (f : Fin 768), z = ix3 0 d f := by
  obtain ⟨a, d, f, rfl⟩ := exists_ix3 (a := 1) (b := 512) (c := 768) z
  exact ⟨d, f, by rw [Subsingleton.elim a 0]⟩

/-- The gradients after the run. -/
theorem final5 : (dats m 0 c).arrAt 5 cfg0.N = GRAD (X m c) (Y m c) := by
  refine (dats m 0 c).arrAt_eq_of_covers 5 _ (by decide +kernel) fun t hf z => ?_
  blk_simp
  rw [after0_5]
  obtain ⟨d, f, rfl⟩ := exists_row z
  rw [emb5]
  exact (out5_at _ _ _ _ _ d f).trans (g0_at m c t d f)

/-- The updates after the run. -/
theorem final6 : (dats m 0 c).arrAt 6 cfg0.N = UPD (X m c) (Y m c) (W m c) (M1 m c) (M2 m c) := by
  refine (dats m 0 c).arrAt_eq_of_covers 6 _ (by decide +kernel) fun t hf z => ?_
  blk_simp
  rw [after0_6]
  obtain ⟨d, f, rfl⟩ := exists_row z
  rw [emb6]
  refine (out6_at _ _ _ _ _ d f).trans ?_
  rw [g0_at m c t d f, rd2, rd3, rd4]
  rfl

/-- The first moments after the run. -/
theorem final7 : (dats m 0 c).arrAt 7 cfg0.N = FIRST (X m c) (Y m c) (M1 m c) := by
  refine (dats m 0 c).arrAt_eq_of_covers 7 _ (by decide +kernel) fun t hf z => ?_
  blk_simp
  rw [after0_7]
  obtain ⟨d, f, rfl⟩ := exists_row z
  rw [emb7]
  refine (out7_at _ _ _ _ _ d f).trans ?_
  rw [g0_at m c t d f, rd3]
  rfl

/-- The second moments after the run. -/
theorem final8 : (dats m 0 c).arrAt 8 cfg0.N = SECOND (X m c) (Y m c) (M2 m c) := by
  refine (dats m 0 c).arrAt_eq_of_covers 8 _ (by decide +kernel) fun t hf z => ?_
  blk_simp
  rw [after0_8]
  obtain ⟨d, f, rfl⟩ := exists_row z
  rw [emb8]
  refine (out8_at _ _ _ _ _ d f).trans ?_
  rw [g0_at m c t d f, rd4]
  rfl

/-! ## The reference -/

open Cert.Reference18Ideal.Read in
/-- The reference's gradient. -/
theorem ref_grad (x : S8x2048.Idx → EReal) (y : S2x8x768.Idx → EReal) : val_main_v3 (F := Ideal) x y = GRAD x y := by
  refine funext fun (i : S2x2048x768.Idx) => ?_
  obtain ⟨l, d, f, rfl⟩ := exists_ix3 (a := 2) (b := 2048) (c := 768) i
  pointwise [val_main_v3, val_main_v2]
  show _ = grad x y l d f
  unfold grad
  refine Fin.sum_fin_congr fun k => ?_
  pointwise [val_main_v1, val_main_v0, val_main_call0_v5, val_main_call0_v4, val_main_call0_v3, val_main_call0_v2, val_main_call0_v1, val_main_call0_v0, val_main_call0_cst, val_main_call0_cst_0]
  exact mul_comm _ _

open Cert.Reference18Ideal.Read in
/-- The reference's updates. -/
theorem ref_update (x : S8x2048.Idx → EReal) (y : S2x8x768.Idx → EReal) (w p q : S2x2048x768.Idx → EReal) :
    val_main_v27 (F := Ideal) x y w p q = UPD x y w p q := by
  refine funext fun (i : S2x2048x768.Idx) => ?_
  obtain ⟨l, d, f, rfl⟩ := exists_ix3 (a := 2) (b := 2048) (c := 768) i
  have e : val_main_v27 (F := Ideal) x y w p q (ix3 l d f)
      = update (w (ix3 l d f)) (val_main_v3 (F := Ideal) x y (ix3 l d f)) (p (ix3 l d f)) (q (ix3 l d f)) := rfl
  rw [e, ref_grad]
  rfl

open Cert.Reference18Ideal.Read in
/-- The reference's first moments. -/
theorem ref_first (x : S8x2048.Idx → EReal) (y : S2x8x768.Idx → EReal) (p : S2x2048x768.Idx → EReal) :
    val_main_v8 (F := Ideal) x y p = FIRST x y p := by
  refine funext fun (i : S2x2048x768.Idx) => ?_
  obtain ⟨l, d, f, rfl⟩ := exists_ix3 (a := 2) (b := 2048) (c := 768) i
  have e : val_main_v8 (F := Ideal) x y p (ix3 l d f) = first (val_main_v3 (F := Ideal) x y (ix3 l d f)) (p (ix3 l d f)) := rfl
  rw [e, ref_grad]
  rfl

open Cert.Reference18Ideal.Read in
/-- The reference's second moments. -/
theorem ref_second (x : S8x2048.Idx → EReal) (y : S2x8x768.Idx → EReal) (q : S2x2048x768.Idx → EReal) :
    val_main_v14 (F := Ideal) x y q = SECOND x y q := by
  refine funext fun (i : S2x2048x768.Idx) => ?_
  obtain ⟨l, d, f, rfl⟩ := exists_ix3 (a := 2) (b := 2048) (c := 768) i
  have e : val_main_v14 (F := Ideal) x y q (ix3 l d f) = second (val_main_v3 (F := Ideal) x y (ix3 l d f)) (q (ix3 l d f)) := rfl
  rw [e, ref_grad]
  rfl

/-- The kernel's four results are the reference's. -/
theorem value : algebraic_Kernel18Ideal_Reference18Ideal (hKernel18Ideal := Cert.Kernel18Ideal.Gen.facts)
    (hReference18Ideal := Cert.Reference18Ideal.Gen.facts) := by
  intro m g m' g' _ hag
  refine ⟨fun c => GRAD (X m c) (Y m c), fun c => UPD (X m c) (Y m c) (W m c) (M1 m c) (M2 m c), fun c => FIRST (X m c) (Y m c) (M1 m c),
    fun c => SECOND (X m c) (Y m c) (M2 m c), ?_, ?_⟩
  · exact (θ_run _ _ _).mono (fun r h c => ⟨((h.1 c).1 5).trans (final5 m c), ((h.1 c).1 6).trans (final6 m c), ((h.1 c).1 7).trans (final7 m c),
      ((h.1 c).1 8).trans (final8 m c), h.2.1 c⟩) (θ_run_and (run_main m g) (Cert.Kernel18Ideal.Gen.frame m g))
  · refine (θ_run _ _ _).mono (fun r h c => ⟨(h c).1.trans ?_, (h c).2.1.trans ?_, (h c).2.2.1.trans ?_, (h c).2.2.2.1.trans ?_, (h c).2.2.2.2⟩)
      (Cert.Reference18Ideal.Value.run m' g')
    · rw [Cert.Reference18Ideal.Read.val_main_v3_eq, (hag c).1, (hag c).2.1]
      exact ref_grad _ _
    · rw [Cert.Reference18Ideal.Read.val_main_v27_eq, (hag c).1, (hag c).2.1, (hag c).2.2.1, (hag c).2.2.2.1, (hag c).2.2.2.2]
      exact ref_update _ _ _ _ _
    · rw [Cert.Reference18Ideal.Read.val_main_v8_eq, (hag c).1, (hag c).2.1, (hag c).2.2.2.1]
      exact ref_first _ _ _
    · rw [Cert.Reference18Ideal.Read.val_main_v14_eq, (hag c).1, (hag c).2.1, (hag c).2.2.2.2]
      exact ref_second _ _ _

/-- The reference runs, its arguments end unchanged, and it has no semaphore to leave raised. -/
theorem refFrame : quiescent_Reference18Ideal (hReference18Ideal := Cert.Reference18Ideal.Gen.facts) := fun m g _ =>
  (θ_run _ _ _).mono (fun r h => ⟨fun c => (h c).2.2.2.2, funext fun s => by
    rcases s with ⟨_, s⟩; rcases s with s | s <;> exact s.elim0⟩) (Cert.Reference18Ideal.Value.run m g)

end Cert.Proof.Modulation

end
-- ==== Proof.Norm.Forward.lean ====
/-
  The modulated root-mean-square norm, forward: the kernel's array and the reference's.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Product.Index
public import Idealize.ShloMosaic.Lib.KernelVsHost

@[expose] public section

set_option maxRecDepth 20000

noncomputable section

namespace Cert.Proof.NormFwd

open Cert.Kernel19Ideal Cert.Kernel19Ideal.Gen Idealize.ShloMosaic Idealize.ShloMosaic.TcCoe Idealize.SL.Sem

/-- The inverse root of a row's mean square, a small constant added. -/
def inv (x : S2048x2048.Idx → EReal) (s : Fin 2048) : EReal :=
  Ideal.rsqrt (Ideal.div (∑ k : Fin 2048, x (ix2 s k) * x (ix2 s k)) (FloatOps.ofBits (F := Ideal) .f32 0x45000000#32)
    + FloatOps.ofBits (F := Ideal) .f32 0x358637BD#32)

/-- The norm of a row at a feature, scaled and shifted. -/
def normed (x : S2048x2048.Idx → EReal) (g a b : S1x2048.Idx → EReal) (s d : Fin 2048) : EReal :=
  x (ix2 s d) * inv x s * g (ix2 0 d) * (1 + a (ix2 0 d)) + b (ix2 0 d)

/-- The norm as an array. -/
def NORMED (x : S2048x2048.Idx → EReal) (g a b : S1x2048.Idx → EReal) : S2048x2048.Idx → EReal := fun i => normed x g a b (i 0) (i 1)

variable (m : (ℓ : Loc nD τ sig) → Buf (Elt Ideal) ℓ) (c : Dev nD)

/-- The rows. -/
abbrev X : S2048x2048.Idx → EReal := m ((c : Thread nD τ).loc main_arg0)
/-- The norm's weight. -/
abbrev G : S1x2048.Idx → EReal := m ((c : Thread nD τ).loc main_arg1)
/-- The modulation's scale. -/
abbrev A : S1x2048.Idx → EReal := m ((c : Thread nD τ).loc main_arg2)
/-- The modulation's shift. -/
abbrev B : S1x2048.Idx → EReal := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

/-- The token that row `s` of block `t` holds. -/
def tok (t : Fin cfg0.N) (s : Fin 256) : Fin 2048 := ⟨t.val * 256 + s.val, by have := t.isLt; have : cfg0.N = 8 := rfl; omega⟩

variable (t : Fin cfg0.N)

theorem rd0 (s : Fin 256) (d : Fin 2048) : iblk m c 0 t (ix2 s d) = X m c (ix2 (tok t s) d) := by
  blk_point [iblk, V, idx0 t, tok]
theorem rd1 (d : Fin 2048) : iblk m c 1 t (ix2 0 d) = G m c (ix2 0 d) := by
  blk_point [iblk, V, idx1 t]
theorem rd2 (d : Fin 2048) : iblk m c 2 t (ix2 0 d) = A m c (ix2 0 d) := by
  blk_point [iblk, V, idx2 t]
theorem rd3 (d : Fin 2048) : iblk m c 3 t (ix2 0 d) = B m c (ix2 0 d) := by
  blk_point [iblk, V, idx3 t]

/-- What the body stores, of any blocks. -/
theorem pay1_at (x : Vec Ideal S256x2048 .f32) (g a b : Vec Ideal S1x2048 .f32) (s : Fin 256) (d : Fin 2048) :
    k0_pay1 x g a b (ix2 s d)
      = x (ix2 s d) * Ideal.rsqrt (Ideal.div (∑ k : Fin 2048, x (ix2 s k) * x (ix2 s k)) (FloatOps.ofBits (F := Ideal) .f32 0x45000000#32)
          + FloatOps.ofBits (F := Ideal) .f32 0x358637BD#32)
        * g (ix2 0 d) * (1 + a (ix2 0 d)) + b (ix2 0 d) := by
  pointwise [k0_pay1]

/-- The block a point writes. -/
theorem out4_at (s : Fin 256) (d : Fin 2048) :
    out0_4 (iblk m c 0 t) (iblk m c 1 t) (iblk m c 2 t) (iblk m c 3 t) (ix2 s d) = normed (X m c) (G m c) (A m c) (B m c) (tok t s) d := by
  unfold out0_4
  frame_out
  rw [pay1_at, rd1, rd2, rd3]
  simp only [rd0]
  rfl

/-- Where the block of a point lies. -/
theorem emb4 (s : Fin 256) (d : Fin 2048) : (win0_4.blk t).view.emb (ix2 s d) = (ix2 (tok t s) d : S2048x2048.Idx) := by
  unfold tok
  blk_ext [idx4 t]

/-- The array after the run. -/
theorem final4 : (dats m 0 c).arrAt 4 cfg0.N = NORMED (X m c) (G m c) (A m c) (B m c) := by
  refine (dats m 0 c).arrAt_eq_of_covers 4 _ (by decide +kernel) fun t hf z => ?_
  blk_simp
  rw [after0_4]
  obtain ⟨s, d, rfl⟩ := exists_ix2 (a := 256) (b := 2048) z
  rw [emb4]
  exact out4_at m c t s d

open Cert.Reference19Ideal.Read in
/-- The reference's result. -/
theorem ref (x : S2048x2048.Idx → EReal) (g a b : S1x2048.Idx → EReal) : val_main_v18 (F := Ideal) x g a b = NORMED x g a b := by
  refine funext fun (i : S2048x2048.Idx) => ?_
  obtain ⟨s, d, rfl⟩ := exists_ix2 (a := 2048) (b := 2048) i
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rfl

/-- The kernel's result is the reference's. -/
theorem value : algebraic_Kernel19Ideal_Reference19Ideal (hKernel19Ideal := Cert.Kernel19Ideal.Gen.facts)
    (hReference19Ideal := Cert.Reference19Ideal.Gen.facts) := by
  intro m g m' g' _ hag
  refine ⟨fun c => NORMED (X m c) (G m c) (A m c) (B m c), ?_, ?_⟩
  · exact (θ_run _ _ _).mono (fun r h c => ⟨(h c).1.trans (final4 m c), (h c).2⟩) (Cert.Kernel19Ideal.Value.run_blocks m g)
  · refine (θ_run _ _ _).mono (fun r h c => ⟨(h c).1.trans ?_, (h c).2⟩) (Cert.Reference19Ideal.Value.run m' g')
    rw [Cert.Reference19Ideal.Read.val_main_v18_eq, (hag c).1, (hag c).2.1, (hag c).2.2.1, (hag c).2.2.2]
    exact ref _ _ _ _

/-- The reference runs, its arguments end unchanged, and it has no semaphore to leave raised. -/
theorem refFrame : quiescent_Reference19Ideal (hReference19Ideal := Cert.Reference19Ideal.Gen.facts) := fun m g _ =>
  (θ_run _ _ _).mono (fun r h => ⟨fun c => (h c).2, funext fun s => by
    rcases s with ⟨_, s⟩; rcases s with s | s <;> exact s.elim0⟩) (Cert.Reference19Ideal.Value.run m g)

end Cert.Proof.NormFwd

end
-- ==== Proof.ConvFwd.Forward.lean ====
/-
  The gated causal convolution, forward: the kernel's array and the reference's.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.ConvBwd.Pay
public import proofs.«01_k».proof.Proof.Product.Index
public import Idealize.ShloMosaic.Lib.KernelVsHost

@[expose] public section

set_option maxRecDepth 20000

noncomputable section

namespace Cert.Proof.ConvFwd

open Cert.Kernel20Ideal Cert.Kernel20Ideal.Gen Idealize.ShloMosaic Idealize.ShloMosaic.TcCoe Idealize.SL.Sem
open Cert.Proof.ConvBwd (Proj Act Taps cu cv sg down select_ge rot_down)

/-- The layer's gated output: the output gate times the convolution, times silu of the fourth projection. -/
def gated (p : Proj.Idx → EReal) (w : Taps.Idx → EReal) (e : Fin 4096) (t : Fin 2048) : EReal :=
  p (ix3 0 t e) * cv p w e t * (p (ix3 3 t e) * sg p e t)

/-- The layer's gated output as an array. -/
def GATED (p : Proj.Idx → EReal) (w : Taps.Idx → EReal) : Act.Idx → EReal := fun i => gated p w (i 1) (i 0)

/-! ## The kernel -/

variable (m : (ℓ : Loc nD τ sig) → Buf (Elt Ideal) ℓ) (c : Dev nD)

/-- The projections. -/
abbrev P : Proj.Idx → EReal := m ((c : Thread nD τ).loc main_arg0)
/-- The taps. -/
abbrev W : Taps.Idx → EReal := m ((c : Thread nD τ).loc main_arg1)

theorem idx0 : ∀ t : Fin cfg0.N, win0_0.index t = ![0, 0, t.val] := (by decide +kernel : ∀ t : Fin grid0.N, _)
theorem idx1 : ∀ t : Fin cfg0.N, win0_1.index t = ![1, 0, t.val] := (by decide +kernel : ∀ t : Fin grid0.N, _)
theorem idx2 : ∀ t : Fin cfg0.N, win0_2.index t = ![2, 0, t.val] := (by decide +kernel : ∀ t : Fin grid0.N, _)
theorem idx3 : ∀ t : Fin cfg0.N, win0_3.index t = ![3, 0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)

/-- The channel that column `l` of block `t` holds. -/
def chan (t : Fin cfg0.N) (l : Fin 256) : Fin 4096 := ⟨t.val * 256 + l.val, by have := t.isLt; have : cfg0.N = 16 := rfl; omega⟩

variable (t : Fin cfg0.N)

theorem rd0 (l : Fin 256) (s : Fin 2048) : iblk m c 0 t (ix3 0 s l) = P m c (ix3 0 s (chan t l)) := by
  blk_point [iblk, V, idx0 t, chan]
theorem rd1 (l : Fin 256) (s : Fin 2048) : iblk m c 1 t (ix3 0 s l) = P m c (ix3 1 s (chan t l)) := by
  blk_point [iblk, V, idx1 t, chan]
theorem rd2 (l : Fin 256) (s : Fin 2048) : iblk m c 2 t (ix3 0 s l) = P m c (ix3 2 s (chan t l)) := by
  blk_point [iblk, V, idx2 t, chan]
theorem rd3 (l : Fin 256) (s : Fin 2048) : iblk m c 3 t (ix3 0 s l) = P m c (ix3 3 s (chan t l)) := by
  blk_point [iblk, V, idx3 t, chan]

/-- The taps' three rows, read. -/
theorem row0 (l : Fin 256) : View.ld (iblk m c 4 t) r0_2 (ix2 0 l) = W m c (ix2 0 (chan t l)) := by
  blk_point [iblk, V, idx4 t, chan]
theorem row1 (l : Fin 256) : View.ld (iblk m c 4 t) r0_3 (ix2 0 l) = W m c (ix2 1 (chan t l)) := by
  blk_point [iblk, V, idx4 t, chan]
theorem row2 (l : Fin 256) : View.ld (iblk m c 4 t) r0_1 (ix2 0 l) = W m c (ix2 2 (chan t l)) := by
  blk_point [iblk, V, idx4 t, chan]

section
variable {p : Proj.Idx → EReal} {w : Taps.Idx → EReal} {e : Fin 4096} {l : Fin 256}
variable {b0 b1 b2 b3 : Vec Ideal S1x2048x256 .bf16} {r0 r1 r2 : Vec Ideal S1x256 .f32}

/-- The body's convolution of two blocks is the arrays'. -/
theorem pay2_at (h1 : ∀ s, b1 (ix3 0 s l) = p (ix3 1 s e)) (h2 : ∀ s, b2 (ix3 0 s l) = p (ix3 2 s e))
    (hr0 : r0 (ix2 0 l) = w (ix2 0 e)) (hr1 : r1 (ix2 0 l) = w (ix2 1 e)) (hr2 : r2 (ix2 0 l) = w (ix2 2 e)) (s : Fin 2048) :
    k0_pay2 b1 b2 r2 r0 r1 (ix2 s l) = cv p w e s := by
  pointwise [k0_pay2]
  rw [select_ge 2 (by decide), select_ge 1 (by decide)]
  unfold cv
  rw [← rot_down 2 (by decide) (cu p e) s (Nat.mod_lt _ (by decide)), ← rot_down 1 (by decide) (cu p e) s (Nat.mod_lt _ (by decide)),
    hr0, hr1, hr2, h1, h2, h1, h2, h1, h2]
  unfold cu
  by_cases a : 2 ≤ s.val <;> by_cases b : 1 ≤ s.val <;> simp only [a, b, if_true, if_false, mul_zero]

/-- What the body stores is the gated output. -/
theorem pay1_at (h0 : ∀ s, b0 (ix3 0 s l) = p (ix3 0 s e)) (h1 : ∀ s, b1 (ix3 0 s l) = p (ix3 1 s e))
    (h2 : ∀ s, b2 (ix3 0 s l) = p (ix3 2 s e)) (h3 : ∀ s, b3 (ix3 0 s l) = p (ix3 3 s e))
    (hr0 : r0 (ix2 0 l) = w (ix2 0 e)) (hr1 : r1 (ix2 0 l) = w (ix2 1 e)) (hr2 : r2 (ix2 0 l) = w (ix2 2 e)) (s : Fin 2048) :
    k0_pay1 (k0_pay2 b1 b2 r2 r0 r1) (k0_pay3 b3) (k0_pay4 b0) (ix2 s l) = gated p w e s := by
  have h := pay2_at h1 h2 hr0 hr1 hr2 s
  generalize k0_pay2 b1 b2 r2 r0 r1 = v at h ⊢
  pointwise [k0_pay1, k0_pay3, k0_pay4]
  rw [h, h0, h3]
  rfl
end

/-- The block a point writes. -/
theorem out5_at (s : Fin 2048) (l : Fin 256) :
    out0_5 (iblk m c 0 t) (iblk m c 1 t) (iblk m c 2 t) (iblk m c 3 t) (iblk m c 4 t) (ix2 s l) = gated (P m c) (W m c) (chan t l) s := by
  unfold out0_5
  frame_out
  exact pay1_at (rd0 m c t l) (rd1 m c t l) (rd2 m c t l) (rd3 m c t l) (row0 m c t l) (row1 m c t l) (row2 m c t l) s

/-- Where the block of a point lies. -/
theorem emb5 (s : Fin 2048) (l : Fin 256) : (win0_5.blk t).view.emb (ix2 s l) = (ix2 s (chan t l) : S2048x4096.Idx) := by
  unfold chan
  blk_ext [idx5 t]

/-- The array after the run. -/
theorem final5 : (dats m 0 c).arrAt 5 cfg0.N = GATED (P m c) (W m c) := by
  refine (dats m 0 c).arrAt_eq_of_covers 5 _ (by decide +kernel) fun t hf z => ?_
  blk_simp
  rw [after0_5]
  obtain ⟨s, l, rfl⟩ := exists_ix2 (a := 2048) (b := 256) z
  rw [emb5]
  exact out5_at m c t s l

/-! ## The reference -/

open Cert.Reference20Ideal.Read

variable (x0 : Proj.Idx → EReal) (x1 : Taps.Idx → EReal)

theorem v2_at (t : Fin 2048) (e : Fin 4096) : val_main_v2 (F := Ideal) x0 (ix2 t e) = x0 (ix3 0 t e) := by
  pointwise [val_main_v2, val_main_v1, val_main_v0]

theorem v4_at (t : Fin 2048) (e : Fin 4096) : val_main_v4 (F := Ideal) x0 (ix2 t e) = x0 (ix3 1 t e) := by
  pointwise [val_main_v4, val_main_v3, val_main_v0]

theorem v6_at (t : Fin 2048) (e : Fin 4096) : val_main_v6 (F := Ideal) x0 (ix2 t e) = x0 (ix3 2 t e) := by
  pointwise [val_main_v6, val_main_v5, val_main_v0]

theorem v8_at (t : Fin 2048) (e : Fin 4096) : val_main_v8 (F := Ideal) x0 (ix2 t e) = x0 (ix3 3 t e) := by
  pointwise [val_main_v8, val_main_v7, val_main_v0]

theorem v9_at (t : Fin 2048) (e : Fin 4096) : val_main_v9 (F := Ideal) x0 (ix2 t e) = cu x0 e t := by
  rw [val_main_v9_apply, v4_at, v6_at]; rfl

/-- The convolution's input with two rows of zeros in front. -/
theorem v11_at (s : Fin 2050) (e : Fin 4096) : val_main_v11 (F := Ideal) x0 (ix2 s e)
    = if h : 2 ≤ s.val then cu x0 e ⟨s.val - 2, by omega⟩ else 0 := by
  pointwise [val_main_v11, val_main_v10, val_main_cst, v9_at]
  by_cases h : 2 ≤ s.val
  · rw [dif_neg (by omega), dif_pos h]
  · rw [dif_pos (by omega), dif_neg h]

theorem v14_at (t : Fin 2048) (e : Fin 4096) : val_main_v14 (F := Ideal) x0 (ix2 t e) = down 2 (cu x0 e) t := by
  pointwise [val_main_v14, v11_at]
  rfl

theorem v22_at (t : Fin 2048) (e : Fin 4096) : val_main_v22 (F := Ideal) x0 (ix2 t e) = down 1 (cu x0 e) t := by
  pointwise [val_main_v22, v11_at]
  unfold down
  by_cases h : 1 ≤ t.val
  · rw [dif_pos (by omega), if_pos h]; congr 1; apply Fin.ext; show 1 + t.val - 2 = t.val - 1; omega
  · rw [dif_neg (by omega), if_neg h]

theorem v29_at (t : Fin 2048) (e : Fin 4096) : val_main_v29 (F := Ideal) x0 (ix2 t e) = cu x0 e t := by
  pointwise [val_main_v29, v11_at]

/-- The reference's convolution. -/
theorem v33_at (t : Fin 2048) (e : Fin 4096) : val_main_v33 (F := Ideal) x0 x1 (ix2 t e) = cv x0 x1 e t := by
  pointwise [val_main_v33, val_main_v32, val_main_v31, val_main_v30, val_main_v28, val_main_v27, val_main_v26, val_main_v25,
    val_main_v24, val_main_v23, val_main_v21, val_main_v20, val_main_v19, val_main_v18, val_main_cst_0, val_main_v17,
    val_main_v16, val_main_v15, val_main_v13, val_main_v12, v14_at, v22_at, v29_at]
  exact (fun a b d : EReal => (add_comm (a + b) d).trans (add_assoc d a b).symm : ∀ a b d : EReal, a + b + d = d + a + b) _ _ _

/-- The reference's result. -/
theorem ref : val_main_v37 (F := Ideal) x0 x1 = GATED x0 x1 := by
  refine funext fun (i : S2048x4096.Idx) => ?_
  obtain ⟨s, e, rfl⟩ := exists_ix2 (a := 2048) (b := 4096) i
  pointwise [val_main_v37, val_main_v36, val_main_v35, val_main_v34, val_main_call0_v5, val_main_call0_v4, val_main_call0_v3,
    val_main_call0_v2, val_main_call0_v1, val_main_call0_v0, val_main_call0_cst, val_main_call0_cst_0, v2_at, v8_at, v33_at]
  rfl

/-- The kernel's result is the reference's. -/
theorem value : algebraic_Kernel20Ideal_Reference20Ideal (hKernel20Ideal := Cert.Kernel20Ideal.Gen.facts)
    (hReference20Ideal := Cert.Reference20Ideal.Gen.facts) := by
  intro m g m' g' _ hag
  refine ⟨fun c => GATED (P m c) (W m c), ?_, ?_⟩
  · exact (θ_run _ _ _).mono (fun r h c => ⟨(h c).1.trans (final5 m c), (h c).2⟩) (Cert.Kernel20Ideal.Value.run_blocks m g)
  · refine (θ_run _ _ _).mono (fun r h c => ⟨(h c).1.trans ?_, (h c).2⟩) (Cert.Reference20Ideal.Value.run m' g')
    rw [Cert.Reference20Ideal.Read.val_main_v37_eq, (hag c).1, (hag c).2]
    exact ref _ _

/-- The reference runs, its arguments end unchanged, and it has no semaphore to leave raised. -/
theorem refFrame : quiescent_Reference20Ideal (hReference20Ideal := Cert.Reference20Ideal.Gen.facts) := fun m g _ =>
  (θ_run _ _ _).mono (fun r h => ⟨fun c => (h c).2, funext fun s => by
    rcases s with ⟨_, s⟩; rcases s with s | s <;> exact s.elim0⟩) (Cert.Reference20Ideal.Value.run m g)

end Cert.Proof.ConvFwd

end
-- ==== Proof.Optimiser.Table.lean ====
/-
  Words of a table that a precondition keeps in range.
-/
module

public import Idealize.ShloMosaic.PureOps
public import Idealize.ShloMosaic.Lib.WordCmp
public import Idealize.ShloMosaic.Lib.Pointwise

@[expose] public section

namespace Cert.Proof.Word

open Idealize.ShloMosaic

/-- A word from zero up to a small bound, read signed, is the word of a number below the bound. -/
theorem word_below (n : ℕ) (hn : n < 2 ^ 31) (w : BitVec 32) (h0 : IntOp.cmpi .sge w 0#32 = 1#1)
    (h : IntOp.cmpi .slt w (BitVec.ofNat 32 n) = 1#1) : ∃ q : Fin n, w = BitVec.ofNat 32 q.val := by
  have a : (0#32).sle w = true := by
    by_contra h; rw [Bool.not_eq_true] at h; simp [IntOp.cmpi, h] at h0
  have b : w.slt (BitVec.ofNat 32 n) = true := by
    by_contra h'; rw [Bool.not_eq_true] at h'; simp [IntOp.cmpi, h'] at h
  have hb : w.toNat < n := by
    have h0 := BitVec.sle_iff_toInt_le.mp a
    have h4 := BitVec.slt_iff_toInt_lt.mp b
    have hw := w.isLt
    have e : n % 2 ^ 32 = n := Nat.mod_eq_of_lt (by omega)
    simp only [BitVec.toInt_eq_toNat_cond, BitVec.toNat_ofNat, e] at h0 h4
    split at h4 <;> split at h0 <;> split at h4 <;> omega
  exact ⟨⟨w.toNat, hb⟩, by simp⟩

/-- Of a sum over which one index is selected by a word, the summand at that index is left. -/
theorem sum_named (n : ℕ) (hn : n < 2 ^ 31) (q : Fin n) (f : Fin n → EReal) :
    ∑ k : Fin n, Scalar.select (IntOp.cmpi .eq (BitVec.ofNat 32 k.val) (BitVec.ofNat 32 q.val)) (f k) 0 = f q := by
  rw [Finset.sum_eq_single q]
  · simp [IntOp.cmpi, Scalar.select]
  · intro k _ hk
    have : ¬ BitVec.ofNat 32 k.val = BitVec.ofNat 32 q.val := fun h => hk (Fin.ext (by
      have h' := congrArg BitVec.toNat h
      have a := k.isLt
      have b := q.isLt
      simp only [BitVec.toNat_ofNat] at h'
      rwa [Nat.mod_eq_of_lt (by omega), Nat.mod_eq_of_lt (by omega)] at h'))
    have e : (BitVec.ofNat 32 k.val == BitVec.ofNat 32 q.val) = false := beq_eq_false_iff_ne.mpr this
    simp only [IntOp.cmpi, Scalar.select, e]
    rfl
  · intro h; exact absurd (Finset.mem_univ q) h

/-- The whole number zero, as a number. -/
theorem zero_word : (FloatOps.sitofp (F := Ideal) .f32 (0#32 : BitVec 32) : EReal) = 0 := by
  show (((0#32 : BitVec 32).toInt : ℝ) : EReal) = 0
  simp

end Cert.Proof.Word
-- ==== Proof.Optimiser.LruIn.lean ====
/-
  The gated recurrence's first weight: a device's piece of the gradient, summed over the devices' parts, and the optimiser's step on it.
-/
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Product.Index
public import proofs.«01_k».proof.Proof.Optimiser.Step
public import proofs.«01_k».proof.Proof.Optimiser.Table
public import Idealize.ShloMosaic.Lib.DynamicIndex
public import Idealize.ShloMosaic.Lib.KernelVsHost
public import Idealize.ShloMosaic.Lib.Pipeline.Covers

@[expose] public section

set_option maxRecDepth 20000

noncomputable section

namespace Cert.Proof.LruIn

open Cert.Kernel21Ideal Cert.Kernel21Ideal.Gen Idealize.ShloMosaic Idealize.ShloMosaic.TcCoe Idealize.SL.Sem

/-- The side conditions of the precondition's own operations. -/
theorem preFacts : Cert.Pre_piece21.Facts :=
  { slices_S5_S1_3 := by decide
    shapeCasts_S1_S_ := by decide
    slices_S5_S1_4 := by decide }

/-- What the precondition says of the table: its last two words name a chip and a member of the pair. -/
theorem names_of_pre {F : FTy → Type} [FloatOps F] [Cert.Pre_piece21.Facts] {t : IVec S5 32} {w m v : FVec F S2048x1024 .f32} {p : FVec F S4x2x2048x1024 .bf16}
    {g : FVec F S4x1x2048x1024 .bf16} {u : FVec F S3x2048x1024 .bf16} (h : Cert.Pre_piece21.fn (F := F) t w m v p g u = fun _ => 1#1) :
    (∃ q : Fin 4, t (ix1 3) = BitVec.ofNat 32 q.val) ∧ ∃ r : Fin 2, t (ix1 4) = BitVec.ofNat 32 r.val := by
  have h0 := congrFun h ix0
  dsimp only [Cert.Pre_piece21.fn] at h0
  obtain ⟨h1, h2⟩ := IntOp.andi_eq_one.mp h0
  obtain ⟨h3, h4⟩ := IntOp.andi_eq_one.mp h1
  obtain ⟨h5, h6⟩ := IntOp.andi_eq_one.mp h2
  have e : shapeCast Cert.Pre_piece21.S_ (extractStridedSlice Cert.Pre_piece21.S1 ![3] t Cert.Pre_piece21.Facts.slices_S5_S1_3)
      Cert.Pre_piece21.Facts.shapeCasts_S1_S_ ix0 = t (ix1 3) := by pointwise
  have f : shapeCast Cert.Pre_piece21.S_ (extractStridedSlice Cert.Pre_piece21.S1 ![4] t Cert.Pre_piece21.Facts.slices_S5_S1_4)
      Cert.Pre_piece21.Facts.shapeCasts_S1_S_ ix0 = t (ix1 4) := by pointwise
  rw [← e, ← f]
  exact ⟨Word.word_below 4 (by decide) _ h3 h4, Word.word_below 2 (by decide) _ h5 h6⟩

/-! ## The table's side condition -/

/-- Every block of the partial sums the table can name lies inside the array, on whole words. -/
theorem part_inside : ∀ (q : Fin 4) (r : Fin 2) (j : Fin 8),
    ∃ h : (∀ a, ((![q.val, r.val, j.val, 0] : Fin 4 → ℕ) a + 1) * S1x1x256x1024.size a ≤ S4x2x2048x1024.size a),
      EltTy.bits .bf16 = 32 ∨ (Rect.block (s := S4x2x2048x1024) S1x1x256x1024.size ![q.val, r.val, j.val, 0] h).WholeWords (EltTy.packing .bf16) := by
  decide +kernel

/-- Every block of the pair's sums the table can name lies inside the array, on whole words. -/
theorem pair_inside : ∀ (q : Fin 4) (j : Fin 8),
    ∃ h : (∀ a, ((![q.val, 0, j.val, 0] : Fin 4 → ℕ) a + 1) * S1x1x256x1024.size a ≤ S4x1x2048x1024.size a),
      EltTy.bits .bf16 = 32 ∨ (Rect.block (s := S4x1x2048x1024) S1x1x256x1024.size ![q.val, 0, j.val, 0] h).WholeWords (EltTy.packing .bf16) := by
  decide +kernel

/-- The block of the partial sums at a point: the piece the table names. -/
theorem steered {F : FTy → Type} [FloatOps F] (pf : pre0.Contents (Elt F)) (q : Fin 4) (h : (pf 0 : IVec S5 32) (ix1 3) = BitVec.ofNat 32 q.val)
    (r : Fin 2) (h' : (pf 0 : IVec S5 32) (ix1 4) = BitVec.ofNat 32 r.val) (i : grid0.Coords) :
    cc0_transform_3 (F := F) inb_S5_S1_3 numel1_S1 inb_S5_S1_4 pf i = ![q.val, r.val, (i 0).val, 0] := by
  unfold cc0_transform_3
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have f : pf.at 0 (Rect.unit (s := S5) ![4] S1.size inb_S5_S1_4) numel1_S1 = BitVec.ofNat 32 r.val := by
    rw [← h']
    exact congrArg (pf 0) (funext fun a => Fin.ext (match a with | ⟨0, _⟩ => rfl))
  have hq := q.isLt
  have hr := r.isLt
  have hi : (i 0).val < 8 := (i 0).isLt
  simp only [e, f]
  simp only [BitVec.toNat_ofNat, Nat.zero_mod]
  rw [Nat.mod_eq_of_lt (show q.val < 2 ^ 32 by omega), Nat.mod_eq_of_lt (show r.val < 2 ^ 32 by omega), Nat.mod_eq_of_lt (show (i 0).val < 2 ^ 32 by omega)]

/-- The block of the pair's sums at a point: the chip's the table names. -/
theorem steered' {F : FTy → Type} [FloatOps F] (pf : pre0.Contents (Elt F)) (q : Fin 4) (h : (pf 0 : IVec S5 32) (ix1 3) = BitVec.ofNat 32 q.val)
    (i : grid0.Coords) : cc0_transform_4 (F := F) inb_S5_S1_3 numel1_S1 pf i = ![q.val, 0, (i 0).val, 0] := by
  unfold cc0_transform_4
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have hq := q.isLt
  have hi : (i 0).val < 8 := (i 0).isLt
  simp only [e]
  simp only [BitVec.toNat_ofNat, Nat.zero_mod]
  rw [Nat.mod_eq_of_lt (show q.val < 2 ^ 32 by omega), Nat.mod_eq_of_lt (show (i 0).val < 2 ^ 32 by omega)]

/-- The side conditions the pipeline puts on its table. -/
theorem ok_of_words {F : FTy → Type} [FloatOps F] (pf : pre0.Contents (Elt F)) (q : Fin 4) (h : (pf 0 : IVec S5 32) (ix1 3) = BitVec.ofNat 32 q.val)
    (r : Fin 2) (h' : (pf 0 : IVec S5 32) (ix1 4) = BitVec.ofNat 32 r.val) : ok0 (F := F) pf :=
  ⟨fun i => by
    rw [steered pf q h r h']
    exact part_inside q r ⟨(i 0).val, (i 0).isLt⟩, fun i => by
    rw [steered' pf q h]
    exact pair_inside q ⟨(i 0).val, (i 0).isLt⟩⟩

/-! ## The arrays -/

/-- The gradient of the piece the table names: its own partial sums, its pair's, and the other chips'. -/
def GRAD (p : S4x2x2048x1024.Idx → EReal) (g : S4x1x2048x1024.Idx → EReal) (u : S3x2048x1024.Idx → EReal) (q : Fin 4) (r : Fin 2) : S2048x1024.Idx → EReal :=
  fun i => p (ix4 q r (i 0) (i 1)) + g (ix4 q 0 (i 0) (i 1)) + (u (ix3 0 (i 0) (i 1)) + u (ix3 1 (i 0) (i 1)) + u (ix3 2 (i 0) (i 1)))

/-- The updates of a weight as an array. -/
def UPD (w m v d : S2048x1024.Idx → EReal) : S2048x1024.Idx → EReal := fun i => update (w i) (d i) (m i) (v i)
/-- The new first moments as an array. -/
def FIRST (m d : S2048x1024.Idx → EReal) : S2048x1024.Idx → EReal := fun i => first (d i) (m i)
/-- The new second moments as an array. -/
def SECOND (v d : S2048x1024.Idx → EReal) : S2048x1024.Idx → EReal := fun i => second (d i) (v i)

variable (m : (ℓ : Loc nD τ sig) → Buf (Elt Ideal) ℓ) (c : Dev nD)

/-- The table. -/
abbrev T : IVec S5 32 := m ((c : Thread nD τ).loc main_arg0)
/-- The weight. -/
abbrev W : S2048x1024.Idx → EReal := m ((c : Thread nD τ).loc main_arg1)
/-- The first moments. -/
abbrev M1 : S2048x1024.Idx → EReal := m ((c : Thread nD τ).loc main_arg2)
/-- The second moments. -/
abbrev M2 : S2048x1024.Idx → EReal := m ((c : Thread nD τ).loc main_arg3)
/-- The device's partial sums. -/
abbrev P : S4x2x2048x1024.Idx → EReal := m ((c : Thread nD τ).loc main_arg4)
/-- The pair's. -/
abbrev G : S4x1x2048x1024.Idx → EReal := m ((c : Thread nD τ).loc main_arg5)
/-- The other chips'. -/
abbrev U0 : S3x2048x1024.Idx → EReal := m ((c : Thread nD τ).loc main_arg6)

variable (q : Fin 4) (hq : T m 0 (ix1 3) = BitVec.ofNat 32 q.val) (r : Fin 2) (hr : T m 0 (ix1 4) = BitVec.ofNat 32 r.val) (hO : Ok m)

/-- The gradient over the step's arrays. -/
abbrev D : S2048x1024.Idx → EReal := GRAD (P m c) (G m c) (U0 m c) q r

/-! ## The blocks at a grid point -/

theorem idx0 : ∀ t : Fin (cfgM m hO).N, ((cfgM m hO).win 0).index t = ![t.val, 0] := (by decide +kernel : ∀ t : Fin grid0.N, cc0_transform_0 (grid0.coords t) = ![t.val, 0])
theorem idx1 : ∀ t : Fin (cfgM m hO).N, ((cfgM m hO).win 1).index t = ![t.val, 0] := (by decide +kernel : ∀ t : Fin grid0.N, cc0_transform_1 (grid0.coords t) = ![t.val, 0])
theorem idx2 : ∀ t : Fin (cfgM m hO).N, ((cfgM m hO).win 2).index t = ![t.val, 0] := (by decide +kernel : ∀ t : Fin grid0.N, cc0_transform_2 (grid0.coords t) = ![t.val, 0])
theorem idx6 : ∀ t : Fin (cfgM m hO).N, ((cfgM m hO).win 6).index t = ![t.val, 0] := (by decide +kernel : ∀ t : Fin grid0.N, cc0_transform_6 (grid0.coords t) = ![t.val, 0])
theorem idx7 : ∀ t : Fin (cfgM m hO).N, ((cfgM m hO).win 7).index t = ![t.val, 0] := (by decide +kernel : ∀ t : Fin grid0.N, cc0_transform_7 (grid0.coords t) = ![t.val, 0])
theorem idx8 : ∀ t : Fin (cfgM m hO).N, ((cfgM m hO).win 8).index t = ![t.val, 0] := (by decide +kernel : ∀ t : Fin grid0.N, cc0_transform_8 (grid0.coords t) = ![t.val, 0])
theorem idx9 : ∀ t : Fin (cfgM m hO).N, ((cfgM m hO).win 9).index t = ![t.val, 0] := (by decide +kernel : ∀ t : Fin grid0.N, cc0_transform_9 (grid0.coords t) = ![t.val, 0])
theorem idx5 : ∀ t : Fin (cfgM m hO).N, ((cfgM m hO).win 5).index t = ![0, t.val, 0] := (by decide +kernel : ∀ t : Fin grid0.N, cc0_transform_5 (grid0.coords t) = ![0, t.val, 0])
theorem rowOf : ∀ t : Fin grid0.N, (grid0.coords t 0).val = t.val := by decide +kernel
include hq hr in
theorem idx3 (t : Fin (cfgM m hO).N) : ((cfgM m hO).win 3).index t = ![q.val, r.val, t.val, 0] := by
  rw [← rowOf t]
  exact steered (tbl m) q hq r hr (grid0.coords t)
include hq in
theorem idx4 (t : Fin (cfgM m hO).N) : ((cfgM m hO).win 4).index t = ![q.val, 0, t.val, 0] := by
  rw [← rowOf t]
  exact steered' (tbl m) q hq (grid0.coords t)

/-- The row of a point's block. -/
def row (t : Fin (cfgM m hO).N) (a : Fin 256) : Fin 2048 :=
  ⟨t.val * 256 + a.val, by have := t.isLt; have : (cfgM m hO).N = 8 := rfl; omega⟩

/-- The weight's block at a point. -/
theorem rd0 (t : Fin (cfgM m hO).N) (a : Fin 256) (b : Fin 1024) : iblk m hO c 0 t (ix2 a b) = W m c (ix2 (row m hO t a) b) := by
  unfold row
  blk_point [iblk, idx0 m hO t]

/-- The first moments's block at a point. -/
theorem rd1 (t : Fin (cfgM m hO).N) (a : Fin 256) (b : Fin 1024) : iblk m hO c 1 t (ix2 a b) = M1 m c (ix2 (row m hO t a) b) := by
  unfold row
  blk_point [iblk, idx1 m hO t]

/-- The second moments's block at a point. -/
theorem rd2 (t : Fin (cfgM m hO).N) (a : Fin 256) (b : Fin 1024) : iblk m hO c 2 t (ix2 a b) = M2 m c (ix2 (row m hO t a) b) := by
  unfold row
  blk_point [iblk, idx2 m hO t]

include hq hr in
/-- The partial sums' block at a point. -/
theorem rd3 (t : Fin (cfgM m hO).N) (a : Fin 256) (b : Fin 1024) : iblk m hO c 3 t (ix4 0 0 a b) = P m c (ix4 q r (row m hO t a) b) := by
  unfold row
  blk_point [iblk, idx3 m q hq r hr hO t]

include hq in
/-- The pair's block at a point. -/
theorem rd4 (t : Fin (cfgM m hO).N) (a : Fin 256) (b : Fin 1024) : iblk m hO c 4 t (ix4 0 0 a b) = G m c (ix4 q 0 (row m hO t a) b) := by
  unfold row
  blk_point [iblk, idx4 m q hq hO t]

/-- The other chips' block at a point. -/
theorem rd5 (t : Fin (cfgM m hO).N) (j : Fin 3) (a : Fin 256) (b : Fin 1024) : iblk m hO c 5 t (ix3 j a b) = U0 m c (ix3 j (row m hO t a) b) := by
  unfold row
  blk_point [iblk, idx5 m hO t]

/-! ## What a point writes -/

/-- The gradient of a point's blocks. -/
def blockGrad (p g : S1x1x256x1024.Idx → EReal) (u : S3x256x1024.Idx → EReal) : S256x1024.Idx → EReal := fun i =>
  p (ix4 0 0 (i 0) (i 1)) + g (ix4 0 0 (i 0) (i 1)) + (u (ix3 0 (i 0) (i 1)) + u (ix3 1 (i 0) (i 1)) + u (ix3 2 (i 0) (i 1)))

/-- A plane of the other chips' block, read. -/
theorem ld_plane (u : Vec Ideal S3x256x1024 .bf16) (k : Fin 3) (inb : ∀ a, (![k.val, 0, 0] : Fin 3 → Nat) a + S1x256x1024.size a ≤ S3x256x1024.size a) (a : Fin 256) (b : Fin 1024) :
    View.ld u (Rect.unit (s := S3x256x1024) ![k.val, 0, 0] S1x256x1024.size inb) (ix3 0 a b) = u (ix3 k a b) := by
  refine congrArg u (funext fun x => Fin.ext ?_)
  match x with
  | ⟨0, _⟩ => show k.val + 1 * 0 = k.val; omega
  | ⟨1, _⟩ => show 0 + 1 * a.val = a.val; omega
  | ⟨2, _⟩ => show 0 + 1 * b.val = b.val; omega

/-- The body's sum, in the order it takes its terms, is the gradient of its blocks. -/
theorem pay3_eq (x y : Vec Ideal S1x1x256x1024 .bf16) (u : Vec Ideal S3x256x1024 .bf16) :
    k0_pay3 (F := Ideal) x y (View.ld u (Rect.unit (s := S3x256x1024) ![0, 0, 0] S1x256x1024.size inb_S3x256x1024_S1x256x1024_0_0_0)) (View.ld u (Rect.unit (s := S3x256x1024) ![1, 0, 0] S1x256x1024.size inb_S3x256x1024_S1x256x1024_1_0_0)) (View.ld u (Rect.unit (s := S3x256x1024) ![2, 0, 0] S1x256x1024.size inb_S3x256x1024_S1x256x1024_2_0_0)) = blockGrad x y u := by
  refine funext fun (i : S256x1024.Idx) => ?_
  obtain ⟨a, b, rfl⟩ := exists_ix2 (a := 256) (b := 1024) i
  show _ = x (ix4 0 0 a b) + y (ix4 0 0 a b) + (u (ix3 0 a b) + u (ix3 1 a b) + u (ix3 2 a b))
  rw [← ld_plane u 0 inb_S3x256x1024_S1x256x1024_0_0_0, ← ld_plane u 1 inb_S3x256x1024_S1x256x1024_1_0_0, ← ld_plane u 2 inb_S3x256x1024_S1x256x1024_2_0_0]
  pointwise [k0_pay3]
  rw [add_assoc, add_assoc]
  simp only [add_assoc]

/-- The block of gradients a point writes. -/
theorem out6_eq (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1x256x1024 .bf16) (h5 : a5.IsWhole) (a6 : Memref sig .tc .vmem S1x1x256x1024 .bf16) (h6 : a6.IsWhole) (a7 : Memref sig .tc .vmem S3x256x1024 .bf16) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (w p v : Vec Ideal S256x1024 .f32) (x y : Vec Ideal S1x1x256x1024 .bf16) (u : Vec Ideal S3x256x1024 .bf16) (z : TbBuf0 (F := Ideal) c tbM0_0) :
    out0_A_6 c i a2 h2 a3 h3 a4 h4 a5 h5 a6 h6 a7 h7 a8 h8 a9 h9 a10 h10 a11 h11 w p v x y u z = blockGrad x y u := by
  frame_out
  exact pay3_eq _ _ _

/-- The block of updates a point writes. -/
theorem out7_eq (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1x256x1024 .bf16) (h5 : a5.IsWhole) (a6 : Memref sig .tc .vmem S1x1x256x1024 .bf16) (h6 : a6.IsWhole) (a7 : Memref sig .tc .vmem S3x256x1024 .bf16) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (w p v : Vec Ideal S256x1024 .f32) (x y : Vec Ideal S1x1x256x1024 .bf16) (u : Vec Ideal S3x256x1024 .bf16) (z : TbBuf0 (F := Ideal) c tbM0_0) :
    out0_A_7 c i a2 h2 a3 h3 a4 h4 a5 h5 a6 h6 a7 h7 a8 h8 a9 h9 a10 h10 a11 h11 w p v x y u z = fun i => update (w i) (blockGrad x y u i) (p i) (v i) := by
  frame_out
  rw [pay3_eq]
  first | rfl | (rw [← pay3_eq]; rfl)

/-- The block of first moments a point writes. -/
theorem out8_eq (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1x256x1024 .bf16) (h5 : a5.IsWhole) (a6 : Memref sig .tc .vmem S1x1x256x1024 .bf16) (h6 : a6.IsWhole) (a7 : Memref sig .tc .vmem S3x256x1024 .bf16) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (w p v : Vec Ideal S256x1024 .f32) (x y : Vec Ideal S1x1x256x1024 .bf16) (u : Vec Ideal S3x256x1024 .bf16) (z : TbBuf0 (F := Ideal) c tbM0_0) :
    out0_A_8 c i a2 h2 a3 h3 a4 h4 a5 h5 a6 h6 a7 h7 a8 h8 a9 h9 a10 h10 a11 h11 w p v x y u z = fun i => first (blockGrad x y u i) (p i) := by
  frame_out
  try rw [pay3_eq]
  first | rfl | (rw [← pay3_eq]; rfl)

/-- The block of second moments a point writes. -/
theorem out9_eq (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1x256x1024 .bf16) (h5 : a5.IsWhole) (a6 : Memref sig .tc .vmem S1x1x256x1024 .bf16) (h6 : a6.IsWhole) (a7 : Memref sig .tc .vmem S3x256x1024 .bf16) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (w p v : Vec Ideal S256x1024 .f32) (x y : Vec Ideal S1x1x256x1024 .bf16) (u : Vec Ideal S3x256x1024 .bf16) (z : TbBuf0 (F := Ideal) c tbM0_0) :
    out0_A_9 c i a2 h2 a3 h3 a4 h4 a5 h5 a6 h6 a7 h7 a8 h8 a9 h9 a10 h10 a11 h11 w p v x y u z = fun i => second (blockGrad x y u i) (v i) := by
  frame_out
  try rw [pay3_eq]
  first | rfl | (rw [← pay3_eq]; rfl)

/-- Where the block of window 6 lies in its array. -/
theorem emb6 (t : Fin (cfgM m hO).N) (a : Fin 256) (b : Fin 1024) :
    (((cfgM m hO).win 6).blk t).view.emb (ix2 a b) = (ix2 (row m hO t a) b : S2048x1024.Idx) := by
  unfold row
  blk_ext [idx6 m hO t]

/-- Where the block of window 7 lies in its array. -/
theorem emb7 (t : Fin (cfgM m hO).N) (a : Fin 256) (b : Fin 1024) :
    (((cfgM m hO).win 7).blk t).view.emb (ix2 a b) = (ix2 (row m hO t a) b : S2048x1024.Idx) := by
  unfold row
  blk_ext [idx7 m hO t]

/-- Where the block of window 8 lies in its array. -/
theorem emb8 (t : Fin (cfgM m hO).N) (a : Fin 256) (b : Fin 1024) :
    (((cfgM m hO).win 8).blk t).view.emb (ix2 a b) = (ix2 (row m hO t a) b : S2048x1024.Idx) := by
  unfold row
  blk_ext [idx8 m hO t]

/-- Where the block of window 9 lies in its array. -/
theorem emb9 (t : Fin (cfgM m hO).N) (a : Fin 256) (b : Fin 1024) :
    (((cfgM m hO).win 9).blk t).view.emb (ix2 a b) = (ix2 (row m hO t a) b : S2048x1024.Idx) := by
  unfold row
  blk_ext [idx9 m hO t]

include hq hr in
/-- The gradient of a point's blocks is the arrays'. -/
theorem grad_at (t : Fin (cfgM m hO).N) (a : Fin 256) (b : Fin 1024) :
    blockGrad (iblk m hO c 3 t) (iblk m hO c 4 t) (iblk m hO c 5 t) (ix2 a b) = D m c q r (ix2 (row m hO t a) b) := by
  unfold D GRAD blockGrad
  have e3 := rd3 m c q hq r hr hO t a b
  have e4 := rd4 m c q hq hO t a b
  exact congrArg₂ (· + ·) (congrArg₂ (· + ·) e3 e4) (congrArg₂ (· + ·) (congrArg₂ (· + ·) (rd5 m c hO t 0 a b) (rd5 m c hO t 1 a b)) (rd5 m c hO t 2 a b))

/-- Every row of blocks is some point's. -/
theorem rows_covered : ∀ a : Fin 8, ∃ t : Fin grid0.N, t.val = a.val := by decide +kernel

include hq hr in
/-- The block of gradients at a point, of the arrays. -/
theorem at6 (t : Fin (cfgM m hO).N) (a : Fin 256) (b : Fin 1024) :
    (outsAt0 m hO c t).1 (ix2 a b) = (D m c q r : S2048x1024.Idx → EReal) (ix2 (row m hO t a) b) := by
  unfold outsAt0
  dsimp only
  refine (congrFun (out6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  exact grad_at m c q hq r hr hO t a b

include hq hr in
/-- The gradients after the run. -/
theorem final6 : (dats m hO 0 c).arrAt 6 (cfgM m hO).N = D m c q r := by
  refine (dats m hO 0 c).arrAt_eq_of_covers 6 _ (Pipeline.Window.covers_of_index_surj _ rfl (by decide +kernel : ∀ a, 0 < S256x1024.size a)
    fun (β : (a : Fin 2) → Fin (((cfgM m hO).win 6).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (1024 + 1024 - 1) / 1024 = 1 by decide)
    obtain ⟨t, h⟩ := rows_covered ⟨_, h0⟩
    refine ⟨t, fun a => ?_⟩
    rw [idx6 m hO t]
    match a with
    | ⟨0, _⟩ => exact h
    | ⟨1, _⟩ => show 0 = (β 1).val; omega
  blk_simp
  rw [after0_6]
  obtain ⟨a, b, rfl⟩ := exists_ix2 (a := 256) (b := 1024) z
  rw [emb6]
  exact at6 m c q hq r hr hO t a b

include hq hr in
/-- The block of updates at a point, of the arrays. -/
theorem at7 (t : Fin (cfgM m hO).N) (a : Fin 256) (b : Fin 1024) :
    (outsAt0 m hO c t).2.1 (ix2 a b) = (UPD (W m c) (M1 m c) (M2 m c) (D m c q r) : S2048x1024.Idx → EReal) (ix2 (row m hO t a) b) := by
  unfold outsAt0
  dsimp only
  refine (congrFun (out7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show update _ _ _ _ = update _ _ _ _
  rw [grad_at m c q hq r hr hO t a b, rd0 m c hO t a b, rd1 m c hO t a b, rd2 m c hO t a b]

include hq hr in
/-- The updates after the run. -/
theorem final7 : (dats m hO 0 c).arrAt 7 (cfgM m hO).N = UPD (W m c) (M1 m c) (M2 m c) (D m c q r) := by
  refine (dats m hO 0 c).arrAt_eq_of_covers 7 _ (Pipeline.Window.covers_of_index_surj _ rfl (by decide +kernel : ∀ a, 0 < S256x1024.size a)
    fun (β : (a : Fin 2) → Fin (((cfgM m hO).win 7).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (1024 + 1024 - 1) / 1024 = 1 by decide)
    obtain ⟨t, h⟩ := rows_covered ⟨_, h0⟩
    refine ⟨t, fun a => ?_⟩
    rw [idx7 m hO t]
    match a with
    | ⟨0, _⟩ => exact h
    | ⟨1, _⟩ => show 0 = (β 1).val; omega
  blk_simp
  rw [after0_7]
  obtain ⟨a, b, rfl⟩ := exists_ix2 (a := 256) (b := 1024) z
  rw [emb7]
  exact at7 m c q hq r hr hO t a b

include hq hr in
/-- The block of first moments at a point, of the arrays. -/
theorem at8 (t : Fin (cfgM m hO).N) (a : Fin 256) (b : Fin 1024) :
    (outsAt0 m hO c t).2.2.1 (ix2 a b) = (FIRST (M1 m c) (D m c q r) : S2048x1024.Idx → EReal) (ix2 (row m hO t a) b) := by
  unfold outsAt0
  dsimp only
  refine (congrFun (out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show first _ _ = first _ _
  rw [grad_at m c q hq r hr hO t a b, rd1 m c hO t a b]

include hq hr in
/-- The first moments after the run. -/
theorem final8 : (dats m hO 0 c).arrAt 8 (cfgM m hO).N = FIRST (M1 m c) (D m c q r) := by
  refine (dats m hO 0 c).arrAt_eq_of_covers 8 _ (Pipeline.Window.covers_of_index_surj _ rfl (by decide +kernel : ∀ a, 0 < S256x1024.size a)
    fun (β : (a : Fin 2) → Fin (((cfgM m hO).win 8).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (1024 + 1024 - 1) / 1024 = 1 by decide)
    obtain ⟨t, h⟩ := rows_covered ⟨_, h0⟩
    refine ⟨t, fun a => ?_⟩
    rw [idx8 m hO t]
    match a with
    | ⟨0, _⟩ => exact h
    | ⟨1, _⟩ => show 0 = (β 1).val; omega
  blk_simp
  rw [after0_8]
  obtain ⟨a, b, rfl⟩ := exists_ix2 (a := 256) (b := 1024) z
  rw [emb8]
  exact at8 m c q hq r hr hO t a b

include hq hr in
/-- The block of second moments at a point, of the arrays. -/
theorem at9 (t : Fin (cfgM m hO).N) (a : Fin 256) (b : Fin 1024) :
    (outsAt0 m hO c t).2.2.2 (ix2 a b) = (SECOND (M2 m c) (D m c q r) : S2048x1024.Idx → EReal) (ix2 (row m hO t a) b) := by
  unfold outsAt0
  dsimp only
  refine (congrFun (out9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show second _ _ = second _ _
  rw [grad_at m c q hq r hr hO t a b, rd2 m c hO t a b]

include hq hr in
/-- The second moments after the run. -/
theorem final9 : (dats m hO 0 c).arrAt 9 (cfgM m hO).N = SECOND (M2 m c) (D m c q r) := by
  refine (dats m hO 0 c).arrAt_eq_of_covers 9 _ (Pipeline.Window.covers_of_index_surj _ rfl (by decide +kernel : ∀ a, 0 < S256x1024.size a)
    fun (β : (a : Fin 2) → Fin (((cfgM m hO).win 9).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (1024 + 1024 - 1) / 1024 = 1 by decide)
    obtain ⟨t, h⟩ := rows_covered ⟨_, h0⟩
    refine ⟨t, fun a => ?_⟩
    rw [idx9 m hO t]
    match a with
    | ⟨0, _⟩ => exact h
    | ⟨1, _⟩ => show 0 = (β 1).val; omega
  blk_simp
  rw [after0_9]
  obtain ⟨a, b, rfl⟩ := exists_ix2 (a := 256) (b := 1024) z
  rw [emb9]
  exact at9 m c q hq r hr hO t a b

/-! ## The reference -/

open Cert.Reference21Ideal.Read in
/-- The chip's parts the reference takes. -/
theorem ref_chip (t : IVec S5 32) (hq : t (ix1 3) = BitVec.ofNat 32 q.val) (p : S4x2x2048x1024.Idx → EReal) (k : Fin 2)
    (a : Fin 2048) (b : Fin 1024) : val_main_v8 (F := Ideal) t p (ix3 k a b) = p (ix4 q k a b) := by
  refine Eq.trans ?_ (Word.sum_named 4 (by decide) q fun j => p (ix4 j k a b))
  rw [← hq]
  pointwise [val_main_v8, val_main_v7, val_main_call0_v1, val_main_call0_v2, val_main_call0_v0, val_main_c, val_main_cst, val_main_v0, val_main_v6, val_main_v5, val_main_v4, val_main_v3, val_main_v2, val_main_v1]
  simp only [Word.zero_word]

open Cert.Reference21Ideal.Read in
/-- The piece of the partial sums the reference takes. -/
theorem ref_part (t : IVec S5 32) (hq : t (ix1 3) = BitVec.ofNat 32 q.val) (hr : t (ix1 4) = BitVec.ofNat 32 r.val) (p : S4x2x2048x1024.Idx → EReal)
    (a : Fin 2048) (b : Fin 1024) : val_main_v16 (F := Ideal) t p (ix2 a b) = p (ix4 q r a b) := by
  refine Eq.trans ?_ (Word.sum_named 2 (by decide) r fun j => p (ix4 q j a b))
  simp only [← ref_chip q t hq p]
  rw [← hr]
  pointwise [val_main_v16, val_main_v15, val_main_call1_v1, val_main_call1_v2, val_main_call1_v0, val_main_c_0, val_main_cst_1, val_main_v14, val_main_v13, val_main_v12, val_main_v11, val_main_v10, val_main_v9]
  simp only [Word.zero_word]

open Cert.Reference21Ideal.Read in
/-- The pair's sums the reference takes. -/
theorem ref_pair (t : IVec S5 32) (hq : t (ix1 3) = BitVec.ofNat 32 q.val) (g : S4x1x2048x1024.Idx → EReal)
    (a : Fin 2048) (b : Fin 1024) : val_main_v26 (F := Ideal) t g (ix2 a b) = g (ix4 q 0 a b) := by
  refine Eq.trans ?_ (Word.sum_named 4 (by decide) q fun j => g (ix4 j 0 a b))
  rw [← hq]
  pointwise [val_main_v26, val_main_v25, val_main_call2_v1, val_main_call2_v2, val_main_call2_v0, val_main_c_2, val_main_cst_3, val_main_v24, val_main_v23, val_main_v22, val_main_v21, val_main_v20, val_main_v19, val_main_v18, val_main_v17]
  simp only [Word.zero_word]

open Cert.Reference21Ideal.Read in
/-- The reference's gradient. -/
theorem ref_grad (t : IVec S5 32) (hq : t (ix1 3) = BitVec.ofNat 32 q.val) (hr : t (ix1 4) = BitVec.ofNat 32 r.val) (p : S4x2x2048x1024.Idx → EReal)
    (g : S4x1x2048x1024.Idx → EReal) (u : S3x2048x1024.Idx → EReal) : val_main_v30 (F := Ideal) t p g u = GRAD p g u q r := by
  refine funext fun (i : S2048x1024.Idx) => ?_
  obtain ⟨a, b, rfl⟩ := exists_ix2 (a := 2048) (b := 1024) i
  rw [val_main_v30_apply, val_main_v27_apply, ref_part q r t hq hr, ref_pair q t hq]
  refine congrArg (p (ix4 q r a b) + g (ix4 q 0 a b) + ·) ?_
  show _ = u (ix3 0 a b) + u (ix3 1 a b) + u (ix3 2 a b)
  pointwise [val_main_v29, val_main_cst_4, val_main_v28]
  try rw [Fin.sum_univ_three]

open Cert.Reference21Ideal.Read in
/-- The reference's four results from its gradient. -/
theorem ref_update (t : IVec S5 32) (w m v : S2048x1024.Idx → EReal) (p : S4x2x2048x1024.Idx → EReal) (g : S4x1x2048x1024.Idx → EReal) (u : S3x2048x1024.Idx → EReal) :
    val_main_v54 (F := Ideal) t w m v p g u = UPD w m v (val_main_v30 (F := Ideal) t p g u) := rfl
open Cert.Reference21Ideal.Read in
theorem ref_first (t : IVec S5 32) (m : S2048x1024.Idx → EReal) (p : S4x2x2048x1024.Idx → EReal) (g : S4x1x2048x1024.Idx → EReal) (u : S3x2048x1024.Idx → EReal) :
    val_main_v35 (F := Ideal) t m p g u = FIRST m (val_main_v30 (F := Ideal) t p g u) := rfl
open Cert.Reference21Ideal.Read in
theorem ref_second (t : IVec S5 32) (v : S2048x1024.Idx → EReal) (p : S4x2x2048x1024.Idx → EReal) (g : S4x1x2048x1024.Idx → EReal) (u : S3x2048x1024.Idx → EReal) :
    val_main_v41 (F := Ideal) t v p g u = SECOND v (val_main_v30 (F := Ideal) t p g u) := rfl

/-- The kernel's four results are the reference's. -/
theorem value [Cert.Pre_piece21.Facts] : algebraic_Kernel21Ideal_Reference21Ideal (hKernel21Ideal := Cert.Kernel21Ideal.Gen.facts)
    (hReference21Ideal := Cert.Reference21Ideal.Gen.facts) := by
  intro m g m' g' hpre hag
  obtain ⟨⟨q, hq⟩, r, hr⟩ := names_of_pre (hpre 0)
  have hO : Ok m := ok_of_words (tbl m) q hq r hr
  refine ⟨fun c => D m c q r, fun c => UPD (W m c) (M1 m c) (M2 m c) (D m c q r), fun c => FIRST (M1 m c) (D m c q r),
    fun c => SECOND (M2 m c) (D m c q r), ?_, ?_⟩
  · exact (θ_run _ _ _).mono (fun s h c => ⟨((h.1 c).1 6).trans (final6 m c q hq r hr hO), ((h.1 c).1 7).trans (final7 m c q hq r hr hO),
      ((h.1 c).1 8).trans (final8 m c q hq r hr hO), ((h.1 c).1 9).trans (final9 m c q hq r hr hO), h.2 c⟩)
      (θ_run_and (run_main m g hO) (unchanged m g hO))
  · refine (θ_run _ _ _).mono (fun s h c => ⟨(h c).1.trans ?_, (h c).2.1.trans ?_, (h c).2.2.1.trans ?_, (h c).2.2.2.1.trans ?_, (h c).2.2.2.2⟩)
      (Cert.Reference21Ideal.Value.run m' g')
    all_goals obtain rfl : c = 0 := Subsingleton.elim _ _
    · rw [Cert.Reference21Ideal.Read.val_main_v30_eq, (hag 0).1, (hag 0).2.2.2.2.1, (hag 0).2.2.2.2.2.1, (hag 0).2.2.2.2.2.2]
      exact ref_grad q r _ hq hr _ _ _
    · rw [Cert.Reference21Ideal.Read.val_main_v54_eq, (hag 0).1, (hag 0).2.1, (hag 0).2.2.1, (hag 0).2.2.2.1, (hag 0).2.2.2.2.1, (hag 0).2.2.2.2.2.1, (hag 0).2.2.2.2.2.2, ref_update]
      exact congrArg (UPD _ _ _) (ref_grad q r _ hq hr _ _ _)
    · rw [Cert.Reference21Ideal.Read.val_main_v35_eq, (hag 0).1, (hag 0).2.2.1, (hag 0).2.2.2.2.1, (hag 0).2.2.2.2.2.1, (hag 0).2.2.2.2.2.2, ref_first]
      exact congrArg (FIRST _) (ref_grad q r _ hq hr _ _ _)
    · rw [Cert.Reference21Ideal.Read.val_main_v41_eq, (hag 0).1, (hag 0).2.2.2.1, (hag 0).2.2.2.2.1, (hag 0).2.2.2.2.2.1, (hag 0).2.2.2.2.2.2, ref_second]
      exact congrArg (SECOND _) (ref_grad q r _ hq hr _ _ _)

/-- The kernel as compiled runs, its arguments end unchanged, and no semaphore is left raised. -/
theorem frame [Cert.Pre_piece21.Facts] : quiescent_Kernel21 (hKernel21 := Cert.Kernel21.Gen.facts) := fun m g h => by
  obtain ⟨⟨q, hq⟩, r, hr⟩ := names_of_pre (h 0)
  exact Cert.Kernel21.Gen.frame m g (ok_of_words (Cert.Kernel21.Gen.tbl m) q hq r hr)

/-- The idealized kernel does too. -/
theorem idealFrame [Cert.Pre_piece21.Facts] : quiescent_Kernel21Ideal (hKernel21Ideal := Cert.Kernel21Ideal.Gen.facts) := fun m g h => by
  obtain ⟨⟨q, hq⟩, r, hr⟩ := names_of_pre (h 0)
  exact Cert.Kernel21Ideal.Gen.frame m g (ok_of_words (tbl m) q hq r hr)

/-- The reference runs, its arguments end unchanged, and it has no semaphore to leave raised. -/
theorem refFrame [Cert.Pre_piece21.Facts] : quiescent_Reference21Ideal (hReference21Ideal := Cert.Reference21Ideal.Gen.facts) := fun m g _ =>
  (θ_run _ _ _).mono (fun r h => ⟨fun c => (h c).2.2.2.2, funext fun s => by
    rcases s with ⟨_, s⟩; rcases s with s | s <;> exact s.elim0⟩) (Cert.Reference21Ideal.Value.run m g)

end Cert.Proof.LruIn

end
-- ==== Proof.Optimiser.LruOut.lean ====
/-
  An output weight: a device's piece of the gradient, summed over the devices' parts, and the optimiser's step on it.
-/
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Product.Index
public import proofs.«01_k».proof.Proof.Optimiser.Step
public import proofs.«01_k».proof.Proof.Optimiser.Table
public import Idealize.ShloMosaic.Lib.DynamicIndex
public import Idealize.ShloMosaic.Lib.KernelVsHost
public import Idealize.ShloMosaic.Lib.Pipeline.Covers

@[expose] public section

set_option maxRecDepth 20000

noncomputable section

namespace Cert.Proof.LruOut

open Cert.Kernel22Ideal Cert.Kernel22Ideal.Gen Idealize.ShloMosaic Idealize.ShloMosaic.TcCoe Idealize.SL.Sem

/-- The side conditions of the precondition's own operations. -/
theorem preFacts : Cert.Pre_piece22.Facts :=
  { slices_S5_S1_3 := by decide
    shapeCasts_S1_S_ := by decide
    slices_S5_S1_4 := by decide }

/-- What the precondition says of the table: its last two words name a chip and a member of the pair. -/
theorem names_of_pre {F : FTy → Type} [FloatOps F] [Cert.Pre_piece22.Facts] {t : IVec S5 32} {w m v : FVec F S512x2048 .f32} {p : FVec F S4x2x512x2048 .bf16}
    {g : FVec F S4x1x512x2048 .bf16} {u : FVec F S3x512x2048 .bf16} (h : Cert.Pre_piece22.fn (F := F) t w m v p g u = fun _ => 1#1) :
    (∃ q : Fin 4, t (ix1 3) = BitVec.ofNat 32 q.val) ∧ ∃ r : Fin 2, t (ix1 4) = BitVec.ofNat 32 r.val := by
  have h0 := congrFun h ix0
  dsimp only [Cert.Pre_piece22.fn] at h0
  obtain ⟨h1, h2⟩ := IntOp.andi_eq_one.mp h0
  obtain ⟨h3, h4⟩ := IntOp.andi_eq_one.mp h1
  obtain ⟨h5, h6⟩ := IntOp.andi_eq_one.mp h2
  have e : shapeCast Cert.Pre_piece22.S_ (extractStridedSlice Cert.Pre_piece22.S1 ![3] t Cert.Pre_piece22.Facts.slices_S5_S1_3)
      Cert.Pre_piece22.Facts.shapeCasts_S1_S_ ix0 = t (ix1 3) := by pointwise
  have f : shapeCast Cert.Pre_piece22.S_ (extractStridedSlice Cert.Pre_piece22.S1 ![4] t Cert.Pre_piece22.Facts.slices_S5_S1_4)
      Cert.Pre_piece22.Facts.shapeCasts_S1_S_ ix0 = t (ix1 4) := by pointwise
  rw [← e, ← f]
  exact ⟨Word.word_below 4 (by decide) _ h3 h4, Word.word_below 2 (by decide) _ h5 h6⟩

/-! ## The table's side condition -/

/-- Every block of the partial sums the table can name lies inside the array, on whole words. -/
theorem part_inside : ∀ (q : Fin 4) (r : Fin 2) (j : Fin 2),
    ∃ h : (∀ a, ((![q.val, r.val, j.val, 0] : Fin 4 → ℕ) a + 1) * S1x1x256x2048.size a ≤ S4x2x512x2048.size a),
      EltTy.bits .bf16 = 32 ∨ (Rect.block (s := S4x2x512x2048) S1x1x256x2048.size ![q.val, r.val, j.val, 0] h).WholeWords (EltTy.packing .bf16) := by
  decide +kernel

/-- Every block of the pair's sums the table can name lies inside the array, on whole words. -/
theorem pair_inside : ∀ (q : Fin 4) (j : Fin 2),
    ∃ h : (∀ a, ((![q.val, 0, j.val, 0] : Fin 4 → ℕ) a + 1) * S1x1x256x2048.size a ≤ S4x1x512x2048.size a),
      EltTy.bits .bf16 = 32 ∨ (Rect.block (s := S4x1x512x2048) S1x1x256x2048.size ![q.val, 0, j.val, 0] h).WholeWords (EltTy.packing .bf16) := by
  decide +kernel

/-- The block of the partial sums at a point: the piece the table names. -/
theorem steered {F : FTy → Type} [FloatOps F] (pf : pre0.Contents (Elt F)) (q : Fin 4) (h : (pf 0 : IVec S5 32) (ix1 3) = BitVec.ofNat 32 q.val)
    (r : Fin 2) (h' : (pf 0 : IVec S5 32) (ix1 4) = BitVec.ofNat 32 r.val) (i : grid0.Coords) :
    cc0_transform_3 (F := F) inb_S5_S1_3 numel1_S1 inb_S5_S1_4 pf i = ![q.val, r.val, (i 0).val, 0] := by
  unfold cc0_transform_3
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have f : pf.at 0 (Rect.unit (s := S5) ![4] S1.size inb_S5_S1_4) numel1_S1 = BitVec.ofNat 32 r.val := by
    rw [← h']
    exact congrArg (pf 0) (funext fun a => Fin.ext (match a with | ⟨0, _⟩ => rfl))
  have hq := q.isLt
  have hr := r.isLt
  have hi : (i 0).val < 2 := (i 0).isLt
  simp only [e, f]
  simp only [BitVec.toNat_ofNat, Nat.zero_mod]
  rw [Nat.mod_eq_of_lt (show q.val < 2 ^ 32 by omega), Nat.mod_eq_of_lt (show r.val < 2 ^ 32 by omega), Nat.mod_eq_of_lt (show (i 0).val < 2 ^ 32 by omega)]

/-- The block of the pair's sums at a point: the chip's the table names. -/
theorem steered' {F : FTy → Type} [FloatOps F] (pf : pre0.Contents (Elt F)) (q : Fin 4) (h : (pf 0 : IVec S5 32) (ix1 3) = BitVec.ofNat 32 q.val)
    (i : grid0.Coords) : cc0_transform_4 (F := F) inb_S5_S1_3 numel1_S1 pf i = ![q.val, 0, (i 0).val, 0] := by
  unfold cc0_transform_4
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have hq := q.isLt
  have hi : (i 0).val < 2 := (i 0).isLt
  simp only [e]
  simp only [BitVec.toNat_ofNat, Nat.zero_mod]
  rw [Nat.mod_eq_of_lt (show q.val < 2 ^ 32 by omega), Nat.mod_eq_of_lt (show (i 0).val < 2 ^ 32 by omega)]

/-- The side conditions the pipeline puts on its table. -/
theorem ok_of_words {F : FTy → Type} [FloatOps F] (pf : pre0.Contents (Elt F)) (q : Fin 4) (h : (pf 0 : IVec S5 32) (ix1 3) = BitVec.ofNat 32 q.val)
    (r : Fin 2) (h' : (pf 0 : IVec S5 32) (ix1 4) = BitVec.ofNat 32 r.val) : ok0 (F := F) pf :=
  ⟨fun i => by
    rw [steered pf q h r h']
    exact part_inside q r ⟨(i 0).val, (i 0).isLt⟩, fun i => by
    rw [steered' pf q h]
    exact pair_inside q ⟨(i 0).val, (i 0).isLt⟩⟩

/-! ## The arrays -/

/-- The gradient of the piece the table names: its own partial sums, its pair's, and the other chips'. -/
def GRAD (p : S4x2x512x2048.Idx → EReal) (g : S4x1x512x2048.Idx → EReal) (u : S3x512x2048.Idx → EReal) (q : Fin 4) (r : Fin 2) : S512x2048.Idx → EReal :=
  fun i => p (ix4 q r (i 0) (i 1)) + g (ix4 q 0 (i 0) (i 1)) + (u (ix3 0 (i 0) (i 1)) + u (ix3 1 (i 0) (i 1)) + u (ix3 2 (i 0) (i 1)))

/-- The updates of a weight as an array. -/
def UPD (w m v d : S512x2048.Idx → EReal) : S512x2048.Idx → EReal := fun i => update (w i) (d i) (m i) (v i)
/-- The new first moments as an array. -/
def FIRST (m d : S512x2048.Idx → EReal) : S512x2048.Idx → EReal := fun i => first (d i) (m i)
/-- The new second moments as an array. -/
def SECOND (v d : S512x2048.Idx → EReal) : S512x2048.Idx → EReal := fun i => second (d i) (v i)

variable (m : (ℓ : Loc nD τ sig) → Buf (Elt Ideal) ℓ) (c : Dev nD)

/-- The table. -/
abbrev T : IVec S5 32 := m ((c : Thread nD τ).loc main_arg0)
/-- The weight. -/
abbrev W : S512x2048.Idx → EReal := m ((c : Thread nD τ).loc main_arg1)
/-- The first moments. -/
abbrev M1 : S512x2048.Idx → EReal := m ((c : Thread nD τ).loc main_arg2)
/-- The second moments. -/
abbrev M2 : S512x2048.Idx → EReal := m ((c : Thread nD τ).loc main_arg3)
/-- The device's partial sums. -/
abbrev P : S4x2x512x2048.Idx → EReal := m ((c : Thread nD τ).loc main_arg4)
/-- The pair's. -/
abbrev G : S4x1x512x2048.Idx → EReal := m ((c : Thread nD τ).loc main_arg5)
/-- The other chips'. -/
abbrev U0 : S3x512x2048.Idx → EReal := m ((c : Thread nD τ).loc main_arg6)

variable (q : Fin 4) (hq : T m 0 (ix1 3) = BitVec.ofNat 32 q.val) (r : Fin 2) (hr : T m 0 (ix1 4) = BitVec.ofNat 32 r.val) (hO : Ok m)

/-- The gradient over the step's arrays. -/
abbrev D : S512x2048.Idx → EReal := GRAD (P m c) (G m c) (U0 m c) q r

/-! ## The blocks at a grid point -/

theorem idx0 : ∀ t : Fin (cfgM m hO).N, ((cfgM m hO).win 0).index t = ![t.val, 0] := (by decide +kernel : ∀ t : Fin grid0.N, cc0_transform_0 (grid0.coords t) = ![t.val, 0])
theorem idx1 : ∀ t : Fin (cfgM m hO).N, ((cfgM m hO).win 1).index t = ![t.val, 0] := (by decide +kernel : ∀ t : Fin grid0.N, cc0_transform_1 (grid0.coords t) = ![t.val, 0])
theorem idx2 : ∀ t : Fin (cfgM m hO).N, ((cfgM m hO).win 2).index t = ![t.val, 0] := (by decide +kernel : ∀ t : Fin grid0.N, cc0_transform_2 (grid0.coords t) = ![t.val, 0])
theorem idx6 : ∀ t : Fin (cfgM m hO).N, ((cfgM m hO).win 6).index t = ![t.val, 0] := (by decide +kernel : ∀ t : Fin grid0.N, cc0_transform_6 (grid0.coords t) = ![t.val, 0])
theorem idx7 : ∀ t : Fin (cfgM m hO).N, ((cfgM m hO).win 7).index t = ![t.val, 0] := (by decide +kernel : ∀ t : Fin grid0.N, cc0_transform_7 (grid0.coords t) = ![t.val, 0])
theorem idx8 : ∀ t : Fin (cfgM m hO).N, ((cfgM m hO).win 8).index t = ![t.val, 0] := (by decide +kernel : ∀ t : Fin grid0.N, cc0_transform_8 (grid0.coords t) = ![t.val, 0])
theorem idx9 : ∀ t : Fin (cfgM m hO).N, ((cfgM m hO).win 9).index t = ![t.val, 0] := (by decide +kernel : ∀ t : Fin grid0.N, cc0_transform_9 (grid0.coords t) = ![t.val, 0])
theorem idx5 : ∀ t : Fin (cfgM m hO).N, ((cfgM m hO).win 5).index t = ![0, t.val, 0] := (by decide +kernel : ∀ t : Fin grid0.N, cc0_transform_5 (grid0.coords t) = ![0, t.val, 0])
theorem rowOf : ∀ t : Fin grid0.N, (grid0.coords t 0).val = t.val := by decide +kernel
include hq hr in
theorem idx3 (t : Fin (cfgM m hO).N) : ((cfgM m hO).win 3).index t = ![q.val, r.val, t.val, 0] := by
  rw [← rowOf t]
  exact steered (tbl m) q hq r hr (grid0.coords t)
include hq in
theorem idx4 (t : Fin (cfgM m hO).N) : ((cfgM m hO).win 4).index t = ![q.val, 0, t.val, 0] := by
  rw [← rowOf t]
  exact steered' (tbl m) q hq (grid0.coords t)

/-- The row of a point's block. -/
def row (t : Fin (cfgM m hO).N) (a : Fin 256) : Fin 512 :=
  ⟨t.val * 256 + a.val, by have := t.isLt; have : (cfgM m hO).N = 2 := rfl; omega⟩

/-- The weight's block at a point. -/
theorem rd0 (t : Fin (cfgM m hO).N) (a : Fin 256) (b : Fin 2048) : iblk m hO c 0 t (ix2 a b) = W m c (ix2 (row m hO t a) b) := by
  unfold row
  blk_point [iblk, idx0 m hO t]

/-- The first moments's block at a point. -/
theorem rd1 (t : Fin (cfgM m hO).N) (a : Fin 256) (b : Fin 2048) : iblk m hO c 1 t (ix2 a b) = M1 m c (ix2 (row m hO t a) b) := by
  unfold row
  blk_point [iblk, idx1 m hO t]

/-- The second moments's block at a point. -/
theorem rd2 (t : Fin (cfgM m hO).N) (a : Fin 256) (b : Fin 2048) : iblk m hO c 2 t (ix2 a b) = M2 m c (ix2 (row m hO t a) b) := by
  unfold row
  blk_point [iblk, idx2 m hO t]

include hq hr in
/-- The partial sums' block at a point. -/
theorem rd3 (t : Fin (cfgM m hO).N) (a : Fin 256) (b : Fin 2048) : iblk m hO c 3 t (ix4 0 0 a b) = P m c (ix4 q r (row m hO t a) b) := by
  unfold row
  blk_point [iblk, idx3 m q hq r hr hO t]

include hq in
/-- The pair's block at a point. -/
theorem rd4 (t : Fin (cfgM m hO).N) (a : Fin 256) (b : Fin 2048) : iblk m hO c 4 t (ix4 0 0 a b) = G m c (ix4 q 0 (row m hO t a) b) := by
  unfold row
  blk_point [iblk, idx4 m q hq hO t]

/-- The other chips' block at a point. -/
theorem rd5 (t : Fin (cfgM m hO).N) (j : Fin 3) (a : Fin 256) (b : Fin 2048) : iblk m hO c 5 t (ix3 j a b) = U0 m c (ix3 j (row m hO t a) b) := by
  unfold row
  blk_point [iblk, idx5 m hO t]

/-! ## What a point writes -/

/-- The gradient of a point's blocks. -/
def blockGrad (p g : S1x1x256x2048.Idx → EReal) (u : S3x256x2048.Idx → EReal) : S256x2048.Idx → EReal := fun i =>
  p (ix4 0 0 (i 0) (i 1)) + g (ix4 0 0 (i 0) (i 1)) + (u (ix3 0 (i 0) (i 1)) + u (ix3 1 (i 0) (i 1)) + u (ix3 2 (i 0) (i 1)))

/-- A plane of the other chips' block, read. -/
theorem ld_plane (u : Vec Ideal S3x256x2048 .bf16) (k : Fin 3) (inb : ∀ a, (![k.val, 0, 0] : Fin 3 → Nat) a + S1x256x2048.size a ≤ S3x256x2048.size a) (a : Fin 256) (b : Fin 2048) :
    View.ld u (Rect.unit (s := S3x256x2048) ![k.val, 0, 0] S1x256x2048.size inb) (ix3 0 a b) = u (ix3 k a b) := by
  refine congrArg u (funext fun x => Fin.ext ?_)
  match x with
  | ⟨0, _⟩ => show k.val + 1 * 0 = k.val; omega
  | ⟨1, _⟩ => show 0 + 1 * a.val = a.val; omega
  | ⟨2, _⟩ => show 0 + 1 * b.val = b.val; omega

/-- The body's sum, in the order it takes its terms, is the gradient of its blocks. -/
theorem pay3_eq (x y : Vec Ideal S1x1x256x2048 .bf16) (u : Vec Ideal S3x256x2048 .bf16) :
    k0_pay3 (F := Ideal) x y (View.ld u (Rect.unit (s := S3x256x2048) ![0, 0, 0] S1x256x2048.size inb_S3x256x2048_S1x256x2048_0_0_0)) (View.ld u (Rect.unit (s := S3x256x2048) ![1, 0, 0] S1x256x2048.size inb_S3x256x2048_S1x256x2048_1_0_0)) (View.ld u (Rect.unit (s := S3x256x2048) ![2, 0, 0] S1x256x2048.size inb_S3x256x2048_S1x256x2048_2_0_0)) = blockGrad x y u := by
  refine funext fun (i : S256x2048.Idx) => ?_
  obtain ⟨a, b, rfl⟩ := exists_ix2 (a := 256) (b := 2048) i
  show _ = x (ix4 0 0 a b) + y (ix4 0 0 a b) + (u (ix3 0 a b) + u (ix3 1 a b) + u (ix3 2 a b))
  rw [← ld_plane u 0 inb_S3x256x2048_S1x256x2048_0_0_0, ← ld_plane u 1 inb_S3x256x2048_S1x256x2048_1_0_0, ← ld_plane u 2 inb_S3x256x2048_S1x256x2048_2_0_0]
  pointwise [k0_pay3]
  rw [add_assoc, add_assoc]
  simp only [add_assoc]

/-- The block of gradients a point writes. -/
theorem out6_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S3x256x2048 .bf16) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole)
    (w p v : Vec Ideal S256x2048 .f32) (x y : Vec Ideal S1x1x256x2048 .bf16) (u : Vec Ideal S3x256x2048 .bf16) (z : TbBuf0 (F := Ideal) c tbM0_0) :
    out0_A_6 c i a2 h2 a3 h3 a4 h4 a5 h5 a6 h6 a7 h7 a8 h8 a9 h9 a10 h10 a11 h11 w p v x y u z = blockGrad x y u := by
  frame_out
  exact pay3_eq _ _ _

/-- The block of updates a point writes. -/
theorem out7_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S3x256x2048 .bf16) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole)
    (w p v : Vec Ideal S256x2048 .f32) (x y : Vec Ideal S1x1x256x2048 .bf16) (u : Vec Ideal S3x256x2048 .bf16) (z : TbBuf0 (F := Ideal) c tbM0_0) :
    out0_A_7 c i a2 h2 a3 h3 a4 h4 a5 h5 a6 h6 a7 h7 a8 h8 a9 h9 a10 h10 a11 h11 w p v x y u z = fun i => update (w i) (blockGrad x y u i) (p i) (v i) := by
  frame_out
  rw [pay3_eq]
  first | rfl | (rw [← pay3_eq]; rfl)

/-- The block of first moments a point writes. -/
theorem out8_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S3x256x2048 .bf16) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole)
    (w p v : Vec Ideal S256x2048 .f32) (x y : Vec Ideal S1x1x256x2048 .bf16) (u : Vec Ideal S3x256x2048 .bf16) (z : TbBuf0 (F := Ideal) c tbM0_0) :
    out0_A_8 c i a2 h2 a3 h3 a4 h4 a5 h5 a6 h6 a7 h7 a8 h8 a9 h9 a10 h10 a11 h11 w p v x y u z = fun i => first (blockGrad x y u i) (p i) := by
  frame_out
  try rw [pay3_eq]
  first | rfl | (rw [← pay3_eq]; rfl)

/-- The block of second moments a point writes. -/
theorem out9_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S3x256x2048 .bf16) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole)
    (w p v : Vec Ideal S256x2048 .f32) (x y : Vec Ideal S1x1x256x2048 .bf16) (u : Vec Ideal S3x256x2048 .bf16) (z : TbBuf0 (F := Ideal) c tbM0_0) :
    out0_A_9 c i a2 h2 a3 h3 a4 h4 a5 h5 a6 h6 a7 h7 a8 h8 a9 h9 a10 h10 a11 h11 w p v x y u z = fun i => second (blockGrad x y u i) (v i) := by
  frame_out
  try rw [pay3_eq]
  first | rfl | (rw [← pay3_eq]; rfl)

/-- Where the block of window 6 lies in its array. -/
theorem emb6 (t : Fin (cfgM m hO).N) (a : Fin 256) (b : Fin 2048) :
    (((cfgM m hO).win 6).blk t).view.emb (ix2 a b) = (ix2 (row m hO t a) b : S512x2048.Idx) := by
  unfold row
  blk_ext [idx6 m hO t]

/-- Where the block of window 7 lies in its array. -/
theorem emb7 (t : Fin (cfgM m hO).N) (a : Fin 256) (b : Fin 2048) :
    (((cfgM m hO).win 7).blk t).view.emb (ix2 a b) = (ix2 (row m hO t a) b : S512x2048.Idx) := by
  unfold row
  blk_ext [idx7 m hO t]

/-- Where the block of window 8 lies in its array. -/
theorem emb8 (t : Fin (cfgM m hO).N) (a : Fin 256) (b : Fin 2048) :
    (((cfgM m hO).win 8).blk t).view.emb (ix2 a b) = (ix2 (row m hO t a) b : S512x2048.Idx) := by
  unfold row
  blk_ext [idx8 m hO t]

/-- Where the block of window 9 lies in its array. -/
theorem emb9 (t : Fin (cfgM m hO).N) (a : Fin 256) (b : Fin 2048) :
    (((cfgM m hO).win 9).blk t).view.emb (ix2 a b) = (ix2 (row m hO t a) b : S512x2048.Idx) := by
  unfold row
  blk_ext [idx9 m hO t]

include hq hr in
/-- The gradient of a point's blocks is the arrays'. -/
theorem grad_at (t : Fin (cfgM m hO).N) (a : Fin 256) (b : Fin 2048) :
    blockGrad (iblk m hO c 3 t) (iblk m hO c 4 t) (iblk m hO c 5 t) (ix2 a b) = D m c q r (ix2 (row m hO t a) b) := by
  unfold D GRAD blockGrad
  have e3 := rd3 m c q hq r hr hO t a b
  have e4 := rd4 m c q hq hO t a b
  exact congrArg₂ (· + ·) (congrArg₂ (· + ·) e3 e4) (congrArg₂ (· + ·) (congrArg₂ (· + ·) (rd5 m c hO t 0 a b) (rd5 m c hO t 1 a b)) (rd5 m c hO t 2 a b))

/-- Every row of blocks is some point's. -/
theorem rows_covered : ∀ a : Fin 2, ∃ t : Fin grid0.N, t.val = a.val := by decide +kernel

include hq hr in
/-- The block of gradients at a point, of the arrays. -/
theorem at6 (t : Fin (cfgM m hO).N) (a : Fin 256) (b : Fin 2048) :
    (outsAt0 m hO c t).1 (ix2 a b) = (D m c q r : S512x2048.Idx → EReal) (ix2 (row m hO t a) b) := by
  unfold outsAt0
  dsimp only
  refine (congrFun (out6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  exact grad_at m c q hq r hr hO t a b

include hq hr in
/-- The gradients after the run. -/
theorem final6 : (dats m hO 0 c).arrAt 6 (cfgM m hO).N = D m c q r := by
  refine (dats m hO 0 c).arrAt_eq_of_covers 6 _ (Pipeline.Window.covers_of_index_surj _ rfl (by decide +kernel : ∀ a, 0 < S256x2048.size a)
    fun (β : (a : Fin 2) → Fin (((cfgM m hO).win 6).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx6 m hO t]
    match a with
    | ⟨0, _⟩ => exact h
    | ⟨1, _⟩ => show 0 = (β 1).val; omega
  blk_simp
  rw [after0_6]
  obtain ⟨a, b, rfl⟩ := exists_ix2 (a := 256) (b := 2048) z
  rw [emb6]
  exact at6 m c q hq r hr hO t a b

include hq hr in
/-- The block of updates at a point, of the arrays. -/
theorem at7 (t : Fin (cfgM m hO).N) (a : Fin 256) (b : Fin 2048) :
    (outsAt0 m hO c t).2.1 (ix2 a b) = (UPD (W m c) (M1 m c) (M2 m c) (D m c q r) : S512x2048.Idx → EReal) (ix2 (row m hO t a) b) := by
  unfold outsAt0
  dsimp only
  refine (congrFun (out7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show update _ _ _ _ = update _ _ _ _
  rw [grad_at m c q hq r hr hO t a b, rd0 m c hO t a b, rd1 m c hO t a b, rd2 m c hO t a b]

include hq hr in
/-- The updates after the run. -/
theorem final7 : (dats m hO 0 c).arrAt 7 (cfgM m hO).N = UPD (W m c) (M1 m c) (M2 m c) (D m c q r) := by
  refine (dats m hO 0 c).arrAt_eq_of_covers 7 _ (Pipeline.Window.covers_of_index_surj _ rfl (by decide +kernel : ∀ a, 0 < S256x2048.size a)
    fun (β : (a : Fin 2) → Fin (((cfgM m hO).win 7).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx7 m hO t]
    match a with
    | ⟨0, _⟩ => exact h
    | ⟨1, _⟩ => show 0 = (β 1).val; omega
  blk_simp
  rw [after0_7]
  obtain ⟨a, b, rfl⟩ := exists_ix2 (a := 256) (b := 2048) z
  rw [emb7]
  exact at7 m c q hq r hr hO t a b

include hq hr in
/-- The block of first moments at a point, of the arrays. -/
theorem at8 (t : Fin (cfgM m hO).N) (a : Fin 256) (b : Fin 2048) :
    (outsAt0 m hO c t).2.2.1 (ix2 a b) = (FIRST (M1 m c) (D m c q r) : S512x2048.Idx → EReal) (ix2 (row m hO t a) b) := by
  unfold outsAt0
  dsimp only
  refine (congrFun (out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show first _ _ = first _ _
  rw [grad_at m c q hq r hr hO t a b, rd1 m c hO t a b]

include hq hr in
/-- The first moments after the run. -/
theorem final8 : (dats m hO 0 c).arrAt 8 (cfgM m hO).N = FIRST (M1 m c) (D m c q r) := by
  refine (dats m hO 0 c).arrAt_eq_of_covers 8 _ (Pipeline.Window.covers_of_index_surj _ rfl (by decide +kernel : ∀ a, 0 < S256x2048.size a)
    fun (β : (a : Fin 2) → Fin (((cfgM m hO).win 8).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx8 m hO t]
    match a with
    | ⟨0, _⟩ => exact h
    | ⟨1, _⟩ => show 0 = (β 1).val; omega
  blk_simp
  rw [after0_8]
  obtain ⟨a, b, rfl⟩ := exists_ix2 (a := 256) (b := 2048) z
  rw [emb8]
  exact at8 m c q hq r hr hO t a b

include hq hr in
/-- The block of second moments at a point, of the arrays. -/
theorem at9 (t : Fin (cfgM m hO).N) (a : Fin 256) (b : Fin 2048) :
    (outsAt0 m hO c t).2.2.2 (ix2 a b) = (SECOND (M2 m c) (D m c q r) : S512x2048.Idx → EReal) (ix2 (row m hO t a) b) := by
  unfold outsAt0
  dsimp only
  refine (congrFun (out9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show second _ _ = second _ _
  rw [grad_at m c q hq r hr hO t a b, rd2 m c hO t a b]

include hq hr in
/-- The second moments after the run. -/
theorem final9 : (dats m hO 0 c).arrAt 9 (cfgM m hO).N = SECOND (M2 m c) (D m c q r) := by
  refine (dats m hO 0 c).arrAt_eq_of_covers 9 _ (Pipeline.Window.covers_of_index_surj _ rfl (by decide +kernel : ∀ a, 0 < S256x2048.size a)
    fun (β : (a : Fin 2) → Fin (((cfgM m hO).win 9).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx9 m hO t]
    match a with
    | ⟨0, _⟩ => exact h
    | ⟨1, _⟩ => show 0 = (β 1).val; omega
  blk_simp
  rw [after0_9]
  obtain ⟨a, b, rfl⟩ := exists_ix2 (a := 256) (b := 2048) z
  rw [emb9]
  exact at9 m c q hq r hr hO t a b

/-! ## The reference -/

open Cert.Reference22Ideal.Read in
/-- The chip's parts the reference takes. -/
theorem ref_chip (t : IVec S5 32) (hq : t (ix1 3) = BitVec.ofNat 32 q.val) (p : S4x2x512x2048.Idx → EReal) (k : Fin 2)
    (a : Fin 512) (b : Fin 2048) : val_main_v8 (F := Ideal) t p (ix3 k a b) = p (ix4 q k a b) := by
  refine Eq.trans ?_ (Word.sum_named 4 (by decide) q fun j => p (ix4 j k a b))
  rw [← hq]
  pointwise [val_main_v8, val_main_v7, val_main_call0_v1, val_main_call0_v2, val_main_call0_v0, val_main_c, val_main_cst, val_main_v0, val_main_v6, val_main_v5, val_main_v4, val_main_v3, val_main_v2, val_main_v1]
  simp only [Word.zero_word]

open Cert.Reference22Ideal.Read in
/-- The piece of the partial sums the reference takes. -/
theorem ref_part (t : IVec S5 32) (hq : t (ix1 3) = BitVec.ofNat 32 q.val) (hr : t (ix1 4) = BitVec.ofNat 32 r.val) (p : S4x2x512x2048.Idx → EReal)
    (a : Fin 512) (b : Fin 2048) : val_main_v16 (F := Ideal) t p (ix2 a b) = p (ix4 q r a b) := by
  refine Eq.trans ?_ (Word.sum_named 2 (by decide) r fun j => p (ix4 q j a b))
  simp only [← ref_chip q t hq p]
  rw [← hr]
  pointwise [val_main_v16, val_main_v15, val_main_call1_v1, val_main_call1_v2, val_main_call1_v0, val_main_c_0, val_main_cst_1, val_main_v14, val_main_v13, val_main_v12, val_main_v11, val_main_v10, val_main_v9]
  simp only [Word.zero_word]

open Cert.Reference22Ideal.Read in
/-- The pair's sums the reference takes. -/
theorem ref_pair (t : IVec S5 32) (hq : t (ix1 3) = BitVec.ofNat 32 q.val) (g : S4x1x512x2048.Idx → EReal)
    (a : Fin 512) (b : Fin 2048) : val_main_v26 (F := Ideal) t g (ix2 a b) = g (ix4 q 0 a b) := by
  refine Eq.trans ?_ (Word.sum_named 4 (by decide) q fun j => g (ix4 j 0 a b))
  rw [← hq]
  pointwise [val_main_v26, val_main_v25, val_main_call2_v1, val_main_call2_v2, val_main_call2_v0, val_main_c_2, val_main_cst_3, val_main_v24, val_main_v23, val_main_v22, val_main_v21, val_main_v20, val_main_v19, val_main_v18, val_main_v17]
  simp only [Word.zero_word]

open Cert.Reference22Ideal.Read in
/-- The reference's gradient. -/
theorem ref_grad (t : IVec S5 32) (hq : t (ix1 3) = BitVec.ofNat 32 q.val) (hr : t (ix1 4) = BitVec.ofNat 32 r.val) (p : S4x2x512x2048.Idx → EReal)
    (g : S4x1x512x2048.Idx → EReal) (u : S3x512x2048.Idx → EReal) : val_main_v30 (F := Ideal) t p g u = GRAD p g u q r := by
  refine funext fun (i : S512x2048.Idx) => ?_
  obtain ⟨a, b, rfl⟩ := exists_ix2 (a := 512) (b := 2048) i
  rw [val_main_v30_apply, val_main_v27_apply, ref_part q r t hq hr, ref_pair q t hq]
  refine congrArg (p (ix4 q r a b) + g (ix4 q 0 a b) + ·) ?_
  show _ = u (ix3 0 a b) + u (ix3 1 a b) + u (ix3 2 a b)
  pointwise [val_main_v29, val_main_cst_4, val_main_v28]
  try rw [Fin.sum_univ_three]

open Cert.Reference22Ideal.Read in
/-- The reference's four results from its gradient. -/
theorem ref_update (t : IVec S5 32) (w m v : S512x2048.Idx → EReal) (p : S4x2x512x2048.Idx → EReal) (g : S4x1x512x2048.Idx → EReal) (u : S3x512x2048.Idx → EReal) :
    val_main_v54 (F := Ideal) t w m v p g u = UPD w m v (val_main_v30 (F := Ideal) t p g u) := rfl
open Cert.Reference22Ideal.Read in
theorem ref_first (t : IVec S5 32) (m : S512x2048.Idx → EReal) (p : S4x2x512x2048.Idx → EReal) (g : S4x1x512x2048.Idx → EReal) (u : S3x512x2048.Idx → EReal) :
    val_main_v35 (F := Ideal) t m p g u = FIRST m (val_main_v30 (F := Ideal) t p g u) := rfl
open Cert.Reference22Ideal.Read in
theorem ref_second (t : IVec S5 32) (v : S512x2048.Idx → EReal) (p : S4x2x512x2048.Idx → EReal) (g : S4x1x512x2048.Idx → EReal) (u : S3x512x2048.Idx → EReal) :
    val_main_v41 (F := Ideal) t v p g u = SECOND v (val_main_v30 (F := Ideal) t p g u) := rfl

/-- The kernel's four results are the reference's. -/
theorem value [Cert.Pre_piece22.Facts] : algebraic_Kernel22Ideal_Reference22Ideal (hKernel22Ideal := Cert.Kernel22Ideal.Gen.facts)
    (hReference22Ideal := Cert.Reference22Ideal.Gen.facts) := by
  intro m g m' g' hpre hag
  obtain ⟨⟨q, hq⟩, r, hr⟩ := names_of_pre (hpre 0)
  have hO : Ok m := ok_of_words (tbl m) q hq r hr
  refine ⟨fun c => D m c q r, fun c => UPD (W m c) (M1 m c) (M2 m c) (D m c q r), fun c => FIRST (M1 m c) (D m c q r),
    fun c => SECOND (M2 m c) (D m c q r), ?_, ?_⟩
  · exact (θ_run _ _ _).mono (fun s h c => ⟨((h.1 c).1 6).trans (final6 m c q hq r hr hO), ((h.1 c).1 7).trans (final7 m c q hq r hr hO),
      ((h.1 c).1 8).trans (final8 m c q hq r hr hO), ((h.1 c).1 9).trans (final9 m c q hq r hr hO), h.2 c⟩)
      (θ_run_and (run_main m g hO) (unchanged m g hO))
  · refine (θ_run _ _ _).mono (fun s h c => ⟨(h c).1.trans ?_, (h c).2.1.trans ?_, (h c).2.2.1.trans ?_, (h c).2.2.2.1.trans ?_, (h c).2.2.2.2⟩)
      (Cert.Reference22Ideal.Value.run m' g')
    all_goals obtain rfl : c = 0 := Subsingleton.elim _ _
    · rw [Cert.Reference22Ideal.Read.val_main_v30_eq, (hag 0).1, (hag 0).2.2.2.2.1, (hag 0).2.2.2.2.2.1, (hag 0).2.2.2.2.2.2]
      exact ref_grad q r _ hq hr _ _ _
    · rw [Cert.Reference22Ideal.Read.val_main_v54_eq, (hag 0).1, (hag 0).2.1, (hag 0).2.2.1, (hag 0).2.2.2.1, (hag 0).2.2.2.2.1, (hag 0).2.2.2.2.2.1, (hag 0).2.2.2.2.2.2, ref_update]
      exact congrArg (UPD _ _ _) (ref_grad q r _ hq hr _ _ _)
    · rw [Cert.Reference22Ideal.Read.val_main_v35_eq, (hag 0).1, (hag 0).2.2.1, (hag 0).2.2.2.2.1, (hag 0).2.2.2.2.2.1, (hag 0).2.2.2.2.2.2, ref_first]
      exact congrArg (FIRST _) (ref_grad q r _ hq hr _ _ _)
    · rw [Cert.Reference22Ideal.Read.val_main_v41_eq, (hag 0).1, (hag 0).2.2.2.1, (hag 0).2.2.2.2.1, (hag 0).2.2.2.2.2.1, (hag 0).2.2.2.2.2.2, ref_second]
      exact congrArg (SECOND _) (ref_grad q r _ hq hr _ _ _)

/-- The kernel as compiled runs, its arguments end unchanged, and no semaphore is left raised. -/
theorem frame [Cert.Pre_piece22.Facts] : quiescent_Kernel22 (hKernel22 := Cert.Kernel22.Gen.facts) := fun m g h => by
  obtain ⟨⟨q, hq⟩, r, hr⟩ := names_of_pre (h 0)
  exact Cert.Kernel22.Gen.frame m g (ok_of_words (Cert.Kernel22.Gen.tbl m) q hq r hr)

/-- The idealized kernel does too. -/
theorem idealFrame [Cert.Pre_piece22.Facts] : quiescent_Kernel22Ideal (hKernel22Ideal := Cert.Kernel22Ideal.Gen.facts) := fun m g h => by
  obtain ⟨⟨q, hq⟩, r, hr⟩ := names_of_pre (h 0)
  exact Cert.Kernel22Ideal.Gen.frame m g (ok_of_words (tbl m) q hq r hr)

/-- The reference runs, its arguments end unchanged, and it has no semaphore to leave raised. -/
theorem refFrame [Cert.Pre_piece22.Facts] : quiescent_Reference22Ideal (hReference22Ideal := Cert.Reference22Ideal.Gen.facts) := fun m g _ =>
  (θ_run _ _ _).mono (fun r h => ⟨fun c => (h c).2.2.2.2, funext fun s => by
    rcases s with ⟨_, s⟩; rcases s with s | s <;> exact s.elim0⟩) (Cert.Reference22Ideal.Value.run m g)

end Cert.Proof.LruOut

end
-- ==== Proof.Optimiser.LruGate.lean ====
/-
  A gate's weight: a device's piece of the gradient, summed over the devices' parts, and the optimiser's step on it.
-/
module

public import proofs.«01_k».proof.Defs
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Product.Index
public import proofs.«01_k».proof.Proof.Optimiser.Step
public import proofs.«01_k».proof.Proof.Optimiser.Table
public import Idealize.ShloMosaic.Lib.DynamicIndex
public import Idealize.ShloMosaic.Lib.KernelVsHost
public import Idealize.ShloMosaic.Lib.Pipeline.Covers

@[expose] public section

set_option maxRecDepth 20000

noncomputable section

namespace Cert.Proof.LruGate

open Cert.Kernel23Ideal Cert.Kernel23Ideal.Gen Idealize.ShloMosaic Idealize.ShloMosaic.TcCoe Idealize.SL.Sem

/-- The side conditions of the precondition's own operations. -/
theorem preFacts : Cert.Pre_piece23.Facts :=
  { slices_S5_S1_3 := by decide
    shapeCasts_S1_S_ := by decide
    slices_S5_S1_4 := by decide }

/-- What the precondition says of the table: its last two words name a chip and a member of the pair. -/
theorem names_of_pre {F : FTy → Type} [FloatOps F] [Cert.Pre_piece23.Facts] {t : IVec S5 32} {w m v : FVec F S512x256 .f32} {p : FVec F S4x2x512x256 .bf16}
    {g : FVec F S4x1x512x256 .bf16} {u : FVec F S3x512x256 .bf16} (h : Cert.Pre_piece23.fn (F := F) t w m v p g u = fun _ => 1#1) :
    (∃ q : Fin 4, t (ix1 3) = BitVec.ofNat 32 q.val) ∧ ∃ r : Fin 2, t (ix1 4) = BitVec.ofNat 32 r.val := by
  have h0 := congrFun h ix0
  dsimp only [Cert.Pre_piece23.fn] at h0
  obtain ⟨h1, h2⟩ := IntOp.andi_eq_one.mp h0
  obtain ⟨h3, h4⟩ := IntOp.andi_eq_one.mp h1
  obtain ⟨h5, h6⟩ := IntOp.andi_eq_one.mp h2
  have e : shapeCast Cert.Pre_piece23.S_ (extractStridedSlice Cert.Pre_piece23.S1 ![3] t Cert.Pre_piece23.Facts.slices_S5_S1_3)
      Cert.Pre_piece23.Facts.shapeCasts_S1_S_ ix0 = t (ix1 3) := by pointwise
  have f : shapeCast Cert.Pre_piece23.S_ (extractStridedSlice Cert.Pre_piece23.S1 ![4] t Cert.Pre_piece23.Facts.slices_S5_S1_4)
      Cert.Pre_piece23.Facts.shapeCasts_S1_S_ ix0 = t (ix1 4) := by pointwise
  rw [← e, ← f]
  exact ⟨Word.word_below 4 (by decide) _ h3 h4, Word.word_below 2 (by decide) _ h5 h6⟩

/-! ## The table's side condition -/

/-- Every block of the partial sums the table can name lies inside the array, on whole words. -/
theorem part_inside : ∀ (q : Fin 4) (r : Fin 2) (j : Fin 2),
    ∃ h : (∀ a, ((![q.val, r.val, j.val, 0] : Fin 4 → ℕ) a + 1) * S1x1x256x256.size a ≤ S4x2x512x256.size a),
      EltTy.bits .bf16 = 32 ∨ (Rect.block (s := S4x2x512x256) S1x1x256x256.size ![q.val, r.val, j.val, 0] h).WholeWords (EltTy.packing .bf16) := by
  decide +kernel

/-- Every block of the pair's sums the table can name lies inside the array, on whole words. -/
theorem pair_inside : ∀ (q : Fin 4) (j : Fin 2),
    ∃ h : (∀ a, ((![q.val, 0, j.val, 0] : Fin 4 → ℕ) a + 1) * S1x1x256x256.size a ≤ S4x1x512x256.size a),
      EltTy.bits .bf16 = 32 ∨ (Rect.block (s := S4x1x512x256) S1x1x256x256.size ![q.val, 0, j.val, 0] h).WholeWords (EltTy.packing .bf16) := by
  decide +kernel

/-- The block of the partial sums at a point: the piece the table names. -/
theorem steered {F : FTy → Type} [FloatOps F] (pf : pre0.Contents (Elt F)) (q : Fin 4) (h : (pf 0 : IVec S5 32) (ix1 3) = BitVec.ofNat 32 q.val)
    (r : Fin 2) (h' : (pf 0 : IVec S5 32) (ix1 4) = BitVec.ofNat 32 r.val) (i : grid0.Coords) :
    cc0_transform_3 (F := F) inb_S5_S1_3 numel1_S1 inb_S5_S1_4 pf i = ![q.val, r.val, (i 0).val, 0] := by
  unfold cc0_transform_3
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have f : pf.at 0 (Rect.unit (s := S5) ![4] S1.size inb_S5_S1_4) numel1_S1 = BitVec.ofNat 32 r.val := by
    rw [← h']
    exact congrArg (pf 0) (funext fun a => Fin.ext (match a with | ⟨0, _⟩ => rfl))
  have hq := q.isLt
  have hr := r.isLt
  have hi : (i 0).val < 2 := (i 0).isLt
  simp only [e, f]
  simp only [BitVec.toNat_ofNat, Nat.zero_mod]
  rw [Nat.mod_eq_of_lt (show q.val < 2 ^ 32 by omega), Nat.mod_eq_of_lt (show r.val < 2 ^ 32 by omega), Nat.mod_eq_of_lt (show (i 0).val < 2 ^ 32 by omega)]

/-- The block of the pair's sums at a point: the chip's the table names. -/
theorem steered' {F : FTy → Type} [FloatOps F] (pf : pre0.Contents (Elt F)) (q : Fin 4) (h : (pf 0 : IVec S5 32) (ix1 3) = BitVec.ofNat 32 q.val)
    (i : grid0.Coords) : cc0_transform_4 (F := F) inb_S5_S1_3 numel1_S1 pf i = ![q.val, 0, (i 0).val, 0] := by
  unfold cc0_transform_4
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have hq := q.isLt
  have hi : (i 0).val < 2 := (i 0).isLt
  simp only [e]
  simp only [BitVec.toNat_ofNat, Nat.zero_mod]
  rw [Nat.mod_eq_of_lt (show q.val < 2 ^ 32 by omega), Nat.mod_eq_of_lt (show (i 0).val < 2 ^ 32 by omega)]

/-- The side conditions the pipeline puts on its table. -/
theorem ok_of_words {F : FTy → Type} [FloatOps F] (pf : pre0.Contents (Elt F)) (q : Fin 4) (h : (pf 0 : IVec S5 32) (ix1 3) = BitVec.ofNat 32 q.val)
    (r : Fin 2) (h' : (pf 0 : IVec S5 32) (ix1 4) = BitVec.ofNat 32 r.val) : ok0 (F := F) pf :=
  ⟨fun i => by
    rw [steered pf q h r h']
    exact part_inside q r ⟨(i 0).val, (i 0).isLt⟩, fun i => by
    rw [steered' pf q h]
    exact pair_inside q ⟨(i 0).val, (i 0).isLt⟩⟩

/-! ## The arrays -/

/-- The gradient of the piece the table names: its own partial sums, its pair's, and the other chips'. -/
def GRAD (p : S4x2x512x256.Idx → EReal) (g : S4x1x512x256.Idx → EReal) (u : S3x512x256.Idx → EReal) (q : Fin 4) (r : Fin 2) : S512x256.Idx → EReal :=
  fun i => p (ix4 q r (i 0) (i 1)) + g (ix4 q 0 (i 0) (i 1)) + (u (ix3 0 (i 0) (i 1)) + u (ix3 1 (i 0) (i 1)) + u (ix3 2 (i 0) (i 1)))

/-- The updates of a weight as an array. -/
def UPD (w m v d : S512x256.Idx → EReal) : S512x256.Idx → EReal := fun i => update (w i) (d i) (m i) (v i)
/-- The new first moments as an array. -/
def FIRST (m d : S512x256.Idx → EReal) : S512x256.Idx → EReal := fun i => first (d i) (m i)
/-- The new second moments as an array. -/
def SECOND (v d : S512x256.Idx → EReal) : S512x256.Idx → EReal := fun i => second (d i) (v i)

variable (m : (ℓ : Loc nD τ sig) → Buf (Elt Ideal) ℓ) (c : Dev nD)

/-- The table. -/
abbrev T : IVec S5 32 := m ((c : Thread nD τ).loc main_arg0)
/-- The weight. -/
abbrev W : S512x256.Idx → EReal := m ((c : Thread nD τ).loc main_arg1)
/-- The first moments. -/
abbrev M1 : S512x256.Idx → EReal := m ((c : Thread nD τ).loc main_arg2)
/-- The second moments. -/
abbrev M2 : S512x256.Idx → EReal := m ((c : Thread nD τ).loc main_arg3)
/-- The device's partial sums. -/
abbrev P : S4x2x512x256.Idx → EReal := m ((c : Thread nD τ).loc main_arg4)
/-- The pair's. -/
abbrev G : S4x1x512x256.Idx → EReal := m ((c : Thread nD τ).loc main_arg5)
/-- The other chips'. -/
abbrev U0 : S3x512x256.Idx → EReal := m ((c : Thread nD τ).loc main_arg6)

variable (q : Fin 4) (hq : T m 0 (ix1 3) = BitVec.ofNat 32 q.val) (r : Fin 2) (hr : T m 0 (ix1 4) = BitVec.ofNat 32 r.val) (hO : Ok m)

/-- The gradient over the step's arrays. -/
abbrev D : S512x256.Idx → EReal := GRAD (P m c) (G m c) (U0 m c) q r

/-! ## The blocks at a grid point -/

theorem idx0 : ∀ t : Fin (cfgM m hO).N, ((cfgM m hO).win 0).index t = ![t.val, 0] := (by decide +kernel : ∀ t : Fin grid0.N, cc0_transform_0 (grid0.coords t) = ![t.val, 0])
theorem idx1 : ∀ t : Fin (cfgM m hO).N, ((cfgM m hO).win 1).index t = ![t.val, 0] := (by decide +kernel : ∀ t : Fin grid0.N, cc0_transform_1 (grid0.coords t) = ![t.val, 0])
theorem idx2 : ∀ t : Fin (cfgM m hO).N, ((cfgM m hO).win 2).index t = ![t.val, 0] := (by decide +kernel : ∀ t : Fin grid0.N, cc0_transform_2 (grid0.coords t) = ![t.val, 0])
theorem idx6 : ∀ t : Fin (cfgM m hO).N, ((cfgM m hO).win 6).index t = ![t.val, 0] := (by decide +kernel : ∀ t : Fin grid0.N, cc0_transform_6 (grid0.coords t) = ![t.val, 0])
theorem idx7 : ∀ t : Fin (cfgM m hO).N, ((cfgM m hO).win 7).index t = ![t.val, 0] := (by decide +kernel : ∀ t : Fin grid0.N, cc0_transform_7 (grid0.coords t) = ![t.val, 0])
theorem idx8 : ∀ t : Fin (cfgM m hO).N, ((cfgM m hO).win 8).index t = ![t.val, 0] := (by decide +kernel : ∀ t : Fin grid0.N, cc0_transform_8 (grid0.coords t) = ![t.val, 0])
theorem idx9 : ∀ t : Fin (cfgM m hO).N, ((cfgM m hO).win 9).index t = ![t.val, 0] := (by decide +kernel : ∀ t : Fin grid0.N, cc0_transform_9 (grid0.coords t) = ![t.val, 0])
theorem idx5 : ∀ t : Fin (cfgM m hO).N, ((cfgM m hO).win 5).index t = ![0, t.val, 0] := (by decide +kernel : ∀ t : Fin grid0.N, cc0_transform_5 (grid0.coords t) = ![0, t.val, 0])
theorem rowOf : ∀ t : Fin grid0.N, (grid0.coords t 0).val = t.val := by decide +kernel
include hq hr in
theorem idx3 (t : Fin (cfgM m hO).N) : ((cfgM m hO).win 3).index t = ![q.val, r.val, t.val, 0] := by
  rw [← rowOf t]
  exact steered (tbl m) q hq r hr (grid0.coords t)
include hq in
theorem idx4 (t : Fin (cfgM m hO).N) : ((cfgM m hO).win 4).index t = ![q.val, 0, t.val, 0] := by
  rw [← rowOf t]
  exact steered' (tbl m) q hq (grid0.coords t)

/-- The row of a point's block. -/
def row (t : Fin (cfgM m hO).N) (a : Fin 256) : Fin 512 :=
  ⟨t.val * 256 + a.val, by have := t.isLt; have : (cfgM m hO).N = 2 := rfl; omega⟩

/-- The weight's block at a point. -/
theorem rd0 (t : Fin (cfgM m hO).N) (a : Fin 256) (b : Fin 256) : iblk m hO c 0 t (ix2 a b) = W m c (ix2 (row m hO t a) b) := by
  unfold row
  blk_point [iblk, idx0 m hO t]

/-- The first moments's block at a point. -/
theorem rd1 (t : Fin (cfgM m hO).N) (a : Fin 256) (b : Fin 256) : iblk m hO c 1 t (ix2 a b) = M1 m c (ix2 (row m hO t a) b) := by
  unfold row
  blk_point [iblk, idx1 m hO t]

/-- The second moments's block at a point. -/
theorem rd2 (t : Fin (cfgM m hO).N) (a : Fin 256) (b : Fin 256) : iblk m hO c 2 t (ix2 a b) = M2 m c (ix2 (row m hO t a) b) := by
  unfold row
  blk_point [iblk, idx2 m hO t]

include hq hr in
/-- The partial sums' block at a point. -/
theorem rd3 (t : Fin (cfgM m hO).N) (a : Fin 256) (b : Fin 256) : iblk m hO c 3 t (ix4 0 0 a b) = P m c (ix4 q r (row m hO t a) b) := by
  unfold row
  blk_point [iblk, idx3 m q hq r hr hO t]

include hq in
/-- The pair's block at a point. -/
theorem rd4 (t : Fin (cfgM m hO).N) (a : Fin 256) (b : Fin 256) : iblk m hO c 4 t (ix4 0 0 a b) = G m c (ix4 q 0 (row m hO t a) b) := by
  unfold row
  blk_point [iblk, idx4 m q hq hO t]

/-- The other chips' block at a point. -/
theorem rd5 (t : Fin (cfgM m hO).N) (j : Fin 3) (a : Fin 256) (b : Fin 256) : iblk m hO c 5 t (ix3 j a b) = U0 m c (ix3 j (row m hO t a) b) := by
  unfold row
  blk_point [iblk, idx5 m hO t]

/-! ## What a point writes -/

/-- The gradient of a point's blocks. -/
def blockGrad (p g : S1x1x256x256.Idx → EReal) (u : S3x256x256.Idx → EReal) : S256x256.Idx → EReal := fun i =>
  p (ix4 0 0 (i 0) (i 1)) + g (ix4 0 0 (i 0) (i 1)) + (u (ix3 0 (i 0) (i 1)) + u (ix3 1 (i 0) (i 1)) + u (ix3 2 (i 0) (i 1)))

/-- A plane of the other chips' block, read. -/
theorem ld_plane (u : Vec Ideal S3x256x256 .bf16) (k : Fin 3) (inb : ∀ a, (![k.val, 0, 0] : Fin 3 → Nat) a + S1x256x256.size a ≤ S3x256x256.size a) (a : Fin 256) (b : Fin 256) :
    View.ld u (Rect.unit (s := S3x256x256) ![k.val, 0, 0] S1x256x256.size inb) (ix3 0 a b) = u (ix3 k a b) := by
  refine congrArg u (funext fun x => Fin.ext ?_)
  match x with
  | ⟨0, _⟩ => show k.val + 1 * 0 = k.val; omega
  | ⟨1, _⟩ => show 0 + 1 * a.val = a.val; omega
  | ⟨2, _⟩ => show 0 + 1 * b.val = b.val; omega

/-- The body's sum, in the order it takes its terms, is the gradient of its blocks. -/
theorem pay3_eq (x y : Vec Ideal S1x1x256x256 .bf16) (u : Vec Ideal S3x256x256 .bf16) :
    k0_pay3 (F := Ideal) x y (View.ld u (Rect.unit (s := S3x256x256) ![0, 0, 0] S1x256x256.size inb_S3x256x256_S1x256x256_0_0_0)) (View.ld u (Rect.unit (s := S3x256x256) ![1, 0, 0] S1x256x256.size inb_S3x256x256_S1x256x256_1_0_0)) (View.ld u (Rect.unit (s := S3x256x256) ![2, 0, 0] S1x256x256.size inb_S3x256x256_S1x256x256_2_0_0)) = blockGrad x y u := by
  refine funext fun (i : S256x256.Idx) => ?_
  obtain ⟨a, b, rfl⟩ := exists_ix2 (a := 256) (b := 256) i
  show _ = x (ix4 0 0 a b) + y (ix4 0 0 a b) + (u (ix3 0 a b) + u (ix3 1 a b) + u (ix3 2 a b))
  rw [← ld_plane u 0 inb_S3x256x256_S1x256x256_0_0_0, ← ld_plane u 1 inb_S3x256x256_S1x256x256_1_0_0, ← ld_plane u 2 inb_S3x256x256_S1x256x256_2_0_0]
  pointwise [k0_pay3]
  rw [add_assoc, add_assoc]
  simp only [add_assoc]

/-- The block of gradients a point writes. -/
theorem out6_eq (c : Dev nD) (i : grid0.Coords) (a2 : Memref sig .tc .vmem S256x256 .f32) (h2 : a2.IsWhole) (a3 : Memref sig .tc .vmem S256x256 .f32) (h3 : a3.IsWhole) (a4 : Memref sig .tc .vmem S256x256 .f32) (h4 : a4.IsWhole) (a5 : Memref sig .tc .vmem S1x1x256x256 .bf16) (h5 : a5.IsWhole) (a6 : Memref sig .tc .vmem S1x1x256x256 .bf16) (h6 : a6.IsWhole) (a7 : Memref sig .tc .vmem S3x256x256 .bf16) (h7 : a7.IsWhole) (a8 : Memref sig .tc .vmem S256x256 .f32) (h8 : a8.IsWhole) (a9 : Memref sig .tc .vmem S256x256 .f32) (h9 : a9.IsWhole) (a10 : Memref sig .tc .vmem S256x256 .f32) (h10 : a10.IsWhole) (a11 : Memref sig .tc .vmem S256x256 .f32) (h11 : a11.IsWhole)
    (w p v : Vec Ideal S256x256 .f32) (x y : Vec Ideal S1x1x256x256 .bf16) (u : Vec Ideal S3x256x256 .bf16) (z : TbBuf0 (F := Ideal) c tbM0_0) :
    out0_A_6 c i a2 h2 a3 h3 a4 h4 a5 h5 a6 h6 a7 h7 a8 h8 a9 h9 a10 h10 a11 h11 w p v x y u z = blockGrad x y u := by
  frame_out
  exact pay3_eq _ _ _

/-- The block of updates a point writes. -/
theorem out7_eq (c : Dev nD) (i : grid0.Coords) (a2 : Memref sig .tc .vmem S256x256 .f32) (h2 : a2.IsWhole) (a3 : Memref sig .tc .vmem S256x256 .f32) (h3 : a3.IsWhole) (a4 : Memref sig .tc .vmem S256x256 .f32) (h4 : a4.IsWhole) (a5 : Memref sig .tc .vmem S1x1x256x256 .bf16) (h5 : a5.IsWhole) (a6 : Memref sig .tc .vmem S1x1x256x256 .bf16) (h6 : a6.IsWhole) (a7 : Memref sig .tc .vmem S3x256x256 .bf16) (h7 : a7.IsWhole) (a8 : Memref sig .tc .vmem S256x256 .f32) (h8 : a8.IsWhole) (a9 : Memref sig .tc .vmem S256x256 .f32) (h9 : a9.IsWhole) (a10 : Memref sig .tc .vmem S256x256 .f32) (h10 : a10.IsWhole) (a11 : Memref sig .tc .vmem S256x256 .f32) (h11 : a11.IsWhole)
    (w p v : Vec Ideal S256x256 .f32) (x y : Vec Ideal S1x1x256x256 .bf16) (u : Vec Ideal S3x256x256 .bf16) (z : TbBuf0 (F := Ideal) c tbM0_0) :
    out0_A_7 c i a2 h2 a3 h3 a4 h4 a5 h5 a6 h6 a7 h7 a8 h8 a9 h9 a10 h10 a11 h11 w p v x y u z = fun i => update (w i) (blockGrad x y u i) (p i) (v i) := by
  frame_out
  rw [pay3_eq]
  first | rfl | (rw [← pay3_eq]; rfl)

/-- The block of first moments a point writes. -/
theorem out8_eq (c : Dev nD) (i : grid0.Coords) (a2 : Memref sig .tc .vmem S256x256 .f32) (h2 : a2.IsWhole) (a3 : Memref sig .tc .vmem S256x256 .f32) (h3 : a3.IsWhole) (a4 : Memref sig .tc .vmem S256x256 .f32) (h4 : a4.IsWhole) (a5 : Memref sig .tc .vmem S1x1x256x256 .bf16) (h5 : a5.IsWhole) (a6 : Memref sig .tc .vmem S1x1x256x256 .bf16) (h6 : a6.IsWhole) (a7 : Memref sig .tc .vmem S3x256x256 .bf16) (h7 : a7.IsWhole) (a8 : Memref sig .tc .vmem S256x256 .f32) (h8 : a8.IsWhole) (a9 : Memref sig .tc .vmem S256x256 .f32) (h9 : a9.IsWhole) (a10 : Memref sig .tc .vmem S256x256 .f32) (h10 : a10.IsWhole) (a11 : Memref sig .tc .vmem S256x256 .f32) (h11 : a11.IsWhole)
    (w p v : Vec Ideal S256x256 .f32) (x y : Vec Ideal S1x1x256x256 .bf16) (u : Vec Ideal S3x256x256 .bf16) (z : TbBuf0 (F := Ideal) c tbM0_0) :
    out0_A_8 c i a2 h2 a3 h3 a4 h4 a5 h5 a6 h6 a7 h7 a8 h8 a9 h9 a10 h10 a11 h11 w p v x y u z = fun i => first (blockGrad x y u i) (p i) := by
  frame_out
  try rw [pay3_eq]
  first | rfl | (rw [← pay3_eq]; rfl)

/-- The block of second moments a point writes. -/
theorem out9_eq (c : Dev nD) (i : grid0.Coords) (a2 : Memref sig .tc .vmem S256x256 .f32) (h2 : a2.IsWhole) (a3 : Memref sig .tc .vmem S256x256 .f32) (h3 : a3.IsWhole) (a4 : Memref sig .tc .vmem S256x256 .f32) (h4 : a4.IsWhole) (a5 : Memref sig .tc .vmem S1x1x256x256 .bf16) (h5 : a5.IsWhole) (a6 : Memref sig .tc .vmem S1x1x256x256 .bf16) (h6 : a6.IsWhole) (a7 : Memref sig .tc .vmem S3x256x256 .bf16) (h7 : a7.IsWhole) (a8 : Memref sig .tc .vmem S256x256 .f32) (h8 : a8.IsWhole) (a9 : Memref sig .tc .vmem S256x256 .f32) (h9 : a9.IsWhole) (a10 : Memref sig .tc .vmem S256x256 .f32) (h10 : a10.IsWhole) (a11 : Memref sig .tc .vmem S256x256 .f32) (h11 : a11.IsWhole)
    (w p v : Vec Ideal S256x256 .f32) (x y : Vec Ideal S1x1x256x256 .bf16) (u : Vec Ideal S3x256x256 .bf16) (z : TbBuf0 (F := Ideal) c tbM0_0) :
    out0_A_9 c i a2 h2 a3 h3 a4 h4 a5 h5 a6 h6 a7 h7 a8 h8 a9 h9 a10 h10 a11 h11 w p v x y u z = fun i => second (blockGrad x y u i) (v i) := by
  frame_out
  try rw [pay3_eq]
  first | rfl | (rw [← pay3_eq]; rfl)

/-- Where the block of window 6 lies in its array. -/
theorem emb6 (t : Fin (cfgM m hO).N) (a : Fin 256) (b : Fin 256) :
    (((cfgM m hO).win 6).blk t).view.emb (ix2 a b) = (ix2 (row m hO t a) b : S512x256.Idx) := by
  unfold row
  blk_ext [idx6 m hO t]

/-- Where the block of window 7 lies in its array. -/
theorem emb7 (t : Fin (cfgM m hO).N) (a : Fin 256) (b : Fin 256) :
    (((cfgM m hO).win 7).blk t).view.emb (ix2 a b) = (ix2 (row m hO t a) b : S512x256.Idx) := by
  unfold row
  blk_ext [idx7 m hO t]

/-- Where the block of window 8 lies in its array. -/
theorem emb8 (t : Fin (cfgM m hO).N) (a : Fin 256) (b : Fin 256) :
    (((cfgM m hO).win 8).blk t).view.emb (ix2 a b) = (ix2 (row m hO t a) b : S512x256.Idx) := by
  unfold row
  blk_ext [idx8 m hO t]

/-- Where the block of window 9 lies in its array. -/
theorem emb9 (t : Fin (cfgM m hO).N) (a : Fin 256) (b : Fin 256) :
    (((cfgM m hO).win 9).blk t).view.emb (ix2 a b) = (ix2 (row m hO t a) b : S512x256.Idx) := by
  unfold row
  blk_ext [idx9 m hO t]

include hq hr in
/-- The gradient of a point's blocks is the arrays'. -/
theorem grad_at (t : Fin (cfgM m hO).N) (a : Fin 256) (b : Fin 256) :
    blockGrad (iblk m hO c 3 t) (iblk m hO c 4 t) (iblk m hO c 5 t) (ix2 a b) = D m c q r (ix2 (row m hO t a) b) := by
  unfold D GRAD blockGrad
  have e3 := rd3 m c q hq r hr hO t a b
  have e4 := rd4 m c q hq hO t a b
  exact congrArg₂ (· + ·) (congrArg₂ (· + ·) e3 e4) (congrArg₂ (· + ·) (congrArg₂ (· + ·) (rd5 m c hO t 0 a b) (rd5 m c hO t 1 a b)) (rd5 m c hO t 2 a b))

/-- Every row of blocks is some point's. -/
theorem rows_covered : ∀ a : Fin 2, ∃ t : Fin grid0.N, t.val = a.val := by decide +kernel

include hq hr in
/-- The block of gradients at a point, of the arrays. -/
theorem at6 (t : Fin (cfgM m hO).N) (a : Fin 256) (b : Fin 256) :
    (outsAt0 m hO c t).1 (ix2 a b) = (D m c q r : S512x256.Idx → EReal) (ix2 (row m hO t a) b) := by
  unfold outsAt0
  dsimp only
  refine (congrFun (out6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  exact grad_at m c q hq r hr hO t a b

include hq hr in
/-- The gradients after the run. -/
theorem final6 : (dats m hO 0 c).arrAt 6 (cfgM m hO).N = D m c q r := by
  refine (dats m hO 0 c).arrAt_eq_of_covers 6 _ (Pipeline.Window.covers_of_index_surj _ rfl (by decide +kernel : ∀ a, 0 < S256x256.size a)
    fun (β : (a : Fin 2) → Fin (((cfgM m hO).win 6).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (256 + 256 - 1) / 256 = 1 by decide)
    obtain ⟨t, h⟩ := rows_covered ⟨_, h0⟩
    refine ⟨t, fun a => ?_⟩
    rw [idx6 m hO t]
    match a with
    | ⟨0, _⟩ => exact h
    | ⟨1, _⟩ => show 0 = (β 1).val; omega
  blk_simp
  rw [after0_6]
  obtain ⟨a, b, rfl⟩ := exists_ix2 (a := 256) (b := 256) z
  rw [emb6]
  exact at6 m c q hq r hr hO t a b

include hq hr in
/-- The block of updates at a point, of the arrays. -/
theorem at7 (t : Fin (cfgM m hO).N) (a : Fin 256) (b : Fin 256) :
    (outsAt0 m hO c t).2.1 (ix2 a b) = (UPD (W m c) (M1 m c) (M2 m c) (D m c q r) : S512x256.Idx → EReal) (ix2 (row m hO t a) b) := by
  unfold outsAt0
  dsimp only
  refine (congrFun (out7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show update _ _ _ _ = update _ _ _ _
  rw [grad_at m c q hq r hr hO t a b, rd0 m c hO t a b, rd1 m c hO t a b, rd2 m c hO t a b]

include hq hr in
/-- The updates after the run. -/
theorem final7 : (dats m hO 0 c).arrAt 7 (cfgM m hO).N = UPD (W m c) (M1 m c) (M2 m c) (D m c q r) := by
  refine (dats m hO 0 c).arrAt_eq_of_covers 7 _ (Pipeline.Window.covers_of_index_surj _ rfl (by decide +kernel : ∀ a, 0 < S256x256.size a)
    fun (β : (a : Fin 2) → Fin (((cfgM m hO).win 7).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (256 + 256 - 1) / 256 = 1 by decide)
    obtain ⟨t, h⟩ := rows_covered ⟨_, h0⟩
    refine ⟨t, fun a => ?_⟩
    rw [idx7 m hO t]
    match a with
    | ⟨0, _⟩ => exact h
    | ⟨1, _⟩ => show 0 = (β 1).val; omega
  blk_simp
  rw [after0_7]
  obtain ⟨a, b, rfl⟩ := exists_ix2 (a := 256) (b := 256) z
  rw [emb7]
  exact at7 m c q hq r hr hO t a b

include hq hr in
/-- The block of first moments at a point, of the arrays. -/
theorem at8 (t : Fin (cfgM m hO).N) (a : Fin 256) (b : Fin 256) :
    (outsAt0 m hO c t).2.2.1 (ix2 a b) = (FIRST (M1 m c) (D m c q r) : S512x256.Idx → EReal) (ix2 (row m hO t a) b) := by
  unfold outsAt0
  dsimp only
  refine (congrFun (out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show first _ _ = first _ _
  rw [grad_at m c q hq r hr hO t a b, rd1 m c hO t a b]

include hq hr in
/-- The first moments after the run. -/
theorem final8 : (dats m hO 0 c).arrAt 8 (cfgM m hO).N = FIRST (M1 m c) (D m c q r) := by
  refine (dats m hO 0 c).arrAt_eq_of_covers 8 _ (Pipeline.Window.covers_of_index_surj _ rfl (by decide +kernel : ∀ a, 0 < S256x256.size a)
    fun (β : (a : Fin 2) → Fin (((cfgM m hO).win 8).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (256 + 256 - 1) / 256 = 1 by decide)
    obtain ⟨t, h⟩ := rows_covered ⟨_, h0⟩
    refine ⟨t, fun a => ?_⟩
    rw [idx8 m hO t]
    match a with
    | ⟨0, _⟩ => exact h
    | ⟨1, _⟩ => show 0 = (β 1).val; omega
  blk_simp
  rw [after0_8]
  obtain ⟨a, b, rfl⟩ := exists_ix2 (a := 256) (b := 256) z
  rw [emb8]
  exact at8 m c q hq r hr hO t a b

include hq hr in
/-- The block of second moments at a point, of the arrays. -/
theorem at9 (t : Fin (cfgM m hO).N) (a : Fin 256) (b : Fin 256) :
    (outsAt0 m hO c t).2.2.2 (ix2 a b) = (SECOND (M2 m c) (D m c q r) : S512x256.Idx → EReal) (ix2 (row m hO t a) b) := by
  unfold outsAt0
  dsimp only
  refine (congrFun (out9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)) (ix2 a b)).trans ?_
  show second _ _ = second _ _
  rw [grad_at m c q hq r hr hO t a b, rd2 m c hO t a b]

include hq hr in
/-- The second moments after the run. -/
theorem final9 : (dats m hO 0 c).arrAt 9 (cfgM m hO).N = SECOND (M2 m c) (D m c q r) := by
  refine (dats m hO 0 c).arrAt_eq_of_covers 9 _ (Pipeline.Window.covers_of_index_surj _ rfl (by decide +kernel : ∀ a, 0 < S256x256.size a)
    fun (β : (a : Fin 2) → Fin (((cfgM m hO).win 9).nblk a)) => ?_) fun t hf z => ?_
  · have h0 : (β 0).val < 2 := lt_of_lt_of_eq (β 0).isLt (show (512 + 256 - 1) / 256 = 2 by decide)
    have h1 : (β 1).val < 1 := lt_of_lt_of_eq (β 1).isLt (show (256 + 256 - 1) / 256 = 1 by decide)
    obtain ⟨t, h⟩ := rows_covered ⟨_, h0⟩
    refine ⟨t, fun a => ?_⟩
    rw [idx9 m hO t]
    match a with
    | ⟨0, _⟩ => exact h
    | ⟨1, _⟩ => show 0 = (β 1).val; omega
  blk_simp
  rw [after0_9]
  obtain ⟨a, b, rfl⟩ := exists_ix2 (a := 256) (b := 256) z
  rw [emb9]
  exact at9 m c q hq r hr hO t a b

/-! ## The reference -/

open Cert.Reference23Ideal.Read in
/-- The chip's parts the reference takes. -/
theorem ref_chip (t : IVec S5 32) (hq : t (ix1 3) = BitVec.ofNat 32 q.val) (p : S4x2x512x256.Idx → EReal) (k : Fin 2)
    (a : Fin 512) (b : Fin 256) : val_main_v8 (F := Ideal) t p (ix3 k a b) = p (ix4 q k a b) := by
  refine Eq.trans ?_ (Word.sum_named 4 (by decide) q fun j => p (ix4 j k a b))
  rw [← hq]
  pointwise [val_main_v8, val_main_v7, val_main_call0_v1, val_main_call0_v2, val_main_call0_v0, val_main_c, val_main_cst, val_main_v0, val_main_v6, val_main_v5, val_main_v4, val_main_v3, val_main_v2, val_main_v1]
  simp only [Word.zero_word]

open Cert.Reference23Ideal.Read in
/-- The piece of the partial sums the reference takes. -/
theorem ref_part (t : IVec S5 32) (hq : t (ix1 3) = BitVec.ofNat 32 q.val) (hr : t (ix1 4) = BitVec.ofNat 32 r.val) (p : S4x2x512x256.Idx → EReal)
    (a : Fin 512) (b : Fin 256) : val_main_v16 (F := Ideal) t p (ix2 a b) = p (ix4 q r a b) := by
  refine Eq.trans ?_ (Word.sum_named 2 (by decide) r fun j => p (ix4 q j a b))
  simp only [← ref_chip q t hq p]
  rw [← hr]
  pointwise [val_main_v16, val_main_v15, val_main_call1_v1, val_main_call1_v2, val_main_call1_v0, val_main_c_0, val_main_cst_1, val_main_v14, val_main_v13, val_main_v12, val_main_v11, val_main_v10, val_main_v9]
  simp only [Word.zero_word]

open Cert.Reference23Ideal.Read in
/-- The pair's sums the reference takes. -/
theorem ref_pair (t : IVec S5 32) (hq : t (ix1 3) = BitVec.ofNat 32 q.val) (g : S4x1x512x256.Idx → EReal)
    (a : Fin 512) (b : Fin 256) : val_main_v26 (F := Ideal) t g (ix2 a b) = g (ix4 q 0 a b) := by
  refine Eq.trans ?_ (Word.sum_named 4 (by decide) q fun j => g (ix4 j 0 a b))
  rw [← hq]
  pointwise [val_main_v26, val_main_v25, val_main_call2_v1, val_main_call2_v2, val_main_call2_v0, val_main_c_2, val_main_cst_3, val_main_v24, val_main_v23, val_main_v22, val_main_v21, val_main_v20, val_main_v19, val_main_v18, val_main_v17]
  simp only [Word.zero_word]

open Cert.Reference23Ideal.Read in
/-- The reference's gradient. -/
theorem ref_grad (t : IVec S5 32) (hq : t (ix1 3) = BitVec.ofNat 32 q.val) (hr : t (ix1 4) = BitVec.ofNat 32 r.val) (p : S4x2x512x256.Idx → EReal)
    (g : S4x1x512x256.Idx → EReal) (u : S3x512x256.Idx → EReal) : val_main_v30 (F := Ideal) t p g u = GRAD p g u q r := by
  refine funext fun (i : S512x256.Idx) => ?_
  obtain ⟨a, b, rfl⟩ := exists_ix2 (a := 512) (b := 256) i
  rw [val_main_v30_apply, val_main_v27_apply, ref_part q r t hq hr, ref_pair q t hq]
  refine congrArg (p (ix4 q r a b) + g (ix4 q 0 a b) + ·) ?_
  show _ = u (ix3 0 a b) + u (ix3 1 a b) + u (ix3 2 a b)
  pointwise [val_main_v29, val_main_cst_4, val_main_v28]
  try rw [Fin.sum_univ_three]

open Cert.Reference23Ideal.Read in
/-- The reference's four results from its gradient. -/
theorem ref_update (t : IVec S5 32) (w m v : S512x256.Idx → EReal) (p : S4x2x512x256.Idx → EReal) (g : S4x1x512x256.Idx → EReal) (u : S3x512x256.Idx → EReal) :
    val_main_v54 (F := Ideal) t w m v p g u = UPD w m v (val_main_v30 (F := Ideal) t p g u) := rfl
open Cert.Reference23Ideal.Read in
theorem ref_first (t : IVec S5 32) (m : S512x256.Idx → EReal) (p : S4x2x512x256.Idx → EReal) (g : S4x1x512x256.Idx → EReal) (u : S3x512x256.Idx → EReal) :
    val_main_v35 (F := Ideal) t m p g u = FIRST m (val_main_v30 (F := Ideal) t p g u) := rfl
open Cert.Reference23Ideal.Read in
theorem ref_second (t : IVec S5 32) (v : S512x256.Idx → EReal) (p : S4x2x512x256.Idx → EReal) (g : S4x1x512x256.Idx → EReal) (u : S3x512x256.Idx → EReal) :
    val_main_v41 (F := Ideal) t v p g u = SECOND v (val_main_v30 (F := Ideal) t p g u) := rfl

/-- The kernel's four results are the reference's. -/
theorem value [Cert.Pre_piece23.Facts] : algebraic_Kernel23Ideal_Reference23Ideal (hKernel23Ideal := Cert.Kernel23Ideal.Gen.facts)
    (hReference23Ideal := Cert.Reference23Ideal.Gen.facts) := by
  intro m g m' g' hpre hag
  obtain ⟨⟨q, hq⟩, r, hr⟩ := names_of_pre (hpre 0)
  have hO : Ok m := ok_of_words (tbl m) q hq r hr
  refine ⟨fun c => D m c q r, fun c => UPD (W m c) (M1 m c) (M2 m c) (D m c q r), fun c => FIRST (M1 m c) (D m c q r),
    fun c => SECOND (M2 m c) (D m c q r), ?_, ?_⟩
  · exact (θ_run _ _ _).mono (fun s h c => ⟨((h.1 c).1 6).trans (final6 m c q hq r hr hO), ((h.1 c).1 7).trans (final7 m c q hq r hr hO),
      ((h.1 c).1 8).trans (final8 m c q hq r hr hO), ((h.1 c).1 9).trans (final9 m c q hq r hr hO), h.2 c⟩)
      (θ_run_and (run_main m g hO) (unchanged m g hO))
  · refine (θ_run _ _ _).mono (fun s h c => ⟨(h c).1.trans ?_, (h c).2.1.trans ?_, (h c).2.2.1.trans ?_, (h c).2.2.2.1.trans ?_, (h c).2.2.2.2⟩)
      (Cert.Reference23Ideal.Value.run m' g')
    all_goals obtain rfl : c = 0 := Subsingleton.elim _ _
    · rw [Cert.Reference23Ideal.Read.val_main_v30_eq, (hag 0).1, (hag 0).2.2.2.2.1, (hag 0).2.2.2.2.2.1, (hag 0).2.2.2.2.2.2]
      exact ref_grad q r _ hq hr _ _ _
    · rw [Cert.Reference23Ideal.Read.val_main_v54_eq, (hag 0).1, (hag 0).2.1, (hag 0).2.2.1, (hag 0).2.2.2.1, (hag 0).2.2.2.2.1, (hag 0).2.2.2.2.2.1, (hag 0).2.2.2.2.2.2, ref_update]
      exact congrArg (UPD _ _ _) (ref_grad q r _ hq hr _ _ _)
    · rw [Cert.Reference23Ideal.Read.val_main_v35_eq, (hag 0).1, (hag 0).2.2.1, (hag 0).2.2.2.2.1, (hag 0).2.2.2.2.2.1, (hag 0).2.2.2.2.2.2, ref_first]
      exact congrArg (FIRST _) (ref_grad q r _ hq hr _ _ _)
    · rw [Cert.Reference23Ideal.Read.val_main_v41_eq, (hag 0).1, (hag 0).2.2.2.1, (hag 0).2.2.2.2.1, (hag 0).2.2.2.2.2.1, (hag 0).2.2.2.2.2.2, ref_second]
      exact congrArg (SECOND _) (ref_grad q r _ hq hr _ _ _)

/-- The kernel as compiled runs, its arguments end unchanged, and no semaphore is left raised. -/
theorem frame [Cert.Pre_piece23.Facts] : quiescent_Kernel23 (hKernel23 := Cert.Kernel23.Gen.facts) := fun m g h => by
  obtain ⟨⟨q, hq⟩, r, hr⟩ := names_of_pre (h 0)
  exact Cert.Kernel23.Gen.frame m g (ok_of_words (Cert.Kernel23.Gen.tbl m) q hq r hr)

/-- The idealized kernel does too. -/
theorem idealFrame [Cert.Pre_piece23.Facts] : quiescent_Kernel23Ideal (hKernel23Ideal := Cert.Kernel23Ideal.Gen.facts) := fun m g h => by
  obtain ⟨⟨q, hq⟩, r, hr⟩ := names_of_pre (h 0)
  exact Cert.Kernel23Ideal.Gen.frame m g (ok_of_words (tbl m) q hq r hr)

/-- The reference runs, its arguments end unchanged, and it has no semaphore to leave raised. -/
theorem refFrame [Cert.Pre_piece23.Facts] : quiescent_Reference23Ideal (hReference23Ideal := Cert.Reference23Ideal.Gen.facts) := fun m g _ =>
  (θ_run _ _ _).mono (fun r h => ⟨fun c => (h c).2.2.2.2, funext fun s => by
    rcases s with ⟨_, s⟩; rcases s with s | s <;> exact s.elim0⟩) (Cert.Reference23Ideal.Value.run m g)

end Cert.Proof.LruGate

end
-- ==== Proof.Optimiser.ConvIn.lean ====
/-
  The gated convolution's first weight: a device's piece of the gradient, summed over the devices' parts, and the optimiser's step on it.
-/
module

public import proofs.«01_k».proof.Defs
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.Product.Index
public import proofs.«01_k».proof.Proof.Optimiser.Step
public import proofs.«01_k».proof.Proof.Optimiser.Table
public import Idealize.ShloMosaic.Lib.DynamicIndex
public import Idealize.ShloMosaic.Lib.KernelVsHost
public import Idealize.ShloMosaic.Lib.Pipeline.Covers

@[expose] public section

set_option maxRecDepth 20000

noncomputable section

namespace Cert.Proof.ConvIn

open Cert.Kernel24Ideal Cert.Kernel24Ideal.Gen Idealize.ShloMosaic Idealize.ShloMosaic.TcCoe Idealize.SL.Sem

/-- The side conditions of the precondition's own operations. -/
theorem preFacts : Cert.Pre_piece24.Facts :=
  { slices_S5_S1_3 := by decide
    shapeCasts_S1_S_ := by decide
    slices_S5_S1_4 := by decide }

/-- What the precondition says of the table: its last two words name a chip and a member of the pair. -/
theorem names_of_pre {F : FTy → Type} [FloatOps F] [Cert.Pre_piece24.Facts] {t : IVec S5 32} {w m v : FVec F S2048x2048 .f32} {p : FVec F S1x2x2048x2048 .bf16}
    {g : FVec F S1x1x2048x2048 .bf16} {u0 u1 u2 : FVec F S1x2048x2048 .bf16} (h : Cert.Pre_piece24.fn (F := F) t w m v p g u0 u1 u2 = fun _ => 1#1) :
    (∃ q : Fin 1, t (ix1 3) = BitVec.ofNat 32 q.val) ∧ ∃ r : Fin 2, t (ix1 4) = BitVec.ofNat 32 r.val := by
  have h0 := congrFun h ix0
  dsimp only [Cert.Pre_piece24.fn] at h0
  obtain ⟨h1, h2⟩ := IntOp.andi_eq_one.mp h0
  obtain ⟨h3, h4⟩ := IntOp.andi_eq_one.mp h1
  obtain ⟨h5, h6⟩ := IntOp.andi_eq_one.mp h2
  have e : shapeCast Cert.Pre_piece24.S_ (extractStridedSlice Cert.Pre_piece24.S1 ![3] t Cert.Pre_piece24.Facts.slices_S5_S1_3)
      Cert.Pre_piece24.Facts.shapeCasts_S1_S_ ix0 = t (ix1 3) := by pointwise
  have f : shapeCast Cert.Pre_piece24.S_ (extractStridedSlice Cert.Pre_piece24.S1 ![4] t Cert.Pre_piece24.Facts.slices_S5_S1_4)
      Cert.Pre_piece24.Facts.shapeCasts_S1_S_ ix0 = t (ix1 4) := by pointwise
  rw [← e, ← f]
  exact ⟨Word.word_below 1 (by decide) _ h3 h4, Word.word_below 2 (by decide) _ h5 h6⟩

/-! ## The table's side condition -/

/-- Every block of the partial sums the table can name lies inside the array, on whole words. -/
theorem part_inside : ∀ (q : Fin 1) (r : Fin 2) (j : Fin 8),
    ∃ h : (∀ a, ((![q.val, r.val, j.val, 0] : Fin 4 → ℕ) a + 1) * S1x1x256x2048.size a ≤ S1x2x2048x2048.size a),
      EltTy.bits .bf16 = 32 ∨ (Rect.block (s := S1x2x2048x2048) S1x1x256x2048.size ![q.val, r.val, j.val, 0] h).WholeWords (EltTy.packing .bf16) := by
  decide +kernel

/-- Every block of the pair's sums the table can name lies inside the array, on whole words. -/
theorem pair_inside : ∀ (q : Fin 1) (j : Fin 8),
    ∃ h : (∀ a, ((![q.val, 0, j.val, 0] : Fin 4 → ℕ) a + 1) * S1x1x256x2048.size a ≤ S1x1x2048x2048.size a),
      EltTy.bits .bf16 = 32 ∨ (Rect.block (s := S1x1x2048x2048) S1x1x256x2048.size ![q.val, 0, j.val, 0] h).WholeWords (EltTy.packing .bf16) := by
  decide +kernel

/-- The block of the partial sums at a point: the piece the table names. -/
theorem steered {F : FTy → Type} [FloatOps F] (pf : pre0.Contents (Elt F)) (q : Fin 1) (h : (pf 0 : IVec S5 32) (ix1 3) = BitVec.ofNat 32 q.val)
    (r : Fin 2) (h' : (pf 0 : IVec S5 32) (ix1 4) = BitVec.ofNat 32 r.val) (i : grid0.Coords) :
    cc0_transform_3 (F := F) inb_S5_S1_3 numel1_S1 inb_S5_S1_4 pf i = ![q.val, r.val, (i 0).val, 0] := by
  unfold cc0_transform_3
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have f : pf.at 0 (Rect.unit (s := S5) ![4] S1.size inb_S5_S1_4) numel1_S1 = BitVec.ofNat 32 r.val := by
    rw [← h']
    exact congrArg (pf 0) (funext fun a => Fin.ext (match a with | ⟨0, _⟩ => rfl))
  have hq := q.isLt
  have hr := r.isLt
  have hi : (i 0).val < 8 := (i 0).isLt
  simp only [e, f]
  simp only [BitVec.toNat_ofNat, Nat.zero_mod]
  rw [Nat.mod_eq_of_lt (show q.val < 2 ^ 32 by omega), Nat.mod_eq_of_lt (show r.val < 2 ^ 32 by omega), Nat.mod_eq_of_lt (show (i 0).val < 2 ^ 32 by omega)]

/-- The block of the pair's sums at a point: the chip's the table names. -/
theorem steered' {F : FTy → Type} [FloatOps F] (pf : pre0.Contents (Elt F)) (q : Fin 1) (h : (pf 0 : IVec S5 32) (ix1 3) = BitVec.ofNat 32 q.val)
    (i : grid0.Coords) : cc0_transform_4 (F := F) inb_S5_S1_3 numel1_S1 pf i = ![q.val, 0, (i 0).val, 0] := by
  unfold cc0_transform_4
  have e : pf.at 0 (Rect.unit (s := S5) ![3] S1.size inb_S5_S1_3) numel1_S1 = BitVec.ofNat 32 q.val := by
    rw [← h]
    exact congrArg (pf 0) (funext fun a => Fin.ext (match a with | ⟨0, _⟩ => rfl))
  have hq := q.isLt
  have hi : (i 0).val < 8 := (i 0).isLt
  simp only [e]
  simp only [BitVec.toNat_ofNat, Nat.zero_mod]
  rw [Nat.mod_eq_of_lt (show q.val < 2 ^ 32 by omega), Nat.mod_eq_of_lt (show (i 0).val < 2 ^ 32 by omega)]

/-- The side conditions the pipeline puts on its table. -/
theorem ok_of_words {F : FTy → Type} [FloatOps F] (pf : pre0.Contents (Elt F)) (q : Fin 1) (h : (pf 0 : IVec S5 32) (ix1 3) = BitVec.ofNat 32 q.val)
    (r : Fin 2) (h' : (pf 0 : IVec S5 32) (ix1 4) = BitVec.ofNat 32 r.val) : ok0 (F := F) pf :=
  ⟨fun i => by
    rw [steered pf q h r h']
    exact part_inside q r ⟨(i 0).val, (i 0).isLt⟩, fun i => by
    rw [steered' pf q h]
    exact pair_inside q ⟨(i 0).val, (i 0).isLt⟩⟩

/-! ## The arrays -/

/-- The gradient of the piece the table names: its own partial sums, its pair's, and the other chips'. -/
def GRAD (p : S1x2x2048x2048.Idx → EReal) (g : S1x1x2048x2048.Idx → EReal) (u0 : S1x2048x2048.Idx → EReal) (u1 : S1x2048x2048.Idx → EReal) (u2 : S1x2048x2048.Idx → EReal) (q : Fin 1) (r : Fin 2) : S2048x2048.Idx → EReal :=
  fun i => p (ix4 q r (i 0) (i 1)) + g (ix4 q 0 (i 0) (i 1)) + (u0 (ix3 0 (i 0) (i 1)) + u1 (ix3 0 (i 0) (i 1)) + u2 (ix3 0 (i 0) (i 1)))

/-- The updates of a weight as an array. -/
def UPD (w m v d : S2048x2048.Idx → EReal) : S2048x2048.Idx → EReal := fun i => update (w i) (d i) (m i) (v i)
/-- The new first moments as an array. -/
def FIRST (m d : S2048x2048.Idx → EReal) : S2048x2048.Idx → EReal := fun i => first (d i) (m i)
/-- The new second moments as an array. -/
def SECOND (v d : S2048x2048.Idx → EReal) : S2048x2048.Idx → EReal := fun i => second (d i) (v i)

variable (m : (ℓ : Loc nD τ sig) → Buf (Elt Ideal) ℓ) (c : Dev nD)

/-- The table. -/
abbrev T : IVec S5 32 := m ((c : Thread nD τ).loc main_arg0)
/-- The weight. -/
abbrev W : S2048x2048.Idx → EReal := m ((c : Thread nD τ).loc main_arg1)
/-- The first moments. -/
abbrev M1 : S2048x2048.Idx → EReal := m ((c : Thread nD τ).loc main_arg2)
/-- The second moments. -/
abbrev M2 : S2048x2048.Idx → EReal := m ((c : Thread nD τ).loc main_arg3)
/-- The device's partial sums. -/
abbrev P : S1x2x2048x2048.Idx → EReal := m ((c : Thread nD τ).loc main_arg4)
/-- The pair's. -/
abbrev G : S1x1x2048x2048.Idx → EReal := m ((c : Thread nD τ).loc main_arg5)
/-- The other chips' (first of them). -/
abbrev U0 : S1x2048x2048.Idx → EReal := m ((c : Thread nD τ).loc main_arg6)
/-- The other chips' (second of them). -/
abbrev U1 : S1x2048x2048.Idx → EReal := m ((c : Thread nD τ).loc main_arg7)
/-- The other chips' (third of them). -/
abbrev U2 : S1x2048x2048.Idx → EReal := m ((c : Thread nD τ).loc main_arg8)

variable (q : Fin 1) (hq : T m 0 (ix1 3) = BitVec.ofNat 32 q.val) (r : Fin 2) (hr : T m 0 (ix1 4) = BitVec.ofNat 32 r.val) (hO : Ok m)

/-- The gradient over the step's arrays. -/
abbrev D : S2048x2048.Idx → EReal := GRAD (P m c) (G m c) (U0 m c) (U1 m c) (U2 m c) q r

/-! ## The blocks at a grid point -/

theorem idx0 : ∀ t : Fin (cfgM m hO).N, ((cfgM m hO).win 0).index t = ![t.val, 0] := (by decide +kernel : ∀ t : Fin grid0.N, cc0_transform_0 (grid0.coords t) = ![t.val, 0])
theorem idx1 : ∀ t : Fin (cfgM m hO).N, ((cfgM m hO).win 1).index t = ![t.val, 0] := (by decide +kernel : ∀ t : Fin grid0.N, cc0_transform_1 (grid0.coords t) = ![t.val, 0])
theorem idx2 : ∀ t : Fin (cfgM m hO).N, ((cfgM m hO).win 2).index t = ![t.val, 0] := (by decide +kernel : ∀ t : Fin grid0.N, cc0_transform_2 (grid0.coords t) = ![t.val, 0])
theorem idx8 : ∀ t : Fin (cfgM m hO).N, ((cfgM m hO).win 8).index t = ![t.val, 0] := (by decide +kernel : ∀ t : Fin grid0.N, cc0_transform_8 (grid0.coords t) = ![t.val, 0])
theorem idx9 : ∀ t : Fin (cfgM m hO).N, ((cfgM m hO).win 9).index t = ![t.val, 0] := (by decide +kernel : ∀ t : Fin grid0.N, cc0_transform_9 (grid0.coords t) = ![t.val, 0])
theorem idx10 : ∀ t : Fin (cfgM m hO).N, ((cfgM m hO).win 10).index t = ![t.val, 0] := (by decide +kernel : ∀ t : Fin grid0.N, cc0_transform_10 (grid0.coords t) = ![t.val, 0])
theorem idx11 : ∀ t : Fin (cfgM m hO).N, ((cfgM m hO).win 11).index t = ![t.val, 0] := (by decide +kernel : ∀ t : Fin grid0.N, cc0_transform_11 (grid0.coords t) = ![t.val, 0])
theorem idx5 : ∀ t : Fin (cfgM m hO).N, ((cfgM m hO).win 5).index t = ![0, t.val, 0] := (by decide +kernel : ∀ t : Fin grid0.N, cc0_transform_5 (grid0.coords t) = ![0, t.val, 0])
theorem idx6 : ∀ t : Fin (cfgM m hO).N, ((cfgM m hO).win 6).index t = ![0, t.val, 0] := (by decide +kernel : ∀ t : Fin grid0.N, cc0_transform_6 (grid0.coords t) = ![0, t.val, 0])
theorem idx7 : ∀ t : Fin (cfgM m hO).N, ((cfgM m hO).win 7).index t = ![0, t.val, 0] := (by decide +kernel : ∀ t : Fin grid0.N, cc0_transform_7 (grid0.coords t) = ![0, t.val, 0])
theorem rowOf : ∀ t : Fin grid0.N, (grid0.coords t 0).val = t.val := by decide +kernel
include hq hr in
theorem idx3 (t : Fin (cfgM m hO).N) : ((cfgM m hO).win 3).index t = ![q.val, r.val, t.val, 0] := by
  rw [← rowOf t]
  exact steered (tbl m) q hq r hr (grid0.coords t)
include hq in
theorem idx4 (t : Fin (cfgM m hO).N) : ((cfgM m hO).win 4).index t = ![q.val, 0, t.val, 0] := by
  rw [← rowOf t]
  exact steered' (tbl m) q hq (grid0.coords t)

/-- The row of a point's block. -/
def row (t : Fin (cfgM m hO).N) (a : Fin 256) : Fin 2048 :=
  ⟨t.val * 256 + a.val, by have := t.isLt; have : (cfgM m hO).N = 8 := rfl; omega⟩

/-- The weight's block at a point. -/
theorem rd0 (t : Fin (cfgM m hO).N) (a : Fin 256) (b : Fin 2048) : iblk m hO c 0 t (ix2 a b) = W m c (ix2 (row m hO t a) b) := by
  unfold row
  blk_point [iblk, idx0 m hO t]

/-- The first moments's block at a point. -/
theorem rd1 (t : Fin (cfgM m hO).N) (a : Fin 256) (b : Fin 2048) : iblk m hO c 1 t (ix2 a b) = M1 m c (ix2 (row m hO t a) b) := by
  unfold row
  blk_point [iblk, idx1 m hO t]

/-- The second moments's block at a point. -/
theorem rd2 (t : Fin (cfgM m hO).N) (a : Fin 256) (b : Fin 2048) : iblk m hO c 2 t (ix2 a b) = M2 m c (ix2 (row m hO t a) b) := by
  unfold row
  blk_point [iblk, idx2 m hO t]

include hq hr in
/-- The partial sums' block at a point. -/
theorem rd3 (t : Fin (cfgM m hO).N) (a : Fin 256) (b : Fin 2048) : iblk m hO c 3 t (ix4 0 0 a b) = P m c (ix4 q r (row m hO t a) b) := by
  unfold row
  blk_point [iblk, idx3 m q hq r hr hO t]

include hq in
/-- The pair's block at a point. -/
theorem rd4 (t : Fin (cfgM m hO).N) (a : Fin 256) (b : Fin 2048) : iblk m hO c 4 t (ix4 0 0 a b) = G m c (ix4 q 0 (row m hO t a) b) := by
  unfold row
  blk_point [iblk, idx4 m q hq hO t]

/-- The other chips' block at a point. -/
theorem rd5 (t : Fin (cfgM m hO).N) (a : Fin 256) (b : Fin 2048) : iblk m hO c 5 t (ix3 0 a b) = U0 m c (ix3 0 (row m hO t a) b) := by
  unfold row
  blk_point [iblk, idx5 m hO t]

/-- The other chips' block at a point. -/
theorem rd6 (t : Fin (cfgM m hO).N) (a : Fin 256) (b : Fin 2048) : iblk m hO c 6 t (ix3 0 a b) = U1 m c (ix3 0 (row m hO t a) b) := by
  unfold row
  blk_point [iblk, idx6 m hO t]

/-- The other chips' block at a point. -/
theorem rd7 (t : Fin (cfgM m hO).N) (a : Fin 256) (b : Fin 2048) : iblk m hO c 7 t (ix3 0 a b) = U2 m c (ix3 0 (row m hO t a) b) := by
  unfold row
  blk_point [iblk, idx7 m hO t]

/-! ## What a point writes -/

/-- The gradient of a point's blocks. -/
def blockGrad (p g : S1x1x256x2048.Idx → EReal) (u0 : S1x256x2048.Idx → EReal) (u1 : S1x256x2048.Idx → EReal) (u2 : S1x256x2048.Idx → EReal) : S256x2048.Idx → EReal := fun i =>
  p (ix4 0 0 (i 0) (i 1)) + g (ix4 0 0 (i 0) (i 1)) + (u0 (ix3 0 (i 0) (i 1)) + u1 (ix3 0 (i 0) (i 1)) + u2 (ix3 0 (i 0) (i 1)))

/-- The body's sum, in the order it takes its terms, is the gradient of its blocks. -/
theorem pay3_eq (x y : Vec Ideal S1x1x256x2048 .bf16) (u0 : Vec Ideal S1x256x2048 .bf16) (u1 : Vec Ideal S1x256x2048 .bf16) (u2 : Vec Ideal S1x256x2048 .bf16) :
    k0_pay3 (F := Ideal) x y u0 u1 u2 = blockGrad x y u0 u1 u2 := by
  refine funext fun (i : S256x2048.Idx) => ?_
  obtain ⟨a, b, rfl⟩ := exists_ix2 (a := 256) (b := 2048) i
  show _ = x (ix4 0 0 a b) + y (ix4 0 0 a b) + (u0 (ix3 0 a b) + u1 (ix3 0 a b) + u2 (ix3 0 a b))
  pointwise [k0_pay3]
  rw [add_assoc, add_assoc]
  simp only [add_assoc]

/-- The block of gradients a point writes. -/
theorem out8_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S1x256x2048 .bf16) (h7 : a7.IsWhole) (a8 : Memref sig .tc .vmem S1x256x2048 .bf16) (h8 : a8.IsWhole) (a9 : Memref sig .tc .vmem S1x256x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (w p v : Vec Ideal S256x2048 .f32) (x y : Vec Ideal S1x1x256x2048 .bf16) (u0 : Vec Ideal S1x256x2048 .bf16) (u1 : Vec Ideal S1x256x2048 .bf16) (u2 : Vec Ideal S1x256x2048 .bf16) (z : TbBuf0 (F := Ideal) c tbM0_0) :
    out0_A_8 c i a2 h2 a3 h3 a4 h4 a5 h5 a6 h6 a7 h7 a8 h8 a9 h9 a10 h10 a11 h11 a12 h12 a13 h13 w p v x y u0 u1 u2 z = blockGrad x y u0 u1 u2 := by
  frame_out
  exact pay3_eq _ _ _ _ _

/-- The block of updates a point writes. -/
theorem out9_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S1x256x2048 .bf16) (h7 : a7.IsWhole) (a8 : Memref sig .tc .vmem S1x256x2048 .bf16) (h8 : a8.IsWhole) (a9 : Memref sig .tc .vmem S1x256x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (w p v : Vec Ideal S256x2048 .f32) (x y : Vec Ideal S1x1x256x2048 .bf16) (u0 : Vec Ideal S1x256x2048 .bf16) (u1 : Vec Ideal S1x256x2048 .bf16) (u2 : Vec Ideal S1x256x2048 .bf16) (z : TbBuf0 (F := Ideal) c tbM0_0) :
    out0_A_9 c i a2 h2 a3 h3 a4 h4 a5 h5 a6 h6 a7 h7 a8 h8 a9 h9 a10 h10 a11 h11 a12 h12 a13 h13 w p v x y u0 u1 u2 z = fun i => update (w i) (blockGrad x y u0 u1 u2 i) (p i) (v i) := by
  frame_out
  rw [pay3_eq]
  first | rfl | (rw [← pay3_eq]; rfl)

/-- The block of first moments a point writes. -/
theorem out10_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S1x256x2048 .bf16) (h7 : a7.IsWhole) (a8 : Memref sig .tc .vmem S1x256x2048 .bf16) (h8 : a8.IsWhole) (a9 : Memref sig .tc .vmem S1x256x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (w p v : Vec Ideal S256x2048 .f32) (x y : Vec Ideal S1x1x256x2048 .bf16) (u0 : Vec Ideal S1x256x2048 .bf16) (u1 : Vec Ideal S1x256x2048 .bf16) (u2 : Vec Ideal S1x256x2048 .bf16) (z : TbBuf0 (F := Ideal) c tbM0_0) :
    out0_A_10 c i a2 h2 a3 h3 a4 h4 a5 h5 a6 h6 a7 h7 a8 h8 a9 h9 a10 h10 a11 h11 a12 h12 a13 h13 w p v x y u0 u1 u2 z = fun i => first (blockGrad x y u0 u1 u2 i) (p i) := by
  frame_out
  try rw [pay3_eq]
  first | rfl | (rw [← pay3_eq]; rfl)

/-- The block of second moments a point writes. -/
theorem out11_eq (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S1x1x256x2048 .bf16) (h5 : a5.IsWhole) (a6 : Memref sig .tc .vmem S1x1x256x2048 .bf16) (h6 : a6.IsWhole) (a7 : Memref sig .tc .vmem S1x256x2048 .bf16) (h7 : a7.IsWhole) (a8 : Memref sig .tc .vmem S1x256x2048 .bf16) (h8 : a8.IsWhole) (a9 : Memref sig .tc .vmem S1x256x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (w p v : Vec Ideal S256x2048 .f32) (x y : Vec Ideal S1x1x256x2048 .bf16) (u0 : Vec Ideal S1x256x2048 .bf16) (u1 : Vec Ideal S1x256x2048 .bf16) (u2 : Vec Ideal S1x256x2048 .bf16) (z : TbBuf0 (F := Ideal) c tbM0_0) :
    out0_A_11 c i a2 h2 a3 h3 a4 h4 a5 h5 a6 h6 a7 h7 a8 h8 a9 h9 a10 h10 a11 h11 a12 h12 a13 h13 w p v x y u0 u1 u2 z = fun i => second (blockGrad x y u0 u1 u2 i) (v i) := by
  frame_out
  try rw [pay3_eq]
  first | rfl | (rw [← pay3_eq]; rfl)

/-- Where the block of window 8 lies in its array. -/
theorem emb8 (t : Fin (cfgM m hO).N) (a : Fin 256) (b : Fin 2048) :
    (((cfgM m hO).win 8).blk t).view.emb (ix2 a b) = (ix2 (row m hO t a) b : S2048x2048.Idx) := by
  unfold row
  blk_ext [idx8 m hO t]

/-- Where the block of window 9 lies in its array. -/
theorem emb9 (t : Fin (cfgM m hO).N) (a : Fin 256) (b : Fin 2048) :
    (((cfgM m hO).win 9).blk t).view.emb (ix2 a b) = (ix2 (row m hO t a) b : S2048x2048.Idx) := by
  unfold row
  blk_ext [idx9 m hO t]

/-- Where the block of window 10 lies in its array. -/
theorem emb10 (t : Fin (cfgM m hO).N) (a : Fin 256) (b : Fin 2048) :
    (((cfgM m hO).win 10).blk t).view.emb (ix2 a b) = (ix2 (row m hO t a) b : S2048x2048.Idx) := by
  unfold row
  blk_ext [idx10 m hO t]

/-- Where the block of window 11 lies in its array. -/
theorem emb11 (t : Fin (cfgM m hO).N) (a : Fin 256) (b : Fin 2048) :
    (((cfgM m hO).win 11).blk t).view.emb (ix2 a b) = (ix2 (row m hO t a) b : S2048x2048.Idx) := by
  unfold row
  blk_ext [idx11 m hO t]

include hq hr in
/-- The gradient of a point's blocks is the arrays'. -/
theorem grad_at (t : Fin (cfgM m hO).N) (a : Fin 256) (b : Fin 2048) :
    blockGrad (iblk m hO c 3 t) (iblk m hO c 4 t) (iblk m hO c 5 t) (iblk m hO c 6 t) (iblk m hO c 7 t) (ix2 a b) = D m c q r (ix2 (row m hO t a) b) := by
  unfold D GRAD blockGrad
  have e3 := rd3 m c q hq r hr hO t a b
  have e4 := rd4 m c q hq hO t a b
  exact congrArg₂ (· + ·) (congrArg₂ (· + ·) e3 e4) (congrArg₂ (· + ·) (congrArg₂ (· + ·) (rd5 m c hO t a b) (rd6 m c hO t a b)) (rd7 m c hO t a b))

/-- Every row of blocks is some point's. -/
theorem rows_covered : ∀ a : Fin 8, ∃ t : Fin grid0.N, t.val = a.val := by decide +kernel

include hq hr in
/-- The block of gradients at a point, of the arrays. -/
theorem at8 (t : Fin (cfgM m hO).N) (a : Fin 256) (b : Fin 2048) :
    (outsAt0 m hO c t).1 (ix2 a b) = (D m c q r : S2048x2048.Idx → EReal) (ix2 (row m hO t a) b) := by
  unfold outsAt0
  dsimp only
  refine (congrFun (out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (tbl m 0)) (ix2 a b)).trans ?_
  exact grad_at m c q hq r hr hO t a b

include hq hr in
/-- The gradients after the run. -/
theorem final8 : (dats m hO 0 c).arrAt 8 (cfgM m hO).N = D m c q r := by
  refine (dats m hO 0 c).arrAt_eq_of_covers 8 _ (Pipeline.Window.covers_of_index_surj _ rfl (by decide +kernel : ∀ a, 0 < S256x2048.size a)
    fun (β : (a : Fin 2) → Fin (((cfgM m hO).win 8).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx8 m hO t]
    match a with
    | ⟨0, _⟩ => exact h
    | ⟨1, _⟩ => show 0 = (β 1).val; omega
  blk_simp
  rw [after0_8]
  obtain ⟨a, b, rfl⟩ := exists_ix2 (a := 256) (b := 2048) z
  rw [emb8]
  exact at8 m c q hq r hr hO t a b

include hq hr in
/-- The block of updates at a point, of the arrays. -/
theorem at9 (t : Fin (cfgM m hO).N) (a : Fin 256) (b : Fin 2048) :
    (outsAt0 m hO c t).2.1 (ix2 a b) = (UPD (W m c) (M1 m c) (M2 m c) (D m c q r) : S2048x2048.Idx → EReal) (ix2 (row m hO t a) b) := by
  unfold outsAt0
  dsimp only
  refine (congrFun (out9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (tbl m 0)) (ix2 a b)).trans ?_
  show update _ _ _ _ = update _ _ _ _
  rw [grad_at m c q hq r hr hO t a b, rd0 m c hO t a b, rd1 m c hO t a b, rd2 m c hO t a b]

include hq hr in
/-- The updates after the run. -/
theorem final9 : (dats m hO 0 c).arrAt 9 (cfgM m hO).N = UPD (W m c) (M1 m c) (M2 m c) (D m c q r) := by
  refine (dats m hO 0 c).arrAt_eq_of_covers 9 _ (Pipeline.Window.covers_of_index_surj _ rfl (by decide +kernel : ∀ a, 0 < S256x2048.size a)
    fun (β : (a : Fin 2) → Fin (((cfgM m hO).win 9).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx9 m hO t]
    match a with
    | ⟨0, _⟩ => exact h
    | ⟨1, _⟩ => show 0 = (β 1).val; omega
  blk_simp
  rw [after0_9]
  obtain ⟨a, b, rfl⟩ := exists_ix2 (a := 256) (b := 2048) z
  rw [emb9]
  exact at9 m c q hq r hr hO t a b

include hq hr in
/-- The block of first moments at a point, of the arrays. -/
theorem at10 (t : Fin (cfgM m hO).N) (a : Fin 256) (b : Fin 2048) :
    (outsAt0 m hO c t).2.2.1 (ix2 a b) = (FIRST (M1 m c) (D m c q r) : S2048x2048.Idx → EReal) (ix2 (row m hO t a) b) := by
  unfold outsAt0
  dsimp only
  refine (congrFun (out10_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (tbl m 0)) (ix2 a b)).trans ?_
  show first _ _ = first _ _
  rw [grad_at m c q hq r hr hO t a b, rd1 m c hO t a b]

include hq hr in
/-- The first moments after the run. -/
theorem final10 : (dats m hO 0 c).arrAt 10 (cfgM m hO).N = FIRST (M1 m c) (D m c q r) := by
  refine (dats m hO 0 c).arrAt_eq_of_covers 10 _ (Pipeline.Window.covers_of_index_surj _ rfl (by decide +kernel : ∀ a, 0 < S256x2048.size a)
    fun (β : (a : Fin 2) → Fin (((cfgM m hO).win 10).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx10 m hO t]
    match a with
    | ⟨0, _⟩ => exact h
    | ⟨1, _⟩ => show 0 = (β 1).val; omega
  blk_simp
  rw [after0_10]
  obtain ⟨a, b, rfl⟩ := exists_ix2 (a := 256) (b := 2048) z
  rw [emb10]
  exact at10 m c q hq r hr hO t a b

include hq hr in
/-- The block of second moments at a point, of the arrays. -/
theorem at11 (t : Fin (cfgM m hO).N) (a : Fin 256) (b : Fin 2048) :
    (outsAt0 m hO c t).2.2.2 (ix2 a b) = (SECOND (M2 m c) (D m c q r) : S2048x2048.Idx → EReal) (ix2 (row m hO t a) b) := by
  unfold outsAt0
  dsimp only
  refine (congrFun (out11_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (iblk m hO c 7 t) (tbl m 0)) (ix2 a b)).trans ?_
  show second _ _ = second _ _
  rw [grad_at m c q hq r hr hO t a b, rd2 m c hO t a b]

include hq hr in
/-- The second moments after the run. -/
theorem final11 : (dats m hO 0 c).arrAt 11 (cfgM m hO).N = SECOND (M2 m c) (D m c q r) := by
  refine (dats m hO 0 c).arrAt_eq_of_covers 11 _ (Pipeline.Window.covers_of_index_surj _ rfl (by decide +kernel : ∀ a, 0 < S256x2048.size a)
    fun (β : (a : Fin 2) → Fin (((cfgM m hO).win 11).nblk a)) => ?_) fun t hf z => ?_
  · have h0 : (β 0).val < 8 := lt_of_lt_of_eq (β 0).isLt (show (2048 + 256 - 1) / 256 = 8 by decide)
    have h1 : (β 1).val < 1 := lt_of_lt_of_eq (β 1).isLt (show (2048 + 2048 - 1) / 2048 = 1 by decide)
    obtain ⟨t, h⟩ := rows_covered ⟨_, h0⟩
    refine ⟨t, fun a => ?_⟩
    rw [idx11 m hO t]
    match a with
    | ⟨0, _⟩ => exact h
    | ⟨1, _⟩ => show 0 = (β 1).val; omega
  blk_simp
  rw [after0_11]
  obtain ⟨a, b, rfl⟩ := exists_ix2 (a := 256) (b := 2048) z
  rw [emb11]
  exact at11 m c q hq r hr hO t a b

/-! ## The reference -/

open Cert.Reference24Ideal.Read in
/-- The piece of the partial sums the reference takes. -/
theorem ref_part (t : IVec S5 32) (hq : t (ix1 3) = BitVec.ofNat 32 q.val) (hr : t (ix1 4) = BitVec.ofNat 32 r.val) (p : S1x2x2048x2048.Idx → EReal)
    (a : Fin 2048) (b : Fin 2048) : val_main_v11 (F := Ideal) t p (ix2 a b) = p (ix4 q r a b) := by
  obtain rfl : q = 0 := Subsingleton.elim _ _
  refine Eq.trans ?_ (Word.sum_named 2 (by decide) r fun j => p (ix4 0 j a b))
  rw [← hr]
  pointwise [val_main_v11, val_main_v10, val_main_call0_v1, val_main_call0_v2, val_main_call0_v0, val_main_c, val_main_cst, val_main_v9, val_main_v8, val_main_v7, val_main_v6, val_main_v5, val_main_v4, val_main_v3, val_main_v0]
  simp only [Word.zero_word]

open Cert.Reference24Ideal.Read in
/-- The pair's sums the reference takes. -/
theorem ref_pair (g : S1x1x2048x2048.Idx → EReal) (a : Fin 2048) (b : Fin 2048) : val_main_v16 (F := Ideal) g (ix2 a b) = g (ix4 q 0 a b) := by
  obtain rfl : q = 0 := Subsingleton.elim _ _
  unfold val_main_v16
  pointwise [val_main_v13, val_main_v12]

open Cert.Reference24Ideal.Read in
/-- The reference's gradient. -/
theorem ref_grad (t : IVec S5 32) (hq : t (ix1 3) = BitVec.ofNat 32 q.val) (hr : t (ix1 4) = BitVec.ofNat 32 r.val) (p : S1x2x2048x2048.Idx → EReal)
    (g : S1x1x2048x2048.Idx → EReal) (u0 : S1x2048x2048.Idx → EReal) (u1 : S1x2048x2048.Idx → EReal) (u2 : S1x2048x2048.Idx → EReal) : val_main_v26 (F := Ideal) t p g u0 u1 u2 = GRAD p g u0 u1 u2 q r := by
  refine funext fun (i : S2048x2048.Idx) => ?_
  obtain ⟨a, b, rfl⟩ := exists_ix2 (a := 2048) (b := 2048) i
  rw [val_main_v26_apply, val_main_v17_apply, ref_part q r t hq hr, ref_pair q]
  refine congrArg (p (ix4 q r a b) + g (ix4 q 0 a b) + ·) ?_
  show _ = u0 (ix3 0 a b) + u1 (ix3 0 a b) + u2 (ix3 0 a b)
  pointwise [val_main_v25, val_main_v24, val_main_v23, val_main_v22, val_main_v21, val_main_v20, val_main_v19, val_main_v18, val_main_cst_0, val_main_cst_1, val_main_cst_2]
  try rw [Fin.sum_univ_three]
  try rw [Fin.sum_univ_one, Fin.sum_univ_one, Fin.sum_univ_one]

open Cert.Reference24Ideal.Read in
/-- The reference's four results from its gradient. -/
theorem ref_update (t : IVec S5 32) (w m v : S2048x2048.Idx → EReal) (p : S1x2x2048x2048.Idx → EReal) (g : S1x1x2048x2048.Idx → EReal) (u0 : S1x2048x2048.Idx → EReal) (u1 : S1x2048x2048.Idx → EReal) (u2 : S1x2048x2048.Idx → EReal) :
    val_main_v50 (F := Ideal) t w m v p g u0 u1 u2 = UPD w m v (val_main_v26 (F := Ideal) t p g u0 u1 u2) := rfl
open Cert.Reference24Ideal.Read in
theorem ref_first (t : IVec S5 32) (m : S2048x2048.Idx → EReal) (p : S1x2x2048x2048.Idx → EReal) (g : S1x1x2048x2048.Idx → EReal) (u0 : S1x2048x2048.Idx → EReal) (u1 : S1x2048x2048.Idx → EReal) (u2 : S1x2048x2048.Idx → EReal) :
    val_main_v31 (F := Ideal) t m p g u0 u1 u2 = FIRST m (val_main_v26 (F := Ideal) t p g u0 u1 u2) := rfl
open Cert.Reference24Ideal.Read in
theorem ref_second (t : IVec S5 32) (v : S2048x2048.Idx → EReal) (p : S1x2x2048x2048.Idx → EReal) (g : S1x1x2048x2048.Idx → EReal) (u0 : S1x2048x2048.Idx → EReal) (u1 : S1x2048x2048.Idx → EReal) (u2 : S1x2048x2048.Idx → EReal) :
    val_main_v37 (F := Ideal) t v p g u0 u1 u2 = SECOND v (val_main_v26 (F := Ideal) t p g u0 u1 u2) := rfl

/-- The kernel's four results are the reference's. -/
theorem value [Cert.Pre_piece24.Facts] : algebraic_Kernel24Ideal_Reference24Ideal (hKernel24Ideal := Cert.Kernel24Ideal.Gen.facts)
    (hReference24Ideal := Cert.Reference24Ideal.Gen.facts) := by
  intro m g m' g' hpre hag
  obtain ⟨⟨q, hq⟩, r, hr⟩ := names_of_pre (hpre 0)
  have hO : Ok m := ok_of_words (tbl m) q hq r hr
  refine ⟨fun c => D m c q r, fun c => UPD (W m c) (M1 m c) (M2 m c) (D m c q r), fun c => FIRST (M1 m c) (D m c q r),
    fun c => SECOND (M2 m c) (D m c q r), ?_, ?_⟩
  · exact (θ_run _ _ _).mono (fun s h c => ⟨((h.1 c).1 8).trans (final8 m c q hq r hr hO), ((h.1 c).1 9).trans (final9 m c q hq r hr hO),
      ((h.1 c).1 10).trans (final10 m c q hq r hr hO), ((h.1 c).1 11).trans (final11 m c q hq r hr hO), h.2 c⟩)
      (θ_run_and (run_main m g hO) (unchanged m g hO))
  · refine (θ_run _ _ _).mono (fun s h c => ⟨(h c).1.trans ?_, (h c).2.1.trans ?_, (h c).2.2.1.trans ?_, (h c).2.2.2.1.trans ?_, (h c).2.2.2.2⟩)
      (Cert.Reference24Ideal.Value.run m' g')
    all_goals obtain rfl : c = 0 := Subsingleton.elim _ _
    · rw [Cert.Reference24Ideal.Read.val_main_v26_eq, (hag 0).1, (hag 0).2.2.2.2.1, (hag 0).2.2.2.2.2.1, (hag 0).2.2.2.2.2.2.1, (hag 0).2.2.2.2.2.2.2.1, (hag 0).2.2.2.2.2.2.2.2]
      exact ref_grad q r _ hq hr _ _ _ _ _
    · rw [Cert.Reference24Ideal.Read.val_main_v50_eq, (hag 0).1, (hag 0).2.1, (hag 0).2.2.1, (hag 0).2.2.2.1, (hag 0).2.2.2.2.1, (hag 0).2.2.2.2.2.1, (hag 0).2.2.2.2.2.2.1, (hag 0).2.2.2.2.2.2.2.1, (hag 0).2.2.2.2.2.2.2.2, ref_update]
      exact congrArg (UPD _ _ _) (ref_grad q r _ hq hr _ _ _ _ _)
    · rw [Cert.Reference24Ideal.Read.val_main_v31_eq, (hag 0).1, (hag 0).2.2.1, (hag 0).2.2.2.2.1, (hag 0).2.2.2.2.2.1, (hag 0).2.2.2.2.2.2.1, (hag 0).2.2.2.2.2.2.2.1, (hag 0).2.2.2.2.2.2.2.2, ref_first]
      exact congrArg (FIRST _) (ref_grad q r _ hq hr _ _ _ _ _)
    · rw [Cert.Reference24Ideal.Read.val_main_v37_eq, (hag 0).1, (hag 0).2.2.2.1, (hag 0).2.2.2.2.1, (hag 0).2.2.2.2.2.1, (hag 0).2.2.2.2.2.2.1, (hag 0).2.2.2.2.2.2.2.1, (hag 0).2.2.2.2.2.2.2.2, ref_second]
      exact congrArg (SECOND _) (ref_grad q r _ hq hr _ _ _ _ _)

/-- The kernel as compiled runs, its arguments end unchanged, and no semaphore is left raised. -/
theorem frame [Cert.Pre_piece24.Facts] : quiescent_Kernel24 (hKernel24 := Cert.Kernel24.Gen.facts) := fun m g h => by
  obtain ⟨⟨q, hq⟩, r, hr⟩ := names_of_pre (h 0)
  exact Cert.Kernel24.Gen.frame m g (ok_of_words (Cert.Kernel24.Gen.tbl m) q hq r hr)

/-- The idealized kernel does too. -/
theorem idealFrame [Cert.Pre_piece24.Facts] : quiescent_Kernel24Ideal (hKernel24Ideal := Cert.Kernel24Ideal.Gen.facts) := fun m g h => by
  obtain ⟨⟨q, hq⟩, r, hr⟩ := names_of_pre (h 0)
  exact Cert.Kernel24Ideal.Gen.frame m g (ok_of_words (tbl m) q hq r hr)

/-- The reference runs, its arguments end unchanged, and it has no semaphore to leave raised. -/
theorem refFrame [Cert.Pre_piece24.Facts] : quiescent_Reference24Ideal (hReference24Ideal := Cert.Reference24Ideal.Gen.facts) := fun m g _ =>
  (θ_run _ _ _).mono (fun r h => ⟨fun c => (h c).2.2.2.2, funext fun s => by
    rcases s with ⟨_, s⟩; rcases s with s | s <;> exact s.elim0⟩) (Cert.Reference24Ideal.Value.run m g)

end Cert.Proof.ConvIn

end
-- ==== Proof.Norm.Arith.lean ====
/-
  The gradient of the norm at a row, written with the projection taken out and written as the chain rule gives it.
-/
module

public import Idealize.ShloMosaic.PureOps
public import Idealize.ShloMosaic.Lib.IdealHost
public import Idealize.ShloMosaic.Lib.WordCmp

@[expose] public section

noncomputable section

namespace Cert.Proof.Norm

open Idealize.ShloMosaic

/-- The row's length. -/
abbrev len : EReal := Ideal.ofBits .f32 0x45000000#32
/-- The small number the mean square is raised by. -/
abbrev eps : EReal := Ideal.ofBits .f32 0x358637BD#32
/-- Minus one half. -/
abbrev half : EReal := Ideal.ofBits .f32 0xBF000000#32

theorem len_eq : len = ((2048 : ℝ) : EReal) := by
  simp [Ideal.ofBits, Ideal.ieee, -EReal.coe_mul]; norm_num

theorem half_eq : half = ((-(1 / 2) : ℝ) : EReal) := by
  simp [Ideal.ofBits, Ideal.ieee, -EReal.coe_mul, -EReal.coe_neg]; norm_num

theorem eps_eq : ∃ e : ℝ, 0 < e ∧ eps = (e : EReal) := by
  refine ⟨_, ?_, by simp only [eps, Ideal.ofBits, Ideal.ieee]; simp [-EReal.coe_mul]; rfl⟩
  norm_num

/-- A finite sum of real numbers is a real number. -/
theorem coe_sum' {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The mean square of a row, raised. -/
def msq (x : Fin 2048 → EReal) : EReal := Ideal.div (∑ k, x k * x k) len + eps

/-- Of a row of real numbers it is a positive real number. -/
theorem msq_real (x : Fin 2048 → ℝ) : ∃ a : ℝ, 0 < a ∧ msq (fun k => (x k : EReal)) = (a : EReal) := by
  obtain ⟨e, he, h⟩ := eps_eq
  refine ⟨(∑ k, x k * x k) * (1 / 2048) + e, ?_, ?_⟩
  · have : 0 ≤ ∑ k, x k * x k := Finset.sum_nonneg fun k _ => mul_self_nonneg _
    positivity
  · unfold msq
    rw [h, len_eq, Ideal.div_coe (by norm_num)]
    simp only [← EReal.coe_mul]
    rw [coe_sum', ← EReal.coe_mul, ← EReal.coe_add]

/-- A square is not negative. -/
theorem sq_nonneg (x : EReal) : 0 ≤ x * x := by
  induction x with
  | bot => simp
  | coe r => rw [← EReal.coe_mul]; exact_mod_cast mul_self_nonneg r
  | top => simp

/-- The raised mean square of any row: it is infinite, or the row consists of real numbers. -/
theorem msq_cases (x : Fin 2048 → EReal) : msq x = ⊤ ∨ ∃ X : Fin 2048 → ℝ, x = fun k => (X k : EReal) := by
  by_cases h : ∀ k, ∃ r : ℝ, x k = (r : EReal)
  · choose X hX using h
    exact .inr ⟨X, funext hX⟩
  · rw [not_forall] at h
    obtain ⟨k, hk⟩ := h
    have hs : x k * x k = ⊤ := by
      generalize x k = z at hk
      induction z with
      | bot => simp
      | coe r => exact absurd ⟨r, rfl⟩ hk
      | top => simp
    refine .inl ?_
    have hb : ∑ i ∈ Finset.univ.erase k, x i * x i ≠ ⊥ := fun e => by
      have : (0 : EReal) ≤ ∑ i ∈ Finset.univ.erase k, x i * x i := Finset.sum_nonneg fun i _ => sq_nonneg _
      rw [e] at this
      exact absurd this (by simp)
    obtain ⟨e, -, he⟩ := eps_eq
    unfold msq
    rw [← Finset.add_sum_erase _ _ (Finset.mem_univ k), hs, EReal.top_add_of_ne_bot hb, len_eq, Ideal.div_coe (by norm_num),
      EReal.top_mul_coe_of_pos (by norm_num), he, EReal.top_add_coe]

/-- A positive real factor goes into a sum. -/
theorem coe_mul_sum {ι : Type*} (s : Finset ι) (r : ℝ) (hr : 0 ≤ r) (f : ι → EReal) : ∑ k ∈ s, (r : EReal) * f k = (r : EReal) * ∑ k ∈ s, f k := by
  classical
  induction s using Finset.induction_on with
  | empty => simp
  | insert a s h ih =>
    rw [Finset.sum_insert h, Finset.sum_insert h, ih, EReal.left_distrib_of_nonneg_of_ne_top (by exact_mod_cast hr) (EReal.coe_ne_top r)]

/-- A number added to itself is its double. -/
theorem double (z : EReal) : z + z = ((2 : ℝ) : EReal) * z := by
  induction z with
  | bot => rw [EReal.coe_mul_bot_of_pos (by norm_num)]; rfl
  | coe r => rw [← EReal.coe_add, ← EReal.coe_mul, two_mul]
  | top => rw [EReal.coe_mul_top_of_pos (by norm_num)]; rfl

/-- The two ways of writing the gradient agree, whatever the row and the cotangents. -/
theorem grad_law (x d : Fin 2048 → EReal) (j : Fin 2048) :
    Ideal.rsqrt (msq x) * (d j - x j * Ideal.rsqrt (msq x) * Ideal.div (∑ k, d k * (x k * Ideal.rsqrt (msq x))) len)
      = d j * Ideal.rsqrt (msq x) + x j * Ideal.div ((∑ k, x k * d k) * (half * Ideal.div (Ideal.rsqrt (msq x)) (msq x))) len
        + Ideal.div ((∑ k, x k * d k) * (half * Ideal.div (Ideal.rsqrt (msq x)) (msq x))) len * x j := by
  have hl (y : EReal) : Ideal.div y len = y * ((1 / 2048 : ℝ) : EReal) := by rw [len_eq, Ideal.div_coe (by norm_num)]
  rcases msq_cases x with h | ⟨X, rfl⟩
  · have h0 : Ideal.div 0 ⊤ = 0 := by simp [Ideal.div]
    rw [h, Ideal.rsqrt_top, h0, hl, hl]
    simp only [mul_zero, zero_mul, add_zero]
  · obtain ⟨b, hb, e⟩ := msq_real X
    have er : Ideal.rsqrt (b : EReal) = (((Real.sqrt b)⁻¹ : ℝ) : EReal) := by
      rw [Ideal.rsqrt_coe, if_neg (not_lt.mpr hb.le), if_neg hb.ne']
    have hr : 0 ≤ (Real.sqrt b)⁻¹ := inv_nonneg.mpr (Real.sqrt_nonneg b)
    have hs : (Real.sqrt b)⁻¹ * (Real.sqrt b)⁻¹ = 1 / b := by rw [← mul_inv, Real.mul_self_sqrt hb.le, one_div]
    rw [e, er, Ideal.div_coe hb.ne', half_eq, hl, hl, ← hs]
    generalize (Real.sqrt b)⁻¹ = r at hr
    have h1 : ∑ k, d k * ((X k : EReal) * (r : EReal)) = (r : EReal) * ∑ k, (X k : EReal) * d k := by
      rw [← coe_mul_sum _ r hr]
      exact Finset.sum_congr rfl fun k _ => by rw [← mul_assoc, mul_comm (d k), mul_comm]
    rw [h1]
    generalize ∑ k, (X k : EReal) * d k = T
    have h2 : (X j : EReal) * (r : EReal) * ((r : EReal) * T * ((1 / 2048 : ℝ) : EReal)) = ((X j * r * r * (1 / 2048) : ℝ) : EReal) * T := by
      simp only [EReal.coe_mul]
      simp only [mul_comm, mul_left_comm, mul_assoc]
    have h3 : (X j : EReal) * (T * (((-(1 / 2) : ℝ) : EReal) * ((r : EReal) * ((r * r : ℝ) : EReal))) * ((1 / 2048 : ℝ) : EReal))
        = ((X j * (-(1 / 2)) * r * (r * r) * (1 / 2048) : ℝ) : EReal) * T := by
      simp only [EReal.coe_mul]
      simp only [mul_comm, mul_left_comm, mul_assoc]
    rw [mul_comm _ (X j : EReal), h2, h3, sub_eq_add_neg, EReal.left_distrib_of_nonneg_of_ne_top (by exact_mod_cast hr) (EReal.coe_ne_top r),
      add_assoc, double, ← neg_mul, ← EReal.coe_neg, ← mul_assoc, ← mul_assoc, ← EReal.coe_mul, ← EReal.coe_mul, mul_comm (d j)]
    exact congrArg (fun u : ℝ => (r : EReal) * d j + (u : EReal) * T) (by ring)

end Cert.Proof.Norm

end
-- ==== Proof.Norm.Backward.lean ====
/-
  The gradient of the modulated norm: the kernel's four arrays and the reference's.
-/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Product.Index
public import proofs.«01_k».proof.Proof.Norm.Arith
public import Idealize.ShloMosaic.Lib.KernelVsHost

@[expose] public section

set_option maxRecDepth 20000

noncomputable section

namespace Cert.Proof.NormBwd

open Cert.Kernel25Ideal Cert.Kernel25Ideal.Gen Idealize.ShloMosaic Idealize.ShloMosaic.TcCoe Idealize.SL.Sem Cert.Proof.Norm

/-- The inverse root of a row's raised mean square. -/
def inv (x : S2048x2048.Idx → EReal) (s : Fin 2048) : EReal := Ideal.rsqrt (msq fun k => x (ix2 s k))

/-- The cotangent times the modulation and the weight. -/
def dhat (dh : S2048x2048.Idx → EReal) (g a : S1x2048.Idx → EReal) (s k : Fin 2048) : EReal :=
  dh (ix2 s k) * (1 + a (ix2 0 k)) * g (ix2 0 k)

/-- The gradient of the rows, added to the residual's. -/
def DX (x dh dr : S2048x2048.Idx → EReal) (g a : S1x2048.Idx → EReal) : S2048x2048.Idx → EReal := fun i =>
  dr (ix2 (i 0) (i 1)) + inv x (i 0) * (dhat dh g a (i 0) (i 1) - x (ix2 (i 0) (i 1)) * inv x (i 0)
    * Ideal.div (∑ k, dhat dh g a (i 0) k * (x (ix2 (i 0) k) * inv x (i 0))) len)

/-- The gradient of the modulation's scale. -/
def DA (x dh : S2048x2048.Idx → EReal) (g : S1x2048.Idx → EReal) : S1x2048.Idx → EReal := fun i =>
  ∑ s : Fin 2048, dh (ix2 s (i 1)) * (x (ix2 s (i 1)) * inv x s) * g (ix2 0 (i 1))

/-- The gradient of the modulation's shift. -/
def DB (dh : S2048x2048.Idx → EReal) : S1x2048.Idx → EReal := fun i => ∑ s : Fin 2048, dh (ix2 s (i 1))

/-- The gradient of the norm's weight. -/
def DG (x dh : S2048x2048.Idx → EReal) (a : S1x2048.Idx → EReal) : S1x2048.Idx → EReal := fun i =>
  ∑ s : Fin 2048, dh (ix2 s (i 1)) * (1 + a (ix2 0 (i 1))) * (x (ix2 s (i 1)) * inv x s)

variable (m : (ℓ : Loc nD τ sig) → Buf (Elt Ideal) ℓ) (c : Dev nD)

/-- The rows. -/
abbrev X : S2048x2048.Idx → EReal := m ((c : Thread nD τ).loc main_arg0)
/-- The cotangent of the norm's result. -/
abbrev H : S2048x2048.Idx → EReal := m ((c : Thread nD τ).loc main_arg1)
/-- The residual's cotangent. -/
abbrev R : S2048x2048.Idx → EReal := m ((c : Thread nD τ).loc main_arg2)
/-- The norm's weight. -/
abbrev G : S1x2048.Idx → EReal := m ((c : Thread nD τ).loc main_arg3)
/-- The modulation's scale. -/
abbrev A : S1x2048.Idx → EReal := m ((c : Thread nD τ).loc main_arg4)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx5 : ∀ t : Fin cfg0.N, win0_5.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-- The token that row `s` of block `t` holds. -/
def tok (t : Fin cfg0.N) (s : Fin 256) : Fin 2048 := ⟨t.val * 256 + s.val, by have := t.isLt; have : cfg0.N = 8 := rfl; omega⟩

variable (t : Fin cfg0.N)

theorem rd0 (s : Fin 256) (d : Fin 2048) : iblk m c 0 t (ix2 s d) = X m c (ix2 (tok t s) d) := by
  blk_point [iblk, V, idx0 t, tok]
theorem rd1 (s : Fin 256) (d : Fin 2048) : iblk m c 1 t (ix2 s d) = H m c (ix2 (tok t s) d) := by
  blk_point [iblk, V, idx1 t, tok]
theorem rd2 (s : Fin 256) (d : Fin 2048) : iblk m c 2 t (ix2 s d) = R m c (ix2 (tok t s) d) := by
  blk_point [iblk, V, idx2 t, tok]
theorem rd3 (d : Fin 2048) : iblk m c 3 t (ix2 0 d) = G m c (ix2 0 d) := by
  blk_point [iblk, V, idx3 t]
theorem rd4 (d : Fin 2048) : iblk m c 4 t (ix2 0 d) = A m c (ix2 0 d) := by
  blk_point [iblk, V, idx4 t]

/-- A block's inverse roots. -/
def invb (x : S256x2048.Idx → EReal) (s : Fin 256) : EReal := Ideal.rsqrt (msq fun k => x (ix2 s k))

theorem pay8_at (x : Vec Ideal S256x2048 .f32) (s : Fin 256) : k0_pay8 x (ix2 s 0) = invb x s := by
  pointwise [k0_pay8]
  rfl

theorem pay9_at (x : Vec Ideal S256x2048 .f32) (s : Fin 256) (d : Fin 2048) : k0_pay9 x (ix2 s d) = x (ix2 s d) * invb x s := by
  pointwise [k0_pay9]
  rw [pay8_at]

theorem pay7_eq (h : Vec Ideal S256x2048 .bf16) : k0_pay7 (F := Ideal) h = h := rfl

/-- What the body stores of the rows' gradient. -/
theorem pay3_at (h : Vec Ideal S256x2048 .f32) (g : Vec Ideal S1x2048 .f32) (x : Vec Ideal S256x2048 .f32) (a : Vec Ideal S1x2048 .f32)
    (r : Vec Ideal S256x2048 .f32) (s : Fin 256) (d : Fin 2048) :
    k0_pay3 h g (k0_pay8 x) (k0_pay9 x) a r (ix2 s d)
      = r (ix2 s d) + invb x s * (h (ix2 s d) * (1 + a (ix2 0 d)) * g (ix2 0 d) - x (ix2 s d) * invb x s
          * Ideal.div (∑ k : Fin 2048, h (ix2 s k) * (1 + a (ix2 0 k)) * g (ix2 0 k) * (x (ix2 s k) * invb x s)) len) := by
  pointwise [k0_pay3, k0_pay1]
  simp only [pay8_at, pay9_at]

/-- A block's part of the scale's gradient. -/
def pa (x h : S256x2048.Idx → EReal) (g : S1x2048.Idx → EReal) (d : Fin 2048) : EReal :=
  ∑ s : Fin 256, h (ix2 s d) * (x (ix2 s d) * invb x s) * g (ix2 0 d)
/-- A block's part of the shift's gradient. -/
def pb (h : S256x2048.Idx → EReal) (d : Fin 2048) : EReal := ∑ s : Fin 256, h (ix2 s d)
/-- A block's part of the weight's gradient. -/
def pg (x h : S256x2048.Idx → EReal) (a : S1x2048.Idx → EReal) (d : Fin 2048) : EReal :=
  ∑ s : Fin 256, h (ix2 s d) * (1 + a (ix2 0 d)) * (x (ix2 s d) * invb x s)

theorem pay10_at (x : Vec Ideal S256x2048 .f32) (h : Vec Ideal S256x2048 .bf16) (g acc : Vec Ideal S1x2048 .f32) (d : Fin 2048) :
    k0_pay10 x h g acc (ix2 0 d) = acc (ix2 0 d) + pa x h g d := by
  unfold pa
  pointwise [k0_pay10]
  simp only [pay9_at, pay7_eq]

theorem pay11_at (h : Vec Ideal S256x2048 .bf16) (acc : Vec Ideal S1x2048 .f32) (d : Fin 2048) :
    k0_pay11 h acc (ix2 0 d) = acc (ix2 0 d) + pb h d := by
  unfold pb
  pointwise [k0_pay11]
  simp only [pay7_eq]

theorem pay2_at (h x : Vec Ideal S256x2048 .f32) (a acc : Vec Ideal S1x2048 .f32) (d : Fin 2048) :
    k0_pay2 h (k0_pay9 x) a acc (ix2 0 d) = acc (ix2 0 d) + pg x h a d := by
  unfold pg
  pointwise [k0_pay2, k0_pay1]
  simp only [pay9_at]

theorem pay4_at (j : S1x2048.Idx) : k0_pay4 (F := Ideal) j = 0 := by pointwise [k0_pay4]
theorem pay5_at (j : S1x2048.Idx) : k0_pay5 (F := Ideal) j = 0 := by pointwise [k0_pay5]
theorem pay6_at (j : S1x2048.Idx) : k0_pay6 (F := Ideal) j = 0 := by pointwise [k0_pay6]

/-- A block's inverse roots are its tokens'. -/
theorem invb_eq (s : Fin 256) : invb (iblk m c 0 t) s = inv (X m c) (tok t s) := by
  unfold invb inv
  simp only [rd0]

/-- The block of the rows' gradient that a point writes. -/
theorem out5_at (s : Fin 256) (d : Fin 2048) :
    (outsAt0 m c t.val t.isLt).1 (ix2 s d) = DX (X m c) (H m c) (R m c) (G m c) (A m c) (ix2 (tok t s) d) := by
  have e : (outsAt0 m c t.val t.isLt).1 (ix2 s d)
      = k0_pay3 (k0_pay7 (iblk m c 1 t)) (iblk m c 3 t) (k0_pay8 (iblk m c 0 t)) (k0_pay9 (iblk m c 0 t)) (iblk m c 4 t) (iblk m c 2 t) (ix2 s d) := by
    by_cases h : t.val % 8 = 0
    · rw [outsAt0_A m c t h]; frame_out
    · rw [outsAt0_B m c t h]; frame_out
  rw [e, pay7_eq, pay3_at, invb_eq, rd0, rd1, rd2, rd3, rd4]
  simp only [rd0, rd1, rd3, rd4]
  rfl

/-- The scale's gradient after the last point. -/
theorem acc6 (h : t.val % 8 = 7) (d : Fin 2048) : (outsAt0 m c t.val t.isLt).2.1 (ix2 0 d) = DA (X m c) (H m c) (G m c) (ix2 0 d) := by
  have hN : cfg0.N = 8 := rfl
  have ht := t.isLt
  rw [Pipeline.eq_sum_fin_of_reset_step_apply_of_flush (fun n h => (outsAt0 m c n h).2.1) 8 (fun _ => 0)
    (fun t j => pa (iblk m c 0 t) (iblk m c 1 t) (iblk m c 3 t) (j 1))
    (fun t h j => by
      obtain ⟨s, n, rfl⟩ := exists_ix2 (a := 1) (b := 2048) j
      obtain rfl : s = 0 := Subsingleton.elim _ _
      rw [outsAt0_A m c t h]; frame_out; rw [pay10_at, pay4_at]; rfl)
    (fun t h j => by
      obtain ⟨s, n, rfl⟩ := exists_ix2 (a := 1) (b := 2048) j
      obtain rfl : s = 0 := Subsingleton.elim _ _
      rw [outsAt0_B m c t h]; frame_out; rw [pay10_at]; rfl)
    t h (ix2 0 d), zero_add]
  show ∑ q : Fin 8, pa _ _ _ d = _
  unfold pa DA
  refine Fin.sum_mul_add_congr fun q k hl => ?_
  have e (u : Fin cfg0.N) (hu : u.val = q.val) : tok u k = ⟨q.val * 256 + k.val, hl⟩ := Fin.ext (by show u.val * 256 + k.val = _; rw [hu])
  rw [invb_eq, rd0, rd1, rd3, e _ (by show 8 * (t.val / 8) + q.val = q.val; omega)]
  rfl

/-- The shift's gradient after the last point. -/
theorem acc7 (h : t.val % 8 = 7) (d : Fin 2048) : (outsAt0 m c t.val t.isLt).2.2.1 (ix2 0 d) = DB (H m c) (ix2 0 d) := by
  have hN : cfg0.N = 8 := rfl
  have ht := t.isLt
  rw [Pipeline.eq_sum_fin_of_reset_step_apply_of_flush (fun n h => (outsAt0 m c n h).2.2.1) 8 (fun _ => 0)
    (fun t j => pb (iblk m c 1 t) (j 1))
    (fun t h j => by
      obtain ⟨s, n, rfl⟩ := exists_ix2 (a := 1) (b := 2048) j
      obtain rfl : s = 0 := Subsingleton.elim _ _
      rw [outsAt0_A m c t h]; frame_out; rw [pay11_at, pay5_at]; rfl)
    (fun t h j => by
      obtain ⟨s, n, rfl⟩ := exists_ix2 (a := 1) (b := 2048) j
      obtain rfl : s = 0 := Subsingleton.elim _ _
      rw [outsAt0_B m c t h]; frame_out; rw [pay11_at]; rfl)
    t h (ix2 0 d), zero_add]
  show ∑ q : Fin 8, pb _ d = _
  unfold pb DB
  refine Fin.sum_mul_add_congr fun q k hl => ?_
  have e (u : Fin cfg0.N) (hu : u.val = q.val) : tok u k = ⟨q.val * 256 + k.val, hl⟩ := Fin.ext (by show u.val * 256 + k.val = _; rw [hu])
  rw [rd1, e _ (by show 8 * (t.val / 8) + q.val = q.val; omega)]
  rfl

/-- The weight's gradient after the last point. -/
theorem acc8 (h : t.val % 8 = 7) (d : Fin 2048) : (outsAt0 m c t.val t.isLt).2.2.2 (ix2 0 d) = DG (X m c) (H m c) (A m c) (ix2 0 d) := by
  have hN : cfg0.N = 8 := rfl
  have ht := t.isLt
  rw [Pipeline.eq_sum_fin_of_reset_step_apply_of_flush (fun n h => (outsAt0 m c n h).2.2.2) 8 (fun _ => 0)
    (fun t j => pg (iblk m c 0 t) (iblk m c 1 t) (iblk m c 4 t) (j 1))
    (fun t h j => by
      obtain ⟨s, n, rfl⟩ := exists_ix2 (a := 1) (b := 2048) j
      obtain rfl : s = 0 := Subsingleton.elim _ _
      rw [outsAt0_A m c t h]; frame_out; rw [pay7_eq, pay2_at, pay6_at]; rfl)
    (fun t h j => by
      obtain ⟨s, n, rfl⟩ := exists_ix2 (a := 1) (b := 2048) j
      obtain rfl : s = 0 := Subsingleton.elim _ _
      rw [outsAt0_B m c t h]; frame_out; rw [pay7_eq, pay2_at]; rfl)
    t h (ix2 0 d), zero_add]
  show ∑ q : Fin 8, pg _ _ _ d = _
  unfold pg DG
  refine Fin.sum_mul_add_congr fun q k hl => ?_
  have e (u : Fin cfg0.N) (hu : u.val = q.val) : tok u k = ⟨q.val * 256 + k.val, hl⟩ := Fin.ext (by show u.val * 256 + k.val = _; rw [hu])
  rw [invb_eq, rd0, rd1, rd4, e _ (by show 8 * (t.val / 8) + q.val = q.val; omega)]
  rfl

/-- Where the block of a point lies. -/
theorem emb5 (s : Fin 256) (d : Fin 2048) : (win0_5.blk t).view.emb (ix2 s d) = (ix2 (tok t s) d : S2048x2048.Idx) := by
  unfold tok
  blk_ext [idx5 t]
theorem emb6 (d : Fin 2048) : (win0_6.blk t).view.emb (ix2 0 d) = (ix2 0 d : S1x2048.Idx) := by
  blk_ext [idx6 t]
theorem emb7 (d : Fin 2048) : (win0_7.blk t).view.emb (ix2 0 d) = (ix2 0 d : S1x2048.Idx) := by
  blk_ext [idx7 t]
theorem emb8 (d : Fin 2048) : (win0_8.blk t).view.emb (ix2 0 d) = (ix2 0 d : S1x2048.Idx) := by
  blk_ext [idx8 t]

/-- The rows' gradient after the run. -/
theorem final5 : (dats m 0 c).arrAt 5 cfg0.N = DX (X m c) (H m c) (R m c) (G m c) (A m c) := by
  refine (dats m 0 c).arrAt_eq_of_covers 5 _ (by decide +kernel) fun t hf z => ?_
  blk_simp
  rw [after0_5]
  obtain ⟨s, d, rfl⟩ := exists_ix2 (a := 256) (b := 2048) z
  rw [emb5]
  exact out5_at m c t s d

/-- The scale's gradient after the run. -/
theorem final6 : (dats m 0 c).arrAt 6 cfg0.N = DA (X m c) (H m c) (G m c) := by
  refine (dats m 0 c).arrAt_eq_of_covers 6 _ (by decide +kernel) fun t hf z => ?_
  blk_simp
  rw [after0_6]
  obtain ⟨s, d, rfl⟩ := exists_ix2 (a := 1) (b := 2048) z
  obtain rfl : s = 0 := Subsingleton.elim _ _
  rw [emb6]
  exact acc6 m c t ((flush0_6 t).mp hf) d

/-- The shift's gradient after the run. -/
theorem final7 : (dats m 0 c).arrAt 7 cfg0.N = DB (H m c) := by
  refine (dats m 0 c).arrAt_eq_of_covers 7 _ (by decide +kernel) fun t hf z => ?_
  blk_simp
  rw [after0_7]
  obtain ⟨s, d, rfl⟩ := exists_ix2 (a := 1) (b := 2048) z
  obtain rfl : s = 0 := Subsingleton.elim _ _
  rw [emb7]
  exact acc7 m c t ((flush0_7 t).mp hf) d

/-- The weight's gradient after the run. -/
theorem final8 : (dats m 0 c).arrAt 8 cfg0.N = DG (X m c) (H m c) (A m c) := by
  refine (dats m 0 c).arrAt_eq_of_covers 8 _ (by decide +kernel) fun t hf z => ?_
  blk_simp
  rw [after0_8]
  obtain ⟨s, d, rfl⟩ := exists_ix2 (a := 1) (b := 2048) z
  obtain rfl : s = 0 := Subsingleton.elim _ _
  rw [emb8]
  exact acc8 m c t ((flush0_8 t).mp hf) d

section reference

open Cert.Reference25Ideal.Read

theorem ref7 (x : S2048x2048.Idx → EReal) (s : Fin 2048) : val_main_v7 (F := Ideal) x (ix2 s 0) = msq fun k => x (ix2 s k) := by
  pointwise [val_main_v7, val_main_v6, val_main_v5, val_main_v4, val_main_v3, val_main_v2, val_main_v1, val_main_cst_0, val_main_cst_1, val_main_cst_2]
  rfl

theorem ref8 (x : S2048x2048.Idx → EReal) (s : Fin 2048) : val_main_v8 (F := Ideal) x (ix2 s 0) = inv x s := by
  pointwise [val_main_v8]
  rw [ref7]
  rfl

theorem ref11 (x : S2048x2048.Idx → EReal) (s : Fin 2048) :
    val_main_v11 (F := Ideal) x (ix2 s 0) = half * Ideal.div (inv x s) (msq fun k => x (ix2 s k)) := by
  pointwise [val_main_v11, val_main_v10, val_main_v9, val_main_cst_3]
  rw [ref7, ref8]

theorem ref13 (x : S2048x2048.Idx → EReal) (s k : Fin 2048) : val_main_v13 (F := Ideal) x (ix2 s k) = x (ix2 s k) * inv x s := by
  pointwise [val_main_v13, val_main_v12]
  rw [ref8]

theorem ref29 (h : S2048x2048.Idx → EReal) (a : S1x2048.Idx → EReal) (s k : Fin 2048) :
    val_main_v29 (F := Ideal) h a (ix2 s k) = h (ix2 s k) * (1 + a (ix2 0 k)) := by
  pointwise [val_main_v29, val_main_v28, val_main_v22, val_main_v17, val_main_v16, val_main_cst_4]

theorem ref34 (h : S2048x2048.Idx → EReal) (g a : S1x2048.Idx → EReal) (s k : Fin 2048) :
    val_main_v34 (F := Ideal) h g a (ix2 s k) = dhat h g a s k := by
  pointwise [val_main_v34, val_main_v33]
  rw [ref29]
  rfl

theorem ref42 (x h : S2048x2048.Idx → EReal) (g a : S1x2048.Idx → EReal) (s : Fin 2048) :
    val_main_v42 (F := Ideal) x h g a (ix2 s 0)
      = Ideal.div ((∑ k, x (ix2 s k) * dhat h g a s k) * (half * Ideal.div (inv x s) (msq fun k => x (ix2 s k)))) len := by
  pointwise [val_main_v42, val_main_v41, val_main_v40, val_main_v37, val_main_v36, val_main_v35, val_main_cst_8, val_main_cst_9]
  rw [ref11]
  simp only [ref34]

theorem ref44 (x h : S2048x2048.Idx → EReal) (g a : S1x2048.Idx → EReal) (s k : Fin 2048) :
    val_main_v44 (F := Ideal) x h g a (ix2 s k)
      = Ideal.div ((∑ k, x (ix2 s k) * dhat h g a s k) * (half * Ideal.div (inv x s) (msq fun k => x (ix2 s k)))) len := by
  pointwise [val_main_v44, val_main_v43, val_main_cst_10]
  simp [ref42]

/-- The reference's gradient of the rows. -/
theorem refX (x h r : S2048x2048.Idx → EReal) (g a : S1x2048.Idx → EReal) : val_main_v49 (F := Ideal) x h r g a = DX x h r g a := by
  refine funext fun (i : S2048x2048.Idx) => ?_
  obtain ⟨s, d, rfl⟩ := exists_ix2 (a := 2048) (b := 2048) i
  pointwise [val_main_v49, val_main_v48, val_main_v47, val_main_v46, val_main_v45, val_main_v39, val_main_v38]
  rw [ref34, ref8, ref44]
  exact congrArg (r (ix2 s d) + ·) (grad_law (fun k => x (ix2 s k)) (dhat h g a s) d).symm

/-- The reference's gradient of the scale. -/
theorem refA (x h : S2048x2048.Idx → EReal) (g : S1x2048.Idx → EReal) : val_main_v27 (F := Ideal) x h g = DA x h g := by
  refine funext fun (i : S1x2048.Idx) => ?_
  obtain ⟨s, d, rfl⟩ := exists_ix2 (a := 1) (b := 2048) i
  obtain rfl : s = 0 := Subsingleton.elim _ _
  pointwise [val_main_v27, val_main_v26, val_main_v25, val_main_v15, val_main_v14, val_main_v22, val_main_cst_6]
  refine Finset.sum_congr rfl fun k _ => ?_
  rw [ref13, mul_comm, ← mul_assoc]
  rfl

/-- The reference's gradient of the shift. -/
theorem refB (h : S2048x2048.Idx → EReal) : val_main_v24 (F := Ideal) h = DB h := by
  refine funext fun (i : S1x2048.Idx) => ?_
  obtain ⟨s, d, rfl⟩ := exists_ix2 (a := 1) (b := 2048) i
  obtain rfl : s = 0 := Subsingleton.elim _ _
  pointwise [val_main_v24, val_main_v23, val_main_v22, val_main_cst_5]
  rfl

/-- The reference's gradient of the weight. -/
theorem refG (x h : S2048x2048.Idx → EReal) (a : S1x2048.Idx → EReal) : val_main_v32 (F := Ideal) x h a = DG x h a := by
  refine funext fun (i : S1x2048.Idx) => ?_
  obtain ⟨s, d, rfl⟩ := exists_ix2 (a := 1) (b := 2048) i
  obtain rfl : s = 0 := Subsingleton.elim _ _
  pointwise [val_main_v32, val_main_v31, val_main_v30, val_main_cst_7]
  refine Finset.sum_congr rfl fun k _ => ?_
  rw [ref13, ref29, mul_comm]
  rfl

end reference

/-- The kernel's four results are the reference's. -/
theorem value : algebraic_Kernel25Ideal_Reference25Ideal (hKernel25Ideal := Cert.Kernel25Ideal.Gen.facts)
    (hReference25Ideal := Cert.Reference25Ideal.Gen.facts) := by
  intro m g m' g' _ hag
  refine ⟨fun c => DX (X m c) (H m c) (R m c) (G m c) (A m c), fun c => DA (X m c) (H m c) (G m c), fun c => DB (H m c),
    fun c => DG (X m c) (H m c) (A m c), ?_, ?_⟩
  · exact (θ_run _ _ _).mono (fun r h c => ⟨(h c).1.trans (final5 m c), (h c).2.1.trans (final6 m c), (h c).2.2.1.trans (final7 m c),
      (h c).2.2.2.1.trans (final8 m c), (h c).2.2.2.2⟩) (Cert.Kernel25Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference25Ideal.Value.run m' g')
    · rw [Cert.Reference25Ideal.Read.val_main_v49_eq, (hag c).1, (hag c).2.1, (hag c).2.2.1, (hag c).2.2.2.1, (hag c).2.2.2.2]
      exact refX _ _ _ _ _
    · rw [Cert.Reference25Ideal.Read.val_main_v27_eq, (hag c).1, (hag c).2.1, (hag c).2.2.2.1]
      exact refA _ _ _
    · rw [Cert.Reference25Ideal.Read.val_main_v24_eq, (hag c).2.1]
      exact refB _
    · rw [Cert.Reference25Ideal.Read.val_main_v32_eq, (hag c).1, (hag c).2.1, (hag c).2.2.2.2]
      exact refG _ _ _

/-- The reference runs, its arguments end unchanged, and it has no semaphore to leave raised. -/
theorem refFrame : quiescent_Reference25Ideal (hReference25Ideal := Cert.Reference25Ideal.Gen.facts) := fun m g _ =>
  (θ_run _ _ _).mono (fun r h => ⟨fun c => (h c).2.2.2.2, funext fun s => by
    rcases s with ⟨_, s⟩; rcases s with s | s <;> exact s.elim0⟩) (Cert.Reference25Ideal.Value.run m g)

end Cert.Proof.NormBwd

end
-- ==== Proof.Norm.BackwardGated.lean ====
/-
  The gradient of the modulated norm with the gated residual below it: the kernel's six arrays and the reference's.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Norm.Backward

@[expose] public section

set_option maxRecDepth 20000

noncomputable section

namespace Cert.Proof.NormBwdGated

open Cert.Kernel26Ideal Cert.Kernel26Ideal.Gen Idealize.ShloMosaic Idealize.ShloMosaic.TcCoe Idealize.SL.Sem Cert.Proof.Norm
open Cert.Proof.NormBwd (DX DA DB DG dhat pa pb pg)

/-- The gradient of the branch's result: the rows' gradient gated. -/
def DY (x dh dr : S2048x2048.Idx → EReal) (g a e : S1x2048.Idx → EReal) : S2048x2048.Idx → EReal := fun i =>
  DX x dh dr g a i * e (ix2 0 (i 1))

/-- The gradient of the gate. -/
def DE (x dh dr y : S2048x2048.Idx → EReal) (g a : S1x2048.Idx → EReal) : S1x2048.Idx → EReal := fun i =>
  ∑ s : Fin 2048, DX x dh dr g a (ix2 s (i 1)) * y (ix2 s (i 1))

variable (m : (ℓ : Loc nD τ sig) → Buf (Elt Ideal) ℓ) (c : Dev nD)

/-- The rows. -/
abbrev X : S2048x2048.Idx → EReal := m ((c : Thread nD τ).loc main_arg0)
/-- The cotangent of the norm's result. -/
abbrev H : S2048x2048.Idx → EReal := m ((c : Thread nD τ).loc main_arg1)
/-- The residual's cotangent. -/
abbrev R : S2048x2048.Idx → EReal := m ((c : Thread nD τ).loc main_arg2)
/-- The norm's weight. -/
abbrev G : S1x2048.Idx → EReal := m ((c : Thread nD τ).loc main_arg3)
/-- The modulation's scale. -/
abbrev A : S1x2048.Idx → EReal := m ((c : Thread nD τ).loc main_arg4)
/-- The branch's result. -/
abbrev Y : S2048x2048.Idx → EReal := m ((c : Thread nD τ).loc main_arg5)
/-- The gate. -/
abbrev E : S1x2048.Idx → EReal := m ((c : Thread nD τ).loc main_arg6)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)

/-- The token that row `s` of block `t` holds. -/
def tok (t : Fin cfg0.N) (s : Fin 256) : Fin 2048 := ⟨t.val * 256 + s.val, by have := t.isLt; have : cfg0.N = 8 := rfl; omega⟩

variable (t : Fin cfg0.N)

theorem rd0 (s : Fin 256) (d : Fin 2048) : iblk m c 0 t (ix2 s d) = X m c (ix2 (tok t s) d) := by
  blk_point [iblk, V, idx0 t, tok]
theorem rd1 (s : Fin 256) (d : Fin 2048) : iblk m c 1 t (ix2 s d) = H m c (ix2 (tok t s) d) := by
  blk_point [iblk, V, idx1 t, tok]
theorem rd2 (s : Fin 256) (d : Fin 2048) : iblk m c 2 t (ix2 s d) = R m c (ix2 (tok t s) d) := by
  blk_point [iblk, V, idx2 t, tok]
theorem rd5 (s : Fin 256) (d : Fin 2048) : iblk m c 5 t (ix2 s d) = Y m c (ix2 (tok t s) d) := by
  blk_point [iblk, V, idx5 t, tok]
theorem rd3 (d : Fin 2048) : iblk m c 3 t (ix2 0 d) = G m c (ix2 0 d) := by
  blk_point [iblk, V, idx3 t]
theorem rd4 (d : Fin 2048) : iblk m c 4 t (ix2 0 d) = A m c (ix2 0 d) := by
  blk_point [iblk, V, idx4 t]
theorem rd6 (d : Fin 2048) : iblk m c 6 t (ix2 0 d) = E m c (ix2 0 d) := by
  blk_point [iblk, V, idx6 t]

/-! ## The body's values -/

theorem pay7_eq (x : Vec Ideal S256x2048 .f32) : k0_pay7 x = Cert.Kernel25Ideal.Gen.k0_pay8 x := rfl
theorem pay8_eq (x : Vec Ideal S256x2048 .f32) : k0_pay8 x = Cert.Kernel25Ideal.Gen.k0_pay9 x := rfl
theorem pay6_eq (h : Vec Ideal S256x2048 .bf16) : k0_pay6 (F := Ideal) h = h := rfl
theorem pay13_eq (h x r : Vec Ideal S256x2048 .f32) (g a : Vec Ideal S1x2048 .f32) :
    k0_pay13 h g (k0_pay7 x) (k0_pay8 x) a r
      = Cert.Kernel25Ideal.Gen.k0_pay3 h g (Cert.Kernel25Ideal.Gen.k0_pay8 x) (Cert.Kernel25Ideal.Gen.k0_pay9 x) a r := rfl

theorem pay9_at (x : Vec Ideal S256x2048 .f32) (h : Vec Ideal S256x2048 .bf16) (g acc : Vec Ideal S1x2048 .f32) (d : Fin 2048) :
    k0_pay9 x h g acc (ix2 0 d) = acc (ix2 0 d) + pa x h g d :=
  Cert.Proof.NormBwd.pay10_at x h g acc d

theorem pay10_at (h : Vec Ideal S256x2048 .bf16) (acc : Vec Ideal S1x2048 .f32) (d : Fin 2048) :
    k0_pay10 h acc (ix2 0 d) = acc (ix2 0 d) + pb h d :=
  Cert.Proof.NormBwd.pay11_at h acc d

theorem pay12_at (h x : Vec Ideal S256x2048 .f32) (a acc : Vec Ideal S1x2048 .f32) (d : Fin 2048) :
    k0_pay12 h (k0_pay8 x) a acc (ix2 0 d) = acc (ix2 0 d) + pg x h a d :=
  Cert.Proof.NormBwd.pay2_at h x a acc d

/-- The branch's gradient from the rows'. -/
theorem pay14_at (h x r : Vec Ideal S256x2048 .f32) (g a e : Vec Ideal S1x2048 .f32) (s : Fin 256) (d : Fin 2048) :
    k0_pay14 h g (k0_pay7 x) (k0_pay8 x) a r e (ix2 s d) = k0_pay13 h g (k0_pay7 x) (k0_pay8 x) a r (ix2 s d) * e (ix2 0 d) := by
  pointwise [k0_pay14]

/-- A block's part of the gate's gradient. -/
def pe (v y : S256x2048.Idx → EReal) (d : Fin 2048) : EReal := ∑ s : Fin 256, v (ix2 s d) * y (ix2 s d)

theorem pay1_at (h x r : Vec Ideal S256x2048 .f32) (g a acc : Vec Ideal S1x2048 .f32) (y : Vec Ideal S256x2048 .bf16) (d : Fin 2048) :
    k0_pay1 (k0_pay15 acc) (k0_pay16 h g (k0_pay7 x) (k0_pay8 x) a r y) (ix2 0 d)
      = acc (ix2 0 d) + pe (k0_pay13 h g (k0_pay7 x) (k0_pay8 x) a r) y d := by
  unfold pe
  pointwise [k0_pay1, k0_pay15, k0_pay16]

theorem pay2_at (j : S1x2048.Idx) : k0_pay2 (F := Ideal) j = 0 := by pointwise [k0_pay2]
theorem pay3_at (j : S1x2048.Idx) : k0_pay3 (F := Ideal) j = 0 := by pointwise [k0_pay3]
theorem pay4_at (j : S1x2048.Idx) : k0_pay4 (F := Ideal) j = 0 := by pointwise [k0_pay4]
theorem pay5_at (j : S1x2048.Idx) : k0_pay5 (F := Ideal) j = 0 := by pointwise [k0_pay5]

/-- A block's inverse roots are its tokens'. -/
theorem invb_eq (s : Fin 256) : NormBwd.invb (iblk m c 0 t) s = NormBwd.inv (X m c) (tok t s) := by
  unfold NormBwd.invb NormBwd.inv
  simp only [rd0]

/-- The rows' gradient that a point's blocks give. -/
abbrev dxb : S256x2048.Idx → EReal :=
  k0_pay13 (F := Ideal) (k0_pay6 (iblk m c 1 t)) (iblk m c 3 t) (k0_pay7 (iblk m c 0 t)) (k0_pay8 (iblk m c 0 t)) (iblk m c 4 t) (iblk m c 2 t)

theorem dxb_at (s : Fin 256) (d : Fin 2048) : dxb m c t (ix2 s d) = DX (X m c) (H m c) (R m c) (G m c) (A m c) (ix2 (tok t s) d) := by
  unfold dxb
  rw [pay6_eq, pay13_eq, Cert.Proof.NormBwd.pay3_at, invb_eq, rd0, rd1, rd2, rd3, rd4]
  simp only [rd0, rd1, rd3, rd4]
  rfl

/-- The block of the rows' gradient that a point writes. -/
theorem out7_at (s : Fin 256) (d : Fin 2048) :
    (outsAt0 m c t.val t.isLt).1 (ix2 s d) = DX (X m c) (H m c) (R m c) (G m c) (A m c) (ix2 (tok t s) d) := by
  refine Eq.trans ?_ (dxb_at m c t s d)
  by_cases h : t.val % 8 = 0
  · rw [outsAt0_A m c t h]; frame_out
  · rw [outsAt0_B m c t h]; frame_out

/-- The block of the branch's gradient that a point writes. -/
theorem out11_at (s : Fin 256) (d : Fin 2048) :
    (outsAt0 m c t.val t.isLt).2.2.2.2.1 (ix2 s d) = DY (X m c) (H m c) (R m c) (G m c) (A m c) (E m c) (ix2 (tok t s) d) := by
  have e : (outsAt0 m c t.val t.isLt).2.2.2.2.1 (ix2 s d)
      = k0_pay14 (k0_pay6 (iblk m c 1 t)) (iblk m c 3 t) (k0_pay7 (iblk m c 0 t)) (k0_pay8 (iblk m c 0 t)) (iblk m c 4 t) (iblk m c 2 t) (iblk m c 6 t) (ix2 s d) := by
    by_cases h : t.val % 8 = 0
    · rw [outsAt0_A m c t h]; frame_out
    · rw [outsAt0_B m c t h]; frame_out
  rw [e, pay14_at, rd6]
  show dxb m c t (ix2 s d) * _ = DX _ _ _ _ _ _ * _
  rw [dxb_at]
  rfl

/-- The scale's gradient after the last point. -/
theorem acc8 (h : t.val % 8 = 7) (d : Fin 2048) : (outsAt0 m c t.val t.isLt).2.1 (ix2 0 d) = DA (X m c) (H m c) (G m c) (ix2 0 d) := by
  have hN : cfg0.N = 8 := rfl
  have ht := t.isLt
  rw [Pipeline.eq_sum_fin_of_reset_step_apply_of_flush (fun n h => (outsAt0 m c n h).2.1) 8 (fun _ => 0)
    (fun t j => pa (iblk m c 0 t) (iblk m c 1 t) (iblk m c 3 t) (j 1))
    (fun t h j => by
      obtain ⟨s, n, rfl⟩ := exists_ix2 (a := 1) (b := 2048) j
      obtain rfl : s = 0 := Subsingleton.elim _ _
      rw [outsAt0_A m c t h]; frame_out; rw [pay9_at, pay2_at]; rfl)
    (fun t h j => by
      obtain ⟨s, n, rfl⟩ := exists_ix2 (a := 1) (b := 2048) j
      obtain rfl : s = 0 := Subsingleton.elim _ _
      rw [outsAt0_B m c t h]; frame_out; rw [pay9_at]; rfl)
    t h (ix2 0 d), zero_add]
  show ∑ q : Fin 8, pa _ _ _ d = _
  unfold pa DA
  refine Fin.sum_mul_add_congr fun q k hl => ?_
  have e (u : Fin cfg0.N) (hu : u.val = q.val) : tok u k = ⟨q.val * 256 + k.val, hl⟩ := Fin.ext (by show u.val * 256 + k.val = _; rw [hu])
  rw [invb_eq, rd0, rd1, rd3, e _ (by show 8 * (t.val / 8) + q.val = q.val; omega)]
  rfl

/-- The shift's gradient after the last point. -/
theorem acc9 (h : t.val % 8 = 7) (d : Fin 2048) : (outsAt0 m c t.val t.isLt).2.2.1 (ix2 0 d) = DB (H m c) (ix2 0 d) := by
  have hN : cfg0.N = 8 := rfl
  have ht := t.isLt
  rw [Pipeline.eq_sum_fin_of_reset_step_apply_of_flush (fun n h => (outsAt0 m c n h).2.2.1) 8 (fun _ => 0)
    (fun t j => pb (iblk m c 1 t) (j 1))
    (fun t h j => by
      obtain ⟨s, n, rfl⟩ := exists_ix2 (a := 1) (b := 2048) j
      obtain rfl : s = 0 := Subsingleton.elim _ _
      rw [outsAt0_A m c t h]; frame_out; rw [pay10_at, pay3_at]; rfl)
    (fun t h j => by
      obtain ⟨s, n, rfl⟩ := exists_ix2 (a := 1) (b := 2048) j
      obtain rfl : s = 0 := Subsingleton.elim _ _
      rw [outsAt0_B m c t h]; frame_out; rw [pay10_at]; rfl)
    t h (ix2 0 d), zero_add]
  show ∑ q : Fin 8, pb _ d = _
  unfold pb DB
  refine Fin.sum_mul_add_congr fun q k hl => ?_
  have e (u : Fin cfg0.N) (hu : u.val = q.val) : tok u k = ⟨q.val * 256 + k.val, hl⟩ := Fin.ext (by show u.val * 256 + k.val = _; rw [hu])
  rw [rd1, e _ (by show 8 * (t.val / 8) + q.val = q.val; omega)]
  rfl

/-- The weight's gradient after the last point. -/
theorem acc10 (h : t.val % 8 = 7) (d : Fin 2048) : (outsAt0 m c t.val t.isLt).2.2.2.1 (ix2 0 d) = DG (X m c) (H m c) (A m c) (ix2 0 d) := by
  have hN : cfg0.N = 8 := rfl
  have ht := t.isLt
  rw [Pipeline.eq_sum_fin_of_reset_step_apply_of_flush (fun n h => (outsAt0 m c n h).2.2.2.1) 8 (fun _ => 0)
    (fun t j => pg (iblk m c 0 t) (iblk m c 1 t) (iblk m c 4 t) (j 1))
    (fun t h j => by
      obtain ⟨s, n, rfl⟩ := exists_ix2 (a := 1) (b := 2048) j
      obtain rfl : s = 0 := Subsingleton.elim _ _
      rw [outsAt0_A m c t h]; frame_out; rw [pay6_eq, pay12_at, pay4_at]; rfl)
    (fun t h j => by
      obtain ⟨s, n, rfl⟩ := exists_ix2 (a := 1) (b := 2048) j
      obtain rfl : s = 0 := Subsingleton.elim _ _
      rw [outsAt0_B m c t h]; frame_out; rw [pay6_eq, pay12_at]; rfl)
    t h (ix2 0 d), zero_add]
  show ∑ q : Fin 8, pg _ _ _ d = _
  unfold pg DG
  refine Fin.sum_mul_add_congr fun q k hl => ?_
  have e (u : Fin cfg0.N) (hu : u.val = q.val) : tok u k = ⟨q.val * 256 + k.val, hl⟩ := Fin.ext (by show u.val * 256 + k.val = _; rw [hu])
  rw [invb_eq, rd0, rd1, rd4, e _ (by show 8 * (t.val / 8) + q.val = q.val; omega)]
  rfl

/-- The gate's gradient after the last point. -/
theorem acc12 (h : t.val % 8 = 7) (d : Fin 2048) : (outsAt0 m c t.val t.isLt).2.2.2.2.2 (ix2 0 d) = DE (X m c) (H m c) (R m c) (Y m c) (G m c) (A m c) (ix2 0 d) := by
  have hN : cfg0.N = 8 := rfl
  have ht := t.isLt
  rw [Pipeline.eq_sum_fin_of_reset_step_apply_of_flush (fun n h => (outsAt0 m c n h).2.2.2.2.2) 8 (fun _ => 0)
    (fun t j => pe (dxb m c t) (iblk m c 5 t) (j 1))
    (fun t h j => by
      obtain ⟨s, n, rfl⟩ := exists_ix2 (a := 1) (b := 2048) j
      obtain rfl : s = 0 := Subsingleton.elim _ _
      rw [outsAt0_A m c t h]; frame_out; rw [pay1_at, pay5_at]; rfl)
    (fun t h j => by
      obtain ⟨s, n, rfl⟩ := exists_ix2 (a := 1) (b := 2048) j
      obtain rfl : s = 0 := Subsingleton.elim _ _
      rw [outsAt0_B m c t h]; frame_out; rw [pay1_at]; rfl)
    t h (ix2 0 d), zero_add]
  show ∑ q : Fin 8, pe _ _ d = _
  unfold pe DE
  refine Fin.sum_mul_add_congr fun q k hl => ?_
  have e (u : Fin cfg0.N) (hu : u.val = q.val) : tok u k = ⟨q.val * 256 + k.val, hl⟩ := Fin.ext (by show u.val * 256 + k.val = _; rw [hu])
  rw [dxb_at, rd5, e _ (by show 8 * (t.val / 8) + q.val = q.val; omega)]
  rfl

/-! ## The arrays after the run -/

theorem emb7 (s : Fin 256) (d : Fin 2048) : (win0_7.blk t).view.emb (ix2 s d) = (ix2 (tok t s) d : S2048x2048.Idx) := by
  unfold tok
  blk_ext [idx7 t]

/-- The rows's gradient after the run. -/
theorem final7 : (dats m 0 c).arrAt 7 cfg0.N = DX (X m c) (H m c) (R m c) (G m c) (A m c) := by
  refine (dats m 0 c).arrAt_eq_of_covers 7 _ (by decide +kernel) fun t hf z => ?_
  blk_simp
  rw [after0_7]
  obtain ⟨s, d, rfl⟩ := exists_ix2 (a := 256) (b := 2048) z
  rw [emb7]
  exact out7_at m c t s d

theorem emb11 (s : Fin 256) (d : Fin 2048) : (win0_11.blk t).view.emb (ix2 s d) = (ix2 (tok t s) d : S2048x2048.Idx) := by
  unfold tok
  blk_ext [idx11 t]

/-- The branch's gradient after the run. -/
theorem final11 : (dats m 0 c).arrAt 11 cfg0.N = DY (X m c) (H m c) (R m c) (G m c) (A m c) (E m c) := by
  refine (dats m 0 c).arrAt_eq_of_covers 11 _ (by decide +kernel) fun t hf z => ?_
  blk_simp
  rw [after0_11]
  obtain ⟨s, d, rfl⟩ := exists_ix2 (a := 256) (b := 2048) z
  rw [emb11]
  exact out11_at m c t s d

theorem emb8 (d : Fin 2048) : (win0_8.blk t).view.emb (ix2 0 d) = (ix2 0 d : S1x2048.Idx) := by
  blk_ext [idx8 t]

/-- The scale's gradient after the run. -/
theorem final8 : (dats m 0 c).arrAt 8 cfg0.N = DA (X m c) (H m c) (G m c) := by
  refine (dats m 0 c).arrAt_eq_of_covers 8 _ (by decide +kernel) fun t hf z => ?_
  blk_simp
  rw [after0_8]
  obtain ⟨s, d, rfl⟩ := exists_ix2 (a := 1) (b := 2048) z
  obtain rfl : s = 0 := Subsingleton.elim _ _
  rw [emb8]
  exact acc8 m c t ((flush0_8 t).mp hf) d

theorem emb9 (d : Fin 2048) : (win0_9.blk t).view.emb (ix2 0 d) = (ix2 0 d : S1x2048.Idx) := by
  blk_ext [idx9 t]

/-- The shift's gradient after the run. -/
theorem final9 : (dats m 0 c).arrAt 9 cfg0.N = DB (H m c) := by
  refine (dats m 0 c).arrAt_eq_of_covers 9 _ (by decide +kernel) fun t hf z => ?_
  blk_simp
  rw [after0_9]
  obtain ⟨s, d, rfl⟩ := exists_ix2 (a := 1) (b := 2048) z
  obtain rfl : s = 0 := Subsingleton.elim _ _
  rw [emb9]
  exact acc9 m c t ((flush0_9 t).mp hf) d

theorem emb10 (d : Fin 2048) : (win0_10.blk t).view.emb (ix2 0 d) = (ix2 0 d : S1x2048.Idx) := by
  blk_ext [idx10 t]

/-- The weight's gradient after the run. -/
theorem final10 : (dats m 0 c).arrAt 10 cfg0.N = DG (X m c) (H m c) (A m c) := by
  refine (dats m 0 c).arrAt_eq_of_covers 10 _ (by decide +kernel) fun t hf z => ?_
  blk_simp
  rw [after0_10]
  obtain ⟨s, d, rfl⟩ := exists_ix2 (a := 1) (b := 2048) z
  obtain rfl : s = 0 := Subsingleton.elim _ _
  rw [emb10]
  exact acc10 m c t ((flush0_10 t).mp hf) d

theorem emb12 (d : Fin 2048) : (win0_12.blk t).view.emb (ix2 0 d) = (ix2 0 d : S1x2048.Idx) := by
  blk_ext [idx12 t]

/-- The gate's gradient after the run. -/
theorem final12 : (dats m 0 c).arrAt 12 cfg0.N = DE (X m c) (H m c) (R m c) (Y m c) (G m c) (A m c) := by
  refine (dats m 0 c).arrAt_eq_of_covers 12 _ (by decide +kernel) fun t hf z => ?_
  blk_simp
  rw [after0_12]
  obtain ⟨s, d, rfl⟩ := exists_ix2 (a := 1) (b := 2048) z
  obtain rfl : s = 0 := Subsingleton.elim _ _
  rw [emb12]
  exact acc12 m c t ((flush0_12 t).mp hf) d

section reference

open Cert.Reference26Ideal.Read

theorem refX (x h r : S2048x2048.Idx → EReal) (g a : S1x2048.Idx → EReal) : val_main_v49 (F := Ideal) x h r g a = DX x h r g a :=
  (rfl : _ = Cert.Reference25Ideal.Read.val_main_v49 (F := Ideal) x h r g a).trans (Cert.Proof.NormBwd.refX x h r g a)

theorem refA (x h : S2048x2048.Idx → EReal) (g : S1x2048.Idx → EReal) : val_main_v27 (F := Ideal) x h g = DA x h g :=
  (rfl : _ = Cert.Reference25Ideal.Read.val_main_v27 (F := Ideal) x h g).trans (Cert.Proof.NormBwd.refA x h g)

theorem refB (h : S2048x2048.Idx → EReal) : val_main_v24 (F := Ideal) h = DB h :=
  (rfl : _ = Cert.Reference25Ideal.Read.val_main_v24 (F := Ideal) h).trans (Cert.Proof.NormBwd.refB h)

theorem refG (x h : S2048x2048.Idx → EReal) (a : S1x2048.Idx → EReal) : val_main_v32 (F := Ideal) x h a = DG x h a :=
  (rfl : _ = Cert.Reference25Ideal.Read.val_main_v32 (F := Ideal) x h a).trans (Cert.Proof.NormBwd.refG x h a)

/-- The reference's gradient of the branch. -/
theorem refY (x h r : S2048x2048.Idx → EReal) (g a e : S1x2048.Idx → EReal) :
    val_main_v58 (F := Ideal) x h r g a e = DY x h r g a e := by
  refine funext fun (i : S2048x2048.Idx) => ?_
  obtain ⟨s, d, rfl⟩ := exists_ix2 (a := 2048) (b := 2048) i
  pointwise [val_main_v58, val_main_v54, val_main_v53]
  rw [refX x h r g a, mul_comm]
  rfl

/-- The reference's gradient of the gate. -/
theorem refE (x h r y : S2048x2048.Idx → EReal) (g a : S1x2048.Idx → EReal) :
    val_main_v57 (F := Ideal) x h r g a y = DE x h r y g a := by
  refine funext fun (i : S1x2048.Idx) => ?_
  obtain ⟨s, d, rfl⟩ := exists_ix2 (a := 1) (b := 2048) i
  obtain rfl : s = 0 := Subsingleton.elim _ _
  pointwise [val_main_v57, val_main_v56, val_main_v55, val_main_v50, val_main_cst_11]
  rw [refX x h r g a]
  rfl

end reference

/-- The kernel's six results are the reference's. -/
theorem value : algebraic_Kernel26Ideal_Reference26Ideal (hKernel26Ideal := Cert.Kernel26Ideal.Gen.facts)
    (hReference26Ideal := Cert.Reference26Ideal.Gen.facts) := by
  intro m g m' g' _ hag
  refine ⟨fun c => DX (X m c) (H m c) (R m c) (G m c) (A m c), fun c => DA (X m c) (H m c) (G m c), fun c => DB (H m c),
    fun c => DG (X m c) (H m c) (A m c), fun c => DY (X m c) (H m c) (R m c) (G m c) (A m c) (E m c),
    fun c => DE (X m c) (H m c) (R m c) (Y m c) (G m c) (A m c), ?_, ?_⟩
  · exact (θ_run _ _ _).mono (fun r h c => ⟨(h c).1.trans (final7 m c), (h c).2.1.trans (final8 m c), (h c).2.2.1.trans (final9 m c),
      (h c).2.2.2.1.trans (final10 m c), (h c).2.2.2.2.1.trans (final11 m c), (h c).2.2.2.2.2.1.trans (final12 m c), (h c).2.2.2.2.2.2⟩)
      (Cert.Kernel26Ideal.Value.run_blocks m g)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference26Ideal.Value.run m' g')
    all_goals obtain ⟨h0, h1, h2, h3, h4, h5, h6⟩ := hag c
    · rw [Cert.Reference26Ideal.Read.val_main_v49_eq, h0, h1, h2, h3, h4]
      exact refX _ _ _ _ _
    · rw [Cert.Reference26Ideal.Read.val_main_v27_eq, h0, h1, h3]
      exact refA _ _ _
    · rw [Cert.Reference26Ideal.Read.val_main_v24_eq, h1]
      exact refB _
    · rw [Cert.Reference26Ideal.Read.val_main_v32_eq, h0, h1, h4]
      exact refG _ _ _
    · rw [Cert.Reference26Ideal.Read.val_main_v58_eq, h0, h1, h2, h3, h4, h6]
      exact refY _ _ _ _ _ _
    · rw [Cert.Reference26Ideal.Read.val_main_v57_eq, h0, h1, h2, h3, h4, h5]
      exact refE _ _ _ _ _ _

/-- The reference runs, its arguments end unchanged, and it has no semaphore to leave raised. -/
theorem refFrame : quiescent_Reference26Ideal (hReference26Ideal := Cert.Reference26Ideal.Gen.facts) := fun m g _ =>
  (θ_run _ _ _).mono (fun r h => ⟨fun c => (h c).2.2.2.2.2.2, funext fun s => by
    rcases s with ⟨_, s⟩; rcases s with s | s <;> exact s.elim0⟩) (Cert.Reference26Ideal.Value.run m g)

end Cert.Proof.NormBwdGated

end
-- ==== Proof.Norm.Loss.lean ====
/-
  The loss head with the gated residual below it: the kernel's five arrays and the reference's.
-/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Norm.Backward

@[expose] public section

set_option maxRecDepth 20000

noncomputable section

namespace Cert.Proof.Loss

open Cert.Kernel27Ideal Cert.Kernel27Ideal.Gen Idealize.ShloMosaic Idealize.ShloMosaic.TcCoe Idealize.SL.Sem Cert.Proof.Norm

/-! ## The numbers -/

/-- One half. -/
abbrev hf : EReal := Ideal.ofBits .f32 0x3F000000#32
/-- Two. -/
abbrev two : EReal := Ideal.ofBits .f32 0x40000000#32
/-- A row's share of an element: one over the row's length. -/
abbrev share : EReal := Ideal.ofBits .f32 0x3A000000#32

theorem hf_eq : hf = ((1 / 2 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem share_eq : share = ((1 / 2048 : ℝ) : EReal) := by
  simp [Ideal.ofBits, Ideal.ieee, -EReal.coe_mul]; norm_num

/-- Half a sum is the sum of the halves, whatever is added. -/
theorem hf_sum {n : ℕ} (f : Fin n → EReal) : ∑ q, hf * f q = hf * ∑ q, f q := by
  have h0 : (0 : EReal) ≤ hf := by rw [hf_eq]; exact_mod_cast (by norm_num : (0 : ℝ) ≤ 1 / 2)
  have h1 : hf ≠ ⊤ := by rw [hf_eq]; exact EReal.coe_ne_top _
  induction n with
  | zero => simp
  | succ n ih => rw [Fin.sum_univ_succ, Fin.sum_univ_succ, ih, EReal.left_distrib_of_nonneg_of_ne_top h0 h1]

/-- The derivative of half a square over the row's length. -/
theorem slope (e : EReal) : Ideal.div (hf * 1) len * (two * e) = e * share := by
  rw [hf_eq, two_eq, share_eq, len_eq, mul_one, Ideal.div_coe (by norm_num), ← mul_assoc, mul_comm e]
  simp only [← EReal.coe_mul]
  norm_num

/-! ## The results -/

/-- The error of the normed rows. -/
def err (x w : S2048x2048.Idx → EReal) (g : S1x2048.Idx → EReal) (s k : Fin 2048) : EReal :=
  x (ix2 s k) * NormBwd.inv x s * g (ix2 0 k) - w (ix2 s k)

/-- The cotangent of the norm's rows before its vector. -/
def dh (x w : S2048x2048.Idx → EReal) (g : S1x2048.Idx → EReal) (s k : Fin 2048) : EReal := err x w g s k * share * g (ix2 0 k)

/-- The gradient of the rows. -/
def DX (x w : S2048x2048.Idx → EReal) (g : S1x2048.Idx → EReal) : S2048x2048.Idx → EReal := fun i =>
  NormBwd.inv x (i 0) * (dh x w g (i 0) (i 1) - x (ix2 (i 0) (i 1)) * NormBwd.inv x (i 0)
    * Ideal.div (∑ k, dh x w g (i 0) k * (x (ix2 (i 0) k) * NormBwd.inv x (i 0))) len)

/-- The loss, the same number all along the row. -/
def LO (x w : S2048x2048.Idx → EReal) (g : S1x2048.Idx → EReal) : S1x128.Idx → EReal := fun _ =>
  hf * ∑ s : Fin 2048, Ideal.div (∑ k : Fin 2048, err x w g s k * err x w g s k) len

/-- The gradient of the norm's vector. -/
def DG (x w : S2048x2048.Idx → EReal) (g : S1x2048.Idx → EReal) : S1x2048.Idx → EReal := fun i =>
  ∑ s : Fin 2048, err x w g s (i 1) * share * (x (ix2 s (i 1)) * NormBwd.inv x s)

/-- The gradient of the branch's result: the rows' gradient gated. -/
def DY (x w : S2048x2048.Idx → EReal) (g e : S1x2048.Idx → EReal) : S2048x2048.Idx → EReal := fun i => DX x w g i * e (ix2 0 (i 1))

/-- The gradient of the gate. -/
def DE (x w y : S2048x2048.Idx → EReal) (g : S1x2048.Idx → EReal) : S1x2048.Idx → EReal := fun i =>
  ∑ s : Fin 2048, DX x w g (ix2 s (i 1)) * y (ix2 s (i 1))

variable (m : (ℓ : Loc nD τ sig) → Buf (Elt Ideal) ℓ) (c : Dev nD)

/-- The rows. -/
abbrev X : S2048x2048.Idx → EReal := m ((c : Thread nD τ).loc main_arg0)
/-- The norm's vector. -/
abbrev G : S1x2048.Idx → EReal := m ((c : Thread nD τ).loc main_arg1)
/-- The target. -/
abbrev W : S2048x2048.Idx → EReal := m ((c : Thread nD τ).loc main_arg2)
/-- The branch's result. -/
abbrev Y : S2048x2048.Idx → EReal := m ((c : Thread nD τ).loc main_arg3)
/-- The gate. -/
abbrev E : S1x2048.Idx → EReal := m ((c : Thread nD τ).loc main_arg4)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

/-- The token that row `s` of block `t` holds. -/
def tok (t : Fin cfg0.N) (s : Fin 256) : Fin 2048 := ⟨t.val * 256 + s.val, by have := t.isLt; have : cfg0.N = 8 := rfl; omega⟩

variable (t : Fin cfg0.N)

theorem rd0 (s : Fin 256) (d : Fin 2048) : iblk m c 0 t (ix2 s d) = X m c (ix2 (tok t s) d) := by
  blk_point [iblk, V, idx0 t, tok]
theorem rd2 (s : Fin 256) (d : Fin 2048) : iblk m c 2 t (ix2 s d) = W m c (ix2 (tok t s) d) := by
  blk_point [iblk, V, idx2 t, tok]
theorem rd3 (s : Fin 256) (d : Fin 2048) : iblk m c 3 t (ix2 s d) = Y m c (ix2 (tok t s) d) := by
  blk_point [iblk, V, idx3 t, tok]
theorem rd1 (d : Fin 2048) : iblk m c 1 t (ix2 0 d) = G m c (ix2 0 d) := by
  blk_point [iblk, V, idx1 t]
theorem rd4 (d : Fin 2048) : iblk m c 4 t (ix2 0 d) = E m c (ix2 0 d) := by
  blk_point [iblk, V, idx4 t]

/-! ## The body's values -/

theorem pay8_at (x : Vec Ideal S256x2048 .f32) (s : Fin 256) : k0_pay8 x (ix2 s 0) = NormBwd.invb x s := by
  pointwise [k0_pay8]
  rfl

theorem pay9_at (x : Vec Ideal S256x2048 .f32) (s : Fin 256) (d : Fin 2048) : k0_pay9 x (ix2 s d) = x (ix2 s d) * NormBwd.invb x s := by
  pointwise [k0_pay9]
  rw [pay8_at]

/-- A block's errors. -/
def errb (x w : S256x2048.Idx → EReal) (g : S1x2048.Idx → EReal) (s : Fin 256) (k : Fin 2048) : EReal :=
  x (ix2 s k) * NormBwd.invb x s * g (ix2 0 k) - w (ix2 s k)

theorem pay10_at (x w : Vec Ideal S256x2048 .f32) (g : Vec Ideal S1x2048 .f32) (s : Fin 256) (d : Fin 2048) :
    k0_pay10 x g w (ix2 s d) = errb x w g s d := by
  pointwise [k0_pay10]
  rw [pay9_at]
  rfl

theorem pay12_at (x w : Vec Ideal S256x2048 .f32) (g : Vec Ideal S1x2048 .f32) (s : Fin 256) (d : Fin 2048) :
    k0_pay12 x g w (ix2 s d) = errb x w g s d * share := by
  pointwise [k0_pay12]
  rw [pay10_at]

/-- What the body stores of the rows' gradient. -/
theorem pay2_at (x w : Vec Ideal S256x2048 .f32) (g : Vec Ideal S1x2048 .f32) (s : Fin 256) (d : Fin 2048) :
    k0_pay2 g (k0_pay8 x) (k0_pay9 x) (k0_pay12 x g w) (ix2 s d)
      = NormBwd.invb x s * (errb x w g s d * share * g (ix2 0 d) - x (ix2 s d) * NormBwd.invb x s
          * Ideal.div (∑ k : Fin 2048, errb x w g s k * share * g (ix2 0 k) * (x (ix2 s k) * NormBwd.invb x s)) len) := by
  pointwise [k0_pay2]
  simp only [pay8_at, pay9_at, pay12_at]

/-- A block's part of the loss. -/
def pl (x w : S256x2048.Idx → EReal) (g : S1x2048.Idx → EReal) : EReal :=
  ∑ s : Fin 256, Ideal.div (∑ k : Fin 2048, errb x w g s k * errb x w g s k) len

theorem pay11_at (x w : Vec Ideal S256x2048 .f32) (g : Vec Ideal S1x2048 .f32) (acc : Vec Ideal S1x128 .f32) (d : Fin 128) :
    k0_pay11 x g w acc (ix2 0 d) = acc (ix2 0 d) + hf * pl x w g := by
  unfold pl
  pointwise [k0_pay11]
  simp only [pay10_at, Fin.sum_univ_one]

/-- A block's part of the vector's gradient. -/
def pg (x w : S256x2048.Idx → EReal) (g : S1x2048.Idx → EReal) (d : Fin 2048) : EReal :=
  ∑ s : Fin 256, errb x w g s d * share * (x (ix2 s d) * NormBwd.invb x s)

theorem pay1_at (x w : Vec Ideal S256x2048 .f32) (g acc : Vec Ideal S1x2048 .f32) (d : Fin 2048) :
    k0_pay1 (k0_pay9 x) (k0_pay12 x g w) acc (ix2 0 d) = acc (ix2 0 d) + pg x w g d := by
  unfold pg
  pointwise [k0_pay1]
  simp only [pay9_at, pay12_at]

/-- The branch's gradient from the rows'. -/
theorem pay3_at (x w : Vec Ideal S256x2048 .f32) (g e : Vec Ideal S1x2048 .f32) (s : Fin 256) (d : Fin 2048) :
    k0_pay3 g (k0_pay8 x) (k0_pay9 x) (k0_pay12 x g w) e (ix2 s d)
      = k0_pay2 g (k0_pay8 x) (k0_pay9 x) (k0_pay12 x g w) (ix2 s d) * e (ix2 0 d) := by
  pointwise [k0_pay3]

/-- A block's part of the gate's gradient. -/
def pe (v y : S256x2048.Idx → EReal) (d : Fin 2048) : EReal := ∑ s : Fin 256, v (ix2 s d) * y (ix2 s d)

theorem pay4_at (x w : Vec Ideal S256x2048 .f32) (g acc : Vec Ideal S1x2048 .f32) (y : Vec Ideal S256x2048 .bf16) (d : Fin 2048) :
    k0_pay4 g (k0_pay8 x) (k0_pay9 x) (k0_pay12 x g w) acc y (ix2 0 d)
      = acc (ix2 0 d) + pe (k0_pay2 g (k0_pay8 x) (k0_pay9 x) (k0_pay12 x g w)) y d := by
  unfold pe
  pointwise [k0_pay4]

theorem pay5_at (j : S1x128.Idx) : k0_pay5 (F := Ideal) j = 0 := by pointwise [k0_pay5]
theorem pay6_at (j : S1x2048.Idx) : k0_pay6 (F := Ideal) j = 0 := by pointwise [k0_pay6]
theorem pay7_at (j : S1x2048.Idx) : k0_pay7 (F := Ideal) j = 0 := by pointwise [k0_pay7]

/-- A block's inverse roots are its tokens'. -/
theorem invb_eq (s : Fin 256) : NormBwd.invb (iblk m c 0 t) s = NormBwd.inv (X m c) (tok t s) := by
  unfold NormBwd.invb NormBwd.inv
  simp only [rd0]

/-- A block's errors are its tokens'. -/
theorem errb_eq (s : Fin 256) (d : Fin 2048) : errb (iblk m c 0 t) (iblk m c 2 t) (iblk m c 1 t) s d = err (X m c) (W m c) (G m c) (tok t s) d := by
  unfold errb err
  rw [invb_eq, rd0, rd1, rd2]

/-- The rows' gradient that a point's blocks give. -/
abbrev dxb : S256x2048.Idx → EReal :=
  k0_pay2 (F := Ideal) (iblk m c 1 t) (k0_pay8 (iblk m c 0 t)) (k0_pay9 (iblk m c 0 t)) (k0_pay12 (iblk m c 0 t) (iblk m c 1 t) (iblk m c 2 t))

theorem dxb_at (s : Fin 256) (d : Fin 2048) : dxb m c t (ix2 s d) = DX (X m c) (W m c) (G m c) (ix2 (tok t s) d) := by
  unfold dxb
  rw [pay2_at, invb_eq, rd0, rd1, errb_eq]
  simp only [rd0, rd1, errb_eq]
  rfl

/-- The block of the rows' gradient that a point writes. -/
theorem out5_at (s : Fin 256) (d : Fin 2048) : (outsAt0 m c t.val t.isLt).1 (ix2 s d) = DX (X m c) (W m c) (G m c) (ix2 (tok t s) d) := by
  refine Eq.trans ?_ (dxb_at m c t s d)
  by_cases h : t.val % 8 = 0
  · rw [outsAt0_A m c t h]; frame_out
  · rw [outsAt0_B m c t h]; frame_out

/-- The block of the branch's gradient that a point writes. -/
theorem out8_at (s : Fin 256) (d : Fin 2048) :
    (outsAt0 m c t.val t.isLt).2.2.2.1 (ix2 s d) = DY (X m c) (W m c) (G m c) (E m c) (ix2 (tok t s) d) := by
  have e : (outsAt0 m c t.val t.isLt).2.2.2.1 (ix2 s d)
      = k0_pay3 (iblk m c 1 t) (k0_pay8 (iblk m c 0 t)) (k0_pay9 (iblk m c 0 t)) (k0_pay12 (iblk m c 0 t) (iblk m c 1 t) (iblk m c 2 t)) (iblk m c 4 t) (ix2 s d) := by
    by_cases h : t.val % 8 = 0
    · rw [outsAt0_A m c t h]; frame_out
    · rw [outsAt0_B m c t h]; frame_out
  rw [e, pay3_at, rd4]
  show dxb m c t (ix2 s d) * _ = DX _ _ _ _ * _
  rw [dxb_at]
  rfl

/-- The vector's gradient after the last point. -/
theorem acc7 (h : t.val % 8 = 7) (d : Fin 2048) : (outsAt0 m c t.val t.isLt).2.2.1 (ix2 0 d) = DG (X m c) (W m c) (G m c) (ix2 0 d) := by
  have hN : cfg0.N = 8 := rfl
  have ht := t.isLt
  rw [Pipeline.eq_sum_fin_of_reset_step_apply_of_flush (fun n h => (outsAt0 m c n h).2.2.1) 8 (fun _ => 0)
    (fun t j => pg (iblk m c 0 t) (iblk m c 2 t) (iblk m c 1 t) (j 1))
    (fun t h j => by
      obtain ⟨s, n, rfl⟩ := exists_ix2 (a := 1) (b := 2048) j
      obtain rfl : s = 0 := Subsingleton.elim _ _
      rw [outsAt0_A m c t h]; frame_out; rw [pay1_at, pay6_at]; rfl)
    (fun t h j => by
      obtain ⟨s, n, rfl⟩ := exists_ix2 (a := 1) (b := 2048) j
      obtain rfl : s = 0 := Subsingleton.elim _ _
      rw [outsAt0_B m c t h]; frame_out; rw [pay1_at]; rfl)
    t h (ix2 0 d), zero_add]
  show ∑ q : Fin 8, pg _ _ _ d = _
  unfold pg DG
  refine Fin.sum_mul_add_congr fun q k hl => ?_
  have e (u : Fin cfg0.N) (hu : u.val = q.val) : tok u k = ⟨q.val * 256 + k.val, hl⟩ := Fin.ext (by show u.val * 256 + k.val = _; rw [hu])
  rw [errb_eq, invb_eq, rd0, e _ (by show 8 * (t.val / 8) + q.val = q.val; omega)]
  rfl

/-- The gate's gradient after the last point. -/
theorem acc9 (h : t.val % 8 = 7) (d : Fin 2048) : (outsAt0 m c t.val t.isLt).2.2.2.2 (ix2 0 d) = DE (X m c) (W m c) (Y m c) (G m c) (ix2 0 d) := by
  have hN : cfg0.N = 8 := rfl
  have ht := t.isLt
  rw [Pipeline.eq_sum_fin_of_reset_step_apply_of_flush (fun n h => (outsAt0 m c n h).2.2.2.2) 8 (fun _ => 0)
    (fun t j => pe (dxb m c t) (iblk m c 3 t) (j 1))
    (fun t h j => by
      obtain ⟨s, n, rfl⟩ := exists_ix2 (a := 1) (b := 2048) j
      obtain rfl : s = 0 := Subsingleton.elim _ _
      rw [outsAt0_A m c t h]; frame_out; rw [pay4_at, pay7_at]; rfl)
    (fun t h j => by
      obtain ⟨s, n, rfl⟩ := exists_ix2 (a := 1) (b := 2048) j
      obtain rfl : s = 0 := Subsingleton.elim _ _
      rw [outsAt0_B m c t h]; frame_out; rw [pay4_at]; rfl)
    t h (ix2 0 d), zero_add]
  show ∑ q : Fin 8, pe _ _ d = _
  unfold pe DE
  refine Fin.sum_mul_add_congr fun q k hl => ?_
  have e (u : Fin cfg0.N) (hu : u.val = q.val) : tok u k = ⟨q.val * 256 + k.val, hl⟩ := Fin.ext (by show u.val * 256 + k.val = _; rw [hu])
  rw [dxb_at, rd3, e _ (by show 8 * (t.val / 8) + q.val = q.val; omega)]
  rfl

/-- The loss after the last point. -/
theorem acc6 (h : t.val % 8 = 7) (d : Fin 128) : (outsAt0 m c t.val t.isLt).2.1 (ix2 0 d) = LO (X m c) (W m c) (G m c) (ix2 0 d) := by
  have hN : cfg0.N = 8 := rfl
  have ht := t.isLt
  rw [Pipeline.eq_sum_fin_of_reset_step_apply_of_flush (fun n h => (outsAt0 m c n h).2.1) 8 (fun _ => 0)
    (fun t _ => hf * pl (iblk m c 0 t) (iblk m c 2 t) (iblk m c 1 t))
    (fun t h j => by
      obtain ⟨s, n, rfl⟩ := exists_ix2 (a := 1) (b := 128) j
      obtain rfl : s = 0 := Subsingleton.elim _ _
      rw [outsAt0_A m c t h]; frame_out; rw [pay11_at, pay5_at])
    (fun t h j => by
      obtain ⟨s, n, rfl⟩ := exists_ix2 (a := 1) (b := 128) j
      obtain rfl : s = 0 := Subsingleton.elim _ _
      rw [outsAt0_B m c t h]; frame_out; rw [pay11_at])
    t h (ix2 0 d), zero_add, hf_sum]
  unfold pl LO
  refine congrArg (hf * ·) (Fin.sum_mul_add_congr fun q k hl => ?_)
  have e (u : Fin cfg0.N) (hu : u.val = q.val) : tok u k = ⟨q.val * 256 + k.val, hl⟩ := Fin.ext (by show u.val * 256 + k.val = _; rw [hu])
  simp only [errb_eq]
  rw [e _ (by show 8 * (t.val / 8) + q.val = q.val; omega)]

/-! ## The arrays after the run -/

theorem emb5 (s : Fin 256) (d : Fin 2048) : (win0_5.blk t).view.emb (ix2 s d) = (ix2 (tok t s) d : S2048x2048.Idx) := by
  unfold tok
  blk_ext [idx5 t]

/-- The rows's gradient after the run. -/
theorem final5 : (dats m 0 c).arrAt 5 cfg0.N = DX (X m c) (W m c) (G m c) := by
  refine (dats m 0 c).arrAt_eq_of_covers 5 _ (by decide +kernel) fun t hf z => ?_
  blk_simp
  rw [after0_5]
  obtain ⟨s, d, rfl⟩ := exists_ix2 (a := 256) (b := 2048) z
  rw [emb5]
  exact out5_at m c t s d

theorem emb8 (s : Fin 256) (d : Fin 2048) : (win0_8.blk t).view.emb (ix2 s d) = (ix2 (tok t s) d : S2048x2048.Idx) := by
  unfold tok
  blk_ext [idx8 t]

/-- The branch's gradient after the run. -/
theorem final8 : (dats m 0 c).arrAt 8 cfg0.N = DY (X m c) (W m c) (G m c) (E m c) := by
  refine (dats m 0 c).arrAt_eq_of_covers 8 _ (by decide +kernel) fun t hf z => ?_
  blk_simp
  rw [after0_8]
  obtain ⟨s, d, rfl⟩ := exists_ix2 (a := 256) (b := 2048) z
  rw [emb8]
  exact out8_at m c t s d

theorem emb6 (d : Fin 128) : (win0_6.blk t).view.emb (ix2 0 d) = (ix2 0 d : S1x128.Idx) := by
  blk_ext [idx6 t]

/-- The loss after the run. -/
theorem final6 : (dats m 0 c).arrAt 6 cfg0.N = LO (X m c) (W m c) (G m c) := by
  refine (dats m 0 c).arrAt_eq_of_covers 6 _ (by decide +kernel) fun t hf z => ?_
  blk_simp
  rw [after0_6]
  obtain ⟨s, d, rfl⟩ := exists_ix2 (a := 1) (b := 128) z
  obtain rfl : s = 0 := Subsingleton.elim _ _
  rw [emb6]
  exact acc6 m c t ((flush0_6 t).mp hf) d

theorem emb7 (d : Fin 2048) : (win0_7.blk t).view.emb (ix2 0 d) = (ix2 0 d : S1x2048.Idx) := by
  blk_ext [idx7 t]

/-- The vector's gradient after the run. -/
theorem final7 : (dats m 0 c).arrAt 7 cfg0.N = DG (X m c) (W m c) (G m c) := by
  refine (dats m 0 c).arrAt_eq_of_covers 7 _ (by decide +kernel) fun t hf z => ?_
  blk_simp
  rw [after0_7]
  obtain ⟨s, d, rfl⟩ := exists_ix2 (a := 1) (b := 2048) z
  obtain rfl : s = 0 := Subsingleton.elim _ _
  rw [emb7]
  exact acc7 m c t ((flush0_7 t).mp hf) d

theorem emb9 (d : Fin 2048) : (win0_9.blk t).view.emb (ix2 0 d) = (ix2 0 d : S1x2048.Idx) := by
  blk_ext [idx9 t]

/-- The gate's gradient after the run. -/
theorem final9 : (dats m 0 c).arrAt 9 cfg0.N = DE (X m c) (W m c) (Y m c) (G m c) := by
  refine (dats m 0 c).arrAt_eq_of_covers 9 _ (by decide +kernel) fun t hf z => ?_
  blk_simp
  rw [after0_9]
  obtain ⟨s, d, rfl⟩ := exists_ix2 (a := 1) (b := 2048) z
  obtain rfl : s = 0 := Subsingleton.elim _ _
  rw [emb9]
  exact acc9 m c t ((flush0_9 t).mp hf) d

section reference

open Cert.Reference27Ideal.Read

variable (x w y : S2048x2048.Idx → EReal) (g e : S1x2048.Idx → EReal) (s k : Fin 2048)

theorem ref6 : val_main_v6 (F := Ideal) x (ix2 s 0) = msq fun k => x (ix2 s k) := by
  pointwise [val_main_v6, val_main_v5, val_main_v4, val_main_v3, val_main_v2, val_main_v1, val_main_v0, val_main_cst, val_main_cst_0, val_main_cst_1]
  rfl

theorem ref7 : val_main_v7 (F := Ideal) x (ix2 s 0) = NormBwd.inv x s := by
  pointwise [val_main_v7]
  rw [ref6]
  rfl

theorem ref10 : val_main_v10 (F := Ideal) x (ix2 s 0) = half * Ideal.div (NormBwd.inv x s) (msq fun k => x (ix2 s k)) := by
  pointwise [val_main_v10, val_main_v9, val_main_v8, val_main_cst_2]
  rw [ref6, ref7]

theorem ref12 : val_main_v12 (F := Ideal) x (ix2 s k) = x (ix2 s k) * NormBwd.inv x s := by
  pointwise [val_main_v12, val_main_v11]
  rw [ref7]

theorem ref15 : val_main_v15 (F := Ideal) x g w (ix2 s k) = err x w g s k := by
  pointwise [val_main_v15, val_main_v14, val_main_v13]
  rw [ref12]
  rfl

theorem ref28 : val_main_v28 (F := Ideal) (ix2 s k) = Ideal.div (hf * 1) len := by
  pointwise [val_main_v28, val_main_v27, val_main_v26, val_main_v25, val_main_v24, val_main_cst_8, val_main_cst_9, val_main_cst_10]

/-- The reference's cotangent of the norm's rows with its vector. -/
theorem ref29 : val_main_v29 (F := Ideal) x g w (ix2 s k) = err x w g s k * share := by
  pointwise [val_main_v29, val_main_v18, val_main_v17, val_main_cst_3]
  rw [ref28, ref15]
  exact slope _

theorem ref34 : val_main_v34 (F := Ideal) x g w (ix2 s k) = dh x w g s k := by
  pointwise [val_main_v34, val_main_v33]
  rw [ref29]
  rfl

theorem ref42 : val_main_v42 (F := Ideal) x g w (ix2 s 0)
    = Ideal.div ((∑ k, x (ix2 s k) * dh x w g s k) * (half * Ideal.div (NormBwd.inv x s) (msq fun k => x (ix2 s k)))) len := by
  pointwise [val_main_v42, val_main_v41, val_main_v40, val_main_v37, val_main_v36, val_main_v35, val_main_cst_12, val_main_cst_13]
  rw [ref10]
  simp only [ref34]

theorem ref44 : val_main_v44 (F := Ideal) x g w (ix2 s k)
    = Ideal.div ((∑ k, x (ix2 s k) * dh x w g s k) * (half * Ideal.div (NormBwd.inv x s) (msq fun k => x (ix2 s k)))) len := by
  pointwise [val_main_v44, val_main_v43, val_main_cst_14]
  simp [ref42]

/-- The reference's gradient of the rows. -/
theorem refX :
    val_main_v48 (F := Ideal) x g w = DX x w g := by
  refine funext fun (i : S2048x2048.Idx) => ?_
  obtain ⟨s, d, rfl⟩ := exists_ix2 (a := 2048) (b := 2048) i
  pointwise [val_main_v48, val_main_v47, val_main_v46, val_main_v45, val_main_v39, val_main_v38]
  rw [ref34, ref7, ref44]
  exact (grad_law (fun k => x (ix2 s k)) (dh x w g s) d).symm

/-- The reference's loss. -/
theorem refL : val_main_v49 (F := Ideal) x g w = LO x w g := by
  refine funext fun (i : S1x128.Idx) => ?_
  obtain ⟨s, d, rfl⟩ := exists_ix2 (a := 1) (b := 128) i
  unfold LO
  pointwise [val_main_v49, val_main_v23, val_main_v22, val_main_v21, val_main_v20, val_main_v19, val_main_v16, val_main_cst_4, val_main_cst_5, val_main_cst_6, val_main_cst_7]
  simp only [ref15]

/-- The reference's gradient of the norm's vector. -/
theorem refG : val_main_v32 (F := Ideal) x g w = DG x w g := by
  refine funext fun (i : S1x2048.Idx) => ?_
  obtain ⟨s, d, rfl⟩ := exists_ix2 (a := 1) (b := 2048) i
  obtain rfl : s = 0 := Subsingleton.elim _ _
  pointwise [val_main_v32, val_main_v31, val_main_v30, val_main_cst_11]
  refine Finset.sum_congr rfl fun k _ => ?_
  rw [ref12, ref29, mul_comm]
  rfl

/-- The reference's gradient of the branch. -/
theorem refY :
    val_main_v58 (F := Ideal) x g w e = DY x w g e := by
  refine funext fun (i : S2048x2048.Idx) => ?_
  obtain ⟨s, d, rfl⟩ := exists_ix2 (a := 2048) (b := 2048) i
  pointwise [val_main_v58, val_main_v54, val_main_v53]
  rw [refX x w g, mul_comm]
  rfl

/-- The reference's gradient of the gate. -/
theorem refE :
    val_main_v57 (F := Ideal) x g w y = DE x w y g := by
  refine funext fun (i : S1x2048.Idx) => ?_
  obtain ⟨s, d, rfl⟩ := exists_ix2 (a := 1) (b := 2048) i
  obtain rfl : s = 0 := Subsingleton.elim _ _
  pointwise [val_main_v57, val_main_v56, val_main_v55, val_main_v50, val_main_cst_15]
  rw [refX x w g]
  rfl

end reference

/-- The kernel's five results are the reference's. -/
theorem value : algebraic_Kernel27Ideal_Reference27Ideal (hKernel27Ideal := Cert.Kernel27Ideal.Gen.facts)
    (hReference27Ideal := Cert.Reference27Ideal.Gen.facts) := by
  intro m g m' g' _ hag
  refine ⟨fun c => DX (X m c) (W m c) (G m c), fun c => LO (X m c) (W m c) (G m c), fun c => DG (X m c) (W m c) (G m c),
    fun c => DY (X m c) (W m c) (G m c) (E m c), fun c => DE (X m c) (W m c) (Y m c) (G m c), ?_, ?_⟩
  · exact (θ_run _ _ _).mono (fun r h c => ⟨(h c).1.trans (final5 m c), (h c).2.1.trans (final6 m c), (h c).2.2.1.trans (final7 m c),
      (h c).2.2.2.1.trans (final8 m c), (h c).2.2.2.2.1.trans (final9 m c), (h c).2.2.2.2.2⟩) (Cert.Kernel27Ideal.Value.run_blocks m g)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.Reference27Ideal.Value.run m' g')
    all_goals obtain ⟨h0, h1, h2, h3, h4⟩ := hag c
    · rw [Cert.Reference27Ideal.Read.val_main_v48_eq, h0, h1, h2]
      exact refX _ _ _
    · rw [Cert.Reference27Ideal.Read.val_main_v49_eq, h0, h1, h2]
      exact refL _ _ _
    · rw [Cert.Reference27Ideal.Read.val_main_v32_eq, h0, h1, h2]
      exact refG _ _ _
    · rw [Cert.Reference27Ideal.Read.val_main_v58_eq, h0, h1, h2, h4]
      exact refY _ _ _ _
    · rw [Cert.Reference27Ideal.Read.val_main_v57_eq, h0, h1, h2, h3]
      exact refE _ _ _ _

/-- The reference runs, its arguments end unchanged, and it has no semaphore to leave raised. -/
theorem refFrame : quiescent_Reference27Ideal (hReference27Ideal := Cert.Reference27Ideal.Gen.facts) := fun m g _ =>
  (θ_run _ _ _).mono (fun r h => ⟨fun c => (h c).2.2.2.2.2, funext fun s => by
    rcases s with ⟨_, s⟩; rcases s with s | s <;> exact s.elim0⟩) (Cert.Reference27Ideal.Value.run m g)

end Cert.Proof.Loss

end
-- ==== Proof.Optimiser.DeviceSum.lean ====
/-
  The sum over the devices of the small weights' gradients, packed in one array.
-/
module

public import proofs.«01_k».proof.Defs
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Product.Index
public import Idealize.ShloMosaic.Lib.KernelVsHost

@[expose] public section

noncomputable section

namespace Cert.Proof.DeviceSum

open Cert.Kernel28Ideal Cert.Kernel28Ideal.Gen Idealize.ShloMosaic Idealize.ShloMosaic.TcCoe Idealize.SL.Sem

/-- The sum of the eight devices' parts. -/
def TOTAL (x : S8x920x128.Idx → EReal) : S920x128.Idx → EReal := fun i => ∑ k : Fin 8, x (ix3 k (i 0) (i 1))

/-- A device's part, read. -/
theorem ld_part (x : Vec Ideal S8x920x128 .f32) (k : Fin 8) (inb : ∀ a, (![k.val, 0, 0] : Fin 3 → Nat) a + S1x920x128.size a ≤ S8x920x128.size a)
    (a : Fin 920) (b : Fin 128) :
    View.ld x (Rect.unit (s := S8x920x128) ![k.val, 0, 0] S1x920x128.size inb) (ix3 0 a b) = x (ix3 k a b) := by
  refine congrArg x (funext fun y => Fin.ext ?_)
  match y with
  | ⟨0, _⟩ => show k.val + 1 * 0 = k.val; omega
  | ⟨1, _⟩ => show 0 + 1 * a.val = a.val; omega
  | ⟨2, _⟩ => show 0 + 1 * b.val = b.val; omega

/-- The kernel's output is the sum of the parts. -/
theorem kernel_total (x : Vec Ideal S8x920x128 .f32) : Cert.Kernel28Ideal.Value.G1 (F := Ideal) x = TOTAL x := by
  refine funext fun (i : S920x128.Idx) => ?_
  obtain ⟨a, b, rfl⟩ := exists_ix2 (a := 920) (b := 128) i
  show _ = ∑ k : Fin 8, x (ix3 k a b)
  rw [Fin.sum_univ_eight]
  rw [← ld_part x 0 inb_S8x920x128_S1x920x128_0_0_0, ← ld_part x 1 inb_S8x920x128_S1x920x128_1_0_0, ← ld_part x 2 inb_S8x920x128_S1x920x128_2_0_0,
    ← ld_part x 3 inb_S8x920x128_S1x920x128_3_0_0, ← ld_part x 4 inb_S8x920x128_S1x920x128_4_0_0, ← ld_part x 5 inb_S8x920x128_S1x920x128_5_0_0,
    ← ld_part x 6 inb_S8x920x128_S1x920x128_6_0_0, ← ld_part x 7 inb_S8x920x128_S1x920x128_7_0_0]
  unfold Cert.Kernel28Ideal.Value.G1 r0_0 r0_1 r0_2 r0_3 r0_4 r0_5 r0_6 r0_7
  pointwise [k0_pay1]

open Cert.Reference28Ideal.Read in
/-- The reference's result is the sum of the parts. -/
theorem ref_total (x : S8x920x128.Idx → EReal) : val_main_v0 (F := Ideal) x = TOTAL x := by
  refine funext fun (i : S920x128.Idx) => ?_
  obtain ⟨a, b, rfl⟩ := exists_ix2 (a := 920) (b := 128) i
  show _ = ∑ k : Fin 8, x (ix3 k a b)
  pointwise [val_main_v0, val_main_cst]

/-- The kernel's sum is the reference's. -/
theorem value : algebraic_Kernel28Ideal_Reference28Ideal (hKernel28Ideal := Cert.Kernel28Ideal.Gen.facts) (hReference28Ideal := Cert.Reference28Ideal.Gen.facts) := by
  intro m g m' g' _ hag
  refine ⟨fun c => TOTAL (m ((c : Thread nD τ).loc main_arg0)), ?_, ?_⟩
  · exact (θ_run _ _ _).mono (fun s h c => ⟨(h c).1.trans (kernel_total _), (h c).2⟩) (Cert.Kernel28Ideal.Value.run m g)
  · refine (θ_run _ _ _).mono (fun s h c => ⟨(h c).1.trans ?_, (h c).2⟩) (Cert.Reference28Ideal.Value.run m' g')
    obtain rfl : c = 0 := Subsingleton.elim _ _
    rw [Cert.Reference28Ideal.Read.val_main_v0_eq, hag 0]
    exact ref_total _

/-- The kernel as compiled runs, its argument ends unchanged, and no semaphore is left raised. -/
theorem frame : quiescent_Kernel28 (hKernel28 := Cert.Kernel28.Gen.facts) := fun m g _ => Cert.Kernel28.Gen.frame m g

/-- The idealized kernel does too. -/
theorem idealFrame : quiescent_Kernel28Ideal (hKernel28Ideal := Cert.Kernel28Ideal.Gen.facts) := fun m g _ => Cert.Kernel28Ideal.Gen.frame m g

/-- The reference runs, its argument ends unchanged, and it has no semaphore to leave raised. -/
theorem refFrame : quiescent_Reference28Ideal (hReference28Ideal := Cert.Reference28Ideal.Gen.facts) := fun m g _ =>
  (θ_run _ _ _).mono (fun r h => ⟨fun c => (h c).2, funext fun s => by
    rcases s with ⟨_, s⟩; rcases s with s | s <;> exact s.elim0⟩) (Cert.Reference28Ideal.Value.run m g)

end Cert.Proof.DeviceSum

end
-- ==== Proof.Norm.Modulation.lean ====
/-
  The modulation's own product, of both layers: the kernel's array and the reference's.
-/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Product.Index
public import Idealize.ShloMosaic.Lib.KernelVsHost

@[expose] public section

set_option maxRecDepth 20000

noncomputable section

namespace Cert.Proof.AdaMod

open Cert.Kernel29Ideal Cert.Kernel29Ideal.Gen Idealize.ShloMosaic Idealize.ShloMosaic.TcCoe Idealize.SL.Sem

/-- The smooth gate of the conditioning. -/
def silu (x : EReal) : EReal := x * Ideal.logistic x

/-- The modulation of a layer, a sequence and a column: the gated conditioning times the weight, and the bias. -/
def MOD (x : S8x2048.Idx → EReal) (w : S2x2048x768.Idx → EReal) (b : S2x1x768.Idx → EReal) : S2x8x768.Idx → EReal := fun i =>
  (∑ k : Fin 2048, silu (x (ix2 (i 1) k)) * w (ix3 (i 0) k (i 2))) + b (ix3 (i 0) 0 (i 2))

variable (m : (ℓ : Loc nD τ sig) → Buf (Elt Ideal) ℓ) (c : Dev nD)

/-- The conditioning. -/
abbrev X : S8x2048.Idx → EReal := m ((c : Thread nD τ).loc main_arg0)
/-- The weight. -/
abbrev W : S2x2048x768.Idx → EReal := m ((c : Thread nD τ).loc main_arg1)
/-- The bias. -/
abbrev B : S2x1x768.Idx → EReal := m ((c : Thread nD τ).loc main_arg2)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)

/-- The layer of a point. -/
def lay (t : Fin cfg0.N) : Fin 2 := ⟨t.val, by have := t.isLt; have : cfg0.N = 2 := rfl; omega⟩

variable (t : Fin cfg0.N)

theorem rd0 (s : Fin 8) (k : Fin 2048) : iblk m c 0 t (ix2 s k) = X m c (ix2 s k) := by
  blk_point [iblk, V, idx0 t]
theorem rd1 (k : Fin 2048) (f : Fin 768) : iblk m c 1 t (ix3 0 k f) = W m c (ix3 (lay t) k f) := by
  unfold lay
  blk_point [iblk, V, idx1 t]
theorem rd2 (f : Fin 768) : iblk m c 2 t (ix3 0 0 f) = B m c (ix3 (lay t) 0 f) := by
  unfold lay
  blk_point [iblk, V, idx2 t]

/-- What the body stores, of any blocks. -/
theorem pay1_at (x : Vec Ideal S8x2048 .f32) (w : Vec Ideal S1x2048x768 .f32) (b : Vec Ideal S1x1x768 .f32) (s : Fin 8) (f : Fin 768) :
    k0_pay1 x w b (ix3 0 s f) = (∑ k : Fin 2048, silu (x (ix2 s k)) * w (ix3 0 k f)) + b (ix3 0 0 f) := by
  pointwise [k0_pay1]
  rfl

/-- The block a point writes. -/
theorem out3_at (s : Fin 8) (f : Fin 768) :
    out0_3 (iblk m c 0 t) (iblk m c 1 t) (iblk m c 2 t) (ix3 0 s f) = MOD (X m c) (W m c) (B m c) (ix3 (lay t) s f) := by
  unfold out0_3
  frame_out
  rw [pay1_at, rd2]
  simp only [rd0, rd1]
  rfl

/-- Where the block of a point lies. -/
theorem emb3 (s : Fin 8) (f : Fin 768) : (win0_3.blk t).view.emb (ix3 0 s f) = (ix3 (lay t) s f : S2x8x768.Idx) := by
  unfold lay
  blk_ext [idx3 t]

/-- The array after the run. -/
theorem final3 : (dats m 0 c).arrAt 3 cfg0.N = MOD (X m c) (W m c) (B m c) := by
  refine (dats m 0 c).arrAt_eq_of_covers 3 _ (by decide +kernel) fun t hf z => ?_
  blk_simp
  rw [after0_3]
  obtain ⟨a, s, f, rfl⟩ := exists_ix3 (a := 1) (b := 8) (c := 768) z
  obtain rfl : a = 0 := Subsingleton.elim _ _
  rw [emb3]
  exact out3_at m c t s f

open Cert.Reference29Ideal.Read in
/-- The reference's gated conditioning. -/
theorem ref0 (x : S8x2048.Idx → EReal) (s : Fin 8) (k : Fin 2048) : val_main_v0 (F := Ideal) x (ix2 s k) = silu (x (ix2 s k)) := by
  pointwise [val_main_v0, val_main_call0_v5, val_main_call0_v4, val_main_call0_v3, val_main_call0_v2, val_main_call0_v1,
    val_main_call0_v0, val_main_call0_cst, val_main_call0_cst_0]
  rfl

open Cert.Reference29Ideal.Read in
/-- The reference's result. -/
theorem ref (x : S8x2048.Idx → EReal) (w : S2x2048x768.Idx → EReal) (b : S2x1x768.Idx → EReal) :
    val_main_v4 (F := Ideal) x w b = MOD x w b := by
  refine funext fun (i : S2x8x768.Idx) => ?_
  obtain ⟨l, s, f, rfl⟩ := exists_ix3 (a := 2) (b := 8) (c := 768) i
  show _ = (∑ k : Fin 2048, silu (x (ix2 s k)) * w (ix3 l k f)) + b (ix3 l 0 f)
  pointwise [val_main_v4, val_main_v3, val_main_v2, val_main_v1]
  refine congrArg (· + b (ix3 l 0 f)) (Finset.sum_congr rfl fun k _ => ?_)
  rw [ref0, mul_comm]

/-- The kernel's result is the reference's. -/
theorem value : algebraic_Kernel29Ideal_Reference29Ideal (hKernel29Ideal := Cert.Kernel29Ideal.Gen.facts)
    (hReference29Ideal := Cert.Reference29Ideal.Gen.facts) := by
  intro m g m' g' _ hag
  refine ⟨fun c => MOD (X m c) (W m c) (B m c), ?_, ?_⟩
  · exact (θ_run _ _ _).mono (fun r h c => ⟨(h c).1.trans (final3 m c), (h c).2⟩) (Cert.Kernel29Ideal.Value.run_blocks m g)
  · refine (θ_run _ _ _).mono (fun r h c => ⟨(h c).1.trans ?_, (h c).2⟩) (Cert.Reference29Ideal.Value.run m' g')
    rw [Cert.Reference29Ideal.Read.val_main_v4_eq, (hag c).1, (hag c).2.1, (hag c).2.2]
    exact ref _ _ _

/-- The reference runs, its arguments end unchanged, and it has no semaphore to leave raised. -/
theorem refFrame : quiescent_Reference29Ideal (hReference29Ideal := Cert.Reference29Ideal.Gen.facts) := fun m g _ =>
  (θ_run _ _ _).mono (fun r h => ⟨fun c => (h c).2, funext fun s => by
    rcases s with ⟨_, s⟩; rcases s with s | s <;> exact s.elim0⟩) (Cert.Reference29Ideal.Value.run m g)

end Cert.Proof.AdaMod

end
-- ==== Proof.lean ====
/-
  The claims of the certificate. The frames are the generated ones; each call's value claim sets the kernel's arrays beside
  the reference's: the gated convolution's gradient in `Proof/ConvBwd`, the matrix products in `Proof/Product`, the forward
  convolution in `Proof/ConvFwd`, the norm in `Proof/Norm`, the optimiser's steps in `Proof/Optimiser`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.ConvBwd.Array
public import proofs.«01_k».proof.Proof.ConvBwd.Finite
public import proofs.«01_k».proof.Proof.Product.InputGrad1
public import proofs.«01_k».proof.Proof.Product.WeightGrad1
public import proofs.«01_k».proof.Proof.Product.Project1
public import proofs.«01_k».proof.Proof.Product.OutInputGrad
public import proofs.«01_k».proof.Proof.Product.OutWeightGrad
public import proofs.«01_k».proof.Proof.Product.Out
public import proofs.«01_k».proof.Proof.Product.InputGrad0
public import proofs.«01_k».proof.Proof.Product.WeightGrad0
public import proofs.«01_k».proof.Proof.Product.WeightGrad0Y
public import proofs.«01_k».proof.Proof.Product.WeightGrad0X
public import proofs.«01_k».proof.Proof.Product.WeightGrad0Far
public import proofs.«01_k».proof.Proof.Product.Project0
public import proofs.«01_k».proof.Proof.Product.Project0Y
public import proofs.«01_k».proof.Proof.Product.Project0X
public import proofs.«01_k».proof.Proof.Product.Project0Far
public import proofs.«01_k».proof.Proof.Optimiser.Small
public import proofs.«01_k».proof.Proof.Optimiser.Modulation
public import proofs.«01_k».proof.Proof.Norm.Forward
public import proofs.«01_k».proof.Proof.ConvFwd.Forward
public import proofs.«01_k».proof.Proof.Optimiser.LruIn
public import proofs.«01_k».proof.Proof.Optimiser.LruOut
public import proofs.«01_k».proof.Proof.Optimiser.LruGate
public import proofs.«01_k».proof.Proof.Optimiser.ConvIn
public import proofs.«01_k».proof.Proof.Norm.Backward
public import proofs.«01_k».proof.Proof.Norm.BackwardGated
public import proofs.«01_k».proof.Proof.Norm.Loss
public import proofs.«01_k».proof.Proof.Optimiser.DeviceSum
public import proofs.«01_k».proof.Proof.Norm.Modulation
public import Idealize.ShloMosaic.Adequacy
public import Idealize.ShloMosaic.Init

@[expose] public section

noncomputable section

namespace Cert.Proof

open Idealize.ShloMosaic Idealize.SL.Sem

/-- The reference runs, its arguments end unchanged, and it has no semaphore to leave raised. -/
theorem ConvBwd.refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, funext fun s => by
    rcases s with ⟨_, s⟩; rcases s with s | s <;> exact s.elim0⟩) (Cert.ReferenceIdeal.Value.run m g)

/-- The kernel's results are the reference's. -/
theorem ConvBwd.value :
    algebraic_KernelIdeal_ReferenceIdeal_pre_gated_operands_finite (hKernelIdeal := Cert.KernelIdeal.Gen.facts)
      (hReferenceIdeal := Cert.ReferenceIdeal.Gen.facts) (hPre_gated_operands_finite := ConvBwd.preFacts) := by
  haveI := ConvBwd.preFacts
  intro m g m' g' hpre hag
  refine ⟨fun c => ConvBwd.DPROJ (ConvBwd.P m c) (ConvBwd.Y m c) (ConvBwd.W m c),
    fun c => ConvBwd.DTAP (ConvBwd.P m c) (ConvBwd.Y m c), ?_, ?_⟩
  · exact (θ_run _ _ _).mono (fun r h c => ⟨(h c).1.trans (ConvBwd.final6 m c), (h c).2.1.trans (ConvBwd.final7 m c), (h c).2.2⟩)
      (Cert.KernelIdeal.Value.run_blocks m g)
  · refine (θ_run _ _ _).mono (fun r h c => ⟨(h c).1.trans ?_, (h c).2.1.trans ?_, (h c).2.2⟩) (Cert.ReferenceIdeal.Value.run m' g')
    · rw [Cert.ReferenceIdeal.Read.val_main_v90_eq, (hag c).1, (hag c).2.1, (hag c).2.2]
      funext i
      have h := ConvBwd.ref_eq (hpre c) (i 0) (i 1) (i 2)
      exact (congrArg _ (ix3_eta i).symm).trans h
    · rw [Cert.ReferenceIdeal.Read.val_main_v91_eq, (hag c).1, (hag c).2.1]
      funext i
      have h := ConvBwd.v91_at (ConvBwd.P m c) (ConvBwd.Y m c) (i 0) (i 1)
      exact (congrArg _ (ix2_eta i).symm).trans h

/-- Every claim of the certificate: the frames, then for each call that idealizing keeps the program and that its results are the reference's. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    ConvBwd.preFacts, WeightGrad0.preFacts, WeightGrad0Y.preFacts,
    WeightGrad0X.preFacts, WeightGrad0Far.preFacts, Project0.preFacts,
    Project0Y.preFacts, Project0X.preFacts, Project0Far.preFacts,
    LruIn.preFacts, LruOut.preFacts, LruGate.preFacts,
    ConvIn.preFacts,
    fun m ρ _ => Cert.Kernel.Gen.frame m ρ, fun m ρ _ => Cert.KernelIdeal.Gen.frame m ρ, fun m ρ _ => Cert.KernelIdeal.Gen.frame m ρ,
    fun m ρ _ => ConvBwd.refFrame m ρ, fun m ρ _ => ConvBwd.refFrame m ρ,
    fun m ρ _ => Cert.Kernel2.Gen.frame m ρ, fun m ρ _ => Cert.Kernel2Ideal.Gen.frame m ρ, InputGrad1.refFrame,
    fun m ρ _ => Cert.Kernel3.Gen.frame m ρ, fun m ρ _ => Cert.Kernel3Ideal.Gen.frame m ρ, WeightGrad1.refFrame,
    fun m ρ _ => Cert.Kernel4.Gen.frame m ρ, fun m ρ _ => Cert.Kernel4Ideal.Gen.frame m ρ, Project1.refFrame,
    fun m ρ _ => Cert.Kernel5.Gen.frame m ρ, fun m ρ _ => Cert.Kernel5Ideal.Gen.frame m ρ, OutInputGrad.refFrame,
    fun m ρ _ => Cert.Kernel6.Gen.frame m ρ, fun m ρ _ => Cert.Kernel6Ideal.Gen.frame m ρ, OutWeightGrad.refFrame,
    fun m ρ _ => Cert.Kernel7.Gen.frame m ρ, fun m ρ _ => Cert.Kernel7Ideal.Gen.frame m ρ, Out.refFrame,
    fun m ρ _ => Cert.Kernel8.Gen.frame m ρ, fun m ρ _ => Cert.Kernel8Ideal.Gen.frame m ρ, InputGrad0.refFrame,
    @WeightGrad0.frame WeightGrad0.preFacts, @WeightGrad0.idealFrame WeightGrad0.preFacts, @WeightGrad0.refFrame WeightGrad0.preFacts,
    @WeightGrad0Y.frame WeightGrad0Y.preFacts, @WeightGrad0Y.idealFrame WeightGrad0Y.preFacts, @WeightGrad0Y.refFrame WeightGrad0Y.preFacts,
    @WeightGrad0X.frame WeightGrad0X.preFacts, @WeightGrad0X.idealFrame WeightGrad0X.preFacts, @WeightGrad0X.refFrame WeightGrad0X.preFacts,
    @WeightGrad0Far.frame WeightGrad0Far.preFacts, @WeightGrad0Far.idealFrame WeightGrad0Far.preFacts, @WeightGrad0Far.refFrame WeightGrad0Far.preFacts,
    @Project0.frame Project0.preFacts, @Project0.idealFrame Project0.preFacts, @Project0.refFrame Project0.preFacts,
    @Project0Y.frame Project0Y.preFacts, @Project0Y.idealFrame Project0Y.preFacts, @Project0Y.refFrame Project0Y.preFacts,
    @Project0X.frame Project0X.preFacts, @Project0X.idealFrame Project0X.preFacts, @Project0X.refFrame Project0X.preFacts,
    @Project0Far.frame Project0Far.preFacts, @Project0Far.idealFrame Project0Far.preFacts, @Project0Far.refFrame Project0Far.preFacts,
    fun m ρ _ => Cert.Kernel17.Gen.frame m ρ, fun m ρ _ => Cert.Kernel17Ideal.Gen.frame m ρ, Small.refFrame,
    fun m ρ _ => Cert.Kernel18.Gen.frame m ρ, fun m ρ _ => Cert.Kernel18Ideal.Gen.frame m ρ, Modulation.refFrame,
    fun m ρ _ => Cert.Kernel19.Gen.frame m ρ, fun m ρ _ => Cert.Kernel19Ideal.Gen.frame m ρ, NormFwd.refFrame,
    fun m ρ _ => Cert.Kernel20.Gen.frame m ρ, fun m ρ _ => Cert.Kernel20Ideal.Gen.frame m ρ, ConvFwd.refFrame,
    @LruIn.frame LruIn.preFacts, @LruIn.idealFrame LruIn.preFacts, @LruIn.refFrame LruIn.preFacts,
    @LruOut.frame LruOut.preFacts, @LruOut.idealFrame LruOut.preFacts, @LruOut.refFrame LruOut.preFacts,
    @LruGate.frame LruGate.preFacts, @LruGate.idealFrame LruGate.preFacts, @LruGate.refFrame LruGate.preFacts,
    @ConvIn.frame ConvIn.preFacts, @ConvIn.idealFrame ConvIn.preFacts, @ConvIn.refFrame ConvIn.preFacts,
    fun m ρ _ => Cert.Kernel25.Gen.frame m ρ, fun m ρ _ => Cert.Kernel25Ideal.Gen.frame m ρ, NormBwd.refFrame,
    fun m ρ _ => Cert.Kernel26.Gen.frame m ρ, fun m ρ _ => Cert.Kernel26Ideal.Gen.frame m ρ, NormBwdGated.refFrame,
    fun m ρ _ => Cert.Kernel27.Gen.frame m ρ, fun m ρ _ => Cert.Kernel27Ideal.Gen.frame m ρ, Loss.refFrame,
    fun m ρ _ => Cert.Kernel28.Gen.frame m ρ, fun m ρ _ => Cert.Kernel28Ideal.Gen.frame m ρ, DeviceSum.refFrame,
    fun m ρ _ => Cert.Kernel29.Gen.frame m ρ, fun m ρ _ => Cert.Kernel29Ideal.Gen.frame m ρ, AdaMod.refFrame,
    trivial, ConvBwd.value,
    trivial, InputGrad1.value,
    trivial, WeightGrad1.value,
    trivial, Project1.value,
    trivial, OutInputGrad.value,
    trivial, OutWeightGrad.value,
    trivial, Out.value,
    trivial, InputGrad0.value,
    trivial, @WeightGrad0.value WeightGrad0.preFacts,
    trivial, @WeightGrad0Y.value WeightGrad0Y.preFacts,
    trivial, @WeightGrad0X.value WeightGrad0X.preFacts,
    trivial, @WeightGrad0Far.value WeightGrad0Far.preFacts,
    trivial, @Project0.value Project0.preFacts,
    trivial, @Project0Y.value Project0Y.preFacts,
    trivial, @Project0X.value Project0X.preFacts,
    trivial, @Project0Far.value Project0Far.preFacts,
    trivial, Small.value,
    trivial, Modulation.value,
    trivial, NormFwd.value,
    trivial, ConvFwd.value,
    trivial, @LruIn.value LruIn.preFacts,
    trivial, @LruOut.value LruOut.preFacts,
    trivial, @LruGate.value LruGate.preFacts,
    trivial, @ConvIn.value ConvIn.preFacts,
    trivial, NormBwd.value,
    trivial, NormBwdGated.value,
    trivial, Loss.value,
    trivial, DeviceSum.value,
    trivial, AdaMod.value⟩

end Cert.Proof

end
